-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S32 : Shape := ⟨1, ![32]⟩
abbrev S_ : Shape := ⟨0, ![]⟩
abbrev S1 : Shape := ⟨1, ![1]⟩
abbrev S16 : Shape := ⟨1, ![16]⟩
abbrev S16x1 : Shape := ⟨2, ![16, 1]⟩
abbrev S15 : Shape := ⟨1, ![15]⟩
abbrev S15x1 : Shape := ⟨2, ![15, 1]⟩
abbrev S2 : Shape := ⟨1, ![2]⟩
abbrev S33 : Shape := ⟨1, ![33]⟩
abbrev S2x2x128x2048 : Shape := ⟨4, ![2, 2, 128, 2048]⟩
abbrev S1x128 : Shape := ⟨2, ![1, 128]⟩
abbrev S32x1x128 : Shape := ⟨3, ![32, 1, 128]⟩
abbrev S2x2 : Shape := ⟨2, ![2, 2]⟩
abbrev S1x1 : Shape := ⟨2, ![1, 1]⟩
abbrev S1x1x128x2048 : Shape := ⟨4, ![1, 1, 128, 2048]⟩
abbrev S128x2048 : Shape := ⟨2, ![128, 2048]⟩
abbrev S2048x256 : Shape := ⟨2, ![2048, 256]⟩
abbrev S128x256 : Shape := ⟨2, ![128, 256]⟩
abbrev S1x128x256 : Shape := ⟨3, ![1, 128, 256]⟩
abbrev S1x1x1 : Shape := ⟨3, ![1, 1, 1]⟩
abbrev S1x1x128 : Shape := ⟨3, ![1, 1, 128]⟩
abbrev S1x32x1x128 : Shape := ⟨4, ![1, 32, 1, 128]⟩
abbrev S1x1x1x1 : Shape := ⟨4, ![1, 1, 1, 1]⟩

abbrev nBuf : Space → Nat
  | .hbm => 146
  | .vmem => 7
  | .smem => 1
  | _ => 0

abbrev hbmTy0_0 (i : Nat) : BufTy := match i % 128 with
  | 0 => ⟨S128x4096, .f32⟩
  | 1 => ⟨S4096x256, .f32⟩
  | 2 => ⟨S32, .i32⟩
  | 3 => ⟨S32, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i1⟩
  | 30 => ⟨S_, .i32⟩
  | 31 => ⟨S_, .i1⟩
  | 32 => ⟨S_, .i1⟩
  | 33 => ⟨S_, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S1, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i1⟩
  | 56 => ⟨S_, .i32⟩
  | 57 => ⟨S_, .i1⟩
  | 58 => ⟨S_, .i1⟩
  | 59 => ⟨S_, .i1⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S1, .i32⟩
  | 68 => ⟨S_, .i32⟩
  | 69 => ⟨S_, .i32⟩
  | 70 => ⟨S_, .i32⟩
  | 71 => ⟨S16, .i32⟩
  | 72 => ⟨S16, .i32⟩
  | 73 => ⟨S16, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S16, .i32⟩
  | 81 => ⟨S16, .i32⟩
  | 82 => ⟨S_, .i32⟩
  | 83 => ⟨S16, .i32⟩
  | 84 => ⟨S16, .i1⟩
  | 85 => ⟨S_, .i32⟩
  | 86 => ⟨S16, .i32⟩
  | 87 => ⟨S16, .i1⟩
  | 88 => ⟨S_, .i32⟩
  | 89 => ⟨S_, .i1⟩
  | 90 => ⟨S16, .i1⟩
  | 91 => ⟨S16, .i1⟩
  | 92 => ⟨S16, .i1⟩
  | 93 => ⟨S16, .i32⟩
  | 94 => ⟨S16, .i32⟩
  | 95 => ⟨S16, .i32⟩
  | 96 => ⟨S_, .i32⟩
  | 97 => ⟨S16, .i32⟩
  | 98 => ⟨S16, .i1⟩
  | 99 => ⟨S_, .i32⟩
  | 100 => ⟨S16, .i32⟩
  | 101 => ⟨S16, .i32⟩
  | 102 => ⟨S16, .i32⟩
  | 103 => ⟨S16x1, .i32⟩
  | 104 => ⟨S16, .i32⟩
  | 105 => ⟨S_, .i32⟩
  | 106 => ⟨S_, .i32⟩
  | 107 => ⟨S15, .i32⟩
  | 108 => ⟨S15, .i32⟩
  | 109 => ⟨S15, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S15, .i32⟩
  | 117 => ⟨S15, .i32⟩
  | 118 => ⟨S_, .i32⟩
  | 119 => ⟨S15, .i32⟩
  | 120 => ⟨S15, .i1⟩
  | 121 => ⟨S_, .i32⟩
  | 122 => ⟨S15, .i32⟩
  | 123 => ⟨S15, .i1⟩
  | 124 => ⟨S_, .i32⟩
  | 125 => ⟨S_, .i1⟩
  | 126 => ⟨S15, .i1⟩
  | 127 => ⟨S15, .i1⟩
  | _ => ⟨S128x4096, .f32⟩

abbrev hbmTy0_1 (i : Nat) : BufTy := match i % 128 with
  | 0 => ⟨S15, .i1⟩
  | 1 => ⟨S15, .i32⟩
  | 2 => ⟨S15, .i32⟩
  | 3 => ⟨S15, .i32⟩
  | 4 => ⟨S_, .i32⟩
  | 5 => ⟨S15, .i32⟩
  | 6 => ⟨S15, .i1⟩
  | 7 => ⟨S_, .i32⟩
  | 8 => ⟨S15, .i32⟩
  | 9 => ⟨S15, .i32⟩
  | 10 => ⟨S15, .i32⟩
  | 11 => ⟨S15x1, .i32⟩
  | 12 => ⟨S15, .i32⟩
  | 13 => ⟨S1, .i32⟩
  | 14 => ⟨S1, .i32⟩
  | 15 => ⟨S2, .i32⟩
  | 16 => ⟨S33, .i32⟩
  | 17 => ⟨S4096x256, .f32⟩
  | _ => ⟨S128x4096, .f32⟩

abbrev hbmTy (i : Nat) : BufTy := match i / 128 with
  | 0 => hbmTy0_0 i
  | 1 => hbmTy0_1 i
  | _ => ⟨S128x4096, .f32⟩

abbrev bufTy : (tb : Table) → Fin (tcTables nBuf tb) → BufTy
  | .hbm, ⟨i, _⟩ => hbmTy i
  | .local _ .vmem, ⟨0, _⟩ => ⟨S128x4096, .f32⟩
  | .local _ .vmem, ⟨1, _⟩ => ⟨S4096x256, .f32⟩
  | .local _ .vmem, ⟨2, _⟩ => ⟨S4096x256, .f32⟩
  | .local _ .vmem, ⟨3, _⟩ => ⟨S2x2x128x2048, .f32⟩
  | .local _ .vmem, ⟨4, _⟩ => ⟨S2x2x128x2048, .f32⟩
  | .local _ .vmem, ⟨5, _⟩ => ⟨S1x128, .f32⟩
  | .local _ .vmem, ⟨6, _⟩ => ⟨S32x1x128, .f32⟩
  | .local _ .smem, ⟨0, _⟩ => ⟨S33, .i32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  (ofTc nBuf bufTy 5 84 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_c_1 : Ref sig .tc := ⟨.hbm, 26, rfl⟩
abbrev main_call0_v4 : Ref sig .tc := ⟨.hbm, 27, rfl⟩
abbrev main_call0_c_2 : Ref sig .tc := ⟨.hbm, 28, rfl⟩
abbrev main_call0_v5 : Ref sig .tc := ⟨.hbm, 29, rfl⟩
abbrev main_call0_c_3 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_v11 : Ref sig .tc := ⟨.hbm, 35, rfl⟩
abbrev main_c_7 : Ref sig .tc := ⟨.hbm, 36, rfl⟩
abbrev main_v12 : Ref sig .tc := ⟨.hbm, 37, rfl⟩
abbrev main_c_8 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_9 : Ref sig .tc := ⟨.hbm, 43, rfl⟩
abbrev main_v17 : Ref sig .tc := ⟨.hbm, 44, rfl⟩
abbrev main_c_10 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_c_1 : Ref sig .tc := ⟨.hbm, 52, rfl⟩
abbrev main_call1_v4 : Ref sig .tc := ⟨.hbm, 53, rfl⟩
abbrev main_call1_c_2 : Ref sig .tc := ⟨.hbm, 54, rfl⟩
abbrev main_call1_v5 : Ref sig .tc := ⟨.hbm, 55, rfl⟩
abbrev main_call1_c_3 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_v18 : Ref sig .tc := ⟨.hbm, 61, rfl⟩
abbrev main_c_11 : Ref sig .tc := ⟨.hbm, 62, rfl⟩
abbrev main_v19 : Ref sig .tc := ⟨.hbm, 63, rfl⟩
abbrev main_c_12 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_13 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_c_14 : Ref sig .tc := ⟨.hbm, 74, rfl⟩
abbrev main_call2_v0 : Ref sig .tc := ⟨.hbm, 75, rfl⟩
abbrev main_call2_c : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_c_1 : Ref sig .tc := ⟨.hbm, 82, rfl⟩
abbrev main_call2_v5 : Ref sig .tc := ⟨.hbm, 83, rfl⟩
abbrev main_call2_v6 : Ref sig .tc := ⟨.hbm, 84, rfl⟩
abbrev main_call2_c_2 : Ref sig .tc := ⟨.hbm, 85, rfl⟩
abbrev main_call2_v7 : Ref sig .tc := ⟨.hbm, 86, rfl⟩
abbrev main_call2_v8 : Ref sig .tc := ⟨.hbm, 87, rfl⟩
abbrev main_call2_c_3 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_v28 : Ref sig .tc := ⟨.hbm, 95, rfl⟩
abbrev main_c_15 : Ref sig .tc := ⟨.hbm, 96, rfl⟩
abbrev main_v29 : Ref sig .tc := ⟨.hbm, 97, rfl⟩
abbrev main_v30 : Ref sig .tc := ⟨.hbm, 98, rfl⟩
abbrev main_c_16 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_c_17 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_c_18 : Ref sig .tc := ⟨.hbm, 110, rfl⟩
abbrev main_call3_v0 : Ref sig .tc := ⟨.hbm, 111, rfl⟩
abbrev main_call3_c : Ref sig .tc := ⟨.hbm, 112, rfl⟩
abbrev main_call3_v1 : Ref sig .tc := ⟨.hbm, 113, rfl⟩
abbrev main_call3_c_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_c_1 : Ref sig .tc := ⟨.hbm, 118, rfl⟩
abbrev main_call3_v5 : Ref sig .tc := ⟨.hbm, 119, rfl⟩
abbrev main_call3_v6 : Ref sig .tc := ⟨.hbm, 120, rfl⟩
abbrev main_call3_c_2 : Ref sig .tc := ⟨.hbm, 121, rfl⟩
abbrev main_call3_v7 : Ref sig .tc := ⟨.hbm, 122, rfl⟩
abbrev main_call3_v8 : Ref sig .tc := ⟨.hbm, 123, rfl⟩
abbrev main_call3_c_3 : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_v12 : Ref sig .tc := ⟨.hbm, 128, rfl⟩
abbrev main_call3_v13 : Ref sig .tc := ⟨.hbm, 129, rfl⟩
abbrev main_call3_v14 : Ref sig .tc := ⟨.hbm, 130, rfl⟩
abbrev main_v40 : Ref sig .tc := ⟨.hbm, 131, rfl⟩
abbrev main_c_19 : Ref sig .tc := ⟨.hbm, 132, rfl⟩
abbrev main_v41 : Ref sig .tc := ⟨.hbm, 133, rfl⟩
abbrev main_v42 : Ref sig .tc := ⟨.hbm, 134, rfl⟩
abbrev main_c_20 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 4

abbrev nD : Nat := 32
abbrev τ : Topo := Topo.v7x

variable {F : FTy → Type} [FloatOps F]

abbrev grid0 : Pipeline.Grid := .none

def k0_dev1 (v4 : BitVec 32) : Nat :=
  let c0_i32 : BitVec 32 := 0#32
  let c1_i32_1 : BitVec 32 := 1#32
  let v6 : BitVec 32 := Scalar.muli v4 c1_i32_1
  let v7 : BitVec 32 := Scalar.addi c0_i32 v6
  v7.toNat

def k0_dev2 (v3 : BitVec 32) : Nat :=
  let c0_i32_4 : BitVec 32 := 0#32
  let c1_i32_3 : BitVec 32 := 1#32
  let v8 : BitVec 32 := Scalar.muli v3 c1_i32_3
  let v9 : BitVec 32 := Scalar.addi c0_i32_4 v8
  v9.toNat

def k0_dev3 (v3 : BitVec 32) : Nat :=
  let c0_i32_12 : BitVec 32 := 0#32
  let c1_i32_11 : BitVec 32 := 1#32
  let v10 : BitVec 32 := Scalar.muli v3 c1_i32_11
  let v11 : BitVec 32 := Scalar.addi c0_i32_12 v10
  v11.toNat
def k0_dev4 (v3 : BitVec 32) : Nat :=
  let c0_i32_24 : BitVec 32 := 0#32
  let c1_i32_23 : BitVec 32 := 1#32
  let v19 : BitVec 32 := Scalar.muli v3 c1_i32_23
  let v20 : BitVec 32 := Scalar.addi c0_i32_24 v19
  v20.toNat
def k0_dev5 (v4 : BitVec 32) : Nat :=
  let c0_i32_35 : BitVec 32 := 0#32
  let c1_i32_34 : BitVec 32 := 1#32
  let v28 : BitVec 32 := Scalar.muli v4 c1_i32_34
  let v29 : BitVec 32 := Scalar.addi c0_i32_35 v28
  v29.toNat
def k0_dev6 (v4 : BitVec 32) : Nat :=
  let c0_i32_47 : BitVec 32 := 0#32
  let c1_i32_46 : BitVec 32 := 1#32
  let v37 : BitVec 32 := Scalar.muli v4 c1_i32_46
  let v38 : BitVec 32 := Scalar.addi c0_i32_47 v37
  v38.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v59 : BitVec 32 := Scalar.muli v2 c128_i32
  let v60 : Index := Scalar.indexCast v59
  let c0_61 : Index := 0#32
  ![v60.toNat, 0]
def k0_dev7 (v3 : BitVec 32) : Nat :=
  let c0_i32_128 : BitVec 32 := 0#32
  let c1_i32_127 : BitVec 32 := 1#32
  let v93 : BitVec 32 := Scalar.muli v3 c1_i32_127
  let v94 : BitVec 32 := Scalar.addi c0_i32_128 v93
  v94.toNat
def k0_dev8 (v4 : BitVec 32) : Nat :=
  let c0_i32_154 : BitVec 32 := 0#32
  let c1_i32_153 : BitVec 32 := 1#32
  let v110 : BitVec 32 := Scalar.muli v4 c1_i32_153
  let v111 : BitVec 32 := Scalar.addi c0_i32_154 v110
  v111.toNat
def k0_dev9 (v3 : BitVec 32) : Nat :=
  let c0_i32_180 : BitVec 32 := 0#32
  let c1_i32_179 : BitVec 32 := 1#32
  let v127 : BitVec 32 := Scalar.muli v3 c1_i32_179
  let v128 : BitVec 32 := Scalar.addi c0_i32_180 v127
  v128.toNat
def k0_dev10 (v4 : BitVec 32) : Nat :=
  let c0_i32_206 : BitVec 32 := 0#32
  let c1_i32_205 : BitVec 32 := 1#32
  let v144 : BitVec 32 := Scalar.muli v4 c1_i32_205
  let v145 : BitVec 32 := Scalar.addi c0_i32_206 v144
  v145.toNat
def k0_off2 (v158 : BitVec 32) : Fin 2 → Nat :=
  let c128_i32_226 : BitVec 32 := 128#32
  let v168 : BitVec 32 := Scalar.muli v158 c128_i32_226
  let v169 : Index := Scalar.indexCast v168
  let c0_227 : Index := 0#32
  ![v169.toNat, 0]

def k0_chk3 (v158 : BitVec 32) : Prop :=
  (∀ a, (k0_off2 v158) a + S128x256.size a ≤ S4096x256.size a)
theorem k0_off2_inb : ∀ (v158 : BitVec 32) (k0_hw3 : k0_chk3 v158), ∀ a, (k0_off2 v158) a + S128x256.size a ≤ S4096x256.size a := fun v158 k0_hw3 => k0_hw3

def k0_off3 (v180 : BitVec 32) : Fin 2 → Nat :=
  let c128_i32_244 : BitVec 32 := 128#32
  let v190 : BitVec 32 := Scalar.muli v180 c128_i32_244
  let v191 : Index := Scalar.indexCast v190
  let c0_245 : Index := 0#32
  ![v191.toNat, 0]

def k0_chk4 (v180 : BitVec 32) : Prop :=
  (∀ a, (k0_off3 v180) a + S128x256.size a ≤ S4096x256.size a)
theorem k0_off3_inb : ∀ (v180 : BitVec 32) (k0_hw4 : k0_chk4 v180), ∀ a, (k0_off3 v180) a + S128x256.size a ≤ S4096x256.size a := fun v180 k0_hw4 => k0_hw4

def k0_dev11 (v4 : BitVec 32) : Nat :=
  let c0_i32_302 : BitVec 32 := 0#32
  let c1_i32_301 : BitVec 32 := 1#32
  let v224 : BitVec 32 := Scalar.muli v4 c1_i32_301
  let v225 : BitVec 32 := Scalar.addi c0_i32_302 v224
  v225.toNat
def k0_dev12 (v3 : BitVec 32) : Nat :=
  let c0_i32_306 : BitVec 32 := 0#32
  let c1_i32_305 : BitVec 32 := 1#32
  let v228 : BitVec 32 := Scalar.muli v3 c1_i32_305
  let v229 : BitVec 32 := Scalar.addi c0_i32_306 v228
  v229.toNat
@[reducible] def k0_t1_loop : Scf.Loop 32 :=
  let c2_i32_307 : BitVec 32 := 2#32
  let c13_i32 : BitVec 32 := 13#32
  let v230 : BitVec 32 := Scalar.addi c2_i32_307 c13_i32
  let c1_i32_308 : BitVec 32 := 1#32
  ⟨c2_i32_307, v230, c1_i32_308⟩
def k0_off4 (k0_t1 : Fin k0_t1_loop.trips) : Fin 2 → Nat :=
  let c2_i32_307 : BitVec 32 := 2#32
  let c1_i32_308 : BitVec 32 := 1#32
  let arg16 : BitVec 32 := Scf.iv c2_i32_307 c1_i32_308 k0_t1
  let c1_i32_1375 : BitVec 32 := 1#32
  let v1669 : BitVec 32 := Scalar.subi arg16 c1_i32_1375
  let c2_i32_1395 : BitVec 32 := 2#32
  let c0_i32_1396 : BitVec 32 := 0#32
  let v1701 : BitVec 1 := Scalar.cmpi .eq c2_i32_1395 c0_i32_1396
  let c1_i32_1397 : BitVec 32 := 1#32
  let v1702 : BitVec 32 := Scalar.select v1701 c1_i32_1397 c2_i32_1395
  let v1703 : BitVec 32 := Scalar.remsi v1669 v1702
  let c0_i32_1399 : BitVec 32 := 0#32
  let v1705 : BitVec 1 := Scalar.cmpi .slt v1703 c0_i32_1399
  let c0_i32_1400 : BitVec 32 := 0#32
  let v1706 : BitVec 1 := Scalar.cmpi .slt v1702 c0_i32_1400
  let v1707 : BitVec 1 := Scalar.xori v1705 v1706
  let c0_i32_1398 : BitVec 32 := 0#32
  let v1704 : BitVec 1 := Scalar.cmpi .ne v1703 c0_i32_1398
  let v1708 : BitVec 1 := Scalar.andi v1707 v1704
  let v1709 : BitVec 32 := Scalar.addi v1703 v1702
  let v1710 : BitVec 32 := Scalar.select v1708 v1709 v1703
  let c0_i32_1403 : BitVec 32 := 0#32
  ![v1710.toNat, 0]
def k0_off5 (k0_t1 : Fin k0_t1_loop.trips) : Fin 4 → Nat :=
  let c2_i32_307 : BitVec 32 := 2#32
  let c1_i32_308 : BitVec 32 := 1#32
  let arg16 : BitVec 32 := Scf.iv c2_i32_307 c1_i32_308 k0_t1
  let c1_i32_1375 : BitVec 32 := 1#32
  let v1669 : BitVec 32 := Scalar.subi arg16 c1_i32_1375
  let c2_i32_1383 : BitVec 32 := 2#32
  let c0_i32_1384 : BitVec 32 := 0#32
  let v1681 : BitVec 1 := Scalar.cmpi .eq c2_i32_1383 c0_i32_1384
  let c1_i32_1385 : BitVec 32 := 1#32
  let v1682 : BitVec 32 := Scalar.select v1681 c1_i32_1385 c2_i32_1383
  let v1683 : BitVec 32 := Scalar.remsi v1669 v1682
  let c0_i32_1387 : BitVec 32 := 0#32
  let v1685 : BitVec 1 := Scalar.cmpi .slt v1683 c0_i32_1387
  let c0_i32_1388 : BitVec 32 := 0#32
  let v1686 : BitVec 1 := Scalar.cmpi .slt v1682 c0_i32_1388
  let v1687 : BitVec 1 := Scalar.xori v1685 v1686
  let c0_i32_1386 : BitVec 32 := 0#32
  let v1684 : BitVec 1 := Scalar.cmpi .ne v1683 c0_i32_1386
  let v1688 : BitVec 1 := Scalar.andi v1687 v1684
  let v1689 : BitVec 32 := Scalar.addi v1683 v1682
  let v1690 : BitVec 32 := Scalar.select v1688 v1689 v1683
  let c0_i32_1402 : BitVec 32 := 0#32
  let c0_i32_1407 : BitVec 32 := 0#32
  let c0_i32_1408 : BitVec 32 := 0#32
  ![v1690.toNat, 0, 0, 0]
def k0_off6 (k0_t1 : Fin k0_t1_loop.trips) : Fin 4 → Nat :=
  let c2_i32_307 : BitVec 32 := 2#32
  let c1_i32_308 : BitVec 32 := 1#32
  let arg16 : BitVec 32 := Scf.iv c2_i32_307 c1_i32_308 k0_t1
  let c1_i32_1375 : BitVec 32 := 1#32
  let v1669 : BitVec 32 := Scalar.subi arg16 c1_i32_1375
  let c1_i32_1376 : BitVec 32 := 1#32
  let v1670 : BitVec 32 := Scalar.subi v1669 c1_i32_1376
  let c2_i32_1377 : BitVec 32 := 2#32
  let c0_i32_1378 : BitVec 32 := 0#32
  let v1671 : BitVec 1 := Scalar.cmpi .eq c2_i32_1377 c0_i32_1378
  let c1_i32_1379 : BitVec 32 := 1#32
  let v1672 : BitVec 32 := Scalar.select v1671 c1_i32_1379 c2_i32_1377
  let v1673 : BitVec 32 := Scalar.remsi v1670 v1672
  let c0_i32_1381 : BitVec 32 := 0#32
  let v1675 : BitVec 1 := Scalar.cmpi .slt v1673 c0_i32_1381
  let c0_i32_1382 : BitVec 32 := 0#32
  let v1676 : BitVec 1 := Scalar.cmpi .slt v1672 c0_i32_1382
  let v1677 : BitVec 1 := Scalar.xori v1675 v1676
  let c0_i32_1380 : BitVec 32 := 0#32
  let v1674 : BitVec 1 := Scalar.cmpi .ne v1673 c0_i32_1380
  let v1678 : BitVec 1 := Scalar.andi v1677 v1674
  let v1679 : BitVec 32 := Scalar.addi v1673 v1672
  let v1680 : BitVec 32 := Scalar.select v1678 v1679 v1673
  let c0_i32_1401 : BitVec 32 := 0#32
  let c0_i32_1409 : BitVec 32 := 0#32
  let c0_i32_1410 : BitVec 32 := 0#32
  ![v1680.toNat, 0, 0, 0]
def k0_off7 (k0_t1 : Fin k0_t1_loop.trips) : Fin 1 → Nat :=
  let c2_i32_307 : BitVec 32 := 2#32
  let c1_i32_308 : BitVec 32 := 1#32
  let arg16 : BitVec 32 := Scf.iv c2_i32_307 c1_i32_308 k0_t1
  let c2_i32_1369 : BitVec 32 := 2#32
  let c0_i32_1370 : BitVec 32 := 0#32
  let v1659 : BitVec 1 := Scalar.cmpi .eq c2_i32_1369 c0_i32_1370
  let c1_i32_1371 : BitVec 32 := 1#32
  let v1660 : BitVec 32 := Scalar.select v1659 c1_i32_1371 c2_i32_1369
  let v1661 : BitVec 32 := Scalar.remsi arg16 v1660
  let c0_i32_1373 : BitVec 32 := 0#32
  let v1663 : BitVec 1 := Scalar.cmpi .slt v1661 c0_i32_1373
  let c0_i32_1374 : BitVec 32 := 0#32
  let v1664 : BitVec 1 := Scalar.cmpi .slt v1660 c0_i32_1374
  let v1665 : BitVec 1 := Scalar.xori v1663 v1664
  let c0_i32_1372 : BitVec 32 := 0#32
  let v1662 : BitVec 1 := Scalar.cmpi .ne v1661 c0_i32_1372
  let v1666 : BitVec 1 := Scalar.andi v1665 v1662
  let v1667 : BitVec 32 := Scalar.addi v1661 v1660
  let v1668 : BitVec 32 := Scalar.select v1666 v1667 v1661
  ![v1668.toNat]
def k0_off8 (k0_t1 : Fin k0_t1_loop.trips) : Fin 2 → Nat :=
  let c2_i32_307 : BitVec 32 := 2#32
  let c1_i32_308 : BitVec 32 := 1#32
  let arg16 : BitVec 32 := Scf.iv c2_i32_307 c1_i32_308 k0_t1
  let c2_i32_1426 : BitVec 32 := 2#32
  let c0_i32_1427 : BitVec 32 := 0#32
  let v1742 : BitVec 1 := Scalar.cmpi .eq c2_i32_1426 c0_i32_1427
  let c1_i32_1428 : BitVec 32 := 1#32
  let v1743 : BitVec 32 := Scalar.select v1742 c1_i32_1428 c2_i32_1426
  let v1744 : BitVec 32 := Scalar.remsi arg16 v1743
  let c0_i32_1430 : BitVec 32 := 0#32
  let v1746 : BitVec 1 := Scalar.cmpi .slt v1744 c0_i32_1430
  let c0_i32_1431 : BitVec 32 := 0#32
  let v1747 : BitVec 1 := Scalar.cmpi .slt v1743 c0_i32_1431
  let v1748 : BitVec 1 := Scalar.xori v1746 v1747
  let c0_i32_1429 : BitVec 32 := 0#32
  let v1745 : BitVec 1 := Scalar.cmpi .ne v1744 c0_i32_1429
  let v1749 : BitVec 1 := Scalar.andi v1748 v1745
  let v1750 : BitVec 32 := Scalar.addi v1744 v1743
  let v1751 : BitVec 32 := Scalar.select v1749 v1750 v1744
  let c0_i32_1441 : BitVec 32 := 0#32
  ![v1751.toNat, 0]
def k0_off9 (k0_t1 : Fin k0_t1_loop.trips) : Fin 4 → Nat :=
  let c2_i32_307 : BitVec 32 := 2#32
  let c1_i32_308 : BitVec 32 := 1#32
  let arg16 : BitVec 32 := Scf.iv c2_i32_307 c1_i32_308 k0_t1
  let c2_i32_1420 : BitVec 32 := 2#32
  let c0_i32_1421 : BitVec 32 := 0#32
  let v1732 : BitVec 1 := Scalar.cmpi .eq c2_i32_1420 c0_i32_1421
  let c1_i32_1422 : BitVec 32 := 1#32
  let v1733 : BitVec 32 := Scalar.select v1732 c1_i32_1422 c2_i32_1420
  let v1734 : BitVec 32 := Scalar.remsi arg16 v1733
  let c0_i32_1424 : BitVec 32 := 0#32
  let v1736 : BitVec 1 := Scalar.cmpi .slt v1734 c0_i32_1424
  let c0_i32_1425 : BitVec 32 := 0#32
  let v1737 : BitVec 1 := Scalar.cmpi .slt v1733 c0_i32_1425
  let v1738 : BitVec 1 := Scalar.xori v1736 v1737
  let c0_i32_1423 : BitVec 32 := 0#32
  let v1735 : BitVec 1 := Scalar.cmpi .ne v1734 c0_i32_1423
  let v1739 : BitVec 1 := Scalar.andi v1738 v1735
  let v1740 : BitVec 32 := Scalar.addi v1734 v1733
  let v1741 : BitVec 32 := Scalar.select v1739 v1740 v1734
  let c0_i32_1439 : BitVec 32 := 0#32
  let c0_i32_1444 : BitVec 32 := 0#32
  let c0_i32_1445 : BitVec 32 := 0#32
  ![v1741.toNat, 0, 0, 0]
def k0_dev13 (v3 : BitVec 32) : Nat :=
  let c0_i32_1443 : BitVec 32 := 0#32
  let c1_i32_1442 : BitVec 32 := 1#32
  let v1762 : BitVec 32 := Scalar.muli v3 c1_i32_1442
  let v1763 : BitVec 32 := Scalar.addi c0_i32_1443 v1762
  v1763.toNat
def k0_dev14 (v4 : BitVec 32) : Nat :=
  let c0_i32_1516 : BitVec 32 := 0#32
  let c1_i32_1515 : BitVec 32 := 1#32
  let v1865 : BitVec 32 := Scalar.muli v4 c1_i32_1515
  let v1866 : BitVec 32 := Scalar.addi c0_i32_1516 v1865
  v1866.toNat
def k0_off10 (k0_t1 : Fin k0_t1_loop.trips) : Fin 2 → Nat :=
  let c2_i32_307 : BitVec 32 := 2#32
  let c1_i32_308 : BitVec 32 := 1#32
  let arg16 : BitVec 32 := Scf.iv c2_i32_307 c1_i32_308 k0_t1
  let c1_i32_1521 : BitVec 32 := 1#32
  let v1875 : BitVec 32 := Scalar.subi arg16 c1_i32_1521
  let c2_i32_1541 : BitVec 32 := 2#32
  let c0_i32_1542 : BitVec 32 := 0#32
  let v1907 : BitVec 1 := Scalar.cmpi .eq c2_i32_1541 c0_i32_1542
  let c1_i32_1543 : BitVec 32 := 1#32
  let v1908 : BitVec 32 := Scalar.select v1907 c1_i32_1543 c2_i32_1541
  let v1909 : BitVec 32 := Scalar.remsi v1875 v1908
  let c0_i32_1545 : BitVec 32 := 0#32
  let v1911 : BitVec 1 := Scalar.cmpi .slt v1909 c0_i32_1545
  let c0_i32_1546 : BitVec 32 := 0#32
  let v1912 : BitVec 1 := Scalar.cmpi .slt v1908 c0_i32_1546
  let v1913 : BitVec 1 := Scalar.xori v1911 v1912
  let c0_i32_1544 : BitVec 32 := 0#32
  let v1910 : BitVec 1 := Scalar.cmpi .ne v1909 c0_i32_1544
  let v1914 : BitVec 1 := Scalar.andi v1913 v1910
  let v1915 : BitVec 32 := Scalar.addi v1909 v1908
  let v1916 : BitVec 32 := Scalar.select v1914 v1915 v1909
  let c1_i32_1549 : BitVec 32 := 1#32
  ![v1916.toNat, 1]
def k0_off11 (k0_t1 : Fin k0_t1_loop.trips) : Fin 4 → Nat :=
  let c2_i32_307 : BitVec 32 := 2#32
  let c1_i32_308 : BitVec 32 := 1#32
  let arg16 : BitVec 32 := Scf.iv c2_i32_307 c1_i32_308 k0_t1
  let c1_i32_1521 : BitVec 32 := 1#32
  let v1875 : BitVec 32 := Scalar.subi arg16 c1_i32_1521
  let c2_i32_1529 : BitVec 32 := 2#32
  let c0_i32_1530 : BitVec 32 := 0#32
  let v1887 : BitVec 1 := Scalar.cmpi .eq c2_i32_1529 c0_i32_1530
  let c1_i32_1531 : BitVec 32 := 1#32
  let v1888 : BitVec 32 := Scalar.select v1887 c1_i32_1531 c2_i32_1529
  let v1889 : BitVec 32 := Scalar.remsi v1875 v1888
  let c0_i32_1533 : BitVec 32 := 0#32
  let v1891 : BitVec 1 := Scalar.cmpi .slt v1889 c0_i32_1533
  let c0_i32_1534 : BitVec 32 := 0#32
  let v1892 : BitVec 1 := Scalar.cmpi .slt v1888 c0_i32_1534
  let v1893 : BitVec 1 := Scalar.xori v1891 v1892
  let c0_i32_1532 : BitVec 32 := 0#32
  let v1890 : BitVec 1 := Scalar.cmpi .ne v1889 c0_i32_1532
  let v1894 : BitVec 1 := Scalar.andi v1893 v1890
  let v1895 : BitVec 32 := Scalar.addi v1889 v1888
  let v1896 : BitVec 32 := Scalar.select v1894 v1895 v1889
  let c1_i32_1548 : BitVec 32 := 1#32
  let c0_i32_1553 : BitVec 32 := 0#32
  let c0_i32_1554 : BitVec 32 := 0#32
  ![v1896.toNat, 1, 0, 0]
def k0_off12 (k0_t1 : Fin k0_t1_loop.trips) : Fin 4 → Nat :=
  let c2_i32_307 : BitVec 32 := 2#32
  let c1_i32_308 : BitVec 32 := 1#32
  let arg16 : BitVec 32 := Scf.iv c2_i32_307 c1_i32_308 k0_t1
  let c1_i32_1521 : BitVec 32 := 1#32
  let v1875 : BitVec 32 := Scalar.subi arg16 c1_i32_1521
  let c1_i32_1522 : BitVec 32 := 1#32
  let v1876 : BitVec 32 := Scalar.subi v1875 c1_i32_1522
  let c2_i32_1523 : BitVec 32 := 2#32
  let c0_i32_1524 : BitVec 32 := 0#32
  let v1877 : BitVec 1 := Scalar.cmpi .eq c2_i32_1523 c0_i32_1524
  let c1_i32_1525 : BitVec 32 := 1#32
  let v1878 : BitVec 32 := Scalar.select v1877 c1_i32_1525 c2_i32_1523
  let v1879 : BitVec 32 := Scalar.remsi v1876 v1878
  let c0_i32_1527 : BitVec 32 := 0#32
  let v1881 : BitVec 1 := Scalar.cmpi .slt v1879 c0_i32_1527
  let c0_i32_1528 : BitVec 32 := 0#32
  let v1882 : BitVec 1 := Scalar.cmpi .slt v1878 c0_i32_1528
  let v1883 : BitVec 1 := Scalar.xori v1881 v1882
  let c0_i32_1526 : BitVec 32 := 0#32
  let v1880 : BitVec 1 := Scalar.cmpi .ne v1879 c0_i32_1526
  let v1884 : BitVec 1 := Scalar.andi v1883 v1880
  let v1885 : BitVec 32 := Scalar.addi v1879 v1878
  let v1886 : BitVec 32 := Scalar.select v1884 v1885 v1879
  let c1_i32_1547 : BitVec 32 := 1#32
  let c0_i32_1555 : BitVec 32 := 0#32
  let c0_i32_1556 : BitVec 32 := 0#32
  ![v1886.toNat, 1, 0, 0]
def k0_off13 (k0_t1 : Fin k0_t1_loop.trips) : Fin 2 → Nat :=
  let c2_i32_307 : BitVec 32 := 2#32
  let c1_i32_308 : BitVec 32 := 1#32
  let arg16 : BitVec 32 := Scf.iv c2_i32_307 c1_i32_308 k0_t1
  let c2_i32_1570 : BitVec 32 := 2#32
  let c0_i32_1571 : BitVec 32 := 0#32
  let v1946 : BitVec 1 := Scalar.cmpi .eq c2_i32_1570 c0_i32_1571
  let c1_i32_1572 : BitVec 32 := 1#32
  let v1947 : BitVec 32 := Scalar.select v1946 c1_i32_1572 c2_i32_1570
  let v1948 : BitVec 32 := Scalar.remsi arg16 v1947
  let c0_i32_1574 : BitVec 32 := 0#32
  let v1950 : BitVec 1 := Scalar.cmpi .slt v1948 c0_i32_1574
  let c0_i32_1575 : BitVec 32 := 0#32
  let v1951 : BitVec 1 := Scalar.cmpi .slt v1947 c0_i32_1575
  let v1952 : BitVec 1 := Scalar.xori v1950 v1951
  let c0_i32_1573 : BitVec 32 := 0#32
  let v1949 : BitVec 1 := Scalar.cmpi .ne v1948 c0_i32_1573
  let v1953 : BitVec 1 := Scalar.andi v1952 v1949
  let v1954 : BitVec 32 := Scalar.addi v1948 v1947
  let v1955 : BitVec 32 := Scalar.select v1953 v1954 v1948
  let c1_i32_1585 : BitVec 32 := 1#32
  ![v1955.toNat, 1]
def k0_off14 (k0_t1 : Fin k0_t1_loop.trips) : Fin 4 → Nat :=
  let c2_i32_307 : BitVec 32 := 2#32
  let c1_i32_308 : BitVec 32 := 1#32
  let arg16 : BitVec 32 := Scf.iv c2_i32_307 c1_i32_308 k0_t1
  let c2_i32_1564 : BitVec 32 := 2#32
  let c0_i32_1565 : BitVec 32 := 0#32
  let v1936 : BitVec 1 := Scalar.cmpi .eq c2_i32_1564 c0_i32_1565
  let c1_i32_1566 : BitVec 32 := 1#32
  let v1937 : BitVec 32 := Scalar.select v1936 c1_i32_1566 c2_i32_1564
  let v1938 : BitVec 32 := Scalar.remsi arg16 v1937
  let c0_i32_1568 : BitVec 32 := 0#32
  let v1940 : BitVec 1 := Scalar.cmpi .slt v1938 c0_i32_1568
  let c0_i32_1569 : BitVec 32 := 0#32
  let v1941 : BitVec 1 := Scalar.cmpi .slt v1937 c0_i32_1569
  let v1942 : BitVec 1 := Scalar.xori v1940 v1941
  let c0_i32_1567 : BitVec 32 := 0#32
  let v1939 : BitVec 1 := Scalar.cmpi .ne v1938 c0_i32_1567
  let v1943 : BitVec 1 := Scalar.andi v1942 v1939
  let v1944 : BitVec 32 := Scalar.addi v1938 v1937
  let v1945 : BitVec 32 := Scalar.select v1943 v1944 v1938
  let c1_i32_1583 : BitVec 32 := 1#32
  let c0_i32_1588 : BitVec 32 := 0#32
  let c0_i32_1589 : BitVec 32 := 0#32
  ![v1945.toNat, 1, 0, 0]
def k0_dev15 (v3 : BitVec 32) : Nat :=
  let c0_i32_1587 : BitVec 32 := 0#32
  let c1_i32_1586 : BitVec 32 := 1#32
  let v1966 : BitVec 32 := Scalar.muli v3 c1_i32_1586
  let v1967 : BitVec 32 := Scalar.addi c0_i32_1587 v1966
  v1967.toNat
def k0_dev16 (v4 : BitVec 32) : Nat :=
  let c0_i32_1658 : BitVec 32 := 0#32
  let c1_i32_1657 : BitVec 32 := 1#32
  let v2067 : BitVec 32 := Scalar.muli v4 c1_i32_1657
  let v2068 : BitVec 32 := Scalar.addi c0_i32_1658 v2067
  v2068.toNat
def k0_off15 (k0_t1 : Fin k0_t1_loop.trips) : Fin 4 → Nat :=
  let c2_i32_307 : BitVec 32 := 2#32
  let c1_i32_308 : BitVec 32 := 1#32
  let arg16 : BitVec 32 := Scf.iv c2_i32_307 c1_i32_308 k0_t1
  let c1_i32_1362 : BitVec 32 := 1#32
  let v1648 : BitVec 32 := Scalar.subi arg16 c1_i32_1362
  let c2_i32_1363 : BitVec 32 := 2#32
  let c0_i32_1364 : BitVec 32 := 0#32
  let v1649 : BitVec 1 := Scalar.cmpi .eq c2_i32_1363 c0_i32_1364
  let c1_i32_1365 : BitVec 32 := 1#32
  let v1650 : BitVec 32 := Scalar.select v1649 c1_i32_1365 c2_i32_1363
  let v1651 : BitVec 32 := Scalar.remsi v1648 v1650
  let c0_i32_1367 : BitVec 32 := 0#32
  let v1653 : BitVec 1 := Scalar.cmpi .slt v1651 c0_i32_1367
  let c0_i32_1368 : BitVec 32 := 0#32
  let v1654 : BitVec 1 := Scalar.cmpi .slt v1650 c0_i32_1368
  let v1655 : BitVec 1 := Scalar.xori v1653 v1654
  let c0_i32_1366 : BitVec 32 := 0#32
  let v1652 : BitVec 1 := Scalar.cmpi .ne v1651 c0_i32_1366
  let v1656 : BitVec 1 := Scalar.andi v1655 v1652
  let v1657 : BitVec 32 := Scalar.addi v1651 v1650
  let v1658 : BitVec 32 := Scalar.select v1656 v1657 v1651
  let v2077 : Index := Scalar.indexCast v1658
  let c0_1663 : Index := 0#32
  let c0_1664 : Index := 0#32
  let c0_1665 : Index := 0#32
  ![v2077.toNat, 0, 0, 0]
def k0_off16 (k0_t1 : Fin k0_t1_loop.trips) : Fin 4 → Nat :=
  let c2_i32_307 : BitVec 32 := 2#32
  let c1_i32_308 : BitVec 32 := 1#32
  let arg16 : BitVec 32 := Scf.iv c2_i32_307 c1_i32_308 k0_t1
  let c1_i32_1362 : BitVec 32 := 1#32
  let v1648 : BitVec 32 := Scalar.subi arg16 c1_i32_1362
  let c2_i32_1363 : BitVec 32 := 2#32
  let c0_i32_1364 : BitVec 32 := 0#32
  let v1649 : BitVec 1 := Scalar.cmpi .eq c2_i32_1363 c0_i32_1364
  let c1_i32_1365 : BitVec 32 := 1#32
  let v1650 : BitVec 32 := Scalar.select v1649 c1_i32_1365 c2_i32_1363
  let v1651 : BitVec 32 := Scalar.remsi v1648 v1650
  let c0_i32_1367 : BitVec 32 := 0#32
  let v1653 : BitVec 1 := Scalar.cmpi .slt v1651 c0_i32_1367
  let c0_i32_1368 : BitVec 32 := 0#32
  let v1654 : BitVec 1 := Scalar.cmpi .slt v1650 c0_i32_1368
  let v1655 : BitVec 1 := Scalar.xori v1653 v1654
  let c0_i32_1366 : BitVec 32 := 0#32
  let v1652 : BitVec 1 := Scalar.cmpi .ne v1651 c0_i32_1366
  let v1656 : BitVec 1 := Scalar.andi v1655 v1652
  let v1657 : BitVec 32 := Scalar.addi v1651 v1650
  let v1658 : BitVec 32 := Scalar.select v1656 v1657 v1651
  let v2080 : Index := Scalar.indexCast v1658
  let c1_1666 : Index := 1#32
  let c0_1667 : Index := 0#32
  let c0_1668 : Index := 0#32
  ![v2080.toNat, 1, 0, 0]
def k0_off17 (k0_t1 : Fin k0_t1_loop.trips) : Fin 1 → Nat :=
  let c2_i32_307 : BitVec 32 := 2#32
  let c1_i32_308 : BitVec 32 := 1#32
  let arg16 : BitVec 32 := Scf.iv c2_i32_307 c1_i32_308 k0_t1
  let c1_i32_1669 : BitVec 32 := 1#32
  let v2083 : BitVec 32 := Scalar.addi arg16 c1_i32_1669
  let v2084 : Index := Scalar.indexCast v2083
  ![v2084.toNat]
def k0_off18 (v2085 : BitVec 32) : Fin 2 → Nat :=
  let c128_i32_1677 : BitVec 32 := 128#32
  let v2095 : BitVec 32 := Scalar.muli v2085 c128_i32_1677
  let v2096 : Index := Scalar.indexCast v2095
  let c0_1678 : Index := 0#32
  ![v2096.toNat, 0]

def k0_chk5 (v2085 : BitVec 32) : Prop :=
  (∀ a, (k0_off18 v2085) a + S128x256.size a ≤ S4096x256.size a)
theorem k0_off18_inb : ∀ (v2085 : BitVec 32) (k0_hw5 : k0_chk5 v2085), ∀ a, (k0_off18 v2085) a + S128x256.size a ≤ S4096x256.size a := fun v2085 k0_hw5 => k0_hw5

def k0_off19 (k0_t1 : Fin k0_t1_loop.trips) : Fin 4 → Nat :=
  let c2_i32_307 : BitVec 32 := 2#32
  let c1_i32_308 : BitVec 32 := 1#32
  let arg16 : BitVec 32 := Scf.iv c2_i32_307 c1_i32_308 k0_t1
  let c1_i32_1362 : BitVec 32 := 1#32
  let v1648 : BitVec 32 := Scalar.subi arg16 c1_i32_1362
  let c2_i32_1363 : BitVec 32 := 2#32
  let c0_i32_1364 : BitVec 32 := 0#32
  let v1649 : BitVec 1 := Scalar.cmpi .eq c2_i32_1363 c0_i32_1364
  let c1_i32_1365 : BitVec 32 := 1#32
  let v1650 : BitVec 32 := Scalar.select v1649 c1_i32_1365 c2_i32_1363
  let v1651 : BitVec 32 := Scalar.remsi v1648 v1650
  let c0_i32_1367 : BitVec 32 := 0#32
  let v1653 : BitVec 1 := Scalar.cmpi .slt v1651 c0_i32_1367
  let c0_i32_1368 : BitVec 32 := 0#32
  let v1654 : BitVec 1 := Scalar.cmpi .slt v1650 c0_i32_1368
  let v1655 : BitVec 1 := Scalar.xori v1653 v1654
  let c0_i32_1366 : BitVec 32 := 0#32
  let v1652 : BitVec 1 := Scalar.cmpi .ne v1651 c0_i32_1366
  let v1656 : BitVec 1 := Scalar.andi v1655 v1652
  let v1657 : BitVec 32 := Scalar.addi v1651 v1650
  let v1658 : BitVec 32 := Scalar.select v1656 v1657 v1651
  let v2103 : Index := Scalar.indexCast v1658
  let c0_1680 : Index := 0#32
  let c0_1681 : Index := 0#32
  let c0_1682 : Index := 0#32
  ![v2103.toNat, 0, 0, 0]
def k0_off20 (k0_t1 : Fin k0_t1_loop.trips) : Fin 4 → Nat :=
  let c2_i32_307 : BitVec 32 := 2#32
  let c1_i32_308 : BitVec 32 := 1#32
  let arg16 : BitVec 32 := Scf.iv c2_i32_307 c1_i32_308 k0_t1
  let c1_i32_1362 : BitVec 32 := 1#32
  let v1648 : BitVec 32 := Scalar.subi arg16 c1_i32_1362
  let c2_i32_1363 : BitVec 32 := 2#32
  let c0_i32_1364 : BitVec 32 := 0#32
  let v1649 : BitVec 1 := Scalar.cmpi .eq c2_i32_1363 c0_i32_1364
  let c1_i32_1365 : BitVec 32 := 1#32
  let v1650 : BitVec 32 := Scalar.select v1649 c1_i32_1365 c2_i32_1363
  let v1651 : BitVec 32 := Scalar.remsi v1648 v1650
  let c0_i32_1367 : BitVec 32 := 0#32
  let v1653 : BitVec 1 := Scalar.cmpi .slt v1651 c0_i32_1367
  let c0_i32_1368 : BitVec 32 := 0#32
  let v1654 : BitVec 1 := Scalar.cmpi .slt v1650 c0_i32_1368
  let v1655 : BitVec 1 := Scalar.xori v1653 v1654
  let c0_i32_1366 : BitVec 32 := 0#32
  let v1652 : BitVec 1 := Scalar.cmpi .ne v1651 c0_i32_1366
  let v1656 : BitVec 1 := Scalar.andi v1655 v1652
  let v1657 : BitVec 32 := Scalar.addi v1651 v1650
  let v1658 : BitVec 32 := Scalar.select v1656 v1657 v1651
  let v2106 : Index := Scalar.indexCast v1658
  let c1_1683 : Index := 1#32
  let c0_1684 : Index := 0#32
  let c0_1685 : Index := 0#32
  ![v2106.toNat, 1, 0, 0]
def k0_off21 (k0_t1 : Fin k0_t1_loop.trips) : Fin 1 → Nat :=
  let c2_i32_307 : BitVec 32 := 2#32
  let c1_i32_308 : BitVec 32 := 1#32
  let arg16 : BitVec 32 := Scf.iv c2_i32_307 c1_i32_308 k0_t1
  let c1_i32_1686 : BitVec 32 := 1#32
  let v2109 : BitVec 32 := Scalar.addi arg16 c1_i32_1686
  let c16_i32_1687 : BitVec 32 := 16#32
  let v2110 : BitVec 32 := Scalar.addi v2109 c16_i32_1687
  let v2111 : Index := Scalar.indexCast v2110
  ![v2111.toNat]
def k0_off22 (v2112 : BitVec 32) : Fin 2 → Nat :=
  let c128_i32_1695 : BitVec 32 := 128#32
  let v2122 : BitVec 32 := Scalar.muli v2112 c128_i32_1695
  let v2123 : Index := Scalar.indexCast v2122
  let c0_1696 : Index := 0#32
  ![v2123.toNat, 0]

def k0_chk6 (v2112 : BitVec 32) : Prop :=
  (∀ a, (k0_off22 v2112) a + S128x256.size a ≤ S4096x256.size a)
theorem k0_off22_inb : ∀ (v2112 : BitVec 32) (k0_hw6 : k0_chk6 v2112), ∀ a, (k0_off22 v2112) a + S128x256.size a ≤ S4096x256.size a := fun v2112 k0_hw6 => k0_hw6

def k0_off23 (k0_t1 : Fin k0_t1_loop.trips) : Fin 2 → Nat :=
  let c2_i32_307 : BitVec 32 := 2#32
  let c1_i32_308 : BitVec 32 := 1#32
  let arg16 : BitVec 32 := Scf.iv c2_i32_307 c1_i32_308 k0_t1
  let c2_i32_1426 : BitVec 32 := 2#32
  let c0_i32_1427 : BitVec 32 := 0#32
  let v1742 : BitVec 1 := Scalar.cmpi .eq c2_i32_1426 c0_i32_1427
  let c1_i32_1428 : BitVec 32 := 1#32
  let v1743 : BitVec 32 := Scalar.select v1742 c1_i32_1428 c2_i32_1426
  let v1744 : BitVec 32 := Scalar.remsi arg16 v1743
  let c0_i32_1430 : BitVec 32 := 0#32
  let v1746 : BitVec 1 := Scalar.cmpi .slt v1744 c0_i32_1430
  let c0_i32_1431 : BitVec 32 := 0#32
  let v1747 : BitVec 1 := Scalar.cmpi .slt v1743 c0_i32_1431
  let v1748 : BitVec 1 := Scalar.xori v1746 v1747
  let c0_i32_1429 : BitVec 32 := 0#32
  let v1745 : BitVec 1 := Scalar.cmpi .ne v1744 c0_i32_1429
  let v1749 : BitVec 1 := Scalar.andi v1748 v1745
  let v1750 : BitVec 32 := Scalar.addi v1744 v1743
  let v1751 : BitVec 32 := Scalar.select v1749 v1750 v1744
  let c0_i32_1700 : BitVec 32 := 0#32
  ![v1751.toNat, 0]
def k0_off24 (k0_t1 : Fin k0_t1_loop.trips) : Fin 4 → Nat :=
  let c2_i32_307 : BitVec 32 := 2#32
  let c1_i32_308 : BitVec 32 := 1#32
  let arg16 : BitVec 32 := Scf.iv c2_i32_307 c1_i32_308 k0_t1
  let c1_i32_1413 : BitVec 32 := 1#32
  let v1721 : BitVec 32 := Scalar.subi arg16 c1_i32_1413
  let c2_i32_1414 : BitVec 32 := 2#32
  let c0_i32_1415 : BitVec 32 := 0#32
  let v1722 : BitVec 1 := Scalar.cmpi .eq c2_i32_1414 c0_i32_1415
  let c1_i32_1416 : BitVec 32 := 1#32
  let v1723 : BitVec 32 := Scalar.select v1722 c1_i32_1416 c2_i32_1414
  let v1724 : BitVec 32 := Scalar.remsi v1721 v1723
  let c0_i32_1418 : BitVec 32 := 0#32
  let v1726 : BitVec 1 := Scalar.cmpi .slt v1724 c0_i32_1418
  let c0_i32_1419 : BitVec 32 := 0#32
  let v1727 : BitVec 1 := Scalar.cmpi .slt v1723 c0_i32_1419
  let v1728 : BitVec 1 := Scalar.xori v1726 v1727
  let c0_i32_1417 : BitVec 32 := 0#32
  let v1725 : BitVec 1 := Scalar.cmpi .ne v1724 c0_i32_1417
  let v1729 : BitVec 1 := Scalar.andi v1728 v1725
  let v1730 : BitVec 32 := Scalar.addi v1724 v1723
  let v1731 : BitVec 32 := Scalar.select v1729 v1730 v1724
  let c0_i32_1699 : BitVec 32 := 0#32
  let c0_i32_1703 : BitVec 32 := 0#32
  let c0_i32_1704 : BitVec 32 := 0#32
  ![v1731.toNat, 0, 0, 0]
def k0_off25 (k0_t1 : Fin k0_t1_loop.trips) : Fin 4 → Nat :=
  let c2_i32_307 : BitVec 32 := 2#32
  let c1_i32_308 : BitVec 32 := 1#32
  let arg16 : BitVec 32 := Scf.iv c2_i32_307 c1_i32_308 k0_t1
  let c2_i32_1420 : BitVec 32 := 2#32
  let c0_i32_1421 : BitVec 32 := 0#32
  let v1732 : BitVec 1 := Scalar.cmpi .eq c2_i32_1420 c0_i32_1421
  let c1_i32_1422 : BitVec 32 := 1#32
  let v1733 : BitVec 32 := Scalar.select v1732 c1_i32_1422 c2_i32_1420
  let v1734 : BitVec 32 := Scalar.remsi arg16 v1733
  let c0_i32_1424 : BitVec 32 := 0#32
  let v1736 : BitVec 1 := Scalar.cmpi .slt v1734 c0_i32_1424
  let c0_i32_1425 : BitVec 32 := 0#32
  let v1737 : BitVec 1 := Scalar.cmpi .slt v1733 c0_i32_1425
  let v1738 : BitVec 1 := Scalar.xori v1736 v1737
  let c0_i32_1423 : BitVec 32 := 0#32
  let v1735 : BitVec 1 := Scalar.cmpi .ne v1734 c0_i32_1423
  let v1739 : BitVec 1 := Scalar.andi v1738 v1735
  let v1740 : BitVec 32 := Scalar.addi v1734 v1733
  let v1741 : BitVec 32 := Scalar.select v1739 v1740 v1734
  let c0_i32_1698 : BitVec 32 := 0#32
  let c0_i32_1705 : BitVec 32 := 0#32
  let c0_i32_1706 : BitVec 32 := 0#32
  ![v1741.toNat, 0, 0, 0]
def k0_off26 (k0_t1 : Fin k0_t1_loop.trips) : Fin 2 → Nat :=
  let c2_i32_307 : BitVec 32 := 2#32
  let c1_i32_308 : BitVec 32 := 1#32
  let arg16 : BitVec 32 := Scf.iv c2_i32_307 c1_i32_308 k0_t1
  let c2_i32_1570 : BitVec 32 := 2#32
  let c0_i32_1571 : BitVec 32 := 0#32
  let v1946 : BitVec 1 := Scalar.cmpi .eq c2_i32_1570 c0_i32_1571
  let c1_i32_1572 : BitVec 32 := 1#32
  let v1947 : BitVec 32 := Scalar.select v1946 c1_i32_1572 c2_i32_1570
  let v1948 : BitVec 32 := Scalar.remsi arg16 v1947
  let c0_i32_1574 : BitVec 32 := 0#32
  let v1950 : BitVec 1 := Scalar.cmpi .slt v1948 c0_i32_1574
  let c0_i32_1575 : BitVec 32 := 0#32
  let v1951 : BitVec 1 := Scalar.cmpi .slt v1947 c0_i32_1575
  let v1952 : BitVec 1 := Scalar.xori v1950 v1951
  let c0_i32_1573 : BitVec 32 := 0#32
  let v1949 : BitVec 1 := Scalar.cmpi .ne v1948 c0_i32_1573
  let v1953 : BitVec 1 := Scalar.andi v1952 v1949
  let v1954 : BitVec 32 := Scalar.addi v1948 v1947
  let v1955 : BitVec 32 := Scalar.select v1953 v1954 v1948
  let c1_i32_1709 : BitVec 32 := 1#32
  ![v1955.toNat, 1]
def k0_off27 (k0_t1 : Fin k0_t1_loop.trips) : Fin 4 → Nat :=
  let c2_i32_307 : BitVec 32 := 2#32
  let c1_i32_308 : BitVec 32 := 1#32
  let arg16 : BitVec 32 := Scf.iv c2_i32_307 c1_i32_308 k0_t1
  let c1_i32_1557 : BitVec 32 := 1#32
  let v1925 : BitVec 32 := Scalar.subi arg16 c1_i32_1557
  let c2_i32_1558 : BitVec 32 := 2#32
  let c0_i32_1559 : BitVec 32 := 0#32
  let v1926 : BitVec 1 := Scalar.cmpi .eq c2_i32_1558 c0_i32_1559
  let c1_i32_1560 : BitVec 32 := 1#32
  let v1927 : BitVec 32 := Scalar.select v1926 c1_i32_1560 c2_i32_1558
  let v1928 : BitVec 32 := Scalar.remsi v1925 v1927
  let c0_i32_1562 : BitVec 32 := 0#32
  let v1930 : BitVec 1 := Scalar.cmpi .slt v1928 c0_i32_1562
  let c0_i32_1563 : BitVec 32 := 0#32
  let v1931 : BitVec 1 := Scalar.cmpi .slt v1927 c0_i32_1563
  let v1932 : BitVec 1 := Scalar.xori v1930 v1931
  let c0_i32_1561 : BitVec 32 := 0#32
  let v1929 : BitVec 1 := Scalar.cmpi .ne v1928 c0_i32_1561
  let v1933 : BitVec 1 := Scalar.andi v1932 v1929
  let v1934 : BitVec 32 := Scalar.addi v1928 v1927
  let v1935 : BitVec 32 := Scalar.select v1933 v1934 v1928
  let c1_i32_1708 : BitVec 32 := 1#32
  let c0_i32_1712 : BitVec 32 := 0#32
  let c0_i32_1713 : BitVec 32 := 0#32
  ![v1935.toNat, 1, 0, 0]
def k0_off28 (k0_t1 : Fin k0_t1_loop.trips) : Fin 4 → Nat :=
  let c2_i32_307 : BitVec 32 := 2#32
  let c1_i32_308 : BitVec 32 := 1#32
  let arg16 : BitVec 32 := Scf.iv c2_i32_307 c1_i32_308 k0_t1
  let c2_i32_1564 : BitVec 32 := 2#32
  let c0_i32_1565 : BitVec 32 := 0#32
  let v1936 : BitVec 1 := Scalar.cmpi .eq c2_i32_1564 c0_i32_1565
  let c1_i32_1566 : BitVec 32 := 1#32
  let v1937 : BitVec 32 := Scalar.select v1936 c1_i32_1566 c2_i32_1564
  let v1938 : BitVec 32 := Scalar.remsi arg16 v1937
  let c0_i32_1568 : BitVec 32 := 0#32
  let v1940 : BitVec 1 := Scalar.cmpi .slt v1938 c0_i32_1568
  let c0_i32_1569 : BitVec 32 := 0#32
  let v1941 : BitVec 1 := Scalar.cmpi .slt v1937 c0_i32_1569
  let v1942 : BitVec 1 := Scalar.xori v1940 v1941
  let c0_i32_1567 : BitVec 32 := 0#32
  let v1939 : BitVec 1 := Scalar.cmpi .ne v1938 c0_i32_1567
  let v1943 : BitVec 1 := Scalar.andi v1942 v1939
  let v1944 : BitVec 32 := Scalar.addi v1938 v1937
  let v1945 : BitVec 32 := Scalar.select v1943 v1944 v1938
  let c1_i32_1707 : BitVec 32 := 1#32
  let c0_i32_1714 : BitVec 32 := 0#32
  let c0_i32_1715 : BitVec 32 := 0#32
  ![v1945.toNat, 1, 0, 0]
def k0_off29 (k0_t1 : Fin k0_t1_loop.trips) : Fin 1 → Nat :=
  let c2_i32_307 : BitVec 32 := 2#32
  let c1_i32_308 : BitVec 32 := 1#32
  let arg16 : BitVec 32 := Scf.iv c2_i32_307 c1_i32_308 k0_t1
  let c1_i32_1362 : BitVec 32 := 1#32
  let v1648 : BitVec 32 := Scalar.subi arg16 c1_i32_1362
  let c2_i32_1363 : BitVec 32 := 2#32
  let c0_i32_1364 : BitVec 32 := 0#32
  let v1649 : BitVec 1 := Scalar.cmpi .eq c2_i32_1363 c0_i32_1364
  let c1_i32_1365 : BitVec 32 := 1#32
  let v1650 : BitVec 32 := Scalar.select v1649 c1_i32_1365 c2_i32_1363
  let v1651 : BitVec 32 := Scalar.remsi v1648 v1650
  let c0_i32_1367 : BitVec 32 := 0#32
  let v1653 : BitVec 1 := Scalar.cmpi .slt v1651 c0_i32_1367
  let c0_i32_1368 : BitVec 32 := 0#32
  let v1654 : BitVec 1 := Scalar.cmpi .slt v1650 c0_i32_1368
  let v1655 : BitVec 1 := Scalar.xori v1653 v1654
  let c0_i32_1366 : BitVec 32 := 0#32
  let v1652 : BitVec 1 := Scalar.cmpi .ne v1651 c0_i32_1366
  let v1656 : BitVec 1 := Scalar.andi v1655 v1652
  let v1657 : BitVec 32 := Scalar.addi v1651 v1650
  let v1658 : BitVec 32 := Scalar.select v1656 v1657 v1651
  ![v1658.toNat]
def k0_dev17 (v4 : BitVec 32) : Nat :=
  let c0_i32_1736 : BitVec 32 := 0#32
  let c1_i32_1735 : BitVec 32 := 1#32
  let v2156 : BitVec 32 := Scalar.muli v4 c1_i32_1735
  let v2157 : BitVec 32 := Scalar.addi c0_i32_1736 v2156
  v2157.toNat
def k0_dev18 (v3 : BitVec 32) : Nat :=
  let c0_i32_1739 : BitVec 32 := 0#32
  let c1_i32_1738 : BitVec 32 := 1#32
  let v2160 : BitVec 32 := Scalar.muli v3 c1_i32_1738
  let v2161 : BitVec 32 := Scalar.addi c0_i32_1739 v2160
  v2161.toNat
def k0_dev19 (v3 : BitVec 32) : Nat :=
  let c0_i32_336 : BitVec 32 := 0#32
  let c1_i32_335 : BitVec 32 := 1#32
  let v242 : BitVec 32 := Scalar.muli v3 c1_i32_335
  let v243 : BitVec 32 := Scalar.addi c0_i32_336 v242
  v243.toNat

def k0_chk2 (v3 : BitVec 32) : Prop :=
  ((k0_dev2 v3) < nD) ∧
  ((k0_dev3 v3) < nD) ∧
  ((k0_dev4 v3) < nD) ∧
  ((k0_dev7 v3) < nD) ∧
  ((k0_dev9 v3) < nD) ∧
  ((k0_dev12 v3) < nD) ∧
  ((k0_dev13 v3) < nD) ∧
  ((k0_dev15 v3) < nD) ∧
  ((k0_dev18 v3) < nD) ∧
  ((k0_dev19 v3) < nD)
theorem k0_dev2_lt : ∀ (v3 : BitVec 32) (k0_hw2 : k0_chk2 v3), (k0_dev2 v3) < nD := fun v3 k0_hw2 => k0_hw2.1
theorem k0_dev3_lt : ∀ (v3 : BitVec 32) (k0_hw2 : k0_chk2 v3), (k0_dev3 v3) < nD := fun v3 k0_hw2 => k0_hw2.2.1
theorem k0_dev4_lt : ∀ (v3 : BitVec 32) (k0_hw2 : k0_chk2 v3), (k0_dev4 v3) < nD := fun v3 k0_hw2 => k0_hw2.2.2.1
theorem k0_dev7_lt : ∀ (v3 : BitVec 32) (k0_hw2 : k0_chk2 v3), (k0_dev7 v3) < nD := fun v3 k0_hw2 => k0_hw2.2.2.2.1
theorem k0_dev9_lt : ∀ (v3 : BitVec 32) (k0_hw2 : k0_chk2 v3), (k0_dev9 v3) < nD := fun v3 k0_hw2 => k0_hw2.2.2.2.2.1
theorem k0_dev12_lt : ∀ (v3 : BitVec 32) (k0_hw2 : k0_chk2 v3), (k0_dev12 v3) < nD := fun v3 k0_hw2 => k0_hw2.2.2.2.2.2.1
theorem k0_dev13_lt : ∀ (v3 : BitVec 32) (k0_hw2 : k0_chk2 v3), (k0_dev13 v3) < nD := fun v3 k0_hw2 => k0_hw2.2.2.2.2.2.2.1
theorem k0_dev15_lt : ∀ (v3 : BitVec 32) (k0_hw2 : k0_chk2 v3), (k0_dev15 v3) < nD := fun v3 k0_hw2 => k0_hw2.2.2.2.2.2.2.2.1
theorem k0_dev18_lt : ∀ (v3 : BitVec 32) (k0_hw2 : k0_chk2 v3), (k0_dev18 v3) < nD := fun v3 k0_hw2 => k0_hw2.2.2.2.2.2.2.2.2.1
theorem k0_dev19_lt : ∀ (v3 : BitVec 32) (k0_hw2 : k0_chk2 v3), (k0_dev19 v3) < nD := fun v3 k0_hw2 => k0_hw2.2.2.2.2.2.2.2.2.2

def k0_dev20 (v4 : BitVec 32) : Nat :=
  let c0_i32_395 : BitVec 32 := 0#32
  let c1_i32_394 : BitVec 32 := 1#32
  let v278 : BitVec 32 := Scalar.muli v4 c1_i32_394
  let v279 : BitVec 32 := Scalar.addi c0_i32_395 v278
  v279.toNat

def k0_chk1 (v4 : BitVec 32) : Prop :=
  ((k0_dev1 v4) < nD) ∧
  ((k0_dev5 v4) < nD) ∧
  ((k0_dev6 v4) < nD) ∧
  ((k0_dev8 v4) < nD) ∧
  ((k0_dev10 v4) < nD) ∧
  ((k0_dev11 v4) < nD) ∧
  ((k0_dev14 v4) < nD) ∧
  ((k0_dev16 v4) < nD) ∧
  ((k0_dev17 v4) < nD) ∧
  ((k0_dev20 v4) < nD)
theorem k0_dev1_lt : ∀ (v4 : BitVec 32) (k0_hw1 : k0_chk1 v4), (k0_dev1 v4) < nD := fun v4 k0_hw1 => k0_hw1.1
theorem k0_dev5_lt : ∀ (v4 : BitVec 32) (k0_hw1 : k0_chk1 v4), (k0_dev5 v4) < nD := fun v4 k0_hw1 => k0_hw1.2.1
theorem k0_dev6_lt : ∀ (v4 : BitVec 32) (k0_hw1 : k0_chk1 v4), (k0_dev6 v4) < nD := fun v4 k0_hw1 => k0_hw1.2.2.1
theorem k0_dev8_lt : ∀ (v4 : BitVec 32) (k0_hw1 : k0_chk1 v4), (k0_dev8 v4) < nD := fun v4 k0_hw1 => k0_hw1.2.2.2.1
theorem k0_dev10_lt : ∀ (v4 : BitVec 32) (k0_hw1 : k0_chk1 v4), (k0_dev10 v4) < nD := fun v4 k0_hw1 => k0_hw1.2.2.2.2.1
theorem k0_dev11_lt : ∀ (v4 : BitVec 32) (k0_hw1 : k0_chk1 v4), (k0_dev11 v4) < nD := fun v4 k0_hw1 => k0_hw1.2.2.2.2.2.1
theorem k0_dev14_lt : ∀ (v4 : BitVec 32) (k0_hw1 : k0_chk1 v4), (k0_dev14 v4) < nD := fun v4 k0_hw1 => k0_hw1.2.2.2.2.2.2.1
theorem k0_dev16_lt : ∀ (v4 : BitVec 32) (k0_hw1 : k0_chk1 v4), (k0_dev16 v4) < nD := fun v4 k0_hw1 => k0_hw1.2.2.2.2.2.2.2.1
theorem k0_dev17_lt : ∀ (v4 : BitVec 32) (k0_hw1 : k0_chk1 v4), (k0_dev17 v4) < nD := fun v4 k0_hw1 => k0_hw1.2.2.2.2.2.2.2.2.1
theorem k0_dev20_lt : ∀ (v4 : BitVec 32) (k0_hw1 : k0_chk1 v4), (k0_dev20 v4) < nD := fun v4 k0_hw1 => k0_hw1.2.2.2.2.2.2.2.2.2

def k0_off30 (v292 : BitVec 32) : Fin 2 → Nat :=
  let c128_i32_415 : BitVec 32 := 128#32
  let v302 : BitVec 32 := Scalar.muli v292 c128_i32_415
  let v303 : Index := Scalar.indexCast v302
  let c0_416 : Index := 0#32
  ![v303.toNat, 0]

def k0_chk7 (v292 : BitVec 32) : Prop :=
  (∀ a, (k0_off30 v292) a + S128x256.size a ≤ S4096x256.size a)
theorem k0_off30_inb : ∀ (v292 : BitVec 32) (k0_hw7 : k0_chk7 v292), ∀ a, (k0_off30 v292) a + S128x256.size a ≤ S4096x256.size a := fun v292 k0_hw7 => k0_hw7

def k0_off31 (v314 : BitVec 32) : Fin 2 → Nat :=
  let c128_i32_433 : BitVec 32 := 128#32
  let v324 : BitVec 32 := Scalar.muli v314 c128_i32_433
  let v325 : Index := Scalar.indexCast v324
  let c0_434 : Index := 0#32
  ![v325.toNat, 0]

def k0_chk8 (v314 : BitVec 32) : Prop :=
  (∀ a, (k0_off31 v314) a + S128x256.size a ≤ S4096x256.size a)
theorem k0_off31_inb : ∀ (v314 : BitVec 32) (k0_hw8 : k0_chk8 v314), ∀ a, (k0_off31 v314) a + S128x256.size a ≤ S4096x256.size a := fun v314 k0_hw8 => k0_hw8

def k0_off32 (v364 : BitVec 32) : Fin 2 → Nat :=
  let c128_i32_505 : BitVec 32 := 128#32
  let v374 : BitVec 32 := Scalar.muli v364 c128_i32_505
  let v375 : Index := Scalar.indexCast v374
  let c0_506 : Index := 0#32
  ![v375.toNat, 0]

def k0_chk9 (v364 : BitVec 32) : Prop :=
  (∀ a, (k0_off32 v364) a + S128x256.size a ≤ S4096x256.size a)
theorem k0_off32_inb : ∀ (v364 : BitVec 32) (k0_hw9 : k0_chk9 v364), ∀ a, (k0_off32 v364) a + S128x256.size a ≤ S4096x256.size a := fun v364 k0_hw9 => k0_hw9

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_520 : BitVec 32 := 0#32
  let c0_i32_521 : BitVec 32 := 0#32
  ![v2.toNat, 0, 0]
def k0_dev21 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_510 : BitVec 32 := 1#32
  let v386 : BitVec 32 := Scalar.addi v2 c1_i32_510
  let c32_i32_511 : BitVec 32 := 32#32
  let c0_i32_512 : BitVec 32 := 0#32
  let v387 : BitVec 1 := Scalar.cmpi .eq c32_i32_511 c0_i32_512
  let c1_i32_513 : BitVec 32 := 1#32
  let v388 : BitVec 32 := Scalar.select v387 c1_i32_513 c32_i32_511
  let v389 : BitVec 32 := Scalar.remsi v386 v388
  let c0_i32_515 : BitVec 32 := 0#32
  let v391 : BitVec 1 := Scalar.cmpi .slt v389 c0_i32_515
  let c0_i32_516 : BitVec 32 := 0#32
  let v392 : BitVec 1 := Scalar.cmpi .slt v388 c0_i32_516
  let v393 : BitVec 1 := Scalar.xori v391 v392
  let c0_i32_514 : BitVec 32 := 0#32
  let v390 : BitVec 1 := Scalar.cmpi .ne v389 c0_i32_514
  let v394 : BitVec 1 := Scalar.andi v393 v390
  let v395 : BitVec 32 := Scalar.addi v389 v388
  let v396 : BitVec 32 := Scalar.select v394 v395 v389
  let c1_i32_518 : BitVec 32 := 1#32
  let v397 : BitVec 32 := Scalar.muli v396 c1_i32_518
  let v398 : BitVec 32 := Scalar.addi c0_i32_519 v397
  v398.toNat
def k0_dev22 (d0 : Dev nD) : Nat :=
  let c0_i32_531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_522 : BitVec 32 := 2#32
  let v405 : BitVec 32 := Scalar.addi v2 c2_i32_522
  let c32_i32_523 : BitVec 32 := 32#32
  let c0_i32_524 : BitVec 32 := 0#32
  let v406 : BitVec 1 := Scalar.cmpi .eq c32_i32_523 c0_i32_524
  let c1_i32_525 : BitVec 32 := 1#32
  let v407 : BitVec 32 := Scalar.select v406 c1_i32_525 c32_i32_523
  let v408 : BitVec 32 := Scalar.remsi v405 v407
  let c0_i32_527 : BitVec 32 := 0#32
  let v410 : BitVec 1 := Scalar.cmpi .slt v408 c0_i32_527
  let c0_i32_528 : BitVec 32 := 0#32
  let v411 : BitVec 1 := Scalar.cmpi .slt v407 c0_i32_528
  let v412 : BitVec 1 := Scalar.xori v410 v411
  let c0_i32_526 : BitVec 32 := 0#32
  let v409 : BitVec 1 := Scalar.cmpi .ne v408 c0_i32_526
  let v413 : BitVec 1 := Scalar.andi v412 v409
  let v414 : BitVec 32 := Scalar.addi v408 v407
  let v415 : BitVec 32 := Scalar.select v413 v414 v408
  let c1_i32_530 : BitVec 32 := 1#32
  let v416 : BitVec 32 := Scalar.muli v415 c1_i32_530
  let v417 : BitVec 32 := Scalar.addi c0_i32_531 v416
  v417.toNat
def k0_dev23 (d0 : Dev nD) : Nat :=
  let c0_i32_542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v424 : BitVec 32 := Scalar.addi v2 c3_i32
  let c32_i32_534 : BitVec 32 := 32#32
  let c0_i32_535 : BitVec 32 := 0#32
  let v425 : BitVec 1 := Scalar.cmpi .eq c32_i32_534 c0_i32_535
  let c1_i32_536 : BitVec 32 := 1#32
  let v426 : BitVec 32 := Scalar.select v425 c1_i32_536 c32_i32_534
  let v427 : BitVec 32 := Scalar.remsi v424 v426
  let c0_i32_538 : BitVec 32 := 0#32
  let v429 : BitVec 1 := Scalar.cmpi .slt v427 c0_i32_538
  let c0_i32_539 : BitVec 32 := 0#32
  let v430 : BitVec 1 := Scalar.cmpi .slt v426 c0_i32_539
  let v431 : BitVec 1 := Scalar.xori v429 v430
  let c0_i32_537 : BitVec 32 := 0#32
  let v428 : BitVec 1 := Scalar.cmpi .ne v427 c0_i32_537
  let v432 : BitVec 1 := Scalar.andi v431 v428
  let v433 : BitVec 32 := Scalar.addi v427 v426
  let v434 : BitVec 32 := Scalar.select v432 v433 v427
  let c1_i32_541 : BitVec 32 := 1#32
  let v435 : BitVec 32 := Scalar.muli v434 c1_i32_541
  let v436 : BitVec 32 := Scalar.addi c0_i32_542 v435
  v436.toNat
def k0_dev24 (d0 : Dev nD) : Nat :=
  let c0_i32_553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v443 : BitVec 32 := Scalar.addi v2 c4_i32
  let c32_i32_545 : BitVec 32 := 32#32
  let c0_i32_546 : BitVec 32 := 0#32
  let v444 : BitVec 1 := Scalar.cmpi .eq c32_i32_545 c0_i32_546
  let c1_i32_547 : BitVec 32 := 1#32
  let v445 : BitVec 32 := Scalar.select v444 c1_i32_547 c32_i32_545
  let v446 : BitVec 32 := Scalar.remsi v443 v445
  let c0_i32_549 : BitVec 32 := 0#32
  let v448 : BitVec 1 := Scalar.cmpi .slt v446 c0_i32_549
  let c0_i32_550 : BitVec 32 := 0#32
  let v449 : BitVec 1 := Scalar.cmpi .slt v445 c0_i32_550
  let v450 : BitVec 1 := Scalar.xori v448 v449
  let c0_i32_548 : BitVec 32 := 0#32
  let v447 : BitVec 1 := Scalar.cmpi .ne v446 c0_i32_548
  let v451 : BitVec 1 := Scalar.andi v450 v447
  let v452 : BitVec 32 := Scalar.addi v446 v445
  let v453 : BitVec 32 := Scalar.select v451 v452 v446
  let c1_i32_552 : BitVec 32 := 1#32
  let v454 : BitVec 32 := Scalar.muli v453 c1_i32_552
  let v455 : BitVec 32 := Scalar.addi c0_i32_553 v454
  v455.toNat
def k0_dev25 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v462 : BitVec 32 := Scalar.addi v2 c5_i32
  let c32_i32_556 : BitVec 32 := 32#32
  let c0_i32_557 : BitVec 32 := 0#32
  let v463 : BitVec 1 := Scalar.cmpi .eq c32_i32_556 c0_i32_557
  let c1_i32_558 : BitVec 32 := 1#32
  let v464 : BitVec 32 := Scalar.select v463 c1_i32_558 c32_i32_556
  let v465 : BitVec 32 := Scalar.remsi v462 v464
  let c0_i32_560 : BitVec 32 := 0#32
  let v467 : BitVec 1 := Scalar.cmpi .slt v465 c0_i32_560
  let c0_i32_561 : BitVec 32 := 0#32
  let v468 : BitVec 1 := Scalar.cmpi .slt v464 c0_i32_561
  let v469 : BitVec 1 := Scalar.xori v467 v468
  let c0_i32_559 : BitVec 32 := 0#32
  let v466 : BitVec 1 := Scalar.cmpi .ne v465 c0_i32_559
  let v470 : BitVec 1 := Scalar.andi v469 v466
  let v471 : BitVec 32 := Scalar.addi v465 v464
  let v472 : BitVec 32 := Scalar.select v470 v471 v465
  let c1_i32_563 : BitVec 32 := 1#32
  let v473 : BitVec 32 := Scalar.muli v472 c1_i32_563
  let v474 : BitVec 32 := Scalar.addi c0_i32_564 v473
  v474.toNat
def k0_dev26 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v481 : BitVec 32 := Scalar.addi v2 c6_i32
  let c32_i32_567 : BitVec 32 := 32#32
  let c0_i32_568 : BitVec 32 := 0#32
  let v482 : BitVec 1 := Scalar.cmpi .eq c32_i32_567 c0_i32_568
  let c1_i32_569 : BitVec 32 := 1#32
  let v483 : BitVec 32 := Scalar.select v482 c1_i32_569 c32_i32_567
  let v484 : BitVec 32 := Scalar.remsi v481 v483
  let c0_i32_571 : BitVec 32 := 0#32
  let v486 : BitVec 1 := Scalar.cmpi .slt v484 c0_i32_571
  let c0_i32_572 : BitVec 32 := 0#32
  let v487 : BitVec 1 := Scalar.cmpi .slt v483 c0_i32_572
  let v488 : BitVec 1 := Scalar.xori v486 v487
  let c0_i32_570 : BitVec 32 := 0#32
  let v485 : BitVec 1 := Scalar.cmpi .ne v484 c0_i32_570
  let v489 : BitVec 1 := Scalar.andi v488 v485
  let v490 : BitVec 32 := Scalar.addi v484 v483
  let v491 : BitVec 32 := Scalar.select v489 v490 v484
  let c1_i32_574 : BitVec 32 := 1#32
  let v492 : BitVec 32 := Scalar.muli v491 c1_i32_574
  let v493 : BitVec 32 := Scalar.addi c0_i32_575 v492
  v493.toNat
def k0_dev27 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v500 : BitVec 32 := Scalar.addi v2 c7_i32
  let c32_i32_578 : BitVec 32 := 32#32
  let c0_i32_579 : BitVec 32 := 0#32
  let v501 : BitVec 1 := Scalar.cmpi .eq c32_i32_578 c0_i32_579
  let c1_i32_580 : BitVec 32 := 1#32
  let v502 : BitVec 32 := Scalar.select v501 c1_i32_580 c32_i32_578
  let v503 : BitVec 32 := Scalar.remsi v500 v502
  let c0_i32_582 : BitVec 32 := 0#32
  let v505 : BitVec 1 := Scalar.cmpi .slt v503 c0_i32_582
  let c0_i32_583 : BitVec 32 := 0#32
  let v506 : BitVec 1 := Scalar.cmpi .slt v502 c0_i32_583
  let v507 : BitVec 1 := Scalar.xori v505 v506
  let c0_i32_581 : BitVec 32 := 0#32
  let v504 : BitVec 1 := Scalar.cmpi .ne v503 c0_i32_581
  let v508 : BitVec 1 := Scalar.andi v507 v504
  let v509 : BitVec 32 := Scalar.addi v503 v502
  let v510 : BitVec 32 := Scalar.select v508 v509 v503
  let c1_i32_585 : BitVec 32 := 1#32
  let v511 : BitVec 32 := Scalar.muli v510 c1_i32_585
  let v512 : BitVec 32 := Scalar.addi c0_i32_586 v511
  v512.toNat
def k0_dev28 (d0 : Dev nD) : Nat :=
  let c0_i32_597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v519 : BitVec 32 := Scalar.addi v2 c8_i32
  let c32_i32_589 : BitVec 32 := 32#32
  let c0_i32_590 : BitVec 32 := 0#32
  let v520 : BitVec 1 := Scalar.cmpi .eq c32_i32_589 c0_i32_590
  let c1_i32_591 : BitVec 32 := 1#32
  let v521 : BitVec 32 := Scalar.select v520 c1_i32_591 c32_i32_589
  let v522 : BitVec 32 := Scalar.remsi v519 v521
  let c0_i32_593 : BitVec 32 := 0#32
  let v524 : BitVec 1 := Scalar.cmpi .slt v522 c0_i32_593
  let c0_i32_594 : BitVec 32 := 0#32
  let v525 : BitVec 1 := Scalar.cmpi .slt v521 c0_i32_594
  let v526 : BitVec 1 := Scalar.xori v524 v525
  let c0_i32_592 : BitVec 32 := 0#32
  let v523 : BitVec 1 := Scalar.cmpi .ne v522 c0_i32_592
  let v527 : BitVec 1 := Scalar.andi v526 v523
  let v528 : BitVec 32 := Scalar.addi v522 v521
  let v529 : BitVec 32 := Scalar.select v527 v528 v522
  let c1_i32_596 : BitVec 32 := 1#32
  let v530 : BitVec 32 := Scalar.muli v529 c1_i32_596
  let v531 : BitVec 32 := Scalar.addi c0_i32_597 v530
  v531.toNat
def k0_dev29 (d0 : Dev nD) : Nat :=
  let c0_i32_608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v538 : BitVec 32 := Scalar.addi v2 c9_i32
  let c32_i32_600 : BitVec 32 := 32#32
  let c0_i32_601 : BitVec 32 := 0#32
  let v539 : BitVec 1 := Scalar.cmpi .eq c32_i32_600 c0_i32_601
  let c1_i32_602 : BitVec 32 := 1#32
  let v540 : BitVec 32 := Scalar.select v539 c1_i32_602 c32_i32_600
  let v541 : BitVec 32 := Scalar.remsi v538 v540
  let c0_i32_604 : BitVec 32 := 0#32
  let v543 : BitVec 1 := Scalar.cmpi .slt v541 c0_i32_604
  let c0_i32_605 : BitVec 32 := 0#32
  let v544 : BitVec 1 := Scalar.cmpi .slt v540 c0_i32_605
  let v545 : BitVec 1 := Scalar.xori v543 v544
  let c0_i32_603 : BitVec 32 := 0#32
  let v542 : BitVec 1 := Scalar.cmpi .ne v541 c0_i32_603
  let v546 : BitVec 1 := Scalar.andi v545 v542
  let v547 : BitVec 32 := Scalar.addi v541 v540
  let v548 : BitVec 32 := Scalar.select v546 v547 v541
  let c1_i32_607 : BitVec 32 := 1#32
  let v549 : BitVec 32 := Scalar.muli v548 c1_i32_607
  let v550 : BitVec 32 := Scalar.addi c0_i32_608 v549
  v550.toNat
def k0_dev30 (d0 : Dev nD) : Nat :=
  let c0_i32_619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v557 : BitVec 32 := Scalar.addi v2 c10_i32
  let c32_i32_611 : BitVec 32 := 32#32
  let c0_i32_612 : BitVec 32 := 0#32
  let v558 : BitVec 1 := Scalar.cmpi .eq c32_i32_611 c0_i32_612
  let c1_i32_613 : BitVec 32 := 1#32
  let v559 : BitVec 32 := Scalar.select v558 c1_i32_613 c32_i32_611
  let v560 : BitVec 32 := Scalar.remsi v557 v559
  let c0_i32_615 : BitVec 32 := 0#32
  let v562 : BitVec 1 := Scalar.cmpi .slt v560 c0_i32_615
  let c0_i32_616 : BitVec 32 := 0#32
  let v563 : BitVec 1 := Scalar.cmpi .slt v559 c0_i32_616
  let v564 : BitVec 1 := Scalar.xori v562 v563
  let c0_i32_614 : BitVec 32 := 0#32
  let v561 : BitVec 1 := Scalar.cmpi .ne v560 c0_i32_614
  let v565 : BitVec 1 := Scalar.andi v564 v561
  let v566 : BitVec 32 := Scalar.addi v560 v559
  let v567 : BitVec 32 := Scalar.select v565 v566 v560
  let c1_i32_618 : BitVec 32 := 1#32
  let v568 : BitVec 32 := Scalar.muli v567 c1_i32_618
  let v569 : BitVec 32 := Scalar.addi c0_i32_619 v568
  v569.toNat
def k0_dev31 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v576 : BitVec 32 := Scalar.addi v2 c11_i32
  let c32_i32_622 : BitVec 32 := 32#32
  let c0_i32_623 : BitVec 32 := 0#32
  let v577 : BitVec 1 := Scalar.cmpi .eq c32_i32_622 c0_i32_623
  let c1_i32_624 : BitVec 32 := 1#32
  let v578 : BitVec 32 := Scalar.select v577 c1_i32_624 c32_i32_622
  let v579 : BitVec 32 := Scalar.remsi v576 v578
  let c0_i32_626 : BitVec 32 := 0#32
  let v581 : BitVec 1 := Scalar.cmpi .slt v579 c0_i32_626
  let c0_i32_627 : BitVec 32 := 0#32
  let v582 : BitVec 1 := Scalar.cmpi .slt v578 c0_i32_627
  let v583 : BitVec 1 := Scalar.xori v581 v582
  let c0_i32_625 : BitVec 32 := 0#32
  let v580 : BitVec 1 := Scalar.cmpi .ne v579 c0_i32_625
  let v584 : BitVec 1 := Scalar.andi v583 v580
  let v585 : BitVec 32 := Scalar.addi v579 v578
  let v586 : BitVec 32 := Scalar.select v584 v585 v579
  let c1_i32_629 : BitVec 32 := 1#32
  let v587 : BitVec 32 := Scalar.muli v586 c1_i32_629
  let v588 : BitVec 32 := Scalar.addi c0_i32_630 v587
  v588.toNat
def k0_dev32 (d0 : Dev nD) : Nat :=
  let c0_i32_641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v595 : BitVec 32 := Scalar.addi v2 c12_i32
  let c32_i32_633 : BitVec 32 := 32#32
  let c0_i32_634 : BitVec 32 := 0#32
  let v596 : BitVec 1 := Scalar.cmpi .eq c32_i32_633 c0_i32_634
  let c1_i32_635 : BitVec 32 := 1#32
  let v597 : BitVec 32 := Scalar.select v596 c1_i32_635 c32_i32_633
  let v598 : BitVec 32 := Scalar.remsi v595 v597
  let c0_i32_637 : BitVec 32 := 0#32
  let v600 : BitVec 1 := Scalar.cmpi .slt v598 c0_i32_637
  let c0_i32_638 : BitVec 32 := 0#32
  let v601 : BitVec 1 := Scalar.cmpi .slt v597 c0_i32_638
  let v602 : BitVec 1 := Scalar.xori v600 v601
  let c0_i32_636 : BitVec 32 := 0#32
  let v599 : BitVec 1 := Scalar.cmpi .ne v598 c0_i32_636
  let v603 : BitVec 1 := Scalar.andi v602 v599
  let v604 : BitVec 32 := Scalar.addi v598 v597
  let v605 : BitVec 32 := Scalar.select v603 v604 v598
  let c1_i32_640 : BitVec 32 := 1#32
  let v606 : BitVec 32 := Scalar.muli v605 c1_i32_640
  let v607 : BitVec 32 := Scalar.addi c0_i32_641 v606
  v607.toNat
def k0_dev33 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_644 : BitVec 32 := 13#32
  let v614 : BitVec 32 := Scalar.addi v2 c13_i32_644
  let c32_i32_645 : BitVec 32 := 32#32
  let c0_i32_646 : BitVec 32 := 0#32
  let v615 : BitVec 1 := Scalar.cmpi .eq c32_i32_645 c0_i32_646
  let c1_i32_647 : BitVec 32 := 1#32
  let v616 : BitVec 32 := Scalar.select v615 c1_i32_647 c32_i32_645
  let v617 : BitVec 32 := Scalar.remsi v614 v616
  let c0_i32_649 : BitVec 32 := 0#32
  let v619 : BitVec 1 := Scalar.cmpi .slt v617 c0_i32_649
  let c0_i32_650 : BitVec 32 := 0#32
  let v620 : BitVec 1 := Scalar.cmpi .slt v616 c0_i32_650
  let v621 : BitVec 1 := Scalar.xori v619 v620
  let c0_i32_648 : BitVec 32 := 0#32
  let v618 : BitVec 1 := Scalar.cmpi .ne v617 c0_i32_648
  let v622 : BitVec 1 := Scalar.andi v621 v618
  let v623 : BitVec 32 := Scalar.addi v617 v616
  let v624 : BitVec 32 := Scalar.select v622 v623 v617
  let c1_i32_652 : BitVec 32 := 1#32
  let v625 : BitVec 32 := Scalar.muli v624 c1_i32_652
  let v626 : BitVec 32 := Scalar.addi c0_i32_653 v625
  v626.toNat
def k0_dev34 (d0 : Dev nD) : Nat :=
  let c0_i32_664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v633 : BitVec 32 := Scalar.addi v2 c14_i32
  let c32_i32_656 : BitVec 32 := 32#32
  let c0_i32_657 : BitVec 32 := 0#32
  let v634 : BitVec 1 := Scalar.cmpi .eq c32_i32_656 c0_i32_657
  let c1_i32_658 : BitVec 32 := 1#32
  let v635 : BitVec 32 := Scalar.select v634 c1_i32_658 c32_i32_656
  let v636 : BitVec 32 := Scalar.remsi v633 v635
  let c0_i32_660 : BitVec 32 := 0#32
  let v638 : BitVec 1 := Scalar.cmpi .slt v636 c0_i32_660
  let c0_i32_661 : BitVec 32 := 0#32
  let v639 : BitVec 1 := Scalar.cmpi .slt v635 c0_i32_661
  let v640 : BitVec 1 := Scalar.xori v638 v639
  let c0_i32_659 : BitVec 32 := 0#32
  let v637 : BitVec 1 := Scalar.cmpi .ne v636 c0_i32_659
  let v641 : BitVec 1 := Scalar.andi v640 v637
  let v642 : BitVec 32 := Scalar.addi v636 v635
  let v643 : BitVec 32 := Scalar.select v641 v642 v636
  let c1_i32_663 : BitVec 32 := 1#32
  let v644 : BitVec 32 := Scalar.muli v643 c1_i32_663
  let v645 : BitVec 32 := Scalar.addi c0_i32_664 v644
  v645.toNat
def k0_dev35 (d0 : Dev nD) : Nat :=
  let c0_i32_675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v652 : BitVec 32 := Scalar.addi v2 c15_i32
  let c32_i32_667 : BitVec 32 := 32#32
  let c0_i32_668 : BitVec 32 := 0#32
  let v653 : BitVec 1 := Scalar.cmpi .eq c32_i32_667 c0_i32_668
  let c1_i32_669 : BitVec 32 := 1#32
  let v654 : BitVec 32 := Scalar.select v653 c1_i32_669 c32_i32_667
  let v655 : BitVec 32 := Scalar.remsi v652 v654
  let c0_i32_671 : BitVec 32 := 0#32
  let v657 : BitVec 1 := Scalar.cmpi .slt v655 c0_i32_671
  let c0_i32_672 : BitVec 32 := 0#32
  let v658 : BitVec 1 := Scalar.cmpi .slt v654 c0_i32_672
  let v659 : BitVec 1 := Scalar.xori v657 v658
  let c0_i32_670 : BitVec 32 := 0#32
  let v656 : BitVec 1 := Scalar.cmpi .ne v655 c0_i32_670
  let v660 : BitVec 1 := Scalar.andi v659 v656
  let v661 : BitVec 32 := Scalar.addi v655 v654
  let v662 : BitVec 32 := Scalar.select v660 v661 v655
  let c1_i32_674 : BitVec 32 := 1#32
  let v663 : BitVec 32 := Scalar.muli v662 c1_i32_674
  let v664 : BitVec 32 := Scalar.addi c0_i32_675 v663
  v664.toNat
def k0_dev36 (d0 : Dev nD) : Nat :=
  let c0_i32_686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v671 : BitVec 32 := Scalar.addi v2 c16_i32
  let c32_i32_678 : BitVec 32 := 32#32
  let c0_i32_679 : BitVec 32 := 0#32
  let v672 : BitVec 1 := Scalar.cmpi .eq c32_i32_678 c0_i32_679
  let c1_i32_680 : BitVec 32 := 1#32
  let v673 : BitVec 32 := Scalar.select v672 c1_i32_680 c32_i32_678
  let v674 : BitVec 32 := Scalar.remsi v671 v673
  let c0_i32_682 : BitVec 32 := 0#32
  let v676 : BitVec 1 := Scalar.cmpi .slt v674 c0_i32_682
  let c0_i32_683 : BitVec 32 := 0#32
  let v677 : BitVec 1 := Scalar.cmpi .slt v673 c0_i32_683
  let v678 : BitVec 1 := Scalar.xori v676 v677
  let c0_i32_681 : BitVec 32 := 0#32
  let v675 : BitVec 1 := Scalar.cmpi .ne v674 c0_i32_681
  let v679 : BitVec 1 := Scalar.andi v678 v675
  let v680 : BitVec 32 := Scalar.addi v674 v673
  let v681 : BitVec 32 := Scalar.select v679 v680 v674
  let c1_i32_685 : BitVec 32 := 1#32
  let v682 : BitVec 32 := Scalar.muli v681 c1_i32_685
  let v683 : BitVec 32 := Scalar.addi c0_i32_686 v682
  v683.toNat
def k0_dev37 (d0 : Dev nD) : Nat :=
  let c0_i32_697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v690 : BitVec 32 := Scalar.addi v2 c17_i32
  let c32_i32_689 : BitVec 32 := 32#32
  let c0_i32_690 : BitVec 32 := 0#32
  let v691 : BitVec 1 := Scalar.cmpi .eq c32_i32_689 c0_i32_690
  let c1_i32_691 : BitVec 32 := 1#32
  let v692 : BitVec 32 := Scalar.select v691 c1_i32_691 c32_i32_689
  let v693 : BitVec 32 := Scalar.remsi v690 v692
  let c0_i32_693 : BitVec 32 := 0#32
  let v695 : BitVec 1 := Scalar.cmpi .slt v693 c0_i32_693
  let c0_i32_694 : BitVec 32 := 0#32
  let v696 : BitVec 1 := Scalar.cmpi .slt v692 c0_i32_694
  let v697 : BitVec 1 := Scalar.xori v695 v696
  let c0_i32_692 : BitVec 32 := 0#32
  let v694 : BitVec 1 := Scalar.cmpi .ne v693 c0_i32_692
  let v698 : BitVec 1 := Scalar.andi v697 v694
  let v699 : BitVec 32 := Scalar.addi v693 v692
  let v700 : BitVec 32 := Scalar.select v698 v699 v693
  let c1_i32_696 : BitVec 32 := 1#32
  let v701 : BitVec 32 := Scalar.muli v700 c1_i32_696
  let v702 : BitVec 32 := Scalar.addi c0_i32_697 v701
  v702.toNat
def k0_dev38 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v709 : BitVec 32 := Scalar.addi v2 c18_i32
  let c32_i32_700 : BitVec 32 := 32#32
  let c0_i32_701 : BitVec 32 := 0#32
  let v710 : BitVec 1 := Scalar.cmpi .eq c32_i32_700 c0_i32_701
  let c1_i32_702 : BitVec 32 := 1#32
  let v711 : BitVec 32 := Scalar.select v710 c1_i32_702 c32_i32_700
  let v712 : BitVec 32 := Scalar.remsi v709 v711
  let c0_i32_704 : BitVec 32 := 0#32
  let v714 : BitVec 1 := Scalar.cmpi .slt v712 c0_i32_704
  let c0_i32_705 : BitVec 32 := 0#32
  let v715 : BitVec 1 := Scalar.cmpi .slt v711 c0_i32_705
  let v716 : BitVec 1 := Scalar.xori v714 v715
  let c0_i32_703 : BitVec 32 := 0#32
  let v713 : BitVec 1 := Scalar.cmpi .ne v712 c0_i32_703
  let v717 : BitVec 1 := Scalar.andi v716 v713
  let v718 : BitVec 32 := Scalar.addi v712 v711
  let v719 : BitVec 32 := Scalar.select v717 v718 v712
  let c1_i32_707 : BitVec 32 := 1#32
  let v720 : BitVec 32 := Scalar.muli v719 c1_i32_707
  let v721 : BitVec 32 := Scalar.addi c0_i32_708 v720
  v721.toNat
def k0_dev39 (d0 : Dev nD) : Nat :=
  let c0_i32_719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v728 : BitVec 32 := Scalar.addi v2 c19_i32
  let c32_i32_711 : BitVec 32 := 32#32
  let c0_i32_712 : BitVec 32 := 0#32
  let v729 : BitVec 1 := Scalar.cmpi .eq c32_i32_711 c0_i32_712
  let c1_i32_713 : BitVec 32 := 1#32
  let v730 : BitVec 32 := Scalar.select v729 c1_i32_713 c32_i32_711
  let v731 : BitVec 32 := Scalar.remsi v728 v730
  let c0_i32_715 : BitVec 32 := 0#32
  let v733 : BitVec 1 := Scalar.cmpi .slt v731 c0_i32_715
  let c0_i32_716 : BitVec 32 := 0#32
  let v734 : BitVec 1 := Scalar.cmpi .slt v730 c0_i32_716
  let v735 : BitVec 1 := Scalar.xori v733 v734
  let c0_i32_714 : BitVec 32 := 0#32
  let v732 : BitVec 1 := Scalar.cmpi .ne v731 c0_i32_714
  let v736 : BitVec 1 := Scalar.andi v735 v732
  let v737 : BitVec 32 := Scalar.addi v731 v730
  let v738 : BitVec 32 := Scalar.select v736 v737 v731
  let c1_i32_718 : BitVec 32 := 1#32
  let v739 : BitVec 32 := Scalar.muli v738 c1_i32_718
  let v740 : BitVec 32 := Scalar.addi c0_i32_719 v739
  v740.toNat
def k0_dev40 (d0 : Dev nD) : Nat :=
  let c0_i32_730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v747 : BitVec 32 := Scalar.addi v2 c20_i32
  let c32_i32_722 : BitVec 32 := 32#32
  let c0_i32_723 : BitVec 32 := 0#32
  let v748 : BitVec 1 := Scalar.cmpi .eq c32_i32_722 c0_i32_723
  let c1_i32_724 : BitVec 32 := 1#32
  let v749 : BitVec 32 := Scalar.select v748 c1_i32_724 c32_i32_722
  let v750 : BitVec 32 := Scalar.remsi v747 v749
  let c0_i32_726 : BitVec 32 := 0#32
  let v752 : BitVec 1 := Scalar.cmpi .slt v750 c0_i32_726
  let c0_i32_727 : BitVec 32 := 0#32
  let v753 : BitVec 1 := Scalar.cmpi .slt v749 c0_i32_727
  let v754 : BitVec 1 := Scalar.xori v752 v753
  let c0_i32_725 : BitVec 32 := 0#32
  let v751 : BitVec 1 := Scalar.cmpi .ne v750 c0_i32_725
  let v755 : BitVec 1 := Scalar.andi v754 v751
  let v756 : BitVec 32 := Scalar.addi v750 v749
  let v757 : BitVec 32 := Scalar.select v755 v756 v750
  let c1_i32_729 : BitVec 32 := 1#32
  let v758 : BitVec 32 := Scalar.muli v757 c1_i32_729
  let v759 : BitVec 32 := Scalar.addi c0_i32_730 v758
  v759.toNat
def k0_dev41 (d0 : Dev nD) : Nat :=
  let c0_i32_741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v766 : BitVec 32 := Scalar.addi v2 c21_i32
  let c32_i32_733 : BitVec 32 := 32#32
  let c0_i32_734 : BitVec 32 := 0#32
  let v767 : BitVec 1 := Scalar.cmpi .eq c32_i32_733 c0_i32_734
  let c1_i32_735 : BitVec 32 := 1#32
  let v768 : BitVec 32 := Scalar.select v767 c1_i32_735 c32_i32_733
  let v769 : BitVec 32 := Scalar.remsi v766 v768
  let c0_i32_737 : BitVec 32 := 0#32
  let v771 : BitVec 1 := Scalar.cmpi .slt v769 c0_i32_737
  let c0_i32_738 : BitVec 32 := 0#32
  let v772 : BitVec 1 := Scalar.cmpi .slt v768 c0_i32_738
  let v773 : BitVec 1 := Scalar.xori v771 v772
  let c0_i32_736 : BitVec 32 := 0#32
  let v770 : BitVec 1 := Scalar.cmpi .ne v769 c0_i32_736
  let v774 : BitVec 1 := Scalar.andi v773 v770
  let v775 : BitVec 32 := Scalar.addi v769 v768
  let v776 : BitVec 32 := Scalar.select v774 v775 v769
  let c1_i32_740 : BitVec 32 := 1#32
  let v777 : BitVec 32 := Scalar.muli v776 c1_i32_740
  let v778 : BitVec 32 := Scalar.addi c0_i32_741 v777
  v778.toNat
def k0_dev42 (d0 : Dev nD) : Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v785 : BitVec 32 := Scalar.addi v2 c22_i32
  let c32_i32_744 : BitVec 32 := 32#32
  let c0_i32_745 : BitVec 32 := 0#32
  let v786 : BitVec 1 := Scalar.cmpi .eq c32_i32_744 c0_i32_745
  let c1_i32_746 : BitVec 32 := 1#32
  let v787 : BitVec 32 := Scalar.select v786 c1_i32_746 c32_i32_744
  let v788 : BitVec 32 := Scalar.remsi v785 v787
  let c0_i32_748 : BitVec 32 := 0#32
  let v790 : BitVec 1 := Scalar.cmpi .slt v788 c0_i32_748
  let c0_i32_749 : BitVec 32 := 0#32
  let v791 : BitVec 1 := Scalar.cmpi .slt v787 c0_i32_749
  let v792 : BitVec 1 := Scalar.xori v790 v791
  let c0_i32_747 : BitVec 32 := 0#32
  let v789 : BitVec 1 := Scalar.cmpi .ne v788 c0_i32_747
  let v793 : BitVec 1 := Scalar.andi v792 v789
  let v794 : BitVec 32 := Scalar.addi v788 v787
  let v795 : BitVec 32 := Scalar.select v793 v794 v788
  let c1_i32_751 : BitVec 32 := 1#32
  let v796 : BitVec 32 := Scalar.muli v795 c1_i32_751
  let v797 : BitVec 32 := Scalar.addi c0_i32_752 v796
  v797.toNat
def k0_dev43 (d0 : Dev nD) : Nat :=
  let c0_i32_763 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v804 : BitVec 32 := Scalar.addi v2 c23_i32
  let c32_i32_755 : BitVec 32 := 32#32
  let c0_i32_756 : BitVec 32 := 0#32
  let v805 : BitVec 1 := Scalar.cmpi .eq c32_i32_755 c0_i32_756
  let c1_i32_757 : BitVec 32 := 1#32
  let v806 : BitVec 32 := Scalar.select v805 c1_i32_757 c32_i32_755
  let v807 : BitVec 32 := Scalar.remsi v804 v806
  let c0_i32_759 : BitVec 32 := 0#32
  let v809 : BitVec 1 := Scalar.cmpi .slt v807 c0_i32_759
  let c0_i32_760 : BitVec 32 := 0#32
  let v810 : BitVec 1 := Scalar.cmpi .slt v806 c0_i32_760
  let v811 : BitVec 1 := Scalar.xori v809 v810
  let c0_i32_758 : BitVec 32 := 0#32
  let v808 : BitVec 1 := Scalar.cmpi .ne v807 c0_i32_758
  let v812 : BitVec 1 := Scalar.andi v811 v808
  let v813 : BitVec 32 := Scalar.addi v807 v806
  let v814 : BitVec 32 := Scalar.select v812 v813 v807
  let c1_i32_762 : BitVec 32 := 1#32
  let v815 : BitVec 32 := Scalar.muli v814 c1_i32_762
  let v816 : BitVec 32 := Scalar.addi c0_i32_763 v815
  v816.toNat
def k0_dev44 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v823 : BitVec 32 := Scalar.addi v2 c24_i32
  let c32_i32_766 : BitVec 32 := 32#32
  let c0_i32_767 : BitVec 32 := 0#32
  let v824 : BitVec 1 := Scalar.cmpi .eq c32_i32_766 c0_i32_767
  let c1_i32_768 : BitVec 32 := 1#32
  let v825 : BitVec 32 := Scalar.select v824 c1_i32_768 c32_i32_766
  let v826 : BitVec 32 := Scalar.remsi v823 v825
  let c0_i32_770 : BitVec 32 := 0#32
  let v828 : BitVec 1 := Scalar.cmpi .slt v826 c0_i32_770
  let c0_i32_771 : BitVec 32 := 0#32
  let v829 : BitVec 1 := Scalar.cmpi .slt v825 c0_i32_771
  let v830 : BitVec 1 := Scalar.xori v828 v829
  let c0_i32_769 : BitVec 32 := 0#32
  let v827 : BitVec 1 := Scalar.cmpi .ne v826 c0_i32_769
  let v831 : BitVec 1 := Scalar.andi v830 v827
  let v832 : BitVec 32 := Scalar.addi v826 v825
  let v833 : BitVec 32 := Scalar.select v831 v832 v826
  let c1_i32_773 : BitVec 32 := 1#32
  let v834 : BitVec 32 := Scalar.muli v833 c1_i32_773
  let v835 : BitVec 32 := Scalar.addi c0_i32_774 v834
  v835.toNat
def k0_dev45 (d0 : Dev nD) : Nat :=
  let c0_i32_785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v842 : BitVec 32 := Scalar.addi v2 c25_i32
  let c32_i32_777 : BitVec 32 := 32#32
  let c0_i32_778 : BitVec 32 := 0#32
  let v843 : BitVec 1 := Scalar.cmpi .eq c32_i32_777 c0_i32_778
  let c1_i32_779 : BitVec 32 := 1#32
  let v844 : BitVec 32 := Scalar.select v843 c1_i32_779 c32_i32_777
  let v845 : BitVec 32 := Scalar.remsi v842 v844
  let c0_i32_781 : BitVec 32 := 0#32
  let v847 : BitVec 1 := Scalar.cmpi .slt v845 c0_i32_781
  let c0_i32_782 : BitVec 32 := 0#32
  let v848 : BitVec 1 := Scalar.cmpi .slt v844 c0_i32_782
  let v849 : BitVec 1 := Scalar.xori v847 v848
  let c0_i32_780 : BitVec 32 := 0#32
  let v846 : BitVec 1 := Scalar.cmpi .ne v845 c0_i32_780
  let v850 : BitVec 1 := Scalar.andi v849 v846
  let v851 : BitVec 32 := Scalar.addi v845 v844
  let v852 : BitVec 32 := Scalar.select v850 v851 v845
  let c1_i32_784 : BitVec 32 := 1#32
  let v853 : BitVec 32 := Scalar.muli v852 c1_i32_784
  let v854 : BitVec 32 := Scalar.addi c0_i32_785 v853
  v854.toNat
def k0_dev46 (d0 : Dev nD) : Nat :=
  let c0_i32_796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v861 : BitVec 32 := Scalar.addi v2 c26_i32
  let c32_i32_788 : BitVec 32 := 32#32
  let c0_i32_789 : BitVec 32 := 0#32
  let v862 : BitVec 1 := Scalar.cmpi .eq c32_i32_788 c0_i32_789
  let c1_i32_790 : BitVec 32 := 1#32
  let v863 : BitVec 32 := Scalar.select v862 c1_i32_790 c32_i32_788
  let v864 : BitVec 32 := Scalar.remsi v861 v863
  let c0_i32_792 : BitVec 32 := 0#32
  let v866 : BitVec 1 := Scalar.cmpi .slt v864 c0_i32_792
  let c0_i32_793 : BitVec 32 := 0#32
  let v867 : BitVec 1 := Scalar.cmpi .slt v863 c0_i32_793
  let v868 : BitVec 1 := Scalar.xori v866 v867
  let c0_i32_791 : BitVec 32 := 0#32
  let v865 : BitVec 1 := Scalar.cmpi .ne v864 c0_i32_791
  let v869 : BitVec 1 := Scalar.andi v868 v865
  let v870 : BitVec 32 := Scalar.addi v864 v863
  let v871 : BitVec 32 := Scalar.select v869 v870 v864
  let c1_i32_795 : BitVec 32 := 1#32
  let v872 : BitVec 32 := Scalar.muli v871 c1_i32_795
  let v873 : BitVec 32 := Scalar.addi c0_i32_796 v872
  v873.toNat
def k0_dev47 (d0 : Dev nD) : Nat :=
  let c0_i32_807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v880 : BitVec 32 := Scalar.addi v2 c27_i32
  let c32_i32_799 : BitVec 32 := 32#32
  let c0_i32_800 : BitVec 32 := 0#32
  let v881 : BitVec 1 := Scalar.cmpi .eq c32_i32_799 c0_i32_800
  let c1_i32_801 : BitVec 32 := 1#32
  let v882 : BitVec 32 := Scalar.select v881 c1_i32_801 c32_i32_799
  let v883 : BitVec 32 := Scalar.remsi v880 v882
  let c0_i32_803 : BitVec 32 := 0#32
  let v885 : BitVec 1 := Scalar.cmpi .slt v883 c0_i32_803
  let c0_i32_804 : BitVec 32 := 0#32
  let v886 : BitVec 1 := Scalar.cmpi .slt v882 c0_i32_804
  let v887 : BitVec 1 := Scalar.xori v885 v886
  let c0_i32_802 : BitVec 32 := 0#32
  let v884 : BitVec 1 := Scalar.cmpi .ne v883 c0_i32_802
  let v888 : BitVec 1 := Scalar.andi v887 v884
  let v889 : BitVec 32 := Scalar.addi v883 v882
  let v890 : BitVec 32 := Scalar.select v888 v889 v883
  let c1_i32_806 : BitVec 32 := 1#32
  let v891 : BitVec 32 := Scalar.muli v890 c1_i32_806
  let v892 : BitVec 32 := Scalar.addi c0_i32_807 v891
  v892.toNat
def k0_dev48 (d0 : Dev nD) : Nat :=
  let c0_i32_818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v899 : BitVec 32 := Scalar.addi v2 c28_i32
  let c32_i32_810 : BitVec 32 := 32#32
  let c0_i32_811 : BitVec 32 := 0#32
  let v900 : BitVec 1 := Scalar.cmpi .eq c32_i32_810 c0_i32_811
  let c1_i32_812 : BitVec 32 := 1#32
  let v901 : BitVec 32 := Scalar.select v900 c1_i32_812 c32_i32_810
  let v902 : BitVec 32 := Scalar.remsi v899 v901
  let c0_i32_814 : BitVec 32 := 0#32
  let v904 : BitVec 1 := Scalar.cmpi .slt v902 c0_i32_814
  let c0_i32_815 : BitVec 32 := 0#32
  let v905 : BitVec 1 := Scalar.cmpi .slt v901 c0_i32_815
  let v906 : BitVec 1 := Scalar.xori v904 v905
  let c0_i32_813 : BitVec 32 := 0#32
  let v903 : BitVec 1 := Scalar.cmpi .ne v902 c0_i32_813
  let v907 : BitVec 1 := Scalar.andi v906 v903
  let v908 : BitVec 32 := Scalar.addi v902 v901
  let v909 : BitVec 32 := Scalar.select v907 v908 v902
  let c1_i32_817 : BitVec 32 := 1#32
  let v910 : BitVec 32 := Scalar.muli v909 c1_i32_817
  let v911 : BitVec 32 := Scalar.addi c0_i32_818 v910
  v911.toNat
def k0_dev49 (d0 : Dev nD) : Nat :=
  let c0_i32_829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v918 : BitVec 32 := Scalar.addi v2 c29_i32
  let c32_i32_821 : BitVec 32 := 32#32
  let c0_i32_822 : BitVec 32 := 0#32
  let v919 : BitVec 1 := Scalar.cmpi .eq c32_i32_821 c0_i32_822
  let c1_i32_823 : BitVec 32 := 1#32
  let v920 : BitVec 32 := Scalar.select v919 c1_i32_823 c32_i32_821
  let v921 : BitVec 32 := Scalar.remsi v918 v920
  let c0_i32_825 : BitVec 32 := 0#32
  let v923 : BitVec 1 := Scalar.cmpi .slt v921 c0_i32_825
  let c0_i32_826 : BitVec 32 := 0#32
  let v924 : BitVec 1 := Scalar.cmpi .slt v920 c0_i32_826
  let v925 : BitVec 1 := Scalar.xori v923 v924
  let c0_i32_824 : BitVec 32 := 0#32
  let v922 : BitVec 1 := Scalar.cmpi .ne v921 c0_i32_824
  let v926 : BitVec 1 := Scalar.andi v925 v922
  let v927 : BitVec 32 := Scalar.addi v921 v920
  let v928 : BitVec 32 := Scalar.select v926 v927 v921
  let c1_i32_828 : BitVec 32 := 1#32
  let v929 : BitVec 32 := Scalar.muli v928 c1_i32_828
  let v930 : BitVec 32 := Scalar.addi c0_i32_829 v929
  v930.toNat
def k0_dev50 (d0 : Dev nD) : Nat :=
  let c0_i32_840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v937 : BitVec 32 := Scalar.addi v2 c30_i32
  let c32_i32_832 : BitVec 32 := 32#32
  let c0_i32_833 : BitVec 32 := 0#32
  let v938 : BitVec 1 := Scalar.cmpi .eq c32_i32_832 c0_i32_833
  let c1_i32_834 : BitVec 32 := 1#32
  let v939 : BitVec 32 := Scalar.select v938 c1_i32_834 c32_i32_832
  let v940 : BitVec 32 := Scalar.remsi v937 v939
  let c0_i32_836 : BitVec 32 := 0#32
  let v942 : BitVec 1 := Scalar.cmpi .slt v940 c0_i32_836
  let c0_i32_837 : BitVec 32 := 0#32
  let v943 : BitVec 1 := Scalar.cmpi .slt v939 c0_i32_837
  let v944 : BitVec 1 := Scalar.xori v942 v943
  let c0_i32_835 : BitVec 32 := 0#32
  let v941 : BitVec 1 := Scalar.cmpi .ne v940 c0_i32_835
  let v945 : BitVec 1 := Scalar.andi v944 v941
  let v946 : BitVec 32 := Scalar.addi v940 v939
  let v947 : BitVec 32 := Scalar.select v945 v946 v940
  let c1_i32_839 : BitVec 32 := 1#32
  let v948 : BitVec 32 := Scalar.muli v947 c1_i32_839
  let v949 : BitVec 32 := Scalar.addi c0_i32_840 v948
  v949.toNat
def k0_dev51 (d0 : Dev nD) : Nat :=
  let c0_i32_851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v956 : BitVec 32 := Scalar.addi v2 c31_i32
  let c32_i32_843 : BitVec 32 := 32#32
  let c0_i32_844 : BitVec 32 := 0#32
  let v957 : BitVec 1 := Scalar.cmpi .eq c32_i32_843 c0_i32_844
  let c1_i32_845 : BitVec 32 := 1#32
  let v958 : BitVec 32 := Scalar.select v957 c1_i32_845 c32_i32_843
  let v959 : BitVec 32 := Scalar.remsi v956 v958
  let c0_i32_847 : BitVec 32 := 0#32
  let v961 : BitVec 1 := Scalar.cmpi .slt v959 c0_i32_847
  let c0_i32_848 : BitVec 32 := 0#32
  let v962 : BitVec 1 := Scalar.cmpi .slt v958 c0_i32_848
  let v963 : BitVec 1 := Scalar.xori v961 v962
  let c0_i32_846 : BitVec 32 := 0#32
  let v960 : BitVec 1 := Scalar.cmpi .ne v959 c0_i32_846
  let v964 : BitVec 1 := Scalar.andi v963 v960
  let v965 : BitVec 32 := Scalar.addi v959 v958
  let v966 : BitVec 32 := Scalar.select v964 v965 v959
  let c1_i32_850 : BitVec 32 := 1#32
  let v967 : BitVec 32 := Scalar.muli v966 c1_i32_850
  let v968 : BitVec 32 := Scalar.addi c0_i32_851 v967
  v968.toNat
def k0_off35 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v976 : Index := Scalar.indexCast v2
  let c0_854 : Index := 0#32
  let c0_855 : Index := 0#32
  ![v976.toNat, 0, 0]
def k0_off36 (d0 : Dev nD) (c1_i32_856 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v980 : BitVec 32 := Scalar.addi v2 c1_i32_856
  let c32_i32_857 : BitVec 32 := 32#32
  let c0_i32_858 : BitVec 32 := 0#32
  let v981 : BitVec 1 := Scalar.cmpi .eq c32_i32_857 c0_i32_858
  let c1_i32_859 : BitVec 32 := 1#32
  let v982 : BitVec 32 := Scalar.select v981 c1_i32_859 c32_i32_857
  let v983 : BitVec 32 := Scalar.remsi v980 v982
  let c0_i32_861 : BitVec 32 := 0#32
  let v985 : BitVec 1 := Scalar.cmpi .slt v983 c0_i32_861
  let c0_i32_862 : BitVec 32 := 0#32
  let v986 : BitVec 1 := Scalar.cmpi .slt v982 c0_i32_862
  let v987 : BitVec 1 := Scalar.xori v985 v986
  let c0_i32_860 : BitVec 32 := 0#32
  let v984 : BitVec 1 := Scalar.cmpi .ne v983 c0_i32_860
  let v988 : BitVec 1 := Scalar.andi v987 v984
  let v989 : BitVec 32 := Scalar.addi v983 v982
  let v990 : BitVec 32 := Scalar.select v988 v989 v983
  ![v990.toNat]
def k0_off37 (d0 : Dev nD) (c1_i32_856 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v980 : BitVec 32 := Scalar.addi v2 c1_i32_856
  let c32_i32_857 : BitVec 32 := 32#32
  let c0_i32_858 : BitVec 32 := 0#32
  let v981 : BitVec 1 := Scalar.cmpi .eq c32_i32_857 c0_i32_858
  let c1_i32_859 : BitVec 32 := 1#32
  let v982 : BitVec 32 := Scalar.select v981 c1_i32_859 c32_i32_857
  let v983 : BitVec 32 := Scalar.remsi v980 v982
  let c0_i32_861 : BitVec 32 := 0#32
  let v985 : BitVec 1 := Scalar.cmpi .slt v983 c0_i32_861
  let c0_i32_862 : BitVec 32 := 0#32
  let v986 : BitVec 1 := Scalar.cmpi .slt v982 c0_i32_862
  let v987 : BitVec 1 := Scalar.xori v985 v986
  let c0_i32_860 : BitVec 32 := 0#32
  let v984 : BitVec 1 := Scalar.cmpi .ne v983 c0_i32_860
  let v988 : BitVec 1 := Scalar.andi v987 v984
  let v989 : BitVec 32 := Scalar.addi v983 v982
  let v990 : BitVec 32 := Scalar.select v988 v989 v983
  let c0_i32_866 : BitVec 32 := 0#32
  let c0_i32_867 : BitVec 32 := 0#32
  ![v990.toNat, 0, 0]
abbrev stage0_0 : Fin 1 → Memref sig .tc .smem S33 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 13
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S4096x8192, .f32⟩
  | .local _ .vmem, ⟨0, _⟩ => ⟨S4096x8192, .f32⟩
  | .local _ .vmem, ⟨1, _⟩ => ⟨S1x1, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Ring.lean ====
/-
The ring the devices form, the semaphores and the buffers of the kernel, and the names of what a device pays to a cell.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.TalkSites
public import Idealize.ShloMosaic.Lib.Pipeline.Kit
public import Idealize.ShloMosaic.Lib.Tactic

@[expose] public section

noncomputable section

namespace Cert.RingGemm

open Cert.KernelIdeal Cert.KernelIdeal.Gen
open Idealize.ShloMosaic
open Idealize.ShloMosaic.TcCoe

/-! ## The ring -/

/-- The device at each position of the ring. -/
def hamL : List ℕ := [0,8,16,24,27,19,11,12,20,28,31,23,15,7,4,3,2,5,6,14,22,30,29,21,13,10,18,26,25,17,9,1]
/-- The position of each device. -/
def posL : List ℕ := [0,31,16,15,14,17,18,13,1,30,25,6,7,24,19,12,2,29,26,5,8,23,20,11,3,28,27,4,9,22,21,10]

/-- A device's position. -/
def pos (c : Dev nD) : ℕ := posL.getD c.val 0

theorem ham_lt : ∀ p : Fin 32, hamL.getD p.val 0 < 32 := by decide

set_option backward.proofsInPublic true in
/-- The device at a position, positions counted around the ring. -/
def ringAt (p : ℕ) : Dev nD := ⟨hamL.getD (p % 32) 0, ham_lt ⟨p % 32, Nat.mod_lt _ (by decide)⟩⟩

theorem ringAt_congr {p q : ℕ} (h : p % 32 = q % 32) : ringAt p = ringAt q := by unfold ringAt; simp only [h]

theorem pos_ringAt_fin : ∀ p : Fin 32, pos (ringAt p.val) = p.val := by decide

theorem pos_ringAt (p : ℕ) : pos (ringAt p) = p % 32 := by
  rw [ringAt_congr (q := p % 32) (Nat.mod_mod _ _).symm]
  exact pos_ringAt_fin ⟨p % 32, Nat.mod_lt _ (by decide)⟩

theorem ringAt_pos (c : Dev nD) : ringAt (pos c) = c := by revert c; decide

theorem pos_lt (c : Dev nD) : pos c < 32 := by revert c; decide

theorem ringAt_inj {p q : ℕ} (h : ringAt p = ringAt q) : p % 32 = q % 32 := by
  rw [← pos_ringAt, ← pos_ringAt, h]

/-- The step of a direction: forward (`true`) goes up the ring. -/
def up (d : Bool) : ℕ := if d then 1 else 31
/-- The step against a direction. -/
def dn (d : Bool) : ℕ := if d then 31 else 1

/-- The device `t` steps along direction `d`. -/
def dst (d : Bool) (t : ℕ) (c : Dev nD) : Dev nD := ringAt (pos c + up d * t)
/-- The device `t` steps against direction `d`. -/
def org (d : Bool) (t : ℕ) (c : Dev nD) : Dev nD := ringAt (pos c + dn d * t)
/-- The neighbor a device sends to in direction `d`. -/
def nxt (d : Bool) (c : Dev nD) : Dev nD := dst d 1 c
/-- The neighbor a device receives from in direction `d`. -/
def frm (d : Bool) (c : Dev nD) : Dev nD := org d 1 c

theorem org_zero (d : Bool) (c : Dev nD) : org d 0 c = c := by unfold org; rw [Nat.mul_zero, Nat.add_zero, ringAt_pos]
theorem frm_nxt (d : Bool) (c : Dev nD) : frm d (nxt d c) = c := by
  unfold frm nxt org dst
  rw [pos_ringAt, ← ringAt_pos c]
  refine ringAt_congr ?_
  rw [pos_ringAt]; have := pos_lt c; unfold up dn; cases d <;> simp <;> omega
theorem nxt_frm (d : Bool) (c : Dev nD) : nxt d (frm d c) = c := by
  unfold frm nxt org dst
  rw [pos_ringAt, ← ringAt_pos c]
  refine ringAt_congr ?_
  rw [pos_ringAt]; have := pos_lt c; unfold up dn; cases d <;> simp <;> omega
theorem org_frm (d : Bool) (h : ℕ) (c : Dev nD) : org d h (frm d c) = org d (h + 1) c := by
  unfold frm org
  rw [pos_ringAt]
  refine ringAt_congr ?_
  have := pos_lt c; unfold dn; cases d <;> simp <;> omega
theorem dst_org (d : Bool) (t : ℕ) (c : Dev nD) : dst d t (org d t c) = c := by
  unfold dst org
  rw [pos_ringAt]
  conv_rhs => rw [← ringAt_pos c]
  refine ringAt_congr ?_
  have := pos_lt c; unfold up dn; cases d <;> simp <;> omega
theorem nxt_not (d : Bool) (c : Dev nD) : nxt (!d) c = frm d c := by
  unfold nxt frm dst org up dn; cases d <;> rfl

/-! ## The buffers -/

/-- The landing buffer of a direction. -/
def commM (d : Bool) : Memref sig .tc .vmem S2x2x128x2048 .f32 := match d with
  | true => Memref.whole cc0_scratch0
  | false => Memref.whole cc0_scratch1

theorem slot_inb (s j : Fin 2) : ∀ a, (![s.val, j.val, 0, 0] : Fin 4 → Nat) a + S1x1x128x2048.size a ≤ S2x2x128x2048.size a := by
  revert s j; decide

/-- One landing slot as it is loaded. -/
def slotR (s j : Fin 2) : Rect S2x2x128x2048 := Rect.unit (s := S2x2x128x2048) ![s.val, j.val, 0, 0] S1x1x128x2048.size (slot_inb s j)

/-- One landing slot as the transfers name it. -/
def slotM (d : Bool) (s j : Fin 2) : Memref sig .tc .vmem S128x2048 .f32 :=
  ((commM d).slice (slotR s j) (fun _ => rfl)).squeeze S128x2048 squeezes_S1x1x128x2048_S128x2048

abbrev xM : Memref sig .tc .vmem S128x4096 .f32 := Memref.whole cc0_stg1_0
abbrev wM : Memref sig .tc .vmem S4096x256 .f32 := Memref.whole cc0_stg2_0
abbrev oM : Memref sig .tc .vmem S4096x256 .f32 := Memref.whole cc0_stg3_0
abbrev idM : Memref sig .tc .smem S33 .i32 := Memref.whole cc0_stg0_0
abbrev asM : Memref sig .tc .vmem S1x128 .f32 := Memref.whole cc0_scratch2
abbrev arM : Memref sig .tc .vmem S32x1x128 .f32 := Memref.whole cc0_scratch3

theorem half_inb (j : Fin 2) : ∀ a, (![0, 2048 * j.val] : Fin 2 → Nat) a + S128x2048.size a ≤ S128x4096.size a := by revert j; decide
/-- A half of the columns of the device's own rows of x. -/
def halfR (j : Fin 2) : Rect S128x4096 := Rect.unit (s := S128x4096) ![0, 2048 * j.val] S128x2048.size (half_inb j)
/-- The half as a transfer names it. -/
def halfM (j : Fin 2) : Memref sig .tc .vmem S128x2048 .f32 := xM.slice (halfR j) (fun _ => rfl)

theorem whalf_inb (j : Fin 2) : ∀ a, (![2048 * j.val, 0] : Fin 2 → Nat) a + S2048x256.size a ≤ S4096x256.size a := by revert j; decide
/-- A half of the rows of w. -/
def whalfR (j : Fin 2) : Rect S4096x256 := Rect.unit (s := S4096x256) ![2048 * j.val, 0] S2048x256.size (whalf_inb j)

theorem row_inb (k : Dev nD) : ∀ a, (![k.val, 0, 0] : Fin 3 → Nat) a + S1x1x128.size a ≤ S32x1x128.size a := by revert k; decide
/-- A device's row of the table of maxima. -/
def rowR (k : Dev nD) : Rect S32x1x128 := Rect.unit (s := S32x1x128) ![k.val, 0, 0] S1x1x128.size (row_inb k)
def rowM (k : Dev nD) : Memref sig .tc .vmem S1x128 .f32 := (arM.slice (rowR k) (fun _ => rfl)).squeeze S1x128 squeezes_S1x1x128_S1x128

theorem block_inb (o : Dev nD) : ∀ a, (![128 * o.val, 0] : Fin 2 → Nat) a + S128x256.size a ≤ S4096x256.size a := by revert o; decide
/-- The rows of the result that device `o`'s rows of x make. -/
def blockR (o : Dev nD) : Rect S4096x256 := Rect.unit (s := S4096x256) ![128 * o.val, 0] S128x256.size (block_inb o)

/-! ## What a device pays -/

/-- The payments a device makes: the two signals of the barrier, one per neighbor; the landing of hop `h` of a direction's half `j` and
    the return of that transfer's source; the credit for the slot freed in phase `h`; the landing of its maximum on the device `jj` away
    and the return of that transfer's source. -/
inductive Kind where
  | bar (d : Bool)
  | send (d : Bool) (j : Fin 2) (h : ℕ)
  | cred (d : Bool) (h : ℕ)
  | amax (jj : Fin 32)
  | dep (d : Bool) (j : Fin 2) (h : ℕ)
  | adep (jj : Fin 32)
  deriving DecidableEq

/-- The device `jj` further, by number. -/
def shift (jj : Fin 32) (c : Dev nD) : Dev nD := ⟨(c.val + jj.val) % 32, Nat.mod_lt _ (by decide)⟩
/-- The device `jj` before, by number. -/
def unshift (jj : Fin 32) (c : Dev nD) : Dev nD := ⟨(c.val + (32 - jj.val)) % 32, Nat.mod_lt _ (by decide)⟩

theorem shift_unshift (jj : Fin 32) (c : Dev nD) : shift jj (unshift jj c) = c := by
  apply Fin.ext; unfold shift unshift; simp only; have : c.val < 32 := c.isLt; omega
theorem unshift_shift (jj : Fin 32) (c : Dev nD) : unshift jj (shift jj c) = c := by
  apply Fin.ext; unfold shift unshift; simp only; have : c.val < 32 := c.isLt; omega

/-- The semaphore payment `κ` of device `p` goes to. -/
def semOf (p : Dev nD) : Kind → SemLoc sig
  | .bar _ => .reg ⟨4, by decide⟩
  | .send d j h => .dma ⟨(if d then 8 else 16) + 2 * (h % 2) + j.val, by show _ < 84; have := j.isLt; split <;> omega⟩
  | .cred d h => .reg ⟨(if d then 0 else 2) + (h + 1) % 2, by show _ < 5; split <;> omega⟩
  | .amax _ => .dma ⟨52 + p.val, by show _ < 84; have : p.val < 32 := p.isLt; omega⟩
  | .dep d j h => .dma ⟨(if d then 4 else 12) + 2 * (h % 2) + j.val, by show _ < 84; have := j.isLt; split <;> omega⟩
  | .adep jj => .dma ⟨20 + jj.val, by show _ < 84; have := jj.isLt; omega⟩

/-- The device it goes to. -/
def peer (p : Dev nD) : Kind → Dev nD
  | .bar d => frm d p
  | .send d _ _ => nxt d p
  | .cred d _ => frm d p
  | .amax jj => shift jj p
  | .dep _ _ _ => p
  | .adep _ => p

/-- The device that pays `κ` to device `c`. -/
def src (κ : Kind) (c : Dev nD) : Dev nD := match κ with
  | .bar d => nxt d c
  | .send d _ _ => frm d c
  | .cred d _ => nxt d c
  | .amax jj => unshift jj c
  | .dep _ _ _ => c
  | .adep _ => c

theorem peer_src (κ : Kind) (c : Dev nD) : peer (src κ c) κ = c := by
  cases κ <;> simp only [peer, src, frm_nxt, nxt_frm, shift_unshift]
theorem src_peer (κ : Kind) (p : Dev nD) : src κ (peer p κ) = p := by
  cases κ <;> simp only [peer, src, frm_nxt, nxt_frm, unshift_shift]

/-- The cell it goes to. -/
def cellK (p : Dev nD) (κ : Kind) : GSem nD τ sig := (((peer p κ : Dev nD) : Thread nD τ), semOf p κ)

/-- The round of that cell. -/
def roundK : Kind → ℕ
  | .bar _ => 0
  | .send _ _ h => h / 2
  | .cred _ h => (h - 1) / 2
  | .amax _ => 0
  | .dep _ _ h => h / 2
  | .adep _ => 0

/-- The level of the payment: a wait at a level is made owing only payments of higher levels. -/
def lvlK : Kind → ℕ
  | .bar _ => 1
  | .send _ _ h => h + 2
  | .cred _ h => h + 2
  | .amax _ => 18
  | .dep _ _ _ => 0
  | .adep _ => 0

/-- The units a landed half carries, and a landed row. -/
def NB : ℕ := (slotM true 0 0).view.dmaCredit
def NR : ℕ := asM.view.dmaCredit
theorem NB_pos : 0 < NB := View.dmaCredit_pos _ (by decide)
theorem NR_pos : 0 < NR := View.dmaCredit_pos _ (by decide)

/-- The units of a payment. -/
def unitK : Kind → ℕ
  | .bar _ => 1
  | .send _ _ _ => NB
  | .cred _ _ => 1
  | .amax _ => NR
  | .dep _ _ _ => NB
  | .adep _ => NR

theorem unitK_pos (κ : Kind) : 0 < unitK κ := by cases κ <;> first | exact Nat.one_pos | exact NB_pos | exact NR_pos

/-- The number of a semaphore. -/
def semCode : SemLoc sig → ℕ
  | .reg i => i.val
  | .dma i => 5 + i.val

/-- The semaphore of a payment tells the payment, up to its round. -/
theorem cell_inj {p p' : Dev nD} {κ κ' : Kind} (hb : ∀ d, κ ≠ .bar d) (hc1 : ∀ d h, κ = .cred d h → 1 ≤ h) (hc2 : ∀ d h, κ' = .cred d h → 1 ≤ h)
    (hg : cellK p' κ' = cellK p κ) (hr : roundK κ' = roundK κ) : p' = p ∧ κ' = κ := by
  have h1 : peer p' κ' = peer p κ := congrArg (fun g : GSem nD τ sig => g.1.1) hg
  have h2 : semCode (semOf p' κ') = semCode (semOf p κ) := congrArg (fun g : GSem nD τ sig => semCode g.2) hg
  have hκ : κ' = κ := by
    have hp : p.val < 32 := p.isLt
    have hp' : p'.val < 32 := p'.isLt
    cases κ with
    | bar d => exact absurd rfl (hb d)
    | send d j n =>
      have hj := j.isLt
      cases κ' with
      | send d' j' n' =>
        have hj' := j'.isLt
        simp only [semOf, semCode, roundK] at h2 hr
        have e : d' = d ∧ n' = n ∧ j'.val = j.val := by cases d <;> cases d' <;> simp at h2 ⊢ <;> omega
        rw [e.1, e.2.1, Fin.ext e.2.2]
      | dep d' j' n' => exfalso; have hj' := j'.isLt; simp only [semOf, semCode] at h2; split at h2 <;> split at h2 <;> omega
      | adep jj => exfalso; have hj' := jj.isLt; simp only [semOf, semCode] at h2; split at h2 <;> omega
      | amax jj => exfalso; simp only [semOf, semCode] at h2; split at h2 <;> omega
      | bar d' => exfalso; simp only [semOf, semCode] at h2; split at h2 <;> omega
      | cred d' n' => exfalso; simp only [semOf, semCode] at h2; split at h2 <;> split at h2 <;> omega
    | cred d n =>
      have a1 := hc1 d n rfl
      cases κ' with
      | cred d' n' =>
        have a2 := hc2 d' n' rfl
        simp only [semOf, semCode, roundK] at h2 hr
        have e : d' = d ∧ n' = n := by cases d <;> cases d' <;> simp at h2 ⊢ <;> omega
        rw [e.1, e.2]
      | send d' j' n' => exfalso; have hj' := j'.isLt; simp only [semOf, semCode] at h2; split at h2 <;> split at h2 <;> omega
      | dep d' j' n' => exfalso; have hj' := j'.isLt; simp only [semOf, semCode] at h2; split at h2 <;> split at h2 <;> omega
      | adep jj => exfalso; have hj' := jj.isLt; simp only [semOf, semCode] at h2; split at h2 <;> omega
      | amax jj => exfalso; simp only [semOf, semCode] at h2; split at h2 <;> omega
      | bar d' => exfalso; simp only [semOf, semCode] at h2; split at h2 <;> omega
    | amax jj =>
      cases κ' with
      | amax jj' =>
        have hj := jj.isLt; have hj' := jj'.isLt
        simp only [semOf, semCode] at h2
        have h1' : (p'.val + jj'.val) % 32 = (p.val + jj.val) % 32 := congrArg Fin.val h1
        have e : jj'.val = jj.val := by omega
        rw [Fin.ext e]
      | send d' j' n' => exfalso; have hj' := j'.isLt; simp only [semOf, semCode] at h2; split at h2 <;> omega
      | dep d' j' n' => exfalso; have hj' := j'.isLt; simp only [semOf, semCode] at h2; split at h2 <;> omega
      | adep jj => exfalso; have hj' := jj.isLt; simp only [semOf, semCode] at h2; omega
      | bar d' => exfalso; simp only [semOf, semCode] at h2; omega
      | cred d' n' => exfalso; simp only [semOf, semCode] at h2; split at h2 <;> omega
    | dep d j n =>
      have hj := j.isLt
      cases κ' with
      | dep d' j' n' =>
        have hj' := j'.isLt
        simp only [semOf, semCode, roundK] at h2 hr
        have e : d' = d ∧ n' = n ∧ j'.val = j.val := by cases d <;> cases d' <;> simp at h2 ⊢ <;> omega
        rw [e.1, e.2.1, Fin.ext e.2.2]
      | send d' j' n' => exfalso; have hj' := j'.isLt; simp only [semOf, semCode] at h2; split at h2 <;> split at h2 <;> omega
      | adep jj => exfalso; have hj' := jj.isLt; simp only [semOf, semCode] at h2; split at h2 <;> omega
      | amax jj => exfalso; simp only [semOf, semCode] at h2; split at h2 <;> omega
      | bar d' => exfalso; simp only [semOf, semCode] at h2; split at h2 <;> omega
      | cred d' n' => exfalso; simp only [semOf, semCode] at h2; split at h2 <;> split at h2 <;> omega
    | adep jj =>
      have hj := jj.isLt
      cases κ' with
      | adep jj' =>
        simp only [semOf, semCode] at h2
        have e : jj'.val = jj.val := by omega
        rw [Fin.ext e]
      | send d' j' n' => exfalso; have hj' := j'.isLt; simp only [semOf, semCode] at h2; split at h2 <;> omega
      | dep d' j' n' => exfalso; have hj' := j'.isLt; simp only [semOf, semCode] at h2; split at h2 <;> omega
      | amax jj' => exfalso; simp only [semOf, semCode] at h2; omega
      | bar d' => exfalso; simp only [semOf, semCode] at h2; omega
      | cred d' n' => exfalso; simp only [semOf, semCode] at h2; split at h2 <;> omega
  subst hκ
  exact ⟨by rw [← src_peer κ' p', h1, src_peer], rfl⟩

/-! ## The order of a device's payments, and of what it waits for -/

/-- The payments of phase `h`, 1 ≤ h ≤ 14: the four forwards, the two credits. -/
def phaseDue (h : ℕ) : List Kind :=
  [.send true 0 h, .send false 0 h, .send true 1 h, .send false 1 h, .cred true h, .cred false h]

/-- The distances of the maxima's copies. -/
def jjs : List (Fin 32) := (List.finRange 32).drop 1

/-- What is still to pay before phase `h`, with `n = 15 - h` more phases to come. -/
def tailK : ℕ → List Kind
  | 0 => [.send true 0 15, .send false 1 15] ++ jjs.map .amax
  | n + 1 => phaseDue (14 - n) ++ tailK n

/-- All a device pays beside the returns of its sources, in order. -/
def dueK : List Kind :=
  [.bar true, .bar false, .send true 0 0, .send true 1 0, .send false 0 0, .send false 1 0] ++ tailK 14

/-- What phase `h` waits for, 2 ≤ h ≤ 14. -/
def phaseWait (h : ℕ) : List Kind :=
  [.send true 0 (h-1), .cred true (h-1), .send false 0 (h-1), .cred false (h-1), .send true 1 (h-1), .send false 1 (h-1)]

/-- What is still to be waited for before phase `h`, with `n = 15 - h` more phases to come. -/
def wtailK : ℕ → List Kind
  | 0 => phaseWait 15 ++ ([.send true 0 15, .send false 1 15] ++ jjs.map .amax)
  | n + 1 => phaseWait (14 - n) ++ wtailK n

/-- All a device waits for beside the returns of its sources. -/
def waitK : List Kind :=
  [.bar true, .bar false, .send true 0 0, .send false 0 0, .send true 1 0, .send false 1 0] ++ wtailK 13

theorem waitK_perm : waitK.Perm dueK := by decide +kernel

/-- The return of the source of a transfer. -/
def depOf : Kind → Option Kind
  | .send d j h => some (.dep d j h)
  | .amax jj => some (.adep jj)
  | _ => none

/-- All payments. -/
def allK : List Kind := dueK ++ dueK.filterMap depOf

theorem allK_nodup : allK.Nodup := by decide +kernel
theorem allK_cred : ∀ κ ∈ allK, ∀ d h, κ = .cred d h → 1 ≤ h := by
  have h : ∀ κ ∈ allK, (match κ with | .cred _ h => decide (1 ≤ h) | _ => true) = true := by decide +kernel
  intro κ hκ d n e; have := h κ hκ; subst e; simpa using this

theorem mem_allK_of_due {κ : Kind} (h : κ ∈ dueK) : κ ∈ allK := List.mem_append_left _ h
theorem mem_allK_dep {κ κ' : Kind} (h : κ ∈ dueK) (e : depOf κ = some κ') : κ' ∈ allK :=
  List.mem_append_right _ (List.mem_filterMap.mpr ⟨κ, h, e⟩)

end Cert.RingGemm

end
-- ==== Proof.Sched.lean ====
/-
The schedule of the kernel's semaphores: which payments each cell receives in each round, and what each hands over.
-/
module

public import proofs.«01_k».proof.Proof.Ring
public import Idealize.ShloMosaic.Lib.Pipeline.BigSepL
public import Idealize.ShloMosaic.Lib.VecWindow

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay Pay.tally tallyL)
open Idealize.ShloMosaic.SiteBlocks (L lv)

variable {F : FTy → Type} [FloatOps F]

/-- A duty: who pays, and what. -/
abbrev Duty : Type := Dev nD × Kind

/-- The ghost state: the pipeline's rounds beside the kernel's own. -/
abbrev UU : Type := UR sig nD τ × URounds (GSem nD τ sig) Duty

local notation "𝕄" => MT nD τ sig ℕ (Elt F) ℕ UU ℕ

abbrev EP : Emb (UR sig nD τ) (MT nD τ sig ℕ (Elt F) ℕ UU ℕ) := embL
abbrev ER : Emb (URounds (GSem nD τ sig) Duty) (MT nD τ sig ℕ (Elt F) ℕ UU ℕ) := embR

abbrev 𝒱₀ : Variants := Variants.none

/-! ## The values -/

variable (xs : Dev nD → (S128x4096.Idx → Elt F .f32)) (ws : Dev nD → (S4096x256.Idx → Elt F .f32))

/-- Half `j` of the columns of device `o`'s rows of x. -/
def xh (o : Dev nD) (j : Fin 2) : S128x2048.Idx → Elt F .f32 := (halfM j).view.read (Elt F) (xs o)
/-- Half `j` of the rows of device `c`'s columns of w. -/
def wh (c : Dev nD) (j : Fin 2) : S2048x256.Idx → Elt F .f32 :=
  shapeCast S2048x256 (wM.view.readAt (Elt F) (whalfR j).toLoadRect (ws c)) shapeCasts_S2048x256_S2048x256

/-- The block of the product two halves make, negative values made zero. -/
def mulBlk (a b : FVec F S128x2048 .f32) (w1 w2 : FVec F S2048x256 .f32) : FVec F S128x256 .f32 :=
  maximumf (addf
      (matmul dot_S128x2048_S2048x256_S128x256_1_0_0_1_n_n (some .fp32) a w1 (constant S128x256 .f32 0x00000000#32))
      (matmul dot_S128x2048_S2048x256_S128x256_1_0_0_1_n_n (some .fp32) b w2 (constant S128x256 .f32 0x00000000#32)))
    (broadcast S128x256 (Scalar.ofBits .f32 0x00000000#32))

/-- The largest entry of a block. -/
def bmax (b : FVec F S128x256 .f32) : F .f32 :=
  extractAt ![0, 0, 0] (shapeCast S1x1x1 (multiReduction .maximumf [1, 2] S1 (shapeCast S1x128x256 b shapeCasts_S128x256_S1x128x256)
    0xFF800000#32 reduces_S1x128x256_S1 (.inl rfl) rfl) shapeCasts_S1_S1x1x1) inpos_S1x1x1_p0_0_0

/-- Device `c`'s block of rows `o` of the result, before quantisation. -/
def blk (c o : Dev nD) : FVec F S128x256 .f32 := mulBlk (xh xs o 0) (xh xs o 1) (wh ws c 0) (wh ws c 1)

/-- The running maximum of device `c` after phase `h`. -/
def acc (c : Dev nD) : ℕ → F .f32
  | 0 => bmax (blk xs ws c c)
  | h + 1 => Scalar.maximumf (Scalar.maximumf (acc c h) (bmax (blk xs ws c (org true (h + 1) c)))) (bmax (blk xs ws c (org false (h + 1) c)))

/-- The maximum of device `c`'s columns. -/
def am (c : Dev nD) : F .f32 := Scalar.maximumf (acc xs ws c 15) (bmax (blk xs ws c (org true 16 c)))

/-- The row a device tells the others. -/
def amRow (c : Dev nD) : S1x128.Idx → Elt F .f32 := fun _ => am xs ws c

/-! ## What is held -/

/-- A memref of device `c` held by its own elements, reading `v`. -/
def has (c : Dev nD) {s : Shape} {e : EltTy} (M : Memref sig .tc .vmem s e) (q : PosShare TreeShare) (v : s.Idx → Elt F e) : sProp 𝕄 :=
  iprop(M.view.loc (c : Thread nD τ) ↦[M.view.set]{q} M.view.rep v)

/-- A memref of device `c` held whole, at some contents. -/
def any (c : Dev nD) {s : Shape} {e : EltTy} (M : Memref sig .tc .vmem s e) : sProp 𝕄 :=
  iprop(∃ f : Buf (Elt F) (M.view.loc (c : Thread nD τ)), M.view.loc (c : Thread nD τ) ↦[M.view.set]{fullShare} f)

instance has_storable (c : Dev nD) {s : Shape} {e : EltTy} (M : Memref sig .tc .vmem s e) (q : PosShare TreeShare) (v : s.Idx → Elt F e) :
    BI.Storable (upEmb : UEmb _ 𝕄) (has (F := F) c M q v) := by unfold has; infer_instance
instance any_storable (c : Dev nD) {s : Shape} {e : EltTy} (M : Memref sig .tc .vmem s e) :
    BI.Storable (upEmb : UEmb _ 𝕄) (any (F := F) c M) := by unfold any; infer_instance

/-- The cell of payment `κ` of device `p` has reached its round. -/
def rch (p : Dev nD) (κ : Kind) : sProp 𝕄 := reached ER (cellK p κ) (roundK κ)
instance rch_persistent (p : Dev nD) (κ : Kind) : BI.Persistent (rch (F := F) p κ) := by unfold rch; infer_instance
instance rch_storable (p : Dev nD) (κ : Kind) : BI.Storable (upEmb : UEmb _ 𝕄) (rch (F := F) p κ) := by unfold rch; infer_instance

/-- Device `o`'s row `k` of the table of maxima, with what device `k` needs to fill it. -/
def rowRes (o k : Dev nD) : sProp 𝕄 := iprop(any o (rowM k) ∗ reached ER ((o : Thread nD τ), semOf k (.amax 0)) 0)
instance rowRes_storable (o k : Dev nD) : BI.Storable (upEmb : UEmb _ 𝕄) (rowRes (F := F) o k) := by unfold rowRes; infer_instance

/-- How many hops of a direction's half carry rows of the origin's table. -/
def lim (d : Bool) (j : Fin 2) : ℕ := match d with
  | true => if j = 0 then 16 else 0
  | false => if j = 0 then 0 else 15

/-- The rows of the origin's table still to be dealt at hop `h`. -/
def ext (d : Bool) (j : Fin 2) (h : ℕ) (c : Dev nD) : sProp 𝕄 :=
  bigSep (Finset.Ico h (lim d j)) fun t => rowRes (org d h c) (dst d (t + 1) (org d h c))
instance ext_storable (d : Bool) (j : Fin 2) (h : ℕ) (c : Dev nD) : BI.Storable (upEmb : UEmb _ 𝕄) (ext (F := F) d j h c) := by unfold ext; infer_instance

/-- The half that travels in the last hop of a direction. -/
def lastJ (d : Bool) : Fin 2 := if d then 0 else 1
/-- The other half. -/
def othJ (d : Bool) : Fin 2 := if d then 1 else 0

/-- A slot of device `c` and that its landing cell is ready for hop `n`. -/
def grant (d : Bool) (j : Fin 2) (n : ℕ) (c : Dev nD) : sProp 𝕄 :=
  iprop(any c (slotM d ⟨n % 2, Nat.mod_lt _ (by decide)⟩ j) ∗ rch (frm d c) (.send d j n))
instance grant_storable (d : Bool) (j : Fin 2) (n : ℕ) (c : Dev nD) : BI.Storable (upEmb : UEmb _ 𝕄) (grant (F := F) d j n c) := by unfold grant; infer_instance

/-- The slot of hop `h`. -/
abbrev par (h : ℕ) : Fin 2 := ⟨h % 2, Nat.mod_lt _ (by decide)⟩

/-- The share of the device's own rows of x that each of the four first transfers takes. -/
def xShare (d : Bool) (j : Fin 2) : PosShare TreeShare :=
  if d then (if j = 0 then fullShare.left.left.left else fullShare.left.left.right)
  else (if j = 0 then fullShare.left.right.left else fullShare.left.right.right)

/-- The source of hop `h` as the transfer names it: a half of the device's own rows, later the slot the last hop landed in. -/
def srcM (d : Bool) (j : Fin 2) : ℕ → Memref sig .tc .vmem S128x2048 .f32
  | 0 => halfM j
  | n + 1 => slotM d (par n) j

/-- The share of it the transfer takes. -/
def srcShare (d : Bool) (j : Fin 2) : ℕ → PosShare TreeShare
  | 0 => xShare d j
  | _ + 1 => fullShare.left

/-- The source of hop `h` on device `c`, at the share a transfer takes. -/
def srcHas (d : Bool) (j : Fin 2) (h : ℕ) (c : Dev nD) : sProp 𝕄 := has c (srcM d j h) (srcShare d j h) (xh xs (org d h c) j)
instance srcHas_storable (d : Bool) (j : Fin 2) (h : ℕ) (c : Dev nD) : BI.Storable (upEmb : UEmb _ 𝕄) (srcHas (F := F) xs d j h c) := by
  unfold srcHas; infer_instance

/-- The share of the maximum's row the copy `n` steps before the last takes. -/
def rShare : ℕ → PosShare TreeShare
  | 0 => fullShare
  | n + 1 => (rShare n).right

/-- What payment `κ` of device `c` hands over. -/
def pay (c : Dev nD) : Kind → sProp 𝕄
  | .bar d => iprop(grant d 0 0 c ∗ grant d 1 0 c ∗ grant d 0 1 c ∗ grant d 1 1 c)
  | .send d j h => iprop(has (nxt d c) (slotM d (par h) j) fullShare (xh xs (org d h c) j) ∗ rch (nxt d c) (.cred d (h + 1)) ∗ ext d j h c)
  | .cred d h => iprop(grant d (lastJ d) (h + 1) c ∗ (if h = 14 then emp else grant d (othJ d) (h + 1) c))
  | .amax jj => has (shift jj c) (rowM c) fullShare (amRow xs ws c)
  | .dep d j h => srcHas xs d j h c
  | .adep jj => has c asM (rShare jj.val).left (amRow xs ws c)

instance pay_storable (c : Dev nD) (κ : Kind) : BI.Storable (upEmb : UEmb _ 𝕄) (pay (F := F) xs ws c κ) := by
  cases κ <;> simp only [pay] <;> (try split) <;> infer_instance

/-! ## The schedule -/

/-- The payments of a cell's round are those of every device that go to it. -/
def Rd : Rounds.Schedule (GSem nD τ sig) Duty 𝕄 where
  duties g r := (Finset.univ ×ˢ allK.toFinset).filter fun d => cellK d.1 d.2 = g ∧ roundK d.2 = r
  unitless _ := False
  amount _ _ d := unitK d.2
  payload _ _ d := pay xs ws d.1 d.2
  amount_pos _ _ d _ := unitK_pos d.2

instance Rd_storable (g : GSem nD τ sig) (r : ℕ) (d : Duty) : BI.Storable (upEmb : UEmb _ 𝕄) ((Rd (F := F) xs ws).payload g r d) := by
  show BI.Storable _ (pay xs ws d.1 d.2); infer_instance

theorem mem_duties {p : Dev nD} {κ : Kind} (h : κ ∈ allK) : (p, κ) ∈ (Rd (F := F) xs ws).duties (cellK p κ) (roundK κ) :=
  Finset.mem_filter.mpr ⟨Finset.mem_product.mpr ⟨Finset.mem_univ _, List.mem_toFinset.mpr h⟩, rfl, rfl⟩

theorem duties_one {p : Dev nD} {κ : Kind} (h : κ ∈ allK) (hb : ∀ d, κ ≠ .bar d) :
    (Rd (F := F) xs ws).duties (cellK p κ) (roundK κ) = {(p, κ)} := by
  ext ⟨p', κ'⟩
  rw [Finset.mem_singleton]
  constructor
  · intro hm
    obtain ⟨h1, h2, h3⟩ := Finset.mem_filter.mp hm
    have h4 : κ' ∈ allK := List.mem_toFinset.mp (Finset.mem_product.mp h1).2
    obtain ⟨rfl, rfl⟩ := cell_inj hb (allK_cred κ h) (allK_cred κ' h4) h2 h3
    rfl
  · rintro e; obtain ⟨rfl, rfl⟩ := Prod.ext_iff.mp e; exact mem_duties xs ws h

theorem expect_one {p : Dev nD} {κ : Kind} (h : κ ∈ allK) (hb : ∀ d, κ ≠ .bar d) :
    (Rd (F := F) xs ws).expect (cellK p κ) (roundK κ) = unitK κ := by
  unfold Schedule.expect Schedule.amountOf; rw [duties_one xs ws h hb, Finset.sum_singleton]; rfl

theorem rest_one {p : Dev nD} {κ : Kind} (h : κ ∈ allK) (hb : ∀ d, κ ≠ .bar d) :
    bigSep ((Rd (F := F) xs ws).duties (cellK p κ) (roundK κ) \ ∅) (fun d => (Rd (F := F) xs ws).payload (cellK p κ) (roundK κ) d) = pay xs ws p κ := by
  rw [Finset.sdiff_empty, duties_one xs ws h hb, bigSep_singleton]; rfl

/-- The barrier cell of a device. -/
def barCell (c : Dev nD) : GSem nD τ sig := ((c : Thread nD τ), .reg ⟨4, by decide⟩)

theorem semOf_bar {p : Dev nD} {κ : Kind} (h : semCode (semOf p κ) = 4) : ∃ d, κ = .bar d := by
  have hp : p.val < 32 := p.isLt
  cases κ with
  | bar d => exact ⟨d, rfl⟩
  | send d j n => exfalso; have hj := j.isLt; simp only [semOf, semCode] at h; split at h <;> omega
  | dep d j n => exfalso; have hj := j.isLt; simp only [semOf, semCode] at h; split at h <;> omega
  | cred d n => exfalso; simp only [semOf, semCode] at h; split at h <;> omega
  | amax jj => exfalso; simp only [semOf, semCode] at h; omega
  | adep jj => exfalso; simp only [semOf, semCode] at h; omega

theorem duties_bar (c : Dev nD) : (Rd (F := F) xs ws).duties (barCell c) 0 = {(nxt true c, .bar true), (nxt false c, .bar false)} := by
  ext ⟨p, κ⟩
  rw [Finset.mem_insert, Finset.mem_singleton]
  constructor
  · intro hm
    obtain ⟨h1, h2, h3⟩ := Finset.mem_filter.mp hm
    obtain ⟨d, rfl⟩ := semOf_bar (p := p) (κ := κ) (congrArg (fun g : GSem nD τ sig => semCode g.2) h2)
    have h4 : frm d p = c := congrArg (fun g : GSem nD τ sig => g.1.1) h2
    have h5 : p = nxt d c := by rw [← h4, nxt_frm]
    cases d
    · right; rw [h5]
    · left; rw [h5]
  · have h (d : Bool) (hd : Kind.bar d ∈ allK) : (nxt d c, Kind.bar d) ∈ (Rd (F := F) xs ws).duties (barCell c) 0 := by
      have := mem_duties (F := F) xs ws (p := nxt d c) hd
      rwa [show cellK (nxt d c) (.bar d) = barCell c from by unfold cellK barCell; simp only [peer, frm_nxt, semOf]] at this
    rintro (e | e) <;> (obtain ⟨rfl, rfl⟩ := Prod.ext_iff.mp e)
    · exact h true (by decide +kernel)
    · exact h false (by decide +kernel)

theorem bar_ne (c : Dev nD) : (nxt true c, Kind.bar true) ≠ (nxt false c, Kind.bar false) := fun h => by
  have := congrArg Prod.snd h; simp at this

theorem expect_bar (c : Dev nD) : (Rd (F := F) xs ws).expect (barCell c) 0 = 2 := by
  unfold Schedule.expect Schedule.amountOf; rw [duties_bar, Finset.sum_pair (bar_ne c)]; rfl

theorem rest_bar (c : Dev nD) :
    bigSep ((Rd (F := F) xs ws).duties (barCell c) 0 \ ∅) (fun d => (Rd (F := F) xs ws).payload (barCell c) 0 d)
      = iprop(pay xs ws (nxt true c) (.bar true) ∗ pay xs ws (nxt false c) (.bar false)) := by
  rw [Finset.sdiff_empty, duties_bar, bigSep_insert (by rw [Finset.mem_singleton]; exact bar_ne c), bigSep_singleton]; rfl

/-- A round of a cell past the last payment to it has no duty. -/
theorem duties_past {c : Dev nD} {sm : SemLoc sig} {R : ℕ} (h : ∀ κ ∈ allK, ∀ p, semOf p κ = sm → roundK κ < R) :
    ∀ r, R ≤ r → (Rd (F := F) xs ws).duties ((c : Thread nD τ), sm) r = ∅ := fun r hr => by
  rw [Finset.eq_empty_iff_forall_notMem]
  rintro ⟨p, κ⟩ hm
  obtain ⟨h1, h2, h3⟩ := Finset.mem_filter.mp hm
  have h4 : κ ∈ allK := List.mem_toFinset.mp (Finset.mem_product.mp h1).2
  have := h κ h4 p (congrArg Prod.snd h2)
  have : roundK κ = r := h3
  omega

/-! ## What a device owes, and the credit it holds -/

/-- A payment as the bookkeeping of dues counts it. -/
def payOf (c : Dev nD) (κ : Kind) : Pay nD τ sig := (cellK c κ, lvlK κ, unitK κ)

/-- The right to make a payment, and to have a transfer's source returned. -/
def tok (c : Dev nD) (κ : Kind) : sProp 𝕄 := dutyTok ER (cellK c κ) (roundK κ) (c, κ)
def depTok (c : Dev nD) : Option Kind → sProp 𝕄
  | some κ => tok c κ
  | none => iprop(emp)
def toks (c : Dev nD) (κ : Kind) : sProp 𝕄 := iprop(tok c κ ∗ depTok c (depOf κ))

/-- What device `c` still has to pay: the list `l`. -/
def due (c : Dev nD) (l : List Kind) : sProp 𝕄 :=
  iprop((∃ W, owes (c : Thread nD τ) (tallyL (l.map (payOf c))) W) ∗ bigSepL l (toks c))

/-- The credit for one payment to device `c`, and for a list of them. -/
def crd (c : Dev nD) (κ : Kind) : sProp 𝕄 := cred (tallyAt ((c : Thread nD τ), semOf (src κ c) κ) (lvlK κ) (unitK κ))
def crs (c : Dev nD) (l : List Kind) : sProp 𝕄 := bigSepL l (crd c)

/-- Device `c`'s position at the cell where it receives `κ`: before that payment. -/
def posn (c : Dev nD) (κ : Kind) : sProp 𝕄 := atPos ER ((c : Thread nD τ), semOf (src κ c) κ) (roundK κ) ∅ 0

theorem cell_src (κ : Kind) (c : Dev nD) : cellK (src κ c) κ = ((c : Thread nD τ), semOf (src κ c) κ) := by
  unfold cellK; rw [peer_src]

end Cert.RingGemm

end
-- ==== Proof.Steps.lean ====
/-
The kernel's steps across devices: signals, copies to a neighbor, waits, each as one rule over the schedule.
-/
module

public import proofs.«01_k».proof.Proof.Sched

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay Pay.tally tallyL tallyL_pos Fam)
open Idealize.ShloMosaic.SiteBlocks (L lv mayWait_of mem_L')

variable {F : FTy → Type} [FloatOps F]

local notation "𝕄" => MT nD τ sig ℕ (Elt F) ℕ UU ℕ

/-! ## The cells and tokens of the launch -/

/-- The kernel's own scoped semaphores, in order: the four credit counters, then its transfer semaphores. -/
def osem (i : Fin 84) : SemLoc sig := if h : i.val < 4 then .reg ⟨i.val, by show _ < 5; omega⟩ else .dma ⟨i.val, i.isLt⟩

theorem semOf_osem (p : Dev nD) (κ : Kind) (hb : ∀ d, κ ≠ .bar d) : ∃ i, osem i = semOf p κ := by
  have hp : p.val < 32 := p.isLt
  cases κ with
  | bar d => exact absurd rfl (hb d)
  | send d j n =>
    have hj := j.isLt
    refine ⟨⟨(if d then 8 else 16) + 2 * (n % 2) + j.val, by split <;> omega⟩, ?_⟩
    unfold osem; rw [dif_neg (by simp only; split <;> omega)]; rfl
  | dep d j n =>
    have hj := j.isLt
    refine ⟨⟨(if d then 4 else 12) + 2 * (n % 2) + j.val, by split <;> omega⟩, ?_⟩
    unfold osem; rw [dif_neg (by simp only; split <;> omega)]; rfl
  | cred d n =>
    refine ⟨⟨(if d then 0 else 2) + (n + 1) % 2, by split <;> omega⟩, ?_⟩
    unfold osem; rw [dif_pos (by simp only; split <;> omega)]; rfl
  | amax jj =>
    refine ⟨⟨52 + p.val, by omega⟩, ?_⟩
    unfold osem; rw [dif_neg (by simp only; omega)]; rfl
  | adep jj =>
    have hj := jj.isLt
    refine ⟨⟨20 + jj.val, by omega⟩, ?_⟩
    unfold osem; rw [dif_neg (by simp only; omega)]; rfl

theorem osem_ne_bar (i : Fin 84) : osem i ≠ .reg ⟨4, by decide⟩ := fun h => by
  have h' := congrArg semCode h
  unfold osem at h'; split at h' <;> simp only [semCode] at h' <;> omega

/-- The launch's cells: the barrier, the kernel's own semaphores, and the payments of each device. -/
def fam : Fam nD τ sig Duty 1 where
  bar := .reg ⟨4, by decide⟩
  dorm _ := Finset.univ.image osem
  toks c _ := allK.toFinset.image fun κ => (cellK c κ, roundK κ, (c, κ))
  semKey _ := 0
  hsem j _ _ := (Fin.fin_one_eq_zero j).symm
  hbar _ h := by obtain ⟨i, -, e⟩ := Finset.mem_image.mp h; exact osem_ne_bar i e
  tokKey x := (x.2.2.1, 0)
  htok c j x h := by obtain ⟨κ, -, rfl⟩ := Finset.mem_image.mp h; rw [Fin.fin_one_eq_zero j]

/-- One more than the highest level. -/
def NL : ℕ := 20

variable (xs : Dev nD → (S128x4096.Idx → Elt F .f32)) (ws : Dev nD → (S4096x256.Idx → Elt F .f32))

/-- Every cell under its invariant, and the levels. -/
def INV (K : GSem nD τ sig → ℕ) : sProp 𝕄 := iprop(fam.cellInvs ER (Rd xs ws) K ∗ levAts (L NL) lv)
instance INV_persistent (K : GSem nD τ sig → ℕ) : BI.Persistent (INV (F := F) xs ws K) := by unfold INV; infer_instance

variable (K : GSem nD τ sig → ℕ)

theorem INV_inv : INV xs ws K ⊢ fam.cellInvs ER (Rd (F := F) xs ws) K := by unfold INV; iintro ⟨#H, -⟩; iexact H

theorem INV_cell (p : Dev nD) (κ : Kind) : INV xs ws K ⊢ cellInv ER (Rd (F := F) xs ws) (K (cellK p κ)) (cellK p κ) := by
  refine BI.Entails.trans (@INV_inv F _ xs ws K) ?_
  by_cases hb : ∃ d, κ = .bar d
  · obtain ⟨d, rfl⟩ := hb
    exact fam.cellInvs_bar ER (Rd xs ws) K (peer p (.bar d))
  · obtain ⟨i, hi⟩ := semOf_osem p κ (fun d e => hb ⟨d, e⟩)
    exact fam.cellInvs_dorm ER (Rd xs ws) K (peer p κ) (j := 0) (Finset.mem_image.mpr ⟨i, Finset.mem_univ _, hi⟩)

theorem INV_lev : INV xs ws K ⊢ (levAts (L NL) lv : sProp 𝕄) := by unfold INV; iintro ⟨-, #H⟩; iexact H

/-- The payments of `l` are all at levels above `i`. -/
def Above (i : ℕ) (l : List Kind) : Prop := ∀ κ ∈ l, i < lvlK κ ∧ lvlK κ < NL
instance (i : ℕ) (l : List Kind) : Decidable (Above i l) := by unfold Above; infer_instance

theorem Above.low {i i' : ℕ} {l : List Kind} (h : Above i l) (hi : i' ≤ i) : Above i' l := fun κ hκ => ⟨lt_of_le_of_lt hi (h κ hκ).1, (h κ hκ).2⟩
theorem Above.tail {i : ℕ} {κ : Kind} {l : List Kind} (h : Above i (κ :: l)) : Above i l := fun κ' hκ => h κ' (List.mem_cons_of_mem _ hκ)

theorem mayWait_l (c : Dev nD) (sm : SemLoc sig) (i : ℕ) (hi : i < NL) (l : List Kind) (hl : Above i l) :
    (levAts (L NL) lv : sProp 𝕄) ⊢ MayWait (c : Thread nD τ) sm i (tallyL (l.map (payOf c))) :=
  mayWait_of hi c sm _ fun g k hk => by
    obtain ⟨x, hx, rfl, rfl⟩ := tallyL_pos hk
    obtain ⟨κ, hκ, rfl⟩ := List.mem_map.mp hx
    exact ⟨mem_L' rfl (hl κ hκ).2, (hl κ hκ).1⟩

theorem tally_cons (c : Dev nD) (κ : Kind) (l : List Kind) :
    tallyL ((κ :: l).map (payOf c)) = tallyL (l.map (payOf c)) + tallyAt (cellK c κ) (lvlK κ) (unitK κ) := by
  rw [List.map_cons, tallyL, add_comm]; rfl

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Q : α → sProp (MT nD τ sig ℕ (Elt F) ℕ UU ℕ)} {k : PUnit → Prog (TpuEff nD τ sig (Elt F) Λ₀ .tc) α}

theorem due_cons (c : Dev nD) (κ : Kind) (l : List Kind) :
    due (F := F) c (κ :: l) ⊢ iprop((∃ W, owes (c : Thread nD τ) (tallyL ((κ :: l).map (payOf c))) W) ∗ tok c κ ∗ depTok c (depOf κ) ∗ bigSepL l (toks c)) := by
  unfold due
  rw [bigSepL_cons']
  unfold toks
  iintro ⟨H, ⟨H1, H2⟩, H3⟩
  isplitl [H]; · iexact H
  isplitl [H1]; · iexact H1
  isplitl [H2]; · iexact H2
  iexact H3

/-- A signal to a neighbor. -/
theorem step_signal (c : Dev nD) (κ : Kind) (l : List Kind) (hκ : κ ∈ dueK) (hd : depOf κ = none) (hu : unitK κ = 1)
    {dv : Dev nD} {sem : Sem sig} (hdv : dv = peer c κ) (hsem : SemLoc.reg sem = semOf c κ) :
    iprop(INV xs ws K ∗ due c (κ :: l) ∗ pay xs ws c κ ∗ rch c κ)
      ⊢ iprop((due c l -∗ WP c (k ⟨⟩) Q) -∗ WP c (.op (.semSignal (Dev.tc dv) sem (1#32 : BitVec 32).toInt) k) Q) := by
  subst hdv
  rw [show (1#32 : BitVec 32).toInt = ((1 : ℕ) : Int) from rfl]
  have hg : (((peer c κ : Dev nD) : Thread nD τ), SemLoc.reg sem) = cellK c κ := by unfold cellK; rw [hsem]
  iintro ⟨#HI, Hdue, Hp, Hr⟩ Hk
  ihave Hdue := (due_cons c κ l) $$ Hdue
  unfold due rch tok
  icases Hdue with ⟨⟨%W, HO⟩, Ht, -, Hl⟩
  ihave Hp := (show pay xs ws c κ ⊢ (Rd (F := F) xs ws).payload (cellK c κ) (roundK κ) (c, κ) from .rfl) $$ Hp
  ihave Hc := (@INV_cell F _ xs ws K c κ) $$ HI
  iapply (Rounds.wp_signal 𝒱₀ ER (Rd xs ws) (c : Thread nD τ) none (dst := ((peer c κ : Dev nD) : Thread nD τ)) (sem := sem) (r := roundK κ) (d := (c, κ)) (κ := K (cellK c κ))
      (by rw [hg]; exact mem_duties xs ws (mem_allK_of_due hκ)) (show (Rd (F := F) xs ws).amount _ _ (c, κ) = 1 from hu) (lvlK κ)
      (O₀ := tallyL ((κ :: l).map (payOf c))) (tallyL (l.map (payOf c))) (by rw [hg, tally_cons, hu])) $$ [Hc HO Ht Hp Hr]
  · rw [hg]
    isplitl [Hc]; · iexact Hc
    isplitl [HO]; · iexact HO
    isplitl [Ht]; · iexact Ht
    isplitl [Hp]; · iexact Hp
    iexact Hr
  iintro HO
  iapply Hk
  isplitl [HO]; · iexists W; iexact HO
  iexact Hl

/-- A wait for one payment. -/
theorem step_wait (c : Dev nD) (κ : Kind) (l : List Kind) (hκ : κ ∈ allK) (hb : ∀ d, κ ≠ .bar d) (hl : Above (lvlK κ) l) (hlv : lvlK κ < NL)
    {w : TpuEff nD τ sig (Elt F) Λ₀ .tc PUnit} {sm : SemLoc sig} {n : ℕ}
    (hw : ∀ K' : PUnit → sProp 𝕄, wpE (defs₀ (F := F)) 𝒱₀ (c : Thread nD τ) none Set.univ w K' = waitSpec (c : Thread nD τ) Set.univ sm n K')
    (hsm : sm = semOf (src κ c) κ) (hn : n = unitK κ) :
    iprop(INV xs ws K ∗ due c l ∗ crd c κ ∗ posn c κ)
      ⊢ iprop(((due c l ∗ atPos ER ((c : Thread nD τ), semOf (src κ c) κ) (roundK κ + 1) ∅ 0 ∗ reached ER ((c : Thread nD τ), semOf (src κ c) κ) (roundK κ + 1)
          ∗ pay xs ws (src κ c) κ) -∗ WP c (k ⟨⟩) Q) -∗ WP c (.op w k) Q) := by
  subst hsm hn
  unfold due crd posn
  iintro ⟨#HI, ⟨⟨%W, HO⟩, Hl⟩, Hc, Hat⟩ Hk
  ihave Hi := (@INV_cell F _ xs ws K (src κ c) κ) $$ HI
  ihave Hlv := (@INV_lev F _ xs ws K) $$ HI
  iapply (Rounds.wp_wait_rest_token 𝒱₀ ER (Rd xs ws) (c : Thread nD τ) none (κ := K (cellK (src κ c) κ)) hw (Set.mem_univ _) (lvlK κ)
      (O := tallyL (l.map (payOf c))) (W := W) (R := roundK κ) (m := 0) (T := ∅)
      (by rw [← cell_src, expect_one xs ws hκ hb, zero_add])) $$ [Hi Hc HO Hat Hlv]
  · rw [← cell_src]
    isplitl [Hi]; · iexact Hi
    isplitl [Hc]; · iexact Hc
    isplitl [HO]; · iexact HO
    isplitl [Hlv]; · iapply (mayWait_l c _ (lvlK κ) hlv l hl); iexact Hlv
    iexact Hat
  rw [← cell_src, rest_one xs ws hκ hb]
  iintro ⟨HO, Hat, Hr, Hp⟩
  iapply Hk
  isplitl [HO Hl]
  · isplitl [HO]; · iexists _; iexact HO
    iexact Hl
  isplitl [Hat]; · iexact Hat
  isplitl [Hr]; · iexact Hr
  iexact Hp

/-- The wait of the barrier: both neighbors have signalled. -/
theorem step_bar (c : Dev nD) (l : List Kind) (hl : Above 1 l) {sem : Sem sig} (hsem : sem = (⟨4, by decide⟩ : Sem sig)) {wd : BitVec 32} (hwd : wd = 2#32) :
    iprop(INV xs ws K ∗ due c l ∗ crd c (.bar true) ∗ crd c (.bar false) ∗ posn c (.bar true))
      ⊢ iprop(((due c l ∗ atPos ER (barCell c) 1 ∅ 0 ∗ pay xs ws (nxt true c) (.bar true) ∗ pay xs ws (nxt false c) (.bar false)) -∗ WP c (k ⟨⟩) Q)
        -∗ WP c (.op (.semWait sem wd.toInt) k) Q) := by
  subst hsem hwd
  rw [show (2#32 : BitVec 32).toInt = ((2 : ℕ) : Int) from rfl]
  unfold due crd posn
  iintro ⟨#HI, ⟨⟨%W, HO⟩, Hl⟩, Hc1, Hc2, Hat⟩ Hk
  ihave Hi := (@INV_cell F _ xs ws K (nxt true c) (.bar true)) $$ HI
  ihave Hlv := (@INV_lev F _ xs ws K) $$ HI
  have hcell : cellK (nxt true c) (.bar true) = barCell c := cell_src (.bar true) c
  iapply (Rounds.wp_wait_rest_token 𝒱₀ ER (Rd xs ws) (c : Thread nD τ) none (κ := K (barCell c)) (wpE_semWait_eq 𝒱₀ (c : Thread nD τ) none Set.univ) (Set.mem_univ _) 1
      (O := tallyL (l.map (payOf c))) (W := W) (R := 0) (m := 0) (T := ∅) (k' := 2)
      (by rw [show (((c : Thread nD τ), SemLoc.reg (⟨4, by decide⟩ : Sem sig)) : GSem nD τ sig) = barCell c from rfl, expect_bar])) $$ [Hi Hc1 Hc2 HO Hat Hlv]
  · isplitl [Hi]; · rw [hcell]; iexact Hi
    isplitl [Hc1 Hc2]
    · iapply (show iprop(cred (tallyAt (barCell c) 1 1) ∗ cred (tallyAt (barCell c) 1 1)) ⊢ (cred (tallyAt (barCell c) 1 2) : sProp 𝕄) from by
          rw [show (2 : ℕ) = 1 + 1 from rfl, ← tallyAt_add]
          exact (cred_add _ _).2)
      isplitl [Hc1]; · iexact Hc1
      iexact Hc2
    isplitl [HO]; · iexact HO
    isplitl [Hlv]; · iapply (mayWait_l c _ 1 (by decide) l hl); iexact Hlv
    iexact Hat
  rw [show (((c : Thread nD τ), SemLoc.reg (⟨4, by decide⟩ : Sem sig)) : GSem nD τ sig) = barCell c from rfl, rest_bar]
  iintro ⟨HO, Hat, -, Hp1, Hp2⟩
  iapply Hk
  isplitl [HO Hl]
  · isplitl [HO]; · iexists _; iexact HO
    iexact Hl
  isplitl [Hat]; · iexact Hat
  isplitl [Hp1]; · iexact Hp1
  iexact Hp2

theorem slot_credit (d : Bool) (s j : Fin 2) : (slotM d s j).view.dmaCredit = NB := by cases d <;> rfl
theorem row_credit (o : Dev nD) : (rowM o).view.dmaCredit = NR := rfl

/-- A copy of hop `h` to the neighbor. -/
theorem step_send (c : Dev nD) (d : Bool) (j : Fin 2) (h : ℕ) (l : List Kind) (hκ : Kind.send d j h ∈ dueK)
    {dv : Dev nD} {ms md : Memref sig .tc .vmem S128x2048 .f32} {sS sem : SemLoc sig} {hsc : md.view.ref.isScScratch = false}
    {hsrc : ms.view.WordExact} {hdst : md.view.WordExact} {hsem : DmaTarget.Typed .vmem sem (.remote (Dev.tc dv) md sS hsc)}
    (hdv : dv = nxt d c) (hms : ms = srcM d j h) (hmd : md = slotM d (par h) j) (hsS : sS = semOf c (.dep d j h)) (hsm : sem = semOf c (.send d j h)) :
    iprop(INV xs ws K ∗ due c (.send d j h :: l) ∗ srcHas xs d j h c ∗ grant d j h (nxt d c) ∗ rch c (.dep d j h) ∗ rch (nxt d c) (.cred d (h + 1)) ∗ ext d j h c)
      ⊢ iprop(((due c l ∗ crd c (.dep d j h)) -∗ WP c (k ⟨⟩) Q)
        -∗ WP c (.op (.enqueueDma ms (.remote (Dev.tc dv) md sS hsc) sem hsrc hdst hsem) k) Q) := by
  subst hdv hms hmd hsS hsm
  unfold grant any
  iintro ⟨#HI, Hdue, Hsrc, ⟨⟨%fd, Hd⟩, Hr1⟩, Hr2, Hr3, Hx⟩ Hk
  ihave Hdue := (due_cons c (.send d j h) l) $$ Hdue
  unfold due
  simp only [depOf, depTok]
  unfold tok
  icases Hdue with ⟨⟨%W, HO⟩, Ht1, Ht2, Hl⟩
  ihave Hsrc := (show srcHas (F := F) xs d j h c ⊢ View.loc (c : Thread nD τ) (srcM d j h).view ↦[(srcM d j h).view.set]{srcShare d j h} (srcM d j h).view.rep (xh xs (org d h c) j) from .rfl) $$ Hsrc
  ihave Hr2 := (show rch (F := F) c (.dep d j h) ⊢ reached ER ((c : Thread nD τ), semOf c (.dep d j h)) (roundK (.dep d j h)) from .rfl) $$ Hr2
  rw [frm_nxt]
  ihave Hr1 := (show rch (F := F) c (.send d j h) ⊢ reached ER (((nxt d c : Dev nD) : Thread nD τ), semOf c (.send d j h)) (roundK (.send d j h)) from .rfl) $$ Hr1
  ihave Hi1 := (@INV_cell F _ xs ws K c (.dep d j h)) $$ HI
  ihave Hi2 := (@INV_cell F _ xs ws K c (.send d j h)) $$ HI
  iapply (Rounds.wp_send_pointsTo_with 𝒱₀ ER (Rd xs ws) (c : Thread nD τ) none (c' := ((nxt d c : Dev nD) : Thread nD τ))
      (src := srcM d j h) (dst := slotM d (par h) j) (q := srcShare d j h) (fs := (srcM d j h).view.rep (xh xs (org d h c) j)) (fd := fd)
      (F := iprop(rch (nxt d c) (.cred d (h + 1)) ∗ ext d j h c))
      (d₁ := (c, Kind.dep d j h)) (d₂ := (c, Kind.send d j h)) (r₁ := roundK (.dep d j h)) (r₂ := roundK (.send d j h))
      (κ₁ := K (cellK c (.dep d j h))) (κ₂ := K (cellK c (.send d j h)))
      (mem_duties xs ws (p := c) (κ := .dep d j h) (mem_allK_dep hκ rfl)) (mem_duties xs ws (p := c) (κ := .send d j h) (mem_allK_of_due hκ))
      (lvlK (.send d j h)) (lvlK (.dep d j h)) NB (by cases d <;> rfl) rfl rfl
      (O₀ := tallyL ((Kind.send d j h :: l).map (payOf c))) (tallyL (l.map (payOf c))) (tally_cons c (.send d j h) l) (W := W)
      .rfl
      (show _ ⊢ pay xs ws c (.send d j h) from by
        unfold pay has
        rw [View.read_rep]
        refine sep_mono_left ?_
        refine Entails.of_eq ?_
        have := pointsTo_rep (Ix := ℕ) (Name := ℕ) (U := UU) (Lvl := ℕ) ((nxt d c : Dev nD) : Thread nD τ) (slotM d (par h) j)
          ((slotM d (par h) j).view.write (Elt F) fd (xh xs (org d h c) j) Finset.univ) fullShare
        rw [View.read_write_univ] at this
        exact this)) $$ [Hi1 Hi2 Hsrc Hd Hr1 Hr2 Hr3 HO Ht1 Ht2 Hx]
  · isplitl [Hi1]; · iexact Hi1
    isplitl [Hi2]; · iexact Hi2
    isplitl [Hsrc]; · iexact Hsrc
    isplitl [Hd Hr3 Hx]
    · isplitl [Hd]; · iexact Hd
      isplitl [Hr3]; · iexact Hr3
      iexact Hx
    isplitl [HO]; · iexact HO
    isplitl [Ht2]; · iexact Ht2
    isplitl [Hr2]; · iexact Hr2
    isplitl [Ht1]; · iexact Ht1
    iexact Hr1
  iintro ⟨Hc, HO⟩
  iapply Hk
  isplitl [HO Hl]
  · isplitl [HO]; · iexists _; iexact HO
    iexact Hl
  unfold crd
  iexact Hc

/-- A copy of the maximum's row to the device `jj` away. -/
theorem step_amax (c : Dev nD) (jj : Fin 32) (l : List Kind) (hκ : Kind.amax jj ∈ dueK)
    {dv : Dev nD} {ms md : Memref sig .tc .vmem S1x128 .f32} {sS sem : SemLoc sig} {hsc : md.view.ref.isScScratch = false}
    {hsrc : ms.view.WordExact} {hdst : md.view.WordExact} {hsem : DmaTarget.Typed .vmem sem (.remote (Dev.tc dv) md sS hsc)}
    (hdv : dv = shift jj c) (hms : ms = asM) (hmd : md = rowM c) (hsS : sS = semOf c (.adep jj)) (hsm : sem = semOf c (.amax jj)) :
    iprop(INV xs ws K ∗ due c (.amax jj :: l) ∗ has c asM (rShare jj.val).left (amRow xs ws c) ∗ rowRes (shift jj c) c ∗ rch c (.adep jj))
      ⊢ iprop(((due c l ∗ crd c (.adep jj)) -∗ WP c (k ⟨⟩) Q)
        -∗ WP c (.op (.enqueueDma ms (.remote (Dev.tc dv) md sS hsc) sem hsrc hdst hsem) k) Q) := by
  subst hdv hms hmd hsS hsm
  unfold rowRes any
  iintro ⟨#HI, Hdue, Hsrc, ⟨⟨%fd, Hd⟩, Hr1⟩, Hr2⟩ Hk
  ihave Hdue := (due_cons c (.amax jj) l) $$ Hdue
  unfold due
  simp only [depOf, depTok]
  unfold tok
  icases Hdue with ⟨⟨%W, HO⟩, Ht1, Ht2, Hl⟩
  ihave Hsrc := (show has c asM (rShare jj.val).left (amRow xs ws c) ⊢ View.loc (c : Thread nD τ) asM.view ↦[asM.view.set]{(rShare jj.val).left} asM.view.rep (amRow xs ws c) from .rfl) $$ Hsrc
  ihave Hr2 := (show rch (F := F) c (.adep jj) ⊢ reached ER ((c : Thread nD τ), semOf c (.adep jj)) (roundK (.adep jj)) from .rfl) $$ Hr2
  ihave Hi1 := (@INV_cell F _ xs ws K c (.adep jj)) $$ HI
  ihave Hi2 := (@INV_cell F _ xs ws K c (.amax jj)) $$ HI
  iapply (Rounds.wp_send_pointsTo 𝒱₀ ER (Rd xs ws) (c : Thread nD τ) none (c' := ((shift jj c : Dev nD) : Thread nD τ))
      (src := asM) (dst := rowM c) (q := (rShare jj.val).left) (fs := asM.view.rep (amRow xs ws c)) (fd := fd)
      (d₁ := (c, Kind.adep jj)) (d₂ := (c, Kind.amax jj)) (r₁ := roundK (.adep jj)) (r₂ := roundK (.amax jj))
      (κ₁ := K (cellK c (.adep jj))) (κ₂ := K (cellK c (.amax jj)))
      (mem_duties xs ws (p := c) (κ := .adep jj) (mem_allK_dep hκ rfl)) (mem_duties xs ws (p := c) (κ := .amax jj) (mem_allK_of_due hκ))
      (lvlK (.amax jj)) (lvlK (.adep jj)) NR rfl rfl rfl
      (O₀ := tallyL ((Kind.amax jj :: l).map (payOf c))) (tallyL (l.map (payOf c))) (tally_cons c (.amax jj) l) (W := W)
      .rfl
      (show _ ⊢ pay xs ws c (.amax jj) from by
        unfold pay has
        rw [View.read_rep]
        refine Entails.of_eq ?_
        have := pointsTo_rep (Ix := ℕ) (Name := ℕ) (U := UU) (Lvl := ℕ) ((shift jj c : Dev nD) : Thread nD τ) (rowM c)
          ((rowM c).view.write (Elt F) fd (amRow xs ws c) Finset.univ) fullShare
        rw [View.read_write_univ] at this
        exact this)) $$ [Hi1 Hi2 Hsrc Hd Hr1 Hr2 HO Ht1 Ht2]
  · isplitl [Hi1]; · iexact Hi1
    isplitl [Hi2]; · iexact Hi2
    isplitl [Hsrc]; · iexact Hsrc
    isplitl [Hd]; · iexact Hd
    isplitl [HO]; · iexact HO
    isplitl [Ht2]; · iexact Ht2
    isplitl [Hr2]; · iexact Hr2
    isplitl [Ht1]; · iexact Ht1
    iexact Hr1
  iintro ⟨Hc, HO⟩
  iapply Hk
  isplitl [HO Hl]
  · isplitl [HO]; · iexists _; iexact HO
    iexact Hl
  unfold crd
  iexact Hc

end Cert.RingGemm

end
-- ==== Proof.Waits.lean ====
/-
Each wait of the kernel, with what it brings, and the kernel's loads and stores.
-/
module

public import proofs.«01_k».proof.Proof.Steps

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay Pay.tally tallyL tallyL_pos Fam)
open Idealize.ShloMosaic.SiteBlocks (L lv mayWait_of mem_L')

variable {F : FTy → Type} [FloatOps F]

local notation "𝕄" => MT nD τ sig ℕ (Elt F) ℕ UU ℕ

variable (xs : Dev nD → (S128x4096.Idx → Elt F .f32)) (ws : Dev nD → (S4096x256.Idx → Elt F .f32)) (K : GSem nD τ sig → ℕ)

/-! ## A cell after a payment: before the next one but one -/

theorem semOf_two (p : Dev nD) (d : Bool) (j : Fin 2) (h : ℕ) : semOf p (.send d j (h + 2)) = semOf p (.send d j h) := by
  simp only [semOf, Nat.add_mod_right]
theorem semOf_dep_two (p : Dev nD) (d : Bool) (j : Fin 2) (h : ℕ) : semOf p (.dep d j (h + 2)) = semOf p (.dep d j h) := by
  simp only [semOf, Nat.add_mod_right]
theorem semOf_cred_two (p : Dev nD) (d : Bool) (h : ℕ) : semOf p (.cred d (h + 2)) = semOf p (.cred d h) := by
  simp only [semOf, show h + 2 + 1 = h + 1 + 2 from by omega, Nat.add_mod_right]

theorem round_send_two (d : Bool) (j : Fin 2) (h : ℕ) : roundK (.send d j h) + 1 = roundK (.send d j (h + 2)) := by simp only [roundK]; omega
theorem round_dep_two (d : Bool) (j : Fin 2) (h : ℕ) : roundK (.dep d j h) + 1 = roundK (.dep d j (h + 2)) := by simp only [roundK]; omega
theorem round_cred_two (d : Bool) (h : ℕ) (h1 : 1 ≤ h) : roundK (.cred d h) + 1 = roundK (.cred d (h + 2)) := by simp only [roundK]; omega

theorem posn_send (c : Dev nD) (d : Bool) (j : Fin 2) (h : ℕ) :
    atPos ER ((c : Thread nD τ), semOf (src (.send d j h) c) (.send d j h)) (roundK (.send d j h) + 1) ∅ 0 = (posn c (.send d j (h + 2)) : sProp 𝕄) := by
  unfold posn
  rw [show semOf (src (.send d j (h + 2)) c) (.send d j (h + 2)) = semOf (src (.send d j h) c) (.send d j h) from semOf_two _ d j h, ← round_send_two d j h]

theorem rch_send (c : Dev nD) (d : Bool) (j : Fin 2) (h : ℕ) :
    reached ER ((c : Thread nD τ), semOf (src (.send d j h) c) (.send d j h)) (roundK (.send d j h) + 1) = (rch (frm d c) (.send d j (h + 2)) : sProp 𝕄) := by
  unfold rch
  rw [show cellK (frm d c) (.send d j (h + 2)) = ((c : Thread nD τ), semOf (src (.send d j h) c) (.send d j h)) from by
    rw [← show semOf (src (.send d j (h + 2)) c) (.send d j (h + 2)) = semOf (src (.send d j h) c) (.send d j h) from semOf_two _ d j h]
    exact cell_src (.send d j (h + 2)) c, ← round_send_two d j h]

theorem posn_cred (c : Dev nD) (d : Bool) (h : ℕ) (h1 : 1 ≤ h) :
    atPos ER ((c : Thread nD τ), semOf (src (.cred d h) c) (.cred d h)) (roundK (.cred d h) + 1) ∅ 0 = (posn c (.cred d (h + 2)) : sProp 𝕄) := by
  unfold posn
  rw [show semOf (src (.cred d (h + 2)) c) (.cred d (h + 2)) = semOf (src (.cred d h) c) (.cred d h) from semOf_cred_two _ d h, ← round_cred_two d h h1]

theorem rch_cred (c : Dev nD) (d : Bool) (h : ℕ) (h1 : 1 ≤ h) :
    reached ER ((c : Thread nD τ), semOf (src (.cred d h) c) (.cred d h)) (roundK (.cred d h) + 1) = (rch (nxt d c) (.cred d (h + 2)) : sProp 𝕄) := by
  unfold rch
  rw [show cellK (nxt d c) (.cred d (h + 2)) = ((c : Thread nD τ), semOf (src (.cred d h) c) (.cred d h)) from by
    rw [← show semOf (src (.cred d (h + 2)) c) (.cred d (h + 2)) = semOf (src (.cred d h) c) (.cred d h) from semOf_cred_two _ d h]
    exact cell_src (.cred d (h + 2)) c, ← round_cred_two d h h1]

theorem posn_dep (c : Dev nD) (d : Bool) (j : Fin 2) (h : ℕ) :
    atPos ER ((c : Thread nD τ), semOf (src (.dep d j h) c) (.dep d j h)) (roundK (.dep d j h) + 1) ∅ 0 = (posn c (.dep d j (h + 2)) : sProp 𝕄) := by
  unfold posn
  rw [show semOf (src (.dep d j (h + 2)) c) (.dep d j (h + 2)) = semOf (src (.dep d j h) c) (.dep d j h) from semOf_dep_two _ d j h, ← round_dep_two d j h]

theorem rch_dep (c : Dev nD) (d : Bool) (j : Fin 2) (h : ℕ) :
    reached ER ((c : Thread nD τ), semOf (src (.dep d j h) c) (.dep d j h)) (roundK (.dep d j h) + 1) = (rch (c) (.dep d j (h + 2)) : sProp 𝕄) := by
  unfold rch
  rw [show cellK (c) (.dep d j (h + 2)) = ((c : Thread nD τ), semOf (src (.dep d j h) c) (.dep d j h)) from by
    rw [← show semOf (src (.dep d j (h + 2)) c) (.dep d j (h + 2)) = semOf (src (.dep d j h) c) (.dep d j h) from semOf_dep_two _ d j h]
    exact cell_src (.dep d j (h + 2)) c, ← round_dep_two d j h]

/-- A row dealt to this device by the hop `h` payment. -/
def got (d : Bool) (j : Fin 2) (h : ℕ) (c : Dev nD) : sProp 𝕄 := if h < lim d j then rowRes (org d (h + 1) c) c else iprop(emp)

theorem ext_frm (d : Bool) (j : Fin 2) (h : ℕ) (c : Dev nD) : ext (F := F) d j h (frm d c) ⊢ iprop(got d j h c ∗ ext d j (h + 1) c) := by
  unfold ext got
  rw [org_frm]
  by_cases hl : h < lim d j
  · rw [if_pos hl, show Finset.Ico h (lim d j) = insert h (Finset.Ico (h + 1) (lim d j)) from by ext t; rw [Finset.mem_insert, Finset.mem_Ico, Finset.mem_Ico]; omega,
      bigSep_insert (by rw [Finset.mem_Ico]; omega), dst_org]
    exact .rfl
  · rw [if_neg hl, Finset.Ico_eq_empty_of_le (by omega), Finset.Ico_eq_empty_of_le (by omega), bigSep_empty]
    exact BIClass.emp_sep.2

variable {α : Type} {Q : α → sProp (MT nD τ sig ℕ (Elt F) ℕ UU ℕ)} {k : PUnit → Prog (TpuEff nD τ sig (Elt F) Λ₀ .tc) α}

/-- The wait for the landing of hop `h`. -/
theorem wait_recv (c : Dev nD) (d : Bool) (j : Fin 2) (h : ℕ) (l : List Kind) (hκ : Kind.send d j h ∈ dueK) (hl : Above (h + 2) l) (hlv : h + 2 < NL)
    {sp : Space} {s : Shape} {e : EltTy} {sem : DmaSem sig} {ms : Memref sig .tc sp s e} {md : Memref sig .tc .vmem S128x2048 .f32}
    {hsrc : ms.view.WordExact} {hdst : md.view.WordExact} {s' : Fin 2}
    (hsm : SemLoc.dma sem = semOf c (.send d j h)) (hmd : md = slotM d s' j) :
    iprop(INV xs ws K ∗ due c l ∗ crd c (.send d j h) ∗ posn c (.send d j h))
      ⊢ iprop(((due c l ∗ posn c (.send d j (h + 2)) ∗ rch (frm d c) (.send d j (h + 2)) ∗ has c (slotM d (par h) j) fullShare (xh xs (org d (h + 1) c) j)
          ∗ rch c (.cred d (h + 1)) ∗ got d j h c ∗ ext d j (h + 1) c) -∗ WP c (k ⟨⟩) Q)
        -∗ WP c (.op (.waitDma2 sem ms md hsrc hdst) k) Q) := by
  iintro H Hk
  iapply (step_wait xs ws K c (.send d j h) l (mem_allK_of_due hκ) (fun _ e => by cases e) hl hlv (wpE_waitDma2_eq 𝒱₀ (c : Thread nD τ) none Set.univ)
    hsm (by rw [hmd]; exact slot_credit d s' j)) $$ H
  rw [posn_send c d j h, rch_send c d j h]
  iintro ⟨H1, H2, H3, H4⟩
  iapply Hk
  isplitl [H1]; · iexact H1
  isplitl [H2]; · iexact H2
  isplitl [H3]; · iexact H3
  iapply (show pay xs ws (frm d c) (.send d j h) ⊢ iprop(has c (slotM d (par h) j) fullShare (xh xs (org d (h + 1) c) j)
          ∗ rch c (.cred d (h + 1)) ∗ got d j h c ∗ ext d j (h + 1) c) from by
    simp only [pay]
    rw [nxt_frm, org_frm]
    exact sep_mono_right (sep_mono_right (ext_frm d j h c)))
  iexact H4

/-- The wait for a credit. -/
theorem wait_cred (c : Dev nD) (d : Bool) (h : ℕ) (l : List Kind) (h1 : 1 ≤ h) (hκ : Kind.cred d h ∈ dueK) (hl : Above (h + 2) l) (hlv : h + 2 < NL)
    {sem : Sem sig} {wd : BitVec 32} (hwd : wd = 1#32) (hsm : SemLoc.reg sem = semOf c (.cred d h)) :
    iprop(INV xs ws K ∗ due c l ∗ crd c (.cred d h) ∗ posn c (.cred d h))
      ⊢ iprop(((due c l ∗ posn c (.cred d (h + 2)) ∗ rch (nxt d c) (.cred d (h + 2)) ∗ grant d (lastJ d) (h + 1) (nxt d c)
          ∗ (if h = 14 then iprop(emp) else grant d (othJ d) (h + 1) (nxt d c))) -∗ WP c (k ⟨⟩) Q)
        -∗ WP c (.op (.semWait sem wd.toInt) k) Q) := by
  subst hwd
  iintro H Hk
  iapply (step_wait xs ws K c (.cred d h) l (mem_allK_of_due hκ) (fun _ e => by cases e) hl hlv (wpE_semWait_eq 𝒱₀ (c : Thread nD τ) none Set.univ)
    hsm rfl) $$ H
  rw [posn_cred c d h h1, rch_cred c d h h1]
  iintro ⟨H1, H2, H3, H4⟩
  iapply Hk
  isplitl [H1]; · iexact H1
  isplitl [H2]; · iexact H2
  isplitl [H3]; · iexact H3
  iapply (show pay xs ws (nxt d c) (.cred d h) ⊢ iprop(grant d (lastJ d) (h + 1) (nxt d c) ∗ (if h = 14 then iprop(emp) else grant d (othJ d) (h + 1) (nxt d c))) from .rfl)
  iexact H4

/-- The credit of a half block depends on its shape alone. -/
theorem half_credit (md : Memref sig .tc .vmem S128x2048 .f32) : md.view.dmaCredit = NB := rfl

/-- The credit of a row depends on its shape alone. -/
theorem row_credit' (md : Memref sig .tc .vmem S1x128 .f32) : md.view.dmaCredit = NR := rfl

/-- The wait for the return of a source. -/
theorem wait_dep (c : Dev nD) (d : Bool) (j : Fin 2) (h : ℕ) (l : List Kind) (hκ : Kind.send d j h ∈ dueK) (hl : Above 0 l)
    {sp : Space} {s : Shape} {e : EltTy} {sem : DmaSem sig} {ms : Memref sig .tc sp s e} {md : Memref sig .tc .vmem S128x2048 .f32}
    {hsrc : ms.view.WordExact} {hdst : md.view.WordExact}
    (hsm : SemLoc.dma sem = semOf c (.dep d j h)) :
    iprop(INV xs ws K ∗ due c l ∗ crd c (.dep d j h) ∗ posn c (.dep d j h))
      ⊢ iprop(((due c l ∗ posn c (.dep d j (h + 2)) ∗ rch c (.dep d j (h + 2)) ∗ srcHas xs d j h c) -∗ WP c (k ⟨⟩) Q)
        -∗ WP c (.op (.waitDma2 sem ms md hsrc hdst) k) Q) := by
  iintro H Hk
  iapply (step_wait xs ws K c (.dep d j h) l (mem_allK_dep hκ rfl) (fun _ e => by cases e) hl (show 0 < NL by decide) (wpE_waitDma2_eq 𝒱₀ (c : Thread nD τ) none Set.univ)
    hsm (half_credit md)) $$ H
  rw [posn_dep c d j h, rch_dep c d j h]
  iintro ⟨H1, H2, H3, H4⟩
  iapply Hk
  isplitl [H1]; · iexact H1
  isplitl [H2]; · iexact H2
  isplitl [H3]; · iexact H3
  iapply (show pay xs ws c (.dep d j h) ⊢ srcHas xs d j h c from .rfl)
  iexact H4

/-- The wait for the maximum of the device `jj` before. -/
theorem wait_amax (c : Dev nD) (jj : Fin 32) (hκ : Kind.amax jj ∈ dueK)
    {sp : Space} {s : Shape} {e : EltTy} {sem : DmaSem sig} {ms : Memref sig .tc sp s e} {md : Memref sig .tc .vmem S1x128 .f32}
    {hsrc : ms.view.WordExact} {hdst : md.view.WordExact}
    (hsm : SemLoc.dma sem = semOf (unshift jj c) (.amax jj)) :
    iprop(INV xs ws K ∗ due c [] ∗ crd c (.amax jj) ∗ posn c (.amax jj))
      ⊢ iprop(((due c [] ∗ atPos ER ((c : Thread nD τ), semOf (unshift jj c) (.amax jj)) 1 ∅ 0 ∗ has c (rowM (unshift jj c)) fullShare (amRow xs ws (unshift jj c))) -∗ WP c (k ⟨⟩) Q)
        -∗ WP c (.op (.waitDma2 sem ms md hsrc hdst) k) Q) := by
  iintro H Hk
  iapply (step_wait xs ws K c (.amax jj) [] (mem_allK_of_due hκ) (fun _ e => by cases e) (show Above 18 [] by decide) (show 18 < NL by decide) (wpE_waitDma2_eq 𝒱₀ (c : Thread nD τ) none Set.univ)
    hsm (row_credit' md)) $$ H
  iintro ⟨H1, H2, -, H4⟩
  iapply Hk
  isplitl [H1]; · iexact H1
  isplitl [H2]; · iexact H2
  iapply (show pay xs ws (unshift jj c) (.amax jj) ⊢ has c (rowM (unshift jj c)) fullShare (amRow xs ws (unshift jj c)) from by
    simp only [pay]
    rw [shift_unshift])
  iexact H4

/-- The wait for the return of the maximum's row. -/
theorem wait_adep (c : Dev nD) (jj : Fin 32) (hκ : Kind.amax jj ∈ dueK)
    {sp : Space} {s : Shape} {e : EltTy} {sem : DmaSem sig} {ms : Memref sig .tc sp s e} {md : Memref sig .tc .vmem S1x128 .f32}
    {hsrc : ms.view.WordExact} {hdst : md.view.WordExact}
    (hsm : SemLoc.dma sem = semOf c (.adep jj)) :
    iprop(INV xs ws K ∗ due c [] ∗ crd c (.adep jj) ∗ posn c (.adep jj))
      ⊢ iprop(((due c [] ∗ atPos ER ((c : Thread nD τ), semOf c (.adep jj)) 1 ∅ 0 ∗ has c asM (rShare jj.val).left (amRow xs ws c)) -∗ WP c (k ⟨⟩) Q)
        -∗ WP c (.op (.waitDma2 sem ms md hsrc hdst) k) Q) := by
  iintro H Hk
  iapply (step_wait xs ws K c (.adep jj) [] (mem_allK_dep hκ rfl) (fun _ e => by cases e) (show Above 0 [] by decide) (show 0 < NL by decide) (wpE_waitDma2_eq 𝒱₀ (c : Thread nD τ) none Set.univ)
    hsm (row_credit' md)) $$ H
  iintro ⟨H1, H2, -, H4⟩
  iapply Hk
  isplitl [H1]; · iexact H1
  isplitl [H2]; · iexact H2
  iapply (show pay xs ws c (.adep jj) ⊢ has c asM (rShare jj.val).left (amRow xs ws c) from .rfl)
  iexact H4

end Cert.RingGemm

end
-- ==== Proof.Mem.lean ====
/-
The kernel's loads and stores on its own buffers.
-/
module

public import proofs.«01_k».proof.Proof.Waits
public import Idealize.ShloMosaic.Lib.Pipeline.Value
public import Idealize.ShloMosaic.Lib.ReshapeSlab

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Entailments from one hypothesis after another -/

section
variable {M : Type} [URA M] {A B C D E G H R : sProp M}
theorem cur2 (h : iprop(A ∗ B) ⊢ R) : A ⊢ iprop(B -∗ R) := by
  iintro HA HB; iapply h; isplitl [HA]; · iexact HA
  iexact HB
theorem cur3 (h : iprop(A ∗ B ∗ C) ⊢ R) : A ⊢ iprop(B -∗ C -∗ R) := by
  iintro HA HB HC; iapply h; isplitl [HA]; · iexact HA
  isplitl [HB]; · iexact HB
  iexact HC
theorem cur4 (h : iprop(A ∗ B ∗ C ∗ D) ⊢ R) : A ⊢ iprop(B -∗ C -∗ D -∗ R) := by
  iintro HA HB HC HD; iapply h; isplitl [HA]; · iexact HA
  isplitl [HB]; · iexact HB
  isplitl [HC]; · iexact HC
  iexact HD
theorem cur5 (h : iprop(A ∗ B ∗ C ∗ D ∗ E) ⊢ R) : A ⊢ iprop(B -∗ C -∗ D -∗ E -∗ R) := by
  iintro HA HB HC HD HE; iapply h; isplitl [HA]; · iexact HA
  isplitl [HB]; · iexact HB
  isplitl [HC]; · iexact HC
  isplitl [HD]; · iexact HD
  iexact HE
theorem cur7 (h : iprop(A ∗ B ∗ C ∗ D ∗ E ∗ G ∗ H) ⊢ R) : A ⊢ iprop(B -∗ C -∗ D -∗ E -∗ G -∗ H -∗ R) := by
  iintro HA HB HC HD HE HG HH; iapply h; isplitl [HA]; · iexact HA
  isplitl [HB]; · iexact HB
  isplitl [HC]; · iexact HC
  isplitl [HD]; · iexact HD
  isplitl [HE]; · iexact HE
  isplitl [HG]; · iexact HG
  iexact HH
end

variable (xs : Dev nD → (S128x4096.Idx → Elt F .f32)) (ws : Dev nD → (S4096x256.Idx → Elt F .f32))

variable {α : Type} {Q : α → sProp (MT nD τ sig ℕ (Elt F) ℕ UU ℕ)}

/-! ## A landing slot -/

theorem slot_sub (d : Bool) (s j : Fin 2) : (commM d).view.setOn (slotR s j).toLoadRect.set ⊆ (slotM d s j).view.set := by
  have e : (slotM d s j).view.set = (commM d).view.setOn (slotR s j).toLoadRect.set :=
    (Memref.set_view_squeeze ((commM d).slice (slotR s j) (fun _ => rfl)) squeezes_S1x1x128x2048_S128x2048).trans (View.set_slice _ _)
  exact e.ge

/-- A load of a slot, by one of its shares. -/
theorem load_slot (c : Dev nD) (d : Bool) (s j : Fin 2) (q : PosShare TreeShare) (v : S128x2048.Idx → Elt F .f32)
    {off : Fin 4 → ℕ} {inb : ∀ a, off a + S1x1x128x2048.size a ≤ S2x2x128x2048.size a} {m : Memref sig .tc .vmem S2x2x128x2048 .f32}
    {hl : m.view.LoadsAt (Rect.unit (s := S2x2x128x2048) off S1x1x128x2048.size inb).toLoadRect}
    {k : (S1x1x128x2048.Idx → Elt F .f32) → Prog (TpuEff nD τ sig (Elt F) Λ₀ .tc) α}
    (hoff : off = ![s.val, j.val, 0, 0]) (hm : m = commM d) :
    has c (slotM d s j) q v ⊢ iprop((∀ w, ⌜shapeCast S128x2048 w shapeCasts_S1x1x128x2048_S128x2048 = v⌝ -∗ has c (slotM d s j) q v -∗ WP c (k w) Q)
      -∗ WP c (.op (.load m (Rect.unit (s := S2x2x128x2048) off S1x1x128x2048.size inb).toLoadRect hl) k) Q) := by
  subst hoff hm
  have hr : shapeCast S128x2048 ((commM d).view.readAt (Elt F) (slotR s j).toLoadRect ((slotM d s j).view.rep v)) shapeCasts_S1x1x128x2048_S128x2048 = v := by
    exact (Memref.read_squeeze_slice (commM d) (slotR s j) (fun _ => rfl) squeezes_S1x1x128x2048_S128x2048 shapeCasts_S1x1x128x2048_S128x2048 ((slotM d s j).view.rep v)).symm.trans (View.read_rep _ v)
  refine BIBase.Entails.trans (wp_load (Val := Elt F) 𝒱₀ (c : Thread nD τ) none Set.univ (Γ := []) (defs := defs₀ (F := F)) (m := commM d) (r := (slotR s j).toLoadRect) (hl := hl) (k := k) (Q := Q) (q := q)
    (f := (slotM d s j).view.rep v) (slot_sub d s j)) ?_
  iintro H Hk
  iapply H
  iintro H
  ihave H := (show iprop((commM d).view.loc (c : Thread nD τ) ↦[(slotM d s j).view.set]{q} (slotM d s j).view.rep v) ⊢ has c (slotM d s j) q v from .rfl) $$ H
  iapply Hk $$ %_ %hr H

/-! ## The device's rows of x, its columns of w, and the table of the ring -/

/-- A load of half the columns of x. -/
theorem load_x (c : Dev nD) (j : Fin 2) (q : PosShare TreeShare)
    {off : Fin 2 → ℕ} {inb : ∀ a, off a + S128x2048.size a ≤ S128x4096.size a}
    {hl : xM.view.LoadsAt (Rect.unit (s := S128x4096) off S128x2048.size inb).toLoadRect}
    {k : (S128x2048.Idx → Elt F .f32) → Prog (TpuEff nD τ sig (Elt F) Λ₀ .tc) α}
    (hoff : off = ![0, 2048 * j.val]) :
    iprop(xM.view.loc (c : Thread nD τ) ↦[Finset.univ]{q} xs c) ⊢ iprop((iprop(xM.view.loc (c : Thread nD τ) ↦[Finset.univ]{q} xs c) -∗ WP c (k (xh xs c j)) Q)
      -∗ WP c (.op (.load xM (Rect.unit (s := S128x4096) off S128x2048.size inb).toLoadRect hl) k) Q) := by
  subst hoff
  exact wp_load 𝒱₀ (c : Thread nD τ) none Set.univ (m := xM) (r := (halfR j).toLoadRect) (Finset.subset_univ _)

/-- A load of half the rows of w. -/
theorem load_w (c : Dev nD) (j : Fin 2) (q : PosShare TreeShare)
    {off : Fin 2 → ℕ} {inb : ∀ a, off a + S2048x256.size a ≤ S4096x256.size a}
    {hl : wM.view.LoadsAt (Rect.unit (s := S4096x256) off S2048x256.size inb).toLoadRect}
    {k : (S2048x256.Idx → Elt F .f32) → Prog (TpuEff nD τ sig (Elt F) Λ₀ .tc) α}
    (hoff : off = ![2048 * j.val, 0]) :
    iprop(wM.view.loc (c : Thread nD τ) ↦[Finset.univ]{q} ws c) ⊢ iprop((∀ w, ⌜shapeCast S2048x256 w shapeCasts_S2048x256_S2048x256 = wh ws c j⌝ -∗ iprop(wM.view.loc (c : Thread nD τ) ↦[Finset.univ]{q} ws c) -∗ WP c (k w) Q)
      -∗ WP c (.op (.load wM (Rect.unit (s := S4096x256) off S2048x256.size inb).toLoadRect hl) k) Q) := by
  subst hoff
  iintro H Hk
  iapply (wp_load 𝒱₀ (c : Thread nD τ) none Set.univ (m := wM) (r := (whalfR j).toLoadRect) (Finset.subset_univ _)) $$ H
  iintro H
  iapply Hk $$ %_ %rfl H

/-- The device each word of the ring's table names. -/
def idN (c : Dev nD) (n : ℕ) : Dev nD :=
  if n = 0 then nxt true c else if n = 1 then nxt false c else if n < 18 then org true (n - 1) c else org false (n - 17) c

/-- The ring's table as the kernel is given it. -/
def idsOf (c : Dev nD) : S33.Idx → Elt F .i32 := fun i => BitVec.ofNat 32 (idN c (i 0).val).val

/-- A load of a word of the table. -/
theorem load_id (c : Dev nD) (n : ℕ) (o : Dev nD) (q : PosShare TreeShare) (ho : idN c n = o)
    {off : Fin 1 → ℕ} {inb : ∀ a, off a + S1.size a ≤ S33.size a} {hl : idM.view.LoadsAt (Rect.unit (s := S33) off S1.size inb).toLoadRect}
    {k : (S1.Idx → Elt F .i32) → Prog (TpuEff nD τ sig (Elt F) Λ₀ .tc) α}
    (hoff : off = ![n]) :
    iprop(idM.view.loc (c : Thread nD τ) ↦[Finset.univ]{q} idsOf (F := F) c) ⊢ iprop((iprop(idM.view.loc (c : Thread nD τ) ↦[Finset.univ]{q} idsOf (F := F) c) -∗ WP c (k (fun _ => BitVec.ofNat 32 o.val)) Q)
      -∗ WP c (.op (.load idM (Rect.unit (s := S33) off S1.size inb).toLoadRect hl) k) Q) := by
  subst hoff ho
  have e : idM.view.readAt (Elt F) (Rect.unit (s := S33) ![n] S1.size inb).toLoadRect (idsOf (F := F) c) = fun _ => BitVec.ofNat 32 (idN c n).val := by
    funext x
    show BitVec.ofNat 32 (idN c (n + 1 * (x 0).val)).val = _
    rw [show (x 0).val = 0 from by have : (x 0).val < 1 := (x 0).isLt; omega]
    simp
  iintro H Hk
  iapply (wp_load 𝒱₀ (c : Thread nD τ) none Set.univ (m := idM) (r := (Rect.unit (s := S33) ![n] S1.size inb).toLoadRect) (Finset.subset_univ _)) $$ H
  iintro H
  rw [e]
  iapply Hk; iexact H

/-- A condition the program states and that holds. -/
theorem step_assume (c : Dev nD) {P : Prop} {dP : Decidable P} {k : PLift P → Prog (TpuEff nD τ sig (Elt F) Λ₀ .tc) α} (h : P) :
    WP c (k ⟨h⟩) Q ⊢ WP c (.op (.assume P dP) k) Q := by
  have := wp_assume_of (Ix := ℕ) (Val := Elt F) (Name := ℕ) (U := UU) (Lvl := ℕ) (defs := defs₀ (F := F)) 𝒱₀ (c : Thread nD τ) none Set.univ (d := dP) (k := k) (Q := Q) h
  exact this.ge

/-- The end of a program, and a program before another. -/
theorem step_ret (c : Dev nD) (a : α) : Q a ⊢ WP c (.ret a) Q := by
  show Q a ⊢ wp frame (wpE (defs₀ (F := F)) 𝒱₀ (c : Thread nD τ) none) Set.univ (.ret a) Q
  rw [wp_ret]; iintro H; imodintro; iexact H
theorem step_bind (c : Dev nD) {β : Type} (p : Prog (TpuEff nD τ sig (Elt F) Λ₀ .tc) β) (k : β → Prog (TpuEff nD τ sig (Elt F) Λ₀ .tc) α) :
    WP c p (fun r => WP c (k r) Q) ⊢ WP c (p >>= k) Q := by
  show _ ⊢ wp frame (wpE (defs₀ (F := F)) 𝒱₀ (c : Thread nD τ) none) Set.univ (p >>= k) Q
  rw [wp_bind]

/-! ## The result -/

/-- The result's buffer, its blocks of rows `P` done. -/
def outHas (c : Dev nD) (P : Dev nD → Prop) : sProp 𝕄 :=
  iprop(∃ f : Buf (Elt F) (oM.view.loc (c : Thread nD τ)), ⌜∀ o, P o → (oM.access (blockR o)).read (Elt F) f = blk xs ws c o⌝ ∗ oM.view.loc (c : Thread nD τ) ↦[Finset.univ]{fullShare} f)

theorem outHas_mono (c : Dev nD) {P P' : Dev nD → Prop} (h : ∀ o, P' o → P o) : outHas xs ws c P ⊢ outHas xs ws c P' := by
  unfold outHas
  iintro ⟨%f, %hf, H⟩
  iexists f
  isplitr; · ipureintro; exact fun o ho => hf o (h o ho)
  iexact H

theorem block_disj {o o' : Dev nD} (h : o' ≠ o) : Disjoint (oM.access (blockR o')).set (oM.access (blockR o)).set := by
  refine View.disjoint_slice_of_sep oM.view (blockR o') (blockR o) 0 rfl rfl ?_
  have hne : o'.val ≠ o.val := fun e => h (Fin.ext e)
  show 128 * o'.val + 128 ≤ 128 * o.val ∨ 128 * o.val + 128 ≤ 128 * o'.val
  omega

/-- A load of a block, its value not used. -/
theorem load_out (c : Dev nD) (P : Dev nD → Prop) {r : Rect S4096x256}
    {hl : oM.view.LoadsAt r.toLoadRect} {k : (r.shape.Idx → Elt F .f32) → Prog (TpuEff nD τ sig (Elt F) Λ₀ .tc) α} :
    outHas xs ws c P ⊢ iprop((∀ w, outHas xs ws c P -∗ WP c (k w) Q) -∗ WP c (.op (.load oM r.toLoadRect hl) k) Q) := by
  unfold outHas
  iintro ⟨%f, %hf, H⟩ Hk
  iapply (wp_load 𝒱₀ (c : Thread nD τ) none Set.univ (m := oM) (r := r.toLoadRect) (Finset.subset_univ _)) $$ H
  iintro H
  iapply Hk
  iexists f
  isplitr; · ipureintro; exact hf
  iexact H

/-- What a store of a block leaves in the blocks. -/
theorem store_reads (c o : Dev nD) (P : Dev nD → Prop) (f : Buf (Elt F) (oM.view.loc (c : Thread nD τ)))
    (hf : ∀ o, P o → (oM.access (blockR o)).read (Elt F) f = blk xs ws c o) (o' : Dev nD) (ho' : P o' ∨ o' = o) :
    (oM.access (blockR o')).read (Elt F) ((oM.access (blockR o)).write (Elt F) f (blk xs ws c o) Finset.univ) = blk xs ws c o' := by
  by_cases e : o' = o
  · subst e; exact View.read_write_univ _ _
  · rw [← hf o' (ho'.resolve_right e)]
    exact View.read_slice_write_slice_of_disjoint _ _ _ _ _ (block_disj e)

/-- A store of a block. -/
theorem store_out (c o : Dev nD) (P : Dev nD → Prop)
    {off : Fin 2 → ℕ} {inb : ∀ a, off a + S128x256.size a ≤ S4096x256.size a} {w : S128x256.Idx → Elt F .f32}
    {hx : (oM.access (Rect.unit (s := S4096x256) off S128x256.size inb)).Stores Finset.univ}
    {hm : Finset.univ = Finset.univ ∨ ∀ a, (Rect.unit (s := S4096x256) off S128x256.size inb).stride a = 1}
    {k : PUnit → Prog (TpuEff nD τ sig (Elt F) Λ₀ .tc) α}
    (hoff : off = ![128 * o.val, 0]) (hw : w = blk xs ws c o) :
    outHas xs ws c P ⊢ iprop((outHas xs ws c (fun o' => P o' ∨ o' = o) -∗ WP c (k ⟨⟩) Q)
      -∗ WP c (.op (.store oM (Rect.unit (s := S4096x256) off S128x256.size inb) w Finset.univ hx hm) k) Q) := by
  subst hoff hw
  unfold outHas
  iintro ⟨%f, %hf, H⟩ Hk
  have L := wp_store (Val := Elt F) 𝒱₀ (c : Thread nD τ) none Set.univ (Γ := []) (defs := defs₀ (F := F)) (m := oM) (r := blockR o) (w := blk xs ws c o) (Mk := Finset.univ) (hx := hx) (hm := hm) (k := k) (Q := Q)
    (S := Finset.univ) (f := f) (Finset.subset_univ _)
  iapply L $$ H
  iintro H
  iapply Hk
  iexists _
  isplitr
  · ipureintro
    exact store_reads xs ws c o P f hf
  iexact H

end Cert.RingGemm

end
-- ==== Proof.Views.lean ====
/-
The semaphores, slots and devices the program names, as the schedule names them.
-/
module

public import proofs.«01_k».proof.Proof.Mem

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Semaphores -/

section
variable {off : Fin 2 → ℕ} {inb : ∀ a, off a + S1x1.size a ≤ S2x2.size a} {off1 : Fin 1 → ℕ} {inb1 : ∀ a, off1 a + S1.size a ≤ S2.size a}
  {inb3 : ∀ a, off1 a + S1.size a ≤ S32.size a}

theorem inb22 (s j : Fin 2) : ∀ a, (![s.val, j.val] : Fin 2 → ℕ) a + S1x1.size a ≤ S2x2.size a := by revert s j; decide
theorem inb2 (s : Fin 2) : ∀ a, (![s.val] : Fin 1 → ℕ) a + S1.size a ≤ S2.size a := by revert s; decide
theorem inb32 (s : Fin 32) : ∀ a, (![s.val] : Fin 1 → ℕ) a + S1.size a ≤ S32.size a := by revert s; decide

theorem ix_dep : ∀ d : Bool, ∀ s j : Fin 2, (((if d then cc0_scratch4 else cc0_scratch7).slice (Rect.unit (s := S2x2) ![s.val, j.val] S1x1.size (inb22 s j))).squeeze S_ squeezes_S1x1_S_).sem.val
    = (if d then 4 else 12) + 2 * s.val + j.val := by decide +kernel
theorem ix_send : ∀ d : Bool, ∀ s j : Fin 2, (((if d then cc0_scratch5 else cc0_scratch8).slice (Rect.unit (s := S2x2) ![s.val, j.val] S1x1.size (inb22 s j))).squeeze S_ squeezes_S1x1_S_).sem.val
    = (if d then 8 else 16) + 2 * s.val + j.val := by decide +kernel
theorem ix_cred : ∀ d : Bool, ∀ s : Fin 2, (((if d then cc0_scratch6 else cc0_scratch9).slice (Rect.unit (s := S2) ![s.val] S1.size (inb2 s))).squeeze S_ squeezes_S1_S_).sem.val
    = (if d then 0 else 2) + s.val := by decide +kernel
theorem ix_adep : ∀ s : Fin 32, ((cc0_scratch10.slice (Rect.unit (s := S32) ![s.val] S1.size (inb32 s))).squeeze S_ squeezes_S1_S_).sem.val = 20 + s.val := by decide +kernel
theorem ix_amax : ∀ s : Fin 32, ((cc0_scratch11.slice (Rect.unit (s := S32) ![s.val] S1.size (inb32 s))).squeeze S_ squeezes_S1_S_).sem.val = 52 + s.val := by decide +kernel

theorem sem_dep (c : Dev nD) (d : Bool) (j : Fin 2) (h : ℕ) (ho : off = ![(par h).val, j.val]) :
    SemLoc.dma (((if d then cc0_scratch4 else cc0_scratch7).slice (Rect.unit (s := S2x2) off S1x1.size inb)).squeeze S_ squeezes_S1x1_S_).sem = semOf c (.dep d j h) := by
  subst ho; exact congrArg SemLoc.dma (Fin.ext (ix_dep d (par h) j))

theorem sem_send (c : Dev nD) (d : Bool) (j : Fin 2) (h : ℕ) (ho : off = ![(par h).val, j.val]) :
    SemLoc.dma (((if d then cc0_scratch5 else cc0_scratch8).slice (Rect.unit (s := S2x2) off S1x1.size inb)).squeeze S_ squeezes_S1x1_S_).sem = semOf c (.send d j h) := by
  subst ho; exact congrArg SemLoc.dma (Fin.ext (ix_send d (par h) j))

theorem sem_cred (c : Dev nD) (d : Bool) (h : ℕ) (ho : off1 = ![(par (h + 1)).val]) :
    SemLoc.reg (((if d then cc0_scratch6 else cc0_scratch9).slice (Rect.unit (s := S2) off1 S1.size inb1)).squeeze S_ squeezes_S1_S_).sem = semOf c (.cred d h) := by
  subst ho; exact congrArg SemLoc.reg (Fin.ext (ix_cred d (par (h + 1))))

theorem sem_adep (c : Dev nD) (jj : Fin 32) (ho : off1 = ![jj.val]) :
    SemLoc.dma ((cc0_scratch10.slice (Rect.unit (s := S32) off1 S1.size inb3)).squeeze S_ squeezes_S1_S_).sem = semOf c (.adep jj) := by
  subst ho; exact congrArg SemLoc.dma (Fin.ext (ix_adep jj))

theorem sem_amax (o : Dev nD) (jj : Fin 32) (ho : off1 = ![o.val]) :
    SemLoc.dma ((cc0_scratch11.slice (Rect.unit (s := S32) off1 S1.size inb3)).squeeze S_ squeezes_S1_S_).sem = semOf o (.amax jj) := by
  subst ho; exact congrArg SemLoc.dma (Fin.ext (ix_amax o))
end

/-! ## Slots, halves and rows -/

theorem slot_eq (d : Bool) (s j : Fin 2) {off : Fin 4 → ℕ} {inb : ∀ a, off a + S1x1x128x2048.size a ≤ S2x2x128x2048.size a} (ho : off = ![s.val, j.val, 0, 0]) :
    ((commM d).slice (Rect.unit (s := S2x2x128x2048) off S1x1x128x2048.size inb) (fun _ => rfl)).squeeze S128x2048 squeezes_S1x1x128x2048_S128x2048 = slotM d s j := by
  subst ho; rfl
theorem half_eq (j : Fin 2) {off : Fin 2 → ℕ} {inb : ∀ a, off a + S128x2048.size a ≤ S128x4096.size a} (ho : off = ![0, 2048 * j.val]) :
    xM.slice (Rect.unit (s := S128x4096) off S128x2048.size inb) (fun _ => rfl) = halfM j := by
  subst ho; rfl
theorem row_eq (k : Dev nD) {off : Fin 3 → ℕ} {inb : ∀ a, off a + S1x1x128.size a ≤ S32x1x128.size a} (ho : off = ![k.val, 0, 0]) :
    (arM.slice (Rect.unit (s := S32x1x128) off S1x1x128.size inb) (fun _ => rfl)).squeeze S1x128 squeezes_S1x1x128_S1x128 = rowM k := by
  subst ho; rfl

/-! ## Devices -/

/-- A device's number as the table holds it. -/
abbrev wd (o : Dev nD) : BitVec 32 := BitVec.ofNat 32 o.val

theorem chk1 (o : Dev nD) : k0_chk1 (wd o) := by revert o; decide +kernel
theorem chk2 (o : Dev nD) : k0_chk2 (wd o) := by revert o; decide +kernel
theorem chk3 (o : Dev nD) : k0_chk3 (wd o) := by revert o; decide +kernel
theorem chk4 (o : Dev nD) : k0_chk4 (wd o) := by revert o; decide +kernel
theorem chk5 (o : Dev nD) : k0_chk5 (wd o) := by revert o; decide +kernel
theorem chk6 (o : Dev nD) : k0_chk6 (wd o) := by revert o; decide +kernel
theorem chk7 (o : Dev nD) : k0_chk7 (wd o) := by revert o; decide +kernel
theorem chk8 (o : Dev nD) : k0_chk8 (wd o) := by revert o; decide +kernel
theorem chk9 (o : Dev nD) : k0_chk9 (wd o) := by revert o; decide +kernel
theorem dev1 (o : Dev nD) (h : k0_dev1 (wd o) < nD) : (⟨k0_dev1 (wd o), h⟩ : Dev nD) = o := by apply Fin.ext; show k0_dev1 (wd o) = o.val; revert o; decide +kernel
theorem dev2 (o : Dev nD) (h : k0_dev2 (wd o) < nD) : (⟨k0_dev2 (wd o), h⟩ : Dev nD) = o := by apply Fin.ext; show k0_dev2 (wd o) = o.val; revert o; decide +kernel
theorem dev3 (o : Dev nD) (h : k0_dev3 (wd o) < nD) : (⟨k0_dev3 (wd o), h⟩ : Dev nD) = o := by apply Fin.ext; show k0_dev3 (wd o) = o.val; revert o; decide +kernel
theorem dev4 (o : Dev nD) (h : k0_dev4 (wd o) < nD) : (⟨k0_dev4 (wd o), h⟩ : Dev nD) = o := by apply Fin.ext; show k0_dev4 (wd o) = o.val; revert o; decide +kernel
theorem dev5 (o : Dev nD) (h : k0_dev5 (wd o) < nD) : (⟨k0_dev5 (wd o), h⟩ : Dev nD) = o := by apply Fin.ext; show k0_dev5 (wd o) = o.val; revert o; decide +kernel
theorem dev6 (o : Dev nD) (h : k0_dev6 (wd o) < nD) : (⟨k0_dev6 (wd o), h⟩ : Dev nD) = o := by apply Fin.ext; show k0_dev6 (wd o) = o.val; revert o; decide +kernel
theorem dev7 (o : Dev nD) (h : k0_dev7 (wd o) < nD) : (⟨k0_dev7 (wd o), h⟩ : Dev nD) = o := by apply Fin.ext; show k0_dev7 (wd o) = o.val; revert o; decide +kernel
theorem dev8 (o : Dev nD) (h : k0_dev8 (wd o) < nD) : (⟨k0_dev8 (wd o), h⟩ : Dev nD) = o := by apply Fin.ext; show k0_dev8 (wd o) = o.val; revert o; decide +kernel
theorem dev9 (o : Dev nD) (h : k0_dev9 (wd o) < nD) : (⟨k0_dev9 (wd o), h⟩ : Dev nD) = o := by apply Fin.ext; show k0_dev9 (wd o) = o.val; revert o; decide +kernel
theorem dev10 (o : Dev nD) (h : k0_dev10 (wd o) < nD) : (⟨k0_dev10 (wd o), h⟩ : Dev nD) = o := by apply Fin.ext; show k0_dev10 (wd o) = o.val; revert o; decide +kernel
theorem dev11 (o : Dev nD) (h : k0_dev11 (wd o) < nD) : (⟨k0_dev11 (wd o), h⟩ : Dev nD) = o := by apply Fin.ext; show k0_dev11 (wd o) = o.val; revert o; decide +kernel
theorem dev12 (o : Dev nD) (h : k0_dev12 (wd o) < nD) : (⟨k0_dev12 (wd o), h⟩ : Dev nD) = o := by apply Fin.ext; show k0_dev12 (wd o) = o.val; revert o; decide +kernel
theorem dev13 (o : Dev nD) (h : k0_dev13 (wd o) < nD) : (⟨k0_dev13 (wd o), h⟩ : Dev nD) = o := by apply Fin.ext; show k0_dev13 (wd o) = o.val; revert o; decide +kernel
theorem dev14 (o : Dev nD) (h : k0_dev14 (wd o) < nD) : (⟨k0_dev14 (wd o), h⟩ : Dev nD) = o := by apply Fin.ext; show k0_dev14 (wd o) = o.val; revert o; decide +kernel
theorem dev15 (o : Dev nD) (h : k0_dev15 (wd o) < nD) : (⟨k0_dev15 (wd o), h⟩ : Dev nD) = o := by apply Fin.ext; show k0_dev15 (wd o) = o.val; revert o; decide +kernel
theorem dev16 (o : Dev nD) (h : k0_dev16 (wd o) < nD) : (⟨k0_dev16 (wd o), h⟩ : Dev nD) = o := by apply Fin.ext; show k0_dev16 (wd o) = o.val; revert o; decide +kernel
theorem dev17 (o : Dev nD) (h : k0_dev17 (wd o) < nD) : (⟨k0_dev17 (wd o), h⟩ : Dev nD) = o := by apply Fin.ext; show k0_dev17 (wd o) = o.val; revert o; decide +kernel
theorem dev18 (o : Dev nD) (h : k0_dev18 (wd o) < nD) : (⟨k0_dev18 (wd o), h⟩ : Dev nD) = o := by apply Fin.ext; show k0_dev18 (wd o) = o.val; revert o; decide +kernel
theorem dev19 (o : Dev nD) (h : k0_dev19 (wd o) < nD) : (⟨k0_dev19 (wd o), h⟩ : Dev nD) = o := by apply Fin.ext; show k0_dev19 (wd o) = o.val; revert o; decide +kernel
theorem dev20 (o : Dev nD) (h : k0_dev20 (wd o) < nD) : (⟨k0_dev20 (wd o), h⟩ : Dev nD) = o := by apply Fin.ext; show k0_dev20 (wd o) = o.val; revert o; decide +kernel
theorem dev21 (c : Dev nD) (h : k0_dev21 c < nD) : (⟨k0_dev21 c, h⟩ : Dev nD) = shift 1 c := by apply Fin.ext; show k0_dev21 c = (shift 1 c).val; revert c; decide +kernel
theorem dev22 (c : Dev nD) (h : k0_dev22 c < nD) : (⟨k0_dev22 c, h⟩ : Dev nD) = shift 2 c := by apply Fin.ext; show k0_dev22 c = (shift 2 c).val; revert c; decide +kernel
theorem dev23 (c : Dev nD) (h : k0_dev23 c < nD) : (⟨k0_dev23 c, h⟩ : Dev nD) = shift 3 c := by apply Fin.ext; show k0_dev23 c = (shift 3 c).val; revert c; decide +kernel
theorem dev24 (c : Dev nD) (h : k0_dev24 c < nD) : (⟨k0_dev24 c, h⟩ : Dev nD) = shift 4 c := by apply Fin.ext; show k0_dev24 c = (shift 4 c).val; revert c; decide +kernel
theorem dev25 (c : Dev nD) (h : k0_dev25 c < nD) : (⟨k0_dev25 c, h⟩ : Dev nD) = shift 5 c := by apply Fin.ext; show k0_dev25 c = (shift 5 c).val; revert c; decide +kernel
theorem dev26 (c : Dev nD) (h : k0_dev26 c < nD) : (⟨k0_dev26 c, h⟩ : Dev nD) = shift 6 c := by apply Fin.ext; show k0_dev26 c = (shift 6 c).val; revert c; decide +kernel
theorem dev27 (c : Dev nD) (h : k0_dev27 c < nD) : (⟨k0_dev27 c, h⟩ : Dev nD) = shift 7 c := by apply Fin.ext; show k0_dev27 c = (shift 7 c).val; revert c; decide +kernel
theorem dev28 (c : Dev nD) (h : k0_dev28 c < nD) : (⟨k0_dev28 c, h⟩ : Dev nD) = shift 8 c := by apply Fin.ext; show k0_dev28 c = (shift 8 c).val; revert c; decide +kernel
theorem dev29 (c : Dev nD) (h : k0_dev29 c < nD) : (⟨k0_dev29 c, h⟩ : Dev nD) = shift 9 c := by apply Fin.ext; show k0_dev29 c = (shift 9 c).val; revert c; decide +kernel
theorem dev30 (c : Dev nD) (h : k0_dev30 c < nD) : (⟨k0_dev30 c, h⟩ : Dev nD) = shift 10 c := by apply Fin.ext; show k0_dev30 c = (shift 10 c).val; revert c; decide +kernel
theorem dev31 (c : Dev nD) (h : k0_dev31 c < nD) : (⟨k0_dev31 c, h⟩ : Dev nD) = shift 11 c := by apply Fin.ext; show k0_dev31 c = (shift 11 c).val; revert c; decide +kernel
theorem dev32 (c : Dev nD) (h : k0_dev32 c < nD) : (⟨k0_dev32 c, h⟩ : Dev nD) = shift 12 c := by apply Fin.ext; show k0_dev32 c = (shift 12 c).val; revert c; decide +kernel
theorem dev33 (c : Dev nD) (h : k0_dev33 c < nD) : (⟨k0_dev33 c, h⟩ : Dev nD) = shift 13 c := by apply Fin.ext; show k0_dev33 c = (shift 13 c).val; revert c; decide +kernel
theorem dev34 (c : Dev nD) (h : k0_dev34 c < nD) : (⟨k0_dev34 c, h⟩ : Dev nD) = shift 14 c := by apply Fin.ext; show k0_dev34 c = (shift 14 c).val; revert c; decide +kernel
theorem dev35 (c : Dev nD) (h : k0_dev35 c < nD) : (⟨k0_dev35 c, h⟩ : Dev nD) = shift 15 c := by apply Fin.ext; show k0_dev35 c = (shift 15 c).val; revert c; decide +kernel
theorem dev36 (c : Dev nD) (h : k0_dev36 c < nD) : (⟨k0_dev36 c, h⟩ : Dev nD) = shift 16 c := by apply Fin.ext; show k0_dev36 c = (shift 16 c).val; revert c; decide +kernel
theorem dev37 (c : Dev nD) (h : k0_dev37 c < nD) : (⟨k0_dev37 c, h⟩ : Dev nD) = shift 17 c := by apply Fin.ext; show k0_dev37 c = (shift 17 c).val; revert c; decide +kernel
theorem dev38 (c : Dev nD) (h : k0_dev38 c < nD) : (⟨k0_dev38 c, h⟩ : Dev nD) = shift 18 c := by apply Fin.ext; show k0_dev38 c = (shift 18 c).val; revert c; decide +kernel
theorem dev39 (c : Dev nD) (h : k0_dev39 c < nD) : (⟨k0_dev39 c, h⟩ : Dev nD) = shift 19 c := by apply Fin.ext; show k0_dev39 c = (shift 19 c).val; revert c; decide +kernel
theorem dev40 (c : Dev nD) (h : k0_dev40 c < nD) : (⟨k0_dev40 c, h⟩ : Dev nD) = shift 20 c := by apply Fin.ext; show k0_dev40 c = (shift 20 c).val; revert c; decide +kernel
theorem dev41 (c : Dev nD) (h : k0_dev41 c < nD) : (⟨k0_dev41 c, h⟩ : Dev nD) = shift 21 c := by apply Fin.ext; show k0_dev41 c = (shift 21 c).val; revert c; decide +kernel
theorem dev42 (c : Dev nD) (h : k0_dev42 c < nD) : (⟨k0_dev42 c, h⟩ : Dev nD) = shift 22 c := by apply Fin.ext; show k0_dev42 c = (shift 22 c).val; revert c; decide +kernel
theorem dev43 (c : Dev nD) (h : k0_dev43 c < nD) : (⟨k0_dev43 c, h⟩ : Dev nD) = shift 23 c := by apply Fin.ext; show k0_dev43 c = (shift 23 c).val; revert c; decide +kernel
theorem dev44 (c : Dev nD) (h : k0_dev44 c < nD) : (⟨k0_dev44 c, h⟩ : Dev nD) = shift 24 c := by apply Fin.ext; show k0_dev44 c = (shift 24 c).val; revert c; decide +kernel
theorem dev45 (c : Dev nD) (h : k0_dev45 c < nD) : (⟨k0_dev45 c, h⟩ : Dev nD) = shift 25 c := by apply Fin.ext; show k0_dev45 c = (shift 25 c).val; revert c; decide +kernel
theorem dev46 (c : Dev nD) (h : k0_dev46 c < nD) : (⟨k0_dev46 c, h⟩ : Dev nD) = shift 26 c := by apply Fin.ext; show k0_dev46 c = (shift 26 c).val; revert c; decide +kernel
theorem dev47 (c : Dev nD) (h : k0_dev47 c < nD) : (⟨k0_dev47 c, h⟩ : Dev nD) = shift 27 c := by apply Fin.ext; show k0_dev47 c = (shift 27 c).val; revert c; decide +kernel
theorem dev48 (c : Dev nD) (h : k0_dev48 c < nD) : (⟨k0_dev48 c, h⟩ : Dev nD) = shift 28 c := by apply Fin.ext; show k0_dev48 c = (shift 28 c).val; revert c; decide +kernel
theorem dev49 (c : Dev nD) (h : k0_dev49 c < nD) : (⟨k0_dev49 c, h⟩ : Dev nD) = shift 29 c := by apply Fin.ext; show k0_dev49 c = (shift 29 c).val; revert c; decide +kernel
theorem dev50 (c : Dev nD) (h : k0_dev50 c < nD) : (⟨k0_dev50 c, h⟩ : Dev nD) = shift 30 c := by apply Fin.ext; show k0_dev50 c = (shift 30 c).val; revert c; decide +kernel
theorem dev51 (c : Dev nD) (h : k0_dev51 c < nD) : (⟨k0_dev51 c, h⟩ : Dev nD) = shift 31 c := by apply Fin.ext; show k0_dev51 c = (shift 31 c).val; revert c; decide +kernel
theorem off2_eq (o : Dev nD) : k0_off2 (wd o) = ![128 * o.val, 0] := by revert o; decide +kernel
theorem off3_eq (o : Dev nD) : k0_off3 (wd o) = ![128 * o.val, 0] := by revert o; decide +kernel
theorem off18_eq (o : Dev nD) : k0_off18 (wd o) = ![128 * o.val, 0] := by revert o; decide +kernel
theorem off22_eq (o : Dev nD) : k0_off22 (wd o) = ![128 * o.val, 0] := by revert o; decide +kernel
theorem off30_eq (o : Dev nD) : k0_off30 (wd o) = ![128 * o.val, 0] := by revert o; decide +kernel
theorem off31_eq (o : Dev nD) : k0_off31 (wd o) = ![128 * o.val, 0] := by revert o; decide +kernel
theorem off32_eq (o : Dev nD) : k0_off32 (wd o) = ![128 * o.val, 0] := by revert o; decide +kernel
theorem off1_eq (c : Dev nD) : k0_off1 c = ![128 * c.val, 0] := by revert c; decide +kernel
theorem off33_eq (c : Dev nD) : k0_off33 c = ![c.val] := by revert c; decide +kernel
theorem off34_eq (c : Dev nD) : k0_off34 c = ![c.val, 0, 0] := by revert c; decide +kernel
theorem off35_eq (c : Dev nD) : k0_off35 c = ![c.val, 0, 0] := by revert c; decide +kernel

/-! ## The places a phase of the loop names -/

theorem trips : k0_t1_loop.trips = 13 := by decide +kernel
theorem off4_eq (t : Fin k0_t1_loop.trips) : k0_off4 t = ![(par (t.val + 1)).val, 0] := by revert t; decide +kernel
theorem off5_eq (t : Fin k0_t1_loop.trips) : k0_off5 t = ![(par (t.val + 1)).val, 0, 0, 0] := by revert t; decide +kernel
theorem off7_eq (t : Fin k0_t1_loop.trips) : k0_off7 t = ![(par (t.val + 1 + 1)).val] := by revert t; decide +kernel
theorem off8_eq (t : Fin k0_t1_loop.trips) : k0_off8 t = ![(par (t.val + 2)).val, 0] := by revert t; decide +kernel
theorem off9_eq (t : Fin k0_t1_loop.trips) : k0_off9 t = ![(par (t.val + 2)).val, 0, 0, 0] := by revert t; decide +kernel
theorem off10_eq (t : Fin k0_t1_loop.trips) : k0_off10 t = ![(par (t.val + 1)).val, 1] := by revert t; decide +kernel
theorem off11_eq (t : Fin k0_t1_loop.trips) : k0_off11 t = ![(par (t.val + 1)).val, 1, 0, 0] := by revert t; decide +kernel
theorem off13_eq (t : Fin k0_t1_loop.trips) : k0_off13 t = ![(par (t.val + 2)).val, 1] := by revert t; decide +kernel
theorem off14_eq (t : Fin k0_t1_loop.trips) : k0_off14 t = ![(par (t.val + 2)).val, 1, 0, 0] := by revert t; decide +kernel
theorem off15_eq (t : Fin k0_t1_loop.trips) : k0_off15 t = ![(par (t.val + 1)).val, 0, 0, 0] := by revert t; decide +kernel
theorem off16_eq (t : Fin k0_t1_loop.trips) : k0_off16 t = ![(par (t.val + 1)).val, 1, 0, 0] := by revert t; decide +kernel
theorem off17_eq (t : Fin k0_t1_loop.trips) : k0_off17 t = ![t.val + 3] := by revert t; decide +kernel
theorem off19_eq (t : Fin k0_t1_loop.trips) : k0_off19 t = ![(par (t.val + 1)).val, 0, 0, 0] := by revert t; decide +kernel
theorem off20_eq (t : Fin k0_t1_loop.trips) : k0_off20 t = ![(par (t.val + 1)).val, 1, 0, 0] := by revert t; decide +kernel
theorem off21_eq (t : Fin k0_t1_loop.trips) : k0_off21 t = ![t.val + 19] := by revert t; decide +kernel
theorem off23_eq (t : Fin k0_t1_loop.trips) : k0_off23 t = ![(par (t.val + 2)).val, 0] := by revert t; decide +kernel
theorem off26_eq (t : Fin k0_t1_loop.trips) : k0_off26 t = ![(par (t.val + 2)).val, 1] := by revert t; decide +kernel
theorem off29_eq (t : Fin k0_t1_loop.trips) : k0_off29 t = ![(par (t.val + 2 + 1)).val] := by revert t; decide +kernel

end Cert.RingGemm

end
-- ==== Proof.Slots.lean ====
/-
A landed half shared between its forwarding and its use, and the payloads as blocks of the product.
-/
module

public import proofs.«01_k».proof.Proof.Views

@[expose] public section

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → (S128x4096.Idx → Elt F .f32)) (ws : Dev nD → (S4096x256.Idx → Elt F .f32)) (K : GSem nD τ sig → ℕ)

/-- The ring's table on device `c`; its columns of w; a share of its rows of x. -/
def idP (c : Dev nD) : sProp 𝕄 := iprop(idM.view.loc (c : Thread nD τ) ↦[Finset.univ]{fullShare} idsOf (F := F) c)
def wP (c : Dev nD) : sProp 𝕄 := iprop(wM.view.loc (c : Thread nD τ) ↦[Finset.univ]{fullShare} ws c)
def xP (c : Dev nD) : sProp 𝕄 := iprop(xM.view.loc (c : Thread nD τ) ↦[Finset.univ]{fullShare.right} xs c)

/-- What hop `n` brought, at the share kept for its use. -/
def landed (d : Bool) (j : Fin 2) (n : ℕ) (c : Dev nD) : sProp 𝕄 := has c (slotM d (par n) j) fullShare.right (xh xs (org d (n + 1) c) j)

theorem par_two (n : ℕ) : par (n + 2) = par n := by apply Fin.ext; simp [par]

/-- A landed half: a share for the next hop, a share for the use. -/
theorem landed_split (d : Bool) (j : Fin 2) (n : ℕ) (c : Dev nD) :
    has c (slotM d (par n) j) fullShare (xh xs (org d (n + 1) c) j) ⊢ iprop(srcHas xs d j (n + 1) c ∗ landed xs d j n c) :=
  (pointsTo_share (PosShare.mem_left_op_right fullShare)).1

theorem landed_any (d : Bool) (j : Fin 2) (n : ℕ) (c : Dev nD) :
    has c (slotM d (par n) j) fullShare (xh xs (org d (n + 1) c) j) ⊢ any c (slotM d (par n) j) := by
  unfold has any; iintro H; iexists _; iexact H

theorem landed_join (d : Bool) (j : Fin 2) (n : ℕ) (c : Dev nD) :
    iprop(srcHas xs d j (n + 1) c ∗ landed xs d j n c) ⊢ any c (slotM d (par n) j) :=
  ((pointsTo_share (PosShare.mem_left_op_right fullShare)).2).trans (landed_any xs d j n c)

/-- The slot is free for the hop after the next. -/
theorem grant_of (d : Bool) (j : Fin 2) (n : ℕ) (c : Dev nD) :
    iprop(srcHas xs d j (n + 1) c ∗ landed xs d j n c ∗ rch (frm d c) (.send d j (n + 2))) ⊢ grant d j (n + 2) c := by
  unfold grant
  iintro ⟨H1, H2, H3⟩
  isplitr [H3]
  · rw [show (⟨(n + 2) % 2, Nat.mod_lt _ (by decide)⟩ : Fin 2) = par n from par_two n]
    iapply (landed_join xs d j n c)
    isplitl [H1]; · iexact H1
    iexact H2
  · iexact H3

/-- The credit of a phase that frees both its slots. -/
theorem cred_pay (d : Bool) (n : ℕ) (hn : n + 1 ≠ 14) (c : Dev nD) :
    iprop(grant d 0 (n + 2) c ∗ grant d 1 (n + 2) c) ⊢ pay xs ws c (.cred d (n + 1)) := by
  show _ ⊢ iprop(grant d (lastJ d) (n + 1 + 1) c ∗ (if n + 1 = 14 then emp else grant d (othJ d) (n + 1 + 1) c))
  rw [if_neg hn]
  cases d
  · iintro ⟨H1, H2⟩; isplitl [H2]; · iexact H2
    iexact H1
  · exact .rfl

/-! ## Payloads -/

section
variable (c o : Dev nD) {a b : S1x1x128x2048.Idx → Elt F .f32} {w1 w2 : S2048x256.Idx → Elt F .f32}
  (ha : shapeCast S128x2048 a shapeCasts_S1x1x128x2048_S128x2048 = xh xs o 0) (hb : shapeCast S128x2048 b shapeCasts_S1x1x128x2048_S128x2048 = xh xs o 1)
  (hw1 : shapeCast S2048x256 w1 shapeCasts_S2048x256_S2048x256 = wh ws c 0) (hw2 : shapeCast S2048x256 w2 shapeCasts_S2048x256_S2048x256 = wh ws c 1)
include ha hb hw1 hw2

theorem pay2_blk : k0_pay2 (F := F) a b w1 w2 = blk xs ws c o := by
  show mulBlk (shapeCast S128x2048 a shapeCasts_S1x1x128x2048_S128x2048) (shapeCast S128x2048 b shapeCasts_S1x1x128x2048_S128x2048)
    (shapeCast S2048x256 w1 shapeCasts_S2048x256_S2048x256) (shapeCast S2048x256 w2 shapeCasts_S2048x256_S2048x256) = _
  rw [ha, hb, hw1, hw2]; rfl
theorem pay10_blk : k0_pay10 (F := F) (k0_pay8 b) (k0_pay9 a w1) w2 = blk xs ws c o := pay2_blk xs ws c o ha hb hw1 hw2
end

theorem pay6_blk (c : Dev nD) {w1 w2 : S2048x256.Idx → Elt F .f32}
    (hw1 : shapeCast S2048x256 w1 shapeCasts_S2048x256_S2048x256 = wh ws c 0) (hw2 : shapeCast S2048x256 w2 shapeCasts_S2048x256_S2048x256 = wh ws c 1) :
    k0_pay6 (F := F) (k0_pay5 (xh xs c 0)) (xh xs c 1) w1 w2 = blk xs ws c c := by
  show mulBlk (shapeCast S128x2048 (xh xs c 0) shapeCasts_S128x2048_S128x2048) (shapeCast S128x2048 (xh xs c 1) shapeCasts_S128x2048_S128x2048)
    (shapeCast S2048x256 w1 shapeCasts_S2048x256_S2048x256) (shapeCast S2048x256 w2 shapeCasts_S2048x256_S2048x256) = _
  rw [hw1, hw2, shapeCast_self, shapeCast_self]; rfl

end Cert.RingGemm

end
-- ==== Proof.Body1.lean ====
/-
The first phase: the table's words, the barrier, the first transfers, the device's own block.
-/
module

public import proofs.«01_k».proof.Proof.Slots

@[expose] public section

set_option maxHeartbeats 1000000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → (S128x4096.Idx → Elt F .f32)) (ws : Dev nD → (S4096x256.Idx → Elt F .f32)) (K : GSem nD τ sig → ℕ)

variable {h0 : idM.IsWhole} {h1 : xM.IsWhole} {h2 : wM.IsWhole} {h3 : oM.IsWhole} {h4 : (Memref.whole cc0_scratch0).IsWhole} {h5 : (Memref.whole cc0_scratch1).IsWhole}
  {h6 : asM.IsWhole} {h7 : arM.IsWhole}

/-- The words of the table, the barrier, the first transfer. -/
theorem part16 (c : Dev nD) (l : List Kind) (hl : Above 1 (.send true 0 0 :: l)) {Q : _ → sProp 𝕄} :
    INV xs ws K ⊢ iprop(due c (.bar true :: .bar false :: .send true 0 0 :: l) -∗ idP c -∗ crd c (.bar true) -∗ crd c (.bar false) -∗ posn c (.bar true)
      -∗ pay xs ws c (.bar true) -∗ pay xs ws c (.bar false) -∗ rch c (.bar true) -∗ rch c (.bar false)
      -∗ srcHas xs true 0 0 c -∗ rch c (.dep true 0 0) -∗ rch (nxt true c) (.cred true 1) -∗ ext true 0 0 c
      -∗ (due c l -∗ idP c -∗ atPos ER (barCell c) 1 ∅ 0 -∗ crd c (.dep true 0 0)
          -∗ grant true 1 0 (nxt true c) -∗ grant true 0 1 (nxt true c) -∗ grant true 1 1 (nxt true c)
          -∗ pay xs ws (nxt false c) (.bar false)
          -∗ Q ⟨c, Scalar.remsi (Scalar.divsi (Dev.word c) 1#32) 32#32, wd (nxt true c), chk2 _, wd (nxt false c), chk1 _⟩)
      -∗ WP c (k0_part16 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11) Q) := by
  rw [k0_part16_eq_skeleton]; unfold k0_part16_skel
  simp only [semSignalWord, semWaitWord, smemLoad, smemLoadElt, Prog.lift, Prog.bind_op, Prog.bind_ret, Prog.pure_eq_ret, Prog.bind_assoc, wp_deviceId]
  unfold idP
  iintro #HI Hdue Hid Hc1 Hc2 Hpos Hb1 Hb2 Hr1 Hr2 Hs Hr3 Hr4 Hx Hk
  iapply (load_id c 0 (nxt true c) fullShare rfl rfl) $$ Hid; iintro Hid; dsimp only
  iapply (step_assume c (chk2 (nxt true c)))
  iapply (load_id c 1 (nxt false c) fullShare rfl rfl) $$ Hid; iintro Hid; dsimp only
  iapply (step_assume c (chk1 (nxt false c)))
  iapply (cur4 (step_signal xs ws K c (.bar true) _ (by decide +kernel) rfl rfl ((dev1 _ _).trans (nxt_not true c)) rfl)) $$ HI Hdue Hb1 Hr1; iintro Hdue
  iapply (cur4 (step_signal xs ws K c (.bar false) _ (by decide +kernel) rfl rfl ((dev2 _ _).trans (nxt_not false c)) rfl)) $$ HI Hdue Hb2 Hr2; iintro Hdue
  iapply (cur5 (step_bar xs ws K c _ hl rfl rfl)) $$ HI Hdue Hc1 Hc2 Hpos; iintro ⟨Hdue, Hpos, Hp1, Hp2⟩
  ihave Hp1 := (show pay xs ws (nxt true c) (.bar true) ⊢ iprop(grant true 0 0 (nxt true c) ∗ grant true 1 0 (nxt true c) ∗ grant true 0 1 (nxt true c) ∗ grant true 1 1 (nxt true c)) from .rfl) $$ Hp1
  icases Hp1 with ⟨Hg1, Hg2, Hg3, Hg4⟩
  iapply (cur7 (step_send xs ws K c true 0 0 _ (by decide +kernel) (dev3 _ _) (half_eq 0 rfl) (slot_eq true 0 0 rfl) (sem_dep c true 0 0 rfl) (sem_send c true 0 0 rfl))) $$ HI Hdue Hs Hg1 Hr3 Hr4 Hx
  iintro ⟨Hdue, Hc⟩
  iapply (step_ret c _)
  iapply Hk $$ Hdue Hid Hpos Hc Hg2 Hg3 Hg4 Hp2

/-- The other first transfers. -/
theorem part17 (c : Dev nD) (l : List Kind) (hv3 : k0_chk2 (wd (nxt true c))) (hv4 : k0_chk1 (wd (nxt false c))) {Q : _ → sProp 𝕄} :
    INV xs ws K ⊢ iprop(due c (.send true 1 0 :: .send false 0 0 :: .send false 1 0 :: l)
      -∗ xP xs c
      -∗ srcHas xs true 1 0 c
      -∗ grant true 1 0 (nxt true c)
      -∗ rch c (.dep true 1 0)
      -∗ rch (nxt true c) (.cred true 1)
      -∗ ext true 1 0 c
      -∗ srcHas xs false 0 0 c
      -∗ grant false 0 0 (nxt false c)
      -∗ rch c (.dep false 0 0)
      -∗ rch (nxt false c) (.cred false 1)
      -∗ ext false 0 0 c
      -∗ srcHas xs false 1 0 c
      -∗ grant false 1 0 (nxt false c)
      -∗ rch c (.dep false 1 0)
      -∗ rch (nxt false c) (.cred false 1)
      -∗ ext false 1 0 c
      -∗ (due c l -∗ xP xs c -∗ crd c (.dep true 1 0) -∗ crd c (.dep false 0 0) -∗ crd c (.dep false 1 0) -∗ Q (k0_pay5 (xh xs c 0)))
      -∗ WP c (k0_part17 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 (wd (nxt true c)) hv3 (wd (nxt false c)) hv4) Q) := by
  rw [k0_part17_eq_skeleton]; unfold k0_part17_skel
  simp only [semSignalWord, semWaitWord, smemLoad, smemLoadElt, Prog.lift, Prog.bind_op, Prog.bind_ret, Prog.pure_eq_ret, Prog.bind_assoc, wp_deviceId]
  iintro #HI Hdue Hx Hs0 Hg0 Hd0 Hr0 Hx0 Hs1 Hg1 Hd1 Hr1 Hx1 Hs2 Hg2 Hd2 Hr2 Hx2 Hk
  iapply (cur7 (step_send xs ws K c true 1 (0) _ (by decide +kernel) (dev4 _ _) (half_eq 1 rfl) (slot_eq true (par (0)) 1 rfl) (sem_dep c true 1 (0) rfl) (sem_send c true 1 (0) rfl))) $$ HI Hdue Hs0 Hg0 Hd0 Hr0 Hx0
  iintro ⟨Hdue, Hc0⟩
  iapply (cur7 (step_send xs ws K c false 0 (0) _ (by decide +kernel) (dev5 _ _) (half_eq 0 rfl) (slot_eq false (par (0)) 0 rfl) (sem_dep c false 0 (0) rfl) (sem_send c false 0 (0) rfl))) $$ HI Hdue Hs1 Hg1 Hd1 Hr1 Hx1
  iintro ⟨Hdue, Hc1⟩
  iapply (cur7 (step_send xs ws K c false 1 (0) _ (by decide +kernel) (dev6 _ _) (half_eq 1 rfl) (slot_eq false (par (0)) 1 rfl) (sem_dep c false 1 (0) rfl) (sem_send c false 1 (0) rfl))) $$ HI Hdue Hs2 Hg2 Hd2 Hr2 Hx2
  iintro ⟨Hdue, Hc2⟩
  unfold xP
  iapply (load_x xs c 0 fullShare.right rfl) $$ Hx; iintro Hx
  iapply (step_ret c _)
  iapply Hk $$ Hdue Hx Hc0 Hc1 Hc2

/-- The device's own block. -/
theorem part18 (c : Dev nD) (l : List Kind) (P : Dev nD → Prop) (hl : Above 0 l) (v2 : BitVec 32) {Q : _ → sProp 𝕄} :
    INV xs ws K ⊢ iprop(due c l
      -∗ xP xs c
      -∗ wP ws c
      -∗ outHas xs ws c P
      -∗ crd c (.dep true 0 0)
      -∗ posn c (.dep true 0 0)
      -∗ (due c l -∗ xP xs c -∗ wP ws c -∗ outHas xs ws c (fun o => P o ∨ o = c) -∗ posn c (.dep true 0 2) -∗ rch c (.dep true 0 2) -∗ srcHas xs true 0 0 c -∗ Q (acc xs ws c 0))
      -∗ WP c (k0_part18 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 (k0_pay5 (xh xs c 0))) Q) := by
  rw [k0_part18_eq_skeleton]; unfold k0_part18_skel
  simp only [semSignalWord, semWaitWord, smemLoad, smemLoadElt, Prog.lift, Prog.bind_op, Prog.bind_ret, Prog.pure_eq_ret, Prog.bind_assoc, wp_deviceId]
  iintro #HI Hdue Hx Hw Ho Hc Hp Hk
  unfold xP wP
  iapply (load_x xs c 1 fullShare.right rfl) $$ Hx; iintro Hx
  iapply (load_w ws c 0 fullShare rfl) $$ Hw; iintro %w1 %hw1 Hw
  iapply (load_w ws c 1 fullShare rfl) $$ Hw; iintro %w2 %hw2 Hw
  iapply (load_out xs ws c _) $$ Ho; iintro %_ Ho
  iapply (store_out xs ws c (c) _ (off1_eq c) (pay6_blk xs ws c hw1 hw2)) $$ Ho; iintro Ho
  iapply (cur4 (wait_dep xs ws K c true 0 (0) _ (by decide +kernel) hl (sem_dep c true 0 (0) rfl))) $$ HI Hdue Hc Hp; iintro ⟨Hdue, Hp, Hr, Hs⟩
  rw [show k0_pay7 (F := F) (k0_pay5 (xh xs c 0)) (xh xs c 1) w1 w2 = acc xs ws c 0 from congrArg bmax (pay6_blk xs ws c hw1 hw2)]
  iapply (step_ret c _)
  iapply Hk $$ Hdue Hx Hw Ho Hp Hr Hs

/-- The sources of the first transfers are back; the first half has landed. -/
theorem part19 (c : Dev nD) (l : List Kind) (hl : Above 2 l) (v3 : BitVec 32) {Q : _ → sProp 𝕄} :
    INV xs ws K ⊢ iprop(due c l
      -∗ crd c (.dep true 1 0)
      -∗ posn c (.dep true 1 0)
      -∗ crd c (.dep false 0 0)
      -∗ posn c (.dep false 0 0)
      -∗ crd c (.dep false 1 0)
      -∗ posn c (.dep false 1 0)
      -∗ crd c (.send true 0 0)
      -∗ posn c (.send true 0 0)
      -∗ (due c l -∗ posn c (.dep true 1 2) -∗ rch c (.dep true 1 2) -∗ srcHas xs true 1 0 c -∗ posn c (.dep false 0 2) -∗ rch c (.dep false 0 2) -∗ srcHas xs false 0 0 c -∗ posn c (.dep false 1 2) -∗ rch c (.dep false 1 2) -∗ srcHas xs false 1 0 c -∗ (posn c (.send true 0 (2)) ∗ rch (frm true c) (.send true 0 (2)) ∗ has c (slotM true (par (0)) 0) fullShare (xh xs (org true (1) c) 0) ∗ rch c (.cred true (1)) ∗ got true 0 (0) c ∗ ext true 0 (1) c) -∗ Q (⟨⟩))
      -∗ WP c (k0_part19 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 v3) Q) := by
  rw [k0_part19_eq_skeleton]; unfold k0_part19_skel
  simp only [semSignalWord, semWaitWord, smemLoad, smemLoadElt, Prog.lift, Prog.bind_op, Prog.bind_ret, Prog.pure_eq_ret, Prog.bind_assoc, wp_deviceId]
  iintro #HI Hdue Hc0 Hp0 Hc1 Hp1 Hc2 Hp2 Hc Hp Hk
  iapply (cur4 (wait_dep xs ws K c true 1 (0) _ (by decide +kernel) (hl.low (by decide)) (sem_dep c true 1 (0) rfl))) $$ HI Hdue Hc0 Hp0; iintro ⟨Hdue, Hp0, Hr0, Hs0⟩
  iapply (cur4 (wait_dep xs ws K c false 0 (0) _ (by decide +kernel) (hl.low (by decide)) (sem_dep c false 0 (0) rfl))) $$ HI Hdue Hc1 Hp1; iintro ⟨Hdue, Hp1, Hr1, Hs1⟩
  iapply (cur4 (wait_dep xs ws K c false 1 (0) _ (by decide +kernel) (hl.low (by decide)) (sem_dep c false 1 (0) rfl))) $$ HI Hdue Hc2 Hp2; iintro ⟨Hdue, Hp2, Hr2, Hs2⟩
  iapply (cur4 (wait_recv xs ws K c true 0 (0) _ (by decide +kernel) hl (by decide) (s' := (par (0))) (sem_send c true 0 (0) rfl) (slot_eq true (par (0)) 0 rfl))) $$ HI Hdue Hc Hp; iintro ⟨Hdue, Hq⟩
  iapply (step_ret c _)
  iapply Hk $$ Hdue Hp0 Hr0 Hs0 Hp1 Hr1 Hs1 Hp2 Hr2 Hs2 Hq

theorem part20 (c : Dev nD) (l : List Kind) (hl : Above 2 l) (hv3 : k0_chk2 (wd (nxt true c))) (hv4 : k0_chk1 (wd (nxt false c))) {Q : _ → sProp 𝕄} :
    INV xs ws K ⊢ iprop(due c (.send true 0 1 :: l)
      -∗ srcHas xs true 0 (1) c
      -∗ grant true 0 (1) (nxt true c)
      -∗ rch c (.dep true 0 (1))
      -∗ rch (nxt true c) (.cred true (2))
      -∗ ext true 0 (1) c
      -∗ crd c (.send false 0 0)
      -∗ posn c (.send false 0 0)
      -∗ (due c l -∗ crd c (.dep true 0 1) -∗ (posn c (.send false 0 (2)) ∗ rch (frm false c) (.send false 0 (2)) ∗ has c (slotM false (par (0)) 0) fullShare (xh xs (org false (1) c) 0) ∗ rch c (.cred false (1)) ∗ got false 0 (0) c ∗ ext false 0 (1) c) -∗ Q (⟨⟩))
      -∗ WP c (k0_part20 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 (wd (nxt true c)) hv3 (wd (nxt false c))) Q) := by
  rw [k0_part20_eq_skeleton]; unfold k0_part20_skel
  simp only [semSignalWord, semWaitWord, smemLoad, smemLoadElt, Prog.lift, Prog.bind_op, Prog.bind_ret, Prog.pure_eq_ret, Prog.bind_assoc, wp_deviceId]
  iintro #HI Hdue Hs0 Hg0 Hd0 Hr0 Hx0 Hc Hp Hk
  iapply (cur7 (step_send xs ws K c true 0 (1) _ (by decide +kernel) (dev7 _ _) (slot_eq true (par 0) 0 rfl) (slot_eq true (par (1)) 0 rfl) (sem_dep c true 0 (1) rfl) (sem_send c true 0 (1) rfl))) $$ HI Hdue Hs0 Hg0 Hd0 Hr0 Hx0
  iintro ⟨Hdue, Hc0⟩
  iapply (cur4 (wait_recv xs ws K c false 0 (0) _ (by decide +kernel) hl (by decide) (s' := (par (0))) (sem_send c false 0 (0) rfl) (slot_eq false (par (0)) 0 rfl))) $$ HI Hdue Hc Hp; iintro ⟨Hdue, Hq⟩
  iapply (step_ret c _)
  iapply Hk $$ Hdue Hc0 Hq

theorem part21 (c : Dev nD) (l : List Kind) (hl : Above 2 (.send true 1 1 :: l)) (hv3 : k0_chk2 (wd (nxt true c))) (hv4 : k0_chk1 (wd (nxt false c))) {Q : _ → sProp 𝕄} :
    INV xs ws K ⊢ iprop(due c (.send false 0 1 :: .send true 1 1 :: l)
      -∗ srcHas xs false 0 (1) c
      -∗ grant false 0 (1) (nxt false c)
      -∗ rch c (.dep false 0 (1))
      -∗ rch (nxt false c) (.cred false (2))
      -∗ ext false 0 (1) c
      -∗ crd c (.send true 1 0)
      -∗ posn c (.send true 1 0)
      -∗ grant true 1 1 (nxt true c)
      -∗ rch c (.dep true 1 1)
      -∗ rch (nxt true c) (.cred true 2)
      -∗ (due c l -∗ crd c (.dep false 0 1) -∗ crd c (.dep true 1 1) -∗ posn c (.send true 1 2) -∗ rch (frm true c) (.send true 1 2) -∗ landed xs true 1 0 c -∗ rch c (.cred true 1) -∗ got true 1 0 c -∗ Q (⟨⟩))
      -∗ WP c (k0_part21 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 (wd (nxt true c)) hv3 (wd (nxt false c)) hv4) Q) := by
  rw [k0_part21_eq_skeleton]; unfold k0_part21_skel
  simp only [semSignalWord, semWaitWord, smemLoad, smemLoadElt, Prog.lift, Prog.bind_op, Prog.bind_ret, Prog.pure_eq_ret, Prog.bind_assoc, wp_deviceId]
  iintro #HI Hdue Hs0 Hg0 Hd0 Hr0 Hx0 Hc Hp Hg1 Hd1 Hr1 Hk
  iapply (cur7 (step_send xs ws K c false 0 (1) _ (by decide +kernel) (dev8 _ _) (slot_eq false (par 0) 0 rfl) (slot_eq false (par (1)) 0 rfl) (sem_dep c false 0 (1) rfl) (sem_send c false 0 (1) rfl))) $$ HI Hdue Hs0 Hg0 Hd0 Hr0 Hx0
  iintro ⟨Hdue, Hc0⟩
  iapply (cur4 (wait_recv xs ws K c true 1 (0) _ (by decide +kernel) hl (by decide) (s' := (par (0))) (sem_send c true 1 (0) rfl) (slot_eq true (par (0)) 1 rfl))) $$ HI Hdue Hc Hp; iintro ⟨Hdue, Hq1, Hq2, Hq3, Hq4, Hq5, Hx1⟩
  ihave Hq3 := (landed_split xs true 1 0 c) $$ Hq3; icases Hq3 with ⟨Hs1, Hq3⟩
  iapply (cur7 (step_send xs ws K c true 1 (1) _ (by decide +kernel) (dev9 _ _) (slot_eq true (par 0) 1 rfl) (slot_eq true (par (1)) 1 rfl) (sem_dep c true 1 (1) rfl) (sem_send c true 1 (1) rfl))) $$ HI Hdue Hs1 Hg1 Hd1 Hr1 Hx1
  iintro ⟨Hdue, Hc1⟩
  iapply (step_ret c _)
  iapply Hk $$ Hdue Hc0 Hc1 Hq1 Hq2 Hq3 Hq4 Hq5

theorem part22 (c : Dev nD) (l : List Kind) (hl : Above 2 (.send false 1 1 :: l)) (hv4 : k0_chk1 (wd (nxt false c))) {Q : _ → sProp 𝕄} :
    INV xs ws K ⊢ iprop(due c (.send false 1 1 :: l)
      -∗ crd c (.send false 1 0)
      -∗ posn c (.send false 1 0)
      -∗ grant false 1 1 (nxt false c)
      -∗ rch c (.dep false 1 1)
      -∗ rch (nxt false c) (.cred false 2)
      -∗ landed xs true 0 0 c
      -∗ landed xs true 1 0 c
      -∗ idP c
      -∗ wP ws c
      -∗ (∀ a b w, ⌜shapeCast S128x2048 a shapeCasts_S1x1x128x2048_S128x2048 = xh xs (org true 1 c) 0⌝ -∗ ⌜shapeCast S128x2048 b shapeCasts_S1x1x128x2048_S128x2048 = xh xs (org true 1 c) 1⌝ -∗ ⌜shapeCast S2048x256 w shapeCasts_S2048x256_S2048x256 = wh ws c 0⌝ -∗ due c l -∗ crd c (.dep false 1 1) -∗ posn c (.send false 1 2) -∗ rch (frm false c) (.send false 1 2) -∗ landed xs false 1 0 c -∗ rch c (.cred false 1) -∗ got false 1 0 c -∗ landed xs true 0 0 c -∗ landed xs true 1 0 c -∗ idP c -∗ wP ws c -∗ Q (⟨k0_pay8 b, wd (org true 1 c), chk3 _, k0_pay9 a w⟩))
      -∗ WP c (k0_part22 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 (wd (nxt false c)) hv4) Q) := by
  rw [k0_part22_eq_skeleton]; unfold k0_part22_skel
  simp only [semSignalWord, semWaitWord, smemLoad, smemLoadElt, Prog.lift, Prog.bind_op, Prog.bind_ret, Prog.pure_eq_ret, Prog.bind_assoc, wp_deviceId]
  iintro #HI Hdue Hc Hp Hg1 Hd1 Hr1 Ha Hb Hid Hw Hk
  iapply (cur4 (wait_recv xs ws K c false 1 (0) _ (by decide +kernel) hl (by decide) (s' := (par (0))) (sem_send c false 1 (0) rfl) (slot_eq false (par (0)) 1 rfl))) $$ HI Hdue Hc Hp; iintro ⟨Hdue, Hq1, Hq2, Hq3, Hq4, Hq5, Hx1⟩
  ihave Hq3 := (landed_split xs false 1 0 c) $$ Hq3; icases Hq3 with ⟨Hs1, Hq3⟩
  iapply (cur7 (step_send xs ws K c false 1 (1) _ (by decide +kernel) (dev10 _ _) (slot_eq false (par 0) 1 rfl) (slot_eq false (par (1)) 1 rfl) (sem_dep c false 1 (1) rfl) (sem_send c false 1 (1) rfl))) $$ HI Hdue Hs1 Hg1 Hd1 Hr1 Hx1
  iintro ⟨Hdue, Hc1⟩
  unfold idP wP; unfold landed
  iapply (load_slot c true (par 0) 0 fullShare.right _ rfl rfl) $$ Ha; iintro %a %ha Ha
  iapply (load_slot c true (par 0) 1 fullShare.right _ rfl rfl) $$ Hb; iintro %b %hb Hb
  iapply (load_id c 2 (org true 1 c) fullShare rfl rfl) $$ Hid; iintro Hid; dsimp only
  iapply (step_assume c (chk3 (org true 1 c)))
  iapply (load_w ws c 0 fullShare rfl) $$ Hw; iintro %w1 %hw1 Hw
  iapply (step_ret c _)
  iapply Hk $$ %a %b %w1 %ha %hb %hw1 Hdue Hc1 Hq1 Hq2 Hq3 Hq4 Hq5 Ha Hb Hid Hw

theorem part23 (c : Dev nD) (P : Dev nD → Prop) (v65 : F .f32) (hv : k0_chk3 (wd (org true 1 c))) {a b : S1x1x128x2048.Idx → Elt F .f32} {w : S2048x256.Idx → Elt F .f32} (ha : shapeCast S128x2048 a shapeCasts_S1x1x128x2048_S128x2048 = xh xs (org true 1 c) 0) (hb : shapeCast S128x2048 b shapeCasts_S1x1x128x2048_S128x2048 = xh xs (org true 1 c) 1) (hw : shapeCast S2048x256 w shapeCasts_S2048x256_S2048x256 = wh ws c 0) {Q : _ → sProp 𝕄} :
    INV xs ws K ⊢ iprop(landed xs false 0 0 c
      -∗ landed xs false 1 0 c
      -∗ idP c
      -∗ wP ws c
      -∗ outHas xs ws c P
      -∗ (landed xs false 0 0 c -∗ landed xs false 1 0 c -∗ idP c -∗ wP ws c -∗ outHas xs ws c (fun o => (P o ∨ o = org true 1 c) ∨ o = org false 1 c) -∗ Q (⟨Scalar.maximumf v65 (bmax (blk xs ws c (org true 1 c))), shapeCast S1x128x256 (blk xs ws c (org false 1 c)) shapeCasts_S128x256_S1x128x256⟩))
      -∗ WP c (k0_part23 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 v65 (k0_pay8 b) (wd (org true 1 c)) hv (k0_pay9 a w)) Q) := by
  rw [k0_part23_eq_skeleton]; unfold k0_part23_skel
  simp only [semSignalWord, semWaitWord, smemLoad, smemLoadElt, Prog.lift, Prog.bind_op, Prog.bind_ret, Prog.pure_eq_ret, Prog.bind_assoc, wp_deviceId]
  iintro #HI Ha Hb Hid Hw Ho Hk
  unfold idP wP; unfold landed
  iapply (load_w ws c 1 fullShare rfl) $$ Hw; iintro %w2 %hw2 Hw
  iapply (load_out xs ws c _) $$ Ho; iintro %_ Ho
  iapply (store_out xs ws c (org true 1 c) _ (off2_eq _) (pay10_blk xs ws c _ ha hb hw hw2)) $$ Ho; iintro Ho
  iapply (load_slot c false (par 0) 0 fullShare.right _ rfl rfl) $$ Ha; iintro %a' %ha' Ha
  iapply (load_slot c false (par 0) 1 fullShare.right _ rfl rfl) $$ Hb; iintro %b' %hb' Hb
  iapply (load_id c 18 (org false 1 c) fullShare rfl rfl) $$ Hid; iintro Hid; dsimp only
  iapply (step_assume c (chk4 (org false 1 c)))
  iapply (load_w ws c 0 fullShare rfl) $$ Hw; iintro %w3 %hw3 Hw
  iapply (load_w ws c 1 fullShare rfl) $$ Hw; iintro %w4 %hw4 Hw
  iapply (load_out xs ws c _) $$ Ho; iintro %_ Ho
  iapply (store_out xs ws c (org false 1 c) _ (off3_eq _) (pay2_blk xs ws c _ ha' hb' hw3 hw4)) $$ Ho; iintro Ho
  rw [show k0_pay11 v65 (k0_pay8 b) (k0_pay9 a w) w2 = Scalar.maximumf v65 (bmax (blk xs ws c (org true 1 c))) from congrArg (fun z => Scalar.maximumf v65 (bmax z)) (pay10_blk xs ws c _ ha hb hw hw2),
    show k0_pay13 a' b' w3 w4 = shapeCast S1x128x256 (blk xs ws c (org false 1 c)) shapeCasts_S128x256_S1x128x256 from congrArg (fun z => shapeCast S1x128x256 z shapeCasts_S128x256_S1x128x256) (pay2_blk xs ws c _ ha' hb' hw3 hw4)]
  iapply (step_ret c _)
  iapply Hk $$ Ha Hb Hid Hw Ho

theorem part24 (c : Dev nD) (l : List Kind) (hl : Above 0 l) {Q : _ → sProp 𝕄} :
    INV xs ws K ⊢ iprop(due c l
      -∗ crd c (.dep true 0 1)
      -∗ posn c (.dep true 0 1)
      -∗ crd c (.dep true 1 1)
      -∗ posn c (.dep true 1 1)
      -∗ (due c l -∗ posn c (.dep true 0 3) -∗ rch c (.dep true 0 3) -∗ srcHas xs true 0 1 c -∗ posn c (.dep true 1 3) -∗ rch c (.dep true 1 3) -∗ srcHas xs true 1 1 c -∗ Q (acc xs ws c 1))
      -∗ WP c (k0_part24 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 (Scalar.maximumf (acc xs ws c 0) (bmax (blk xs ws c (org true 1 c)))) (shapeCast S1x128x256 (blk xs ws c (org false 1 c)) shapeCasts_S128x256_S1x128x256)) Q) := by
  rw [k0_part24_eq_skeleton]; unfold k0_part24_skel
  simp only [semSignalWord, semWaitWord, smemLoad, smemLoadElt, Prog.lift, Prog.bind_op, Prog.bind_ret, Prog.pure_eq_ret, Prog.bind_assoc, wp_deviceId]
  iintro #HI Hdue Hc0 Hp0 Hc1 Hp1 Hk
  iapply (cur4 (wait_dep xs ws K c true 0 (1) _ (by decide +kernel) hl (sem_dep c true 0 (1) rfl))) $$ HI Hdue Hc0 Hp0; iintro ⟨Hdue, Hp0, Hr0, Hs0⟩
  iapply (cur4 (wait_dep xs ws K c true 1 (1) _ (by decide +kernel) hl (sem_dep c true 1 (1) rfl))) $$ HI Hdue Hc1 Hp1; iintro ⟨Hdue, Hp1, Hr1, Hs1⟩
  rw [show k0_pay14 (Scalar.maximumf (acc xs ws c 0) (bmax (blk xs ws c (org true 1 c)))) (shapeCast S1x128x256 (blk xs ws c (org false 1 c)) shapeCasts_S128x256_S1x128x256) = acc xs ws c 1 from rfl]
  iapply (step_ret c _)
  iapply Hk $$ Hdue Hp0 Hr0 Hs0 Hp1 Hr1 Hs1

end Cert.RingGemm

end
-- ==== Proof.Body2.lean ====
/-
One trip of the middle phases, part by part.
-/
module

public import proofs.«01_k».proof.Proof.Slots

@[expose] public section

set_option maxHeartbeats 1000000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem due_send (d : Bool) (j : Fin 2) {h : ℕ} (hh : h < 15) : Kind.send d j h ∈ dueK := by
  have H : ∀ (d : Bool) (j : Fin 2) (h : Fin 15), Kind.send d j h.val ∈ dueK := by decide +kernel
  exact H d j ⟨h, hh⟩
theorem due_cred (d : Bool) {h : ℕ} (hh : h < 14) : Kind.cred d (h + 1) ∈ dueK := by
  have H : ∀ (d : Bool) (h : Fin 14), Kind.cred d (h.val + 1) ∈ dueK := by decide +kernel
  exact H d ⟨h, hh⟩
theorem tlt (t : Fin k0_t1_loop.trips) : t.val < 13 := trips ▸ t.isLt
theorem tdue (t : Fin k0_t1_loop.trips) (d : Bool) (j : Fin 2) : Kind.send d j (t.val + 1) ∈ dueK := due_send d j (by have := tlt t; omega)
theorem tdue1 (t : Fin k0_t1_loop.trips) (d : Bool) (j : Fin 2) : Kind.send d j (t.val + 1 + 1) ∈ dueK := due_send d j (by have := tlt t; omega)
theorem tcred (t : Fin k0_t1_loop.trips) (d : Bool) : Kind.cred d (t.val + 1) ∈ dueK := due_cred d (by have := tlt t; omega)
theorem tcred1 (t : Fin k0_t1_loop.trips) (d : Bool) : Kind.cred d (t.val + 1 + 1) ∈ dueK := due_cred d (by have := tlt t; omega)
theorem tlv (t : Fin k0_t1_loop.trips) : t.val + 1 + 2 < NL := by have := tlt t; unfold NL; omega
theorem tne (t : Fin k0_t1_loop.trips) : t.val + 1 ≠ 14 := by have := tlt t; omega
theorem tne1 (t : Fin k0_t1_loop.trips) : t.val + 1 + 1 ≠ 14 + 1 := by have := tlt t; omega
theorem idN_true (c : Dev nD) (t : Fin k0_t1_loop.trips) : idN c (t.val + 3) = org true (t.val + 1 + 1) c := by
  have := tlt t; unfold idN; rw [if_neg (by omega), if_neg (by omega), if_pos (by omega)]; rfl
theorem idN_false (c : Dev nD) (t : Fin k0_t1_loop.trips) : idN c (t.val + 19) = org false (t.val + 1 + 1) c := by
  have := tlt t; unfold idN; rw [if_neg (by omega), if_neg (by omega), if_neg (by omega)]; rfl

variable (xs : Dev nD → (S128x4096.Idx → Elt F .f32)) (ws : Dev nD → (S4096x256.Idx → Elt F .f32)) (K : GSem nD τ sig → ℕ)

variable {h0 : idM.IsWhole} {h1 : xM.IsWhole} {h2 : wM.IsWhole} {h3 : oM.IsWhole} {h4 : (Memref.whole cc0_scratch0).IsWhole} {h5 : (Memref.whole cc0_scratch1).IsWhole}
  {h6 : asM.IsWhole} {h7 : arM.IsWhole}

/-- The wait for a credit that frees both slots. -/
theorem wait_cred2 {α : Type} {Q : α → sProp 𝕄} {k : PUnit → Prog (TpuEff nD τ sig (Elt F) Λ₀ .tc) α} (c : Dev nD) (d : Bool) (n : ℕ) (l : List Kind) (hκ : Kind.cred d (n + 1) ∈ dueK) (hn : n + 1 ≠ 14) (hl : Above (n + 1 + 2) l) (hlv : n + 1 + 2 < NL)
    {sem : Sem sig} {wd : BitVec 32} (hwd : wd = 1#32) (hsm : SemLoc.reg sem = semOf c (.cred d (n + 1))) :
    iprop(INV xs ws K ∗ due c l ∗ crd c (.cred d (n + 1)) ∗ posn c (.cred d (n + 1)))
      ⊢ iprop(((due c l ∗ posn c (.cred d (n + 1 + 2)) ∗ rch (nxt d c) (.cred d (n + 1 + 2)) ∗ grant d 0 (n + 1 + 1) (nxt d c) ∗ grant d 1 (n + 1 + 1) (nxt d c)) -∗ WP c (k ⟨⟩) Q)
        -∗ WP c (.op (.semWait sem wd.toInt) k) Q) := by
  iintro H Hk
  iapply (wait_cred xs ws K c d (n + 1) l (Nat.le_add_left _ _) hκ hl hlv hwd hsm) $$ H
  rw [if_neg hn]
  iintro ⟨H1, H2, H3, H4, H5⟩
  iapply Hk
  isplitl [H1]; · iexact H1
  isplitl [H2]; · iexact H2
  isplitl [H3]; · iexact H3
  cases d
  · isplitl [H5]; · iexact H5
    iexact H4
  · isplitl [H4]; · iexact H4
    iexact H5

theorem part1 (c : Dev nD) (t : Fin k0_t1_loop.trips) {Q : _ → sProp 𝕄} :
    iprop(∀ r, Q r) ⊢ WP c (k0_part1 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 2#32 1#32 t) Q := by
  rw [k0_part1_eq_skeleton]; unfold k0_part1_skel
  simp only [Prog.pure_eq_ret]
  iintro Hk
  iapply (step_ret c _)
  iapply Hk

theorem part2 (c : Dev nD) (t : Fin k0_t1_loop.trips) (v3 a b : BitVec 32) {Q : _ → sProp 𝕄} :
    iprop(∀ r, Q r) ⊢ WP c (k0_part2 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 v3 t a b) Q := by
  rw [k0_part2_eq_skeleton]; unfold k0_part2_skel
  simp only [Prog.pure_eq_ret]
  iintro Hk
  iapply (step_ret c _)
  iapply Hk

theorem part3 (c : Dev nD) (t : Fin k0_t1_loop.trips) (l : List Kind) (hl : Above (t.val + 1 + 2) l) (a : BitVec 32) {Q : _ → sProp 𝕄} :
    INV xs ws K ⊢ iprop(due c l
      -∗ crd c (.send true 0 (t.val + 1))
      -∗ posn c (.send true 0 (t.val + 1))
      -∗ crd c (.cred true (t.val + 1))
      -∗ posn c (.cred true (t.val + 1))
      -∗ (∀ r, due c l -∗ posn c (.send true 0 (t.val + 1 + 2)) -∗ rch (frm true c) (.send true 0 (t.val + 1 + 2)) -∗ srcHas xs true 0 (t.val + 1 + 1) c -∗ landed xs true 0 (t.val + 1) c -∗ rch c (.cred true (t.val + 1 + 1)) -∗ got true 0 (t.val + 1) c -∗ ext true 0 (t.val + 1 + 1) c -∗ posn c (.cred true (t.val + 1 + 2)) -∗ rch (nxt true c) (.cred true (t.val + 1 + 2)) -∗ grant true 0 (t.val + 1 + 1) (nxt true c) -∗ grant true 1 (t.val + 1 + 1) (nxt true c) -∗ Q (r))
      -∗ WP c (k0_part3 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 t a) Q) := by
  rw [k0_part3_eq_skeleton]; unfold k0_part3_skel
  simp only [semSignalWord, semWaitWord, smemLoad, smemLoadElt, Prog.lift, Prog.bind_op, Prog.bind_ret, Prog.pure_eq_ret, Prog.bind_assoc, wp_deviceId]
  iintro #HI Hdue Hc Hp Hc1 Hp1 Hk
  iapply (cur4 (wait_recv xs ws K c true 0 (t.val + 1) _ (tdue t true 0) hl (tlv t) (s' := par (t.val + 1)) (sem_send c true 0 (t.val + 1) (off4_eq t)) (slot_eq true (par (t.val + 1)) 0 (off5_eq t)))) $$ HI Hdue Hc Hp; iintro ⟨Hdue, Hq1, Hq2, Hq3, Hq5, Hq6, Hq7⟩
  ihave Hq3 := (landed_split xs true 0 (t.val + 1) c) $$ Hq3; icases Hq3 with ⟨Hq3, Hq4⟩
  iapply (cur4 (wait_cred2 xs ws K c true (t.val) _ (tcred t true) (tne t) hl (tlv t) rfl (sem_cred c true (t.val + 1) (off7_eq t)))) $$ HI Hdue Hc1 Hp1; iintro ⟨Hdue, Hp1, Hr1, Hg0, Hg1⟩
  iapply (step_ret c _)
  iapply Hk $$ %_ Hdue Hq1 Hq2 Hq3 Hq4 Hq5 Hq6 Hq7 Hp1 Hr1 Hg0 Hg1

theorem part4 (c : Dev nD) (t : Fin k0_t1_loop.trips) (l : List Kind) (hv3 : k0_chk2 (wd (nxt true c))) (a b : BitVec 32) (e : BitVec 1) {Q : _ → sProp 𝕄} :
    INV xs ws K ⊢ iprop(due c (.send true 0 (t.val + 1 + 1) :: l)
      -∗ srcHas xs true 0 (t.val + 1 + 1) c
      -∗ grant true 0 (t.val + 1 + 1) (nxt true c)
      -∗ rch c (.dep true 0 (t.val + 1 + 1))
      -∗ rch (nxt true c) (.cred true (t.val + 1 + 1 + 1))
      -∗ ext true 0 (t.val + 1 + 1) c
      -∗ (∀ r, due c l -∗ crd c (.dep true 0 (t.val + 1 + 1)) -∗ Q (r))
      -∗ WP c (k0_part4 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 (wd (nxt true c)) hv3 t a b e) Q) := by
  rw [k0_part4_eq_skeleton]; unfold k0_part4_skel
  simp only [semSignalWord, semWaitWord, smemLoad, smemLoadElt, Prog.lift, Prog.bind_op, Prog.bind_ret, Prog.pure_eq_ret, Prog.bind_assoc, wp_deviceId]
  iintro #HI Hdue Hs Hg Hd Hr Hx Hk
  iapply (cur7 (step_send xs ws K c true 0 (t.val + 1 + 1) _ (tdue1 t _ _) (dev13 _ _) (slot_eq true (par (t.val + 1)) 0 (off5_eq t)) (slot_eq true (par (t.val + 1 + 1)) 0 (off9_eq t)) (sem_dep c true 0 (t.val + 1 + 1) (off8_eq t)) (sem_send c true 0 (t.val + 1 + 1) (off8_eq t)))) $$ HI Hdue Hs Hg Hd Hr Hx
  iintro ⟨Hdue, Hc⟩
  iapply (step_ret c _)
  iapply Hk $$ %_ Hdue Hc

theorem part5 (c : Dev nD) (t : Fin k0_t1_loop.trips) (v4 a b e : BitVec 32) {Q : _ → sProp 𝕄} :
    iprop(∀ r, Q r) ⊢ WP c (k0_part5 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 v4 t a b e) Q := by
  rw [k0_part5_eq_skeleton]; unfold k0_part5_skel
  simp only [Prog.pure_eq_ret]
  iintro Hk
  iapply (step_ret c _)
  iapply Hk

theorem part6 (c : Dev nD) (t : Fin k0_t1_loop.trips) (l : List Kind) (hl : Above (t.val + 1 + 2) l) (a : BitVec 32) {Q : _ → sProp 𝕄} :
    INV xs ws K ⊢ iprop(due c l
      -∗ crd c (.send false 0 (t.val + 1))
      -∗ posn c (.send false 0 (t.val + 1))
      -∗ crd c (.cred false (t.val + 1))
      -∗ posn c (.cred false (t.val + 1))
      -∗ (∀ r, due c l -∗ posn c (.send false 0 (t.val + 1 + 2)) -∗ rch (frm false c) (.send false 0 (t.val + 1 + 2)) -∗ srcHas xs false 0 (t.val + 1 + 1) c -∗ landed xs false 0 (t.val + 1) c -∗ rch c (.cred false (t.val + 1 + 1)) -∗ got false 0 (t.val + 1) c -∗ ext false 0 (t.val + 1 + 1) c -∗ posn c (.cred false (t.val + 1 + 2)) -∗ rch (nxt false c) (.cred false (t.val + 1 + 2)) -∗ grant false 0 (t.val + 1 + 1) (nxt false c) -∗ grant false 1 (t.val + 1 + 1) (nxt false c) -∗ Q (r))
      -∗ WP c (k0_part6 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 t a) Q) := by
  rw [k0_part6_eq_skeleton]; unfold k0_part6_skel
  simp only [semSignalWord, semWaitWord, smemLoad, smemLoadElt, Prog.lift, Prog.bind_op, Prog.bind_ret, Prog.pure_eq_ret, Prog.bind_assoc, wp_deviceId]
  iintro #HI Hdue Hc Hp Hc1 Hp1 Hk
  iapply (cur4 (wait_recv xs ws K c false 0 (t.val + 1) _ (tdue t false 0) hl (tlv t) (s' := par (t.val + 1)) (sem_send c false 0 (t.val + 1) (off4_eq t)) (slot_eq false (par (t.val + 1)) 0 (off5_eq t)))) $$ HI Hdue Hc Hp; iintro ⟨Hdue, Hq1, Hq2, Hq3, Hq5, Hq6, Hq7⟩
  ihave Hq3 := (landed_split xs false 0 (t.val + 1) c) $$ Hq3; icases Hq3 with ⟨Hq3, Hq4⟩
  iapply (cur4 (wait_cred2 xs ws K c false (t.val) _ (tcred t false) (tne t) hl (tlv t) rfl (sem_cred c false (t.val + 1) (off7_eq t)))) $$ HI Hdue Hc1 Hp1; iintro ⟨Hdue, Hp1, Hr1, Hg0, Hg1⟩
  iapply (step_ret c _)
  iapply Hk $$ %_ Hdue Hq1 Hq2 Hq3 Hq4 Hq5 Hq6 Hq7 Hp1 Hr1 Hg0 Hg1

theorem part7 (c : Dev nD) (t : Fin k0_t1_loop.trips) (l : List Kind) (hv4 : k0_chk1 (wd (nxt false c))) (a b : BitVec 32) (e : BitVec 1) (f : BitVec 32) {Q : _ → sProp 𝕄} :
    INV xs ws K ⊢ iprop(due c (.send false 0 (t.val + 1 + 1) :: l)
      -∗ srcHas xs false 0 (t.val + 1 + 1) c
      -∗ grant false 0 (t.val + 1 + 1) (nxt false c)
      -∗ rch c (.dep false 0 (t.val + 1 + 1))
      -∗ rch (nxt false c) (.cred false (t.val + 1 + 1 + 1))
      -∗ ext false 0 (t.val + 1 + 1) c
      -∗ (∀ r, due c l -∗ crd c (.dep false 0 (t.val + 1 + 1)) -∗ Q (r))
      -∗ WP c (k0_part7 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 (wd (nxt false c)) hv4 t a b e f) Q) := by
  rw [k0_part7_eq_skeleton]; unfold k0_part7_skel
  simp only [semSignalWord, semWaitWord, smemLoad, smemLoadElt, Prog.lift, Prog.bind_op, Prog.bind_ret, Prog.pure_eq_ret, Prog.bind_assoc, wp_deviceId]
  iintro #HI Hdue Hs Hg Hd Hr Hx Hk
  iapply (cur7 (step_send xs ws K c false 0 (t.val + 1 + 1) _ (tdue1 t _ _) (dev14 _ _) (slot_eq false (par (t.val + 1)) 0 (off5_eq t)) (slot_eq false (par (t.val + 1 + 1)) 0 (off9_eq t)) (sem_dep c false 0 (t.val + 1 + 1) (off8_eq t)) (sem_send c false 0 (t.val + 1 + 1) (off8_eq t)))) $$ HI Hdue Hs Hg Hd Hr Hx
  iintro ⟨Hdue, Hc⟩
  iapply (step_ret c _)
  iapply Hk $$ %_ Hdue Hc

theorem part8 (c : Dev nD) (t : Fin k0_t1_loop.trips) (l : List Kind) (hl : Above (t.val + 1 + 2) l) (v3 a b e f : BitVec 32) {Q : _ → sProp 𝕄} :
    INV xs ws K ⊢ iprop(due c l
      -∗ crd c (.send true 1 (t.val + 1))
      -∗ posn c (.send true 1 (t.val + 1))
      -∗ (∀ r, due c l -∗ posn c (.send true 1 (t.val + 1 + 2)) -∗ rch (frm true c) (.send true 1 (t.val + 1 + 2)) -∗ srcHas xs true 1 (t.val + 1 + 1) c -∗ landed xs true 1 (t.val + 1) c -∗ rch c (.cred true (t.val + 1 + 1)) -∗ got true 1 (t.val + 1) c -∗ ext true 1 (t.val + 1 + 1) c -∗ Q (r))
      -∗ WP c (k0_part8 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 v3 t a b e f) Q) := by
  rw [k0_part8_eq_skeleton]; unfold k0_part8_skel
  simp only [semSignalWord, semWaitWord, smemLoad, smemLoadElt, Prog.lift, Prog.bind_op, Prog.bind_ret, Prog.pure_eq_ret, Prog.bind_assoc, wp_deviceId]
  iintro #HI Hdue Hc Hp Hk
  iapply (cur4 (wait_recv xs ws K c true 1 (t.val + 1) _ (tdue t true 1) hl (tlv t) (s' := par (t.val + 1)) (sem_send c true 1 (t.val + 1) (off10_eq t)) (slot_eq true (par (t.val + 1)) 1 (off11_eq t)))) $$ HI Hdue Hc Hp; iintro ⟨Hdue, Hq1, Hq2, Hq3, Hq5, Hq6, Hq7⟩
  ihave Hq3 := (landed_split xs true 1 (t.val + 1) c) $$ Hq3; icases Hq3 with ⟨Hq3, Hq4⟩
  iapply (step_ret c _)
  iapply Hk $$ %_ Hdue Hq1 Hq2 Hq3 Hq4 Hq5 Hq6 Hq7

theorem part9 (c : Dev nD) (a : BitVec 32) {Q : _ → sProp 𝕄} :
    iprop(∀ r, Q r) ⊢ WP c (k0_part9 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 a) Q := by
  rw [k0_part9_eq_skeleton]; unfold k0_part9_skel
  simp only [Prog.pure_eq_ret]
  iintro Hk
  iapply (step_ret c _)
  iapply Hk

theorem part10 (c : Dev nD) (t : Fin k0_t1_loop.trips) (l : List Kind) (hv3 : k0_chk2 (wd (nxt true c))) (a b e : BitVec 32) (f g : BitVec 1) {Q : _ → sProp 𝕄} :
    INV xs ws K ⊢ iprop(due c (.send true 1 (t.val + 1 + 1) :: l)
      -∗ srcHas xs true 1 (t.val + 1 + 1) c
      -∗ grant true 1 (t.val + 1 + 1) (nxt true c)
      -∗ rch c (.dep true 1 (t.val + 1 + 1))
      -∗ rch (nxt true c) (.cred true (t.val + 1 + 1 + 1))
      -∗ ext true 1 (t.val + 1 + 1) c
      -∗ (∀ r, due c l -∗ crd c (.dep true 1 (t.val + 1 + 1)) -∗ Q (r))
      -∗ WP c (k0_part10 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 (wd (nxt true c)) hv3 t a b e f g) Q) := by
  rw [k0_part10_eq_skeleton]; unfold k0_part10_skel
  simp only [semSignalWord, semWaitWord, smemLoad, smemLoadElt, Prog.lift, Prog.bind_op, Prog.bind_ret, Prog.pure_eq_ret, Prog.bind_assoc, wp_deviceId]
  iintro #HI Hdue Hs Hg Hd Hr Hx Hk
  iapply (cur7 (step_send xs ws K c true 1 (t.val + 1 + 1) _ (tdue1 t _ _) (dev15 _ _) (slot_eq true (par (t.val + 1)) 1 (off11_eq t)) (slot_eq true (par (t.val + 1 + 1)) 1 (off14_eq t)) (sem_dep c true 1 (t.val + 1 + 1) (off13_eq t)) (sem_send c true 1 (t.val + 1 + 1) (off13_eq t)))) $$ HI Hdue Hs Hg Hd Hr Hx
  iintro ⟨Hdue, Hc⟩
  iapply (step_ret c _)
  iapply Hk $$ %_ Hdue Hc

theorem part11 (c : Dev nD) (t : Fin k0_t1_loop.trips) (l : List Kind) (hl : Above (t.val + 1 + 2) l) (v4 a b e f : BitVec 32) (g i : BitVec 1) {Q : _ → sProp 𝕄} :
    INV xs ws K ⊢ iprop(due c l
      -∗ crd c (.send false 1 (t.val + 1))
      -∗ posn c (.send false 1 (t.val + 1))
      -∗ (∀ r, due c l -∗ posn c (.send false 1 (t.val + 1 + 2)) -∗ rch (frm false c) (.send false 1 (t.val + 1 + 2)) -∗ srcHas xs false 1 (t.val + 1 + 1) c -∗ landed xs false 1 (t.val + 1) c -∗ rch c (.cred false (t.val + 1 + 1)) -∗ got false 1 (t.val + 1) c -∗ ext false 1 (t.val + 1 + 1) c -∗ Q (r))
      -∗ WP c (k0_part11 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 v4 t a b e f g i) Q) := by
  rw [k0_part11_eq_skeleton]; unfold k0_part11_skel
  simp only [semSignalWord, semWaitWord, smemLoad, smemLoadElt, Prog.lift, Prog.bind_op, Prog.bind_ret, Prog.pure_eq_ret, Prog.bind_assoc, wp_deviceId]
  iintro #HI Hdue Hc Hp Hk
  iapply (cur4 (wait_recv xs ws K c false 1 (t.val + 1) _ (tdue t false 1) hl (tlv t) (s' := par (t.val + 1)) (sem_send c false 1 (t.val + 1) (off10_eq t)) (slot_eq false (par (t.val + 1)) 1 (off11_eq t)))) $$ HI Hdue Hc Hp; iintro ⟨Hdue, Hq1, Hq2, Hq3, Hq5, Hq6, Hq7⟩
  ihave Hq3 := (landed_split xs false 1 (t.val + 1) c) $$ Hq3; icases Hq3 with ⟨Hq3, Hq4⟩
  iapply (step_ret c _)
  iapply Hk $$ %_ Hdue Hq1 Hq2 Hq3 Hq4 Hq5 Hq6 Hq7

theorem part12 (c : Dev nD) (a b e : BitVec 32) (f : BitVec 1) (g : BitVec 32) {Q : _ → sProp 𝕄} :
    iprop(∀ r, Q r) ⊢ WP c (k0_part12 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 a b e f g) Q := by
  rw [k0_part12_eq_skeleton]; unfold k0_part12_skel
  simp only [Prog.pure_eq_ret]
  iintro Hk
  iapply (step_ret c _)
  iapply Hk

theorem part13 (c : Dev nD) (t : Fin k0_t1_loop.trips) (l : List Kind) (P : Dev nD → Prop) (hv4 : k0_chk1 (wd (nxt false c))) (a b : BitVec 32) {Q : _ → sProp 𝕄} :
    INV xs ws K ⊢ iprop(due c (.send false 1 (t.val + 1 + 1) :: l)
      -∗ srcHas xs false 1 (t.val + 1 + 1) c
      -∗ grant false 1 (t.val + 1 + 1) (nxt false c)
      -∗ rch c (.dep false 1 (t.val + 1 + 1))
      -∗ rch (nxt false c) (.cred false (t.val + 1 + 1 + 1))
      -∗ ext false 1 (t.val + 1 + 1) c
      -∗ landed xs true 0 (t.val + 1) c
      -∗ landed xs true 1 (t.val + 1) c
      -∗ idP c
      -∗ wP ws c
      -∗ outHas xs ws c P
      -∗ (due c l -∗ crd c (.dep false 1 (t.val + 1 + 1)) -∗ landed xs true 0 (t.val + 1) c -∗ landed xs true 1 (t.val + 1) c -∗ idP c -∗ wP ws c -∗ outHas xs ws c (fun o => P o ∨ o = org true (t.val + 1 + 1) c) -∗ Q (blk xs ws c (org true (t.val + 1 + 1) c)))
      -∗ WP c (k0_part13 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 (wd (nxt false c)) hv4 t a b) Q) := by
  rw [k0_part13_eq_skeleton]; unfold k0_part13_skel
  simp only [semSignalWord, semWaitWord, smemLoad, smemLoadElt, Prog.lift, Prog.bind_op, Prog.bind_ret, Prog.pure_eq_ret, Prog.bind_assoc, wp_deviceId]
  iintro #HI Hdue Hs Hg Hd Hr Hx Ha Hb Hid Hw Ho Hk
  iapply (cur7 (step_send xs ws K c false 1 (t.val + 1 + 1) _ (tdue1 t _ _) (dev16 _ _) (slot_eq false (par (t.val + 1)) 1 (off11_eq t)) (slot_eq false (par (t.val + 1 + 1)) 1 (off14_eq t)) (sem_dep c false 1 (t.val + 1 + 1) (off13_eq t)) (sem_send c false 1 (t.val + 1 + 1) (off13_eq t)))) $$ HI Hdue Hs Hg Hd Hr Hx
  iintro ⟨Hdue, Hc⟩
  unfold idP wP; unfold landed
  iapply (load_slot c true (par (t.val + 1)) 0 fullShare.right _ (off15_eq t) rfl) $$ Ha; iintro %a' %ha' Ha
  iapply (load_slot c true (par (t.val + 1)) 1 fullShare.right _ (off16_eq t) rfl) $$ Hb; iintro %b' %hb' Hb
  iapply (load_id c (t.val + 3) (org true (t.val + 1 + 1) c) fullShare (idN_true c t) (off17_eq t)) $$ Hid; iintro Hid; dsimp only
  iapply (step_assume c (chk5 (org true (t.val + 1 + 1) c)))
  iapply (load_w ws c 0 fullShare rfl) $$ Hw; iintro %w1 %hw1 Hw
  iapply (load_w ws c 1 fullShare rfl) $$ Hw; iintro %w2 %hw2 Hw
  iapply (load_out xs ws c _) $$ Ho; iintro %_ Ho
  iapply (store_out xs ws c (org true (t.val + 1 + 1) c) _ (off18_eq _) (pay2_blk xs ws c _ ha' hb' hw1 hw2)) $$ Ho; iintro Ho
  rw [pay2_blk xs ws c _ ha' hb' hw1 hw2]
  iapply (step_ret c _)
  iapply Hk $$ Hdue Hc Ha Hb Hid Hw Ho

theorem part14 (c : Dev nD) (t : Fin k0_t1_loop.trips) (P : Dev nD → Prop) (a b : BitVec 32) {Q : _ → sProp 𝕄} :
    INV xs ws K ⊢ iprop(landed xs false 0 (t.val + 1) c
      -∗ landed xs false 1 (t.val + 1) c
      -∗ idP c
      -∗ wP ws c
      -∗ outHas xs ws c P
      -∗ (landed xs false 0 (t.val + 1) c -∗ landed xs false 1 (t.val + 1) c -∗ idP c -∗ wP ws c -∗ outHas xs ws c (fun o => P o ∨ o = org false (t.val + 1 + 1) c) -∗ Q (acc xs ws c (t.val + 1 + 1)))
      -∗ WP c (k0_part14 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 t (acc xs ws c (t.val + 1)) a b (blk xs ws c (org true (t.val + 1 + 1) c))) Q) := by
  rw [k0_part14_eq_skeleton]; unfold k0_part14_skel
  simp only [semSignalWord, semWaitWord, smemLoad, smemLoadElt, Prog.lift, Prog.bind_op, Prog.bind_ret, Prog.pure_eq_ret, Prog.bind_assoc, wp_deviceId]
  iintro #HI Ha Hb Hid Hw Ho Hk
  unfold idP wP; unfold landed
  iapply (load_slot c false (par (t.val + 1)) 0 fullShare.right _ (off19_eq t) rfl) $$ Ha; iintro %a' %ha' Ha
  iapply (load_slot c false (par (t.val + 1)) 1 fullShare.right _ (off20_eq t) rfl) $$ Hb; iintro %b' %hb' Hb
  iapply (load_id c (t.val + 19) (org false (t.val + 1 + 1) c) fullShare (idN_false c t) (off21_eq t)) $$ Hid; iintro Hid; dsimp only
  iapply (step_assume c (chk6 (org false (t.val + 1 + 1) c)))
  iapply (load_w ws c 0 fullShare rfl) $$ Hw; iintro %w1 %hw1 Hw
  iapply (load_w ws c 1 fullShare rfl) $$ Hw; iintro %w2 %hw2 Hw
  iapply (load_out xs ws c _) $$ Ho; iintro %_ Ho
  iapply (store_out xs ws c (org false (t.val + 1 + 1) c) _ (off22_eq _) (pay2_blk xs ws c _ ha' hb' hw1 hw2)) $$ Ho; iintro Ho
  rw [show k0_pay4 (acc xs ws c (t.val + 1)) (blk xs ws c (org true (t.val + 1 + 1) c)) a' b' w1 w2 = acc xs ws c (t.val + 1 + 1) from
    congrArg (fun z => Scalar.maximumf (Scalar.maximumf (acc xs ws c (t.val + 1)) (bmax (blk xs ws c (org true (t.val + 1 + 1) c)))) (bmax z)) (pay2_blk xs ws c _ ha' hb' hw1 hw2)]
  iapply (step_ret c _)
  iapply Hk $$ Ha Hb Hid Hw Ho

theorem part15 (c : Dev nD) (t : Fin k0_t1_loop.trips) (l : List Kind) (hl : Above 0 l) {Q : _ → sProp 𝕄} :
    INV xs ws K ⊢ iprop(due c l
      -∗ crd c (.dep true 0 (t.val + 1 + 1))
      -∗ posn c (.dep true 0 (t.val + 1 + 1))
      -∗ crd c (.dep true 1 (t.val + 1 + 1))
      -∗ posn c (.dep true 1 (t.val + 1 + 1))
      -∗ crd c (.dep false 0 (t.val + 1 + 1))
      -∗ posn c (.dep false 0 (t.val + 1 + 1))
      -∗ crd c (.dep false 1 (t.val + 1 + 1))
      -∗ posn c (.dep false 1 (t.val + 1 + 1))
      -∗ (due c l -∗ posn c (.dep true 0 (t.val + 1 + 1 + 2)) -∗ rch c (.dep true 0 (t.val + 1 + 1 + 2)) -∗ srcHas xs true 0 (t.val + 1 + 1) c -∗ posn c (.dep true 1 (t.val + 1 + 1 + 2)) -∗ rch c (.dep true 1 (t.val + 1 + 1 + 2)) -∗ srcHas xs true 1 (t.val + 1 + 1) c -∗ posn c (.dep false 0 (t.val + 1 + 1 + 2)) -∗ rch c (.dep false 0 (t.val + 1 + 1 + 2)) -∗ srcHas xs false 0 (t.val + 1 + 1) c -∗ posn c (.dep false 1 (t.val + 1 + 1 + 2)) -∗ rch c (.dep false 1 (t.val + 1 + 1 + 2)) -∗ srcHas xs false 1 (t.val + 1 + 1) c -∗ Q (⟨⟩))
      -∗ WP c (k0_part15 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 t) Q) := by
  rw [k0_part15_eq_skeleton]; unfold k0_part15_skel
  simp only [semSignalWord, semWaitWord, smemLoad, smemLoadElt, Prog.lift, Prog.bind_op, Prog.bind_ret, Prog.pure_eq_ret, Prog.bind_assoc, wp_deviceId]
  iintro #HI Hdue Hc0 Hp0 Hc1 Hp1 Hc2 Hp2 Hc3 Hp3 Hk
  iapply (cur4 (wait_dep xs ws K c true 0 (t.val + 1 + 1) _ (tdue1 t _ _) hl (sem_dep c true 0 (t.val + 1 + 1) (off23_eq t)))) $$ HI Hdue Hc0 Hp0; iintro ⟨Hdue, Hp0, Hr0, Hs0⟩
  iapply (cur4 (wait_dep xs ws K c true 1 (t.val + 1 + 1) _ (tdue1 t _ _) hl (sem_dep c true 1 (t.val + 1 + 1) (off26_eq t)))) $$ HI Hdue Hc1 Hp1; iintro ⟨Hdue, Hp1, Hr1, Hs1⟩
  iapply (cur4 (wait_dep xs ws K c false 0 (t.val + 1 + 1) _ (tdue1 t _ _) hl (sem_dep c false 0 (t.val + 1 + 1) (off23_eq t)))) $$ HI Hdue Hc2 Hp2; iintro ⟨Hdue, Hp2, Hr2, Hs2⟩
  iapply (cur4 (wait_dep xs ws K c false 1 (t.val + 1 + 1) _ (tdue1 t _ _) hl (sem_dep c false 1 (t.val + 1 + 1) (off26_eq t)))) $$ HI Hdue Hc3 Hp3; iintro ⟨Hdue, Hp3, Hr3, Hs3⟩
  iapply (step_ret c _)
  iapply Hk $$ Hdue Hp0 Hr0 Hs0 Hp1 Hr1 Hs1 Hp2 Hr2 Hs2 Hp3 Hr3 Hs3

end Cert.RingGemm

end
-- ==== Proof.Body3.lean ====
/-
The middle phases: one trip of the loop takes the state before its phase to the state before the next.
-/
module

public import proofs.«01_k».proof.Proof.Body2
public import proofs.«01_k».proof.Proof.Gen.KernelIdeal.Loops

@[expose] public section

set_option maxHeartbeats 1000000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → (S128x4096.Idx → Elt F .f32)) (ws : Dev nD → (S4096x256.Idx → Elt F .f32)) (K : GSem nD τ sig → ℕ)

variable {h0 : idM.IsWhole} {h1 : xM.IsWhole} {h2 : wM.IsWhole} {h3 : oM.IsWhole} {h4 : (Memref.whole cc0_scratch0).IsWhole} {h5 : (Memref.whole cc0_scratch1).IsWhole}
  {h6 : asM.IsWhole} {h7 : arM.IsWhole}

/-- The positions at a lane's cells before phase `n + 1`. -/
def lane (d : Bool) (j : Fin 2) (n : ℕ) (c : Dev nD) : sProp 𝕄 :=
  iprop(posn c (.send d j n) ∗ posn c (.send d j (n + 1)) ∗ posn c (.dep d j (n + 1)) ∗ posn c (.dep d j (n + 1 + 1)) ∗ rch c (.dep d j (n + 1)) ∗ rch c (.dep d j (n + 1 + 1)))
/-- The positions at a direction's credit cells before phase `n + 1`. -/
def creds (d : Bool) (n : ℕ) (c : Dev nD) : sProp 𝕄 := iprop(posn c (.cred d n) ∗ posn c (.cred d (n + 1)))
/-- The rows of the other devices' tables got so far. -/
def gotS (n : ℕ) (c : Dev nD) : sProp 𝕄 := bigSep (Finset.range n) fun k => iprop(got true 0 k c ∗ got false 1 k c)
/-- The slot phase 14 frees and nobody needs any more. -/
def kept (d : Bool) (n : ℕ) (c : Dev nD) : sProp 𝕄 := if n = 14 then grant d (othJ d) 15 c else iprop(emp)
/-- The rows of the result made after phase `n`. -/
def made (n : ℕ) (c : Dev nD) : Dev nD → Prop := fun o => ∃ k ≤ n, o = org true k c ∨ o = org false k c

/-- What device `c` holds before phase `n + 1`. -/
def LState (n : ℕ) (c : Dev nD) : sProp 𝕄 :=
  iprop(due c (tailK (14 - n)) ∗ crs c (wtailK (14 - n)) ∗ (lane true 0 n c ∗ lane true 1 n c ∗ lane false 0 n c ∗ lane false 1 n c)
    ∗ (creds true n c ∗ creds false n c) ∗ gotS n c ∗ idP c ∗ wP ws c ∗ outHas xs ws c (made n c) ∗ kept true n c ∗ kept false n c)

theorem emp_r (P : sProp 𝕄) : P ⊢ iprop(P ∗ emp) := by
  refine BIBase.Entails.trans BIClass.emp_sep.2 ?_
  iintro ⟨H1, H2⟩
  isplitl [H2]; · iexact H2
  iexact H1
theorem bs_insert {I : Type} [DecidableEq I] {s : Finset I} {i : I} (hi : i ∉ s) (Φ : I → sProp 𝕄) : bigSep (insert i s) Φ = iprop(Φ i ∗ bigSep s Φ) := bigSep_insert hi

theorem cred_pay2 (d : Bool) (n : ℕ) (c : Dev nD) :
    iprop(grant d 0 (n + 2) c ∗ grant d 1 (n + 2) c) ⊢ iprop(pay xs ws c (.cred d (n + 1)) ∗ kept d (n + 1) c) := by
  by_cases hn : n + 1 = 14
  · obtain rfl : n = 13 := by omega
    cases d
    · iintro ⟨H1, H2⟩
      isplitl [H2]
      · iapply (show grant false 1 15 c ⊢ pay xs ws c (.cred false 14) from by
          show _ ⊢ iprop(grant false (lastJ false) (14 + 1) c ∗ (if (14 : ℕ) = 14 then emp else _))
          rw [if_pos rfl]; exact (emp_r _))
        iexact H2
      · iapply (show grant (F := F) false 0 15 c ⊢ kept false 14 c from .rfl); iexact H1
    · iintro ⟨H1, H2⟩
      isplitl [H1]
      · iapply (show grant true 0 15 c ⊢ pay xs ws c (.cred true 14) from by
          show _ ⊢ iprop(grant true (lastJ true) (14 + 1) c ∗ (if (14 : ℕ) = 14 then emp else _))
          rw [if_pos rfl]; exact (emp_r _))
        iexact H1
      · iapply (show grant (F := F) true 1 15 c ⊢ kept true 14 c from .rfl); iexact H2
  · unfold kept
    rw [if_neg hn]
    exact (cred_pay xs ws d n hn c).trans (emp_r _)

theorem crs_phase (n : ℕ) (l : List Kind) (c : Dev nD) :
    crs (F := F) c (phaseWait (n + 1) ++ l) ⊢ iprop(crd c (.send true 0 n) ∗ crd c (.cred true n) ∗ crd c (.send false 0 n) ∗ crd c (.cred false n) ∗ crd c (.send true 1 n) ∗ crd c (.send false 1 n) ∗ crs c l) := by
  unfold crs phaseWait
  simp only [List.cons_append, List.nil_append, bigSepL_cons', Nat.add_sub_cancel]
  exact .rfl

theorem tail_phase (n : ℕ) (h : n < 14) : tailK (14 - n) = phaseDue (n + 1) ++ tailK (14 - (n + 1)) := by
  obtain ⟨m, rfl⟩ : ∃ m, n = 13 - m := ⟨13 - n, by omega⟩
  rw [show 14 - (13 - m) = (14 - (13 - m + 1)) + 1 by omega]
  show phaseDue (14 - (14 - (13 - m + 1))) ++ _ = _
  rw [show 14 - (14 - (13 - m + 1)) = 13 - m + 1 by omega]
theorem wtail_phase (n : ℕ) (h : n < 14) : wtailK (14 - n) = phaseWait (n + 1) ++ wtailK (14 - (n + 1)) := by
  obtain ⟨m, rfl⟩ : ∃ m, n = 13 - m := ⟨13 - n, by omega⟩
  rw [show 14 - (13 - m) = (14 - (13 - m + 1)) + 1 by omega]
  show phaseWait (14 - (14 - (13 - m + 1))) ++ _ = _
  rw [show 14 - (14 - (13 - m + 1)) = 13 - m + 1 by omega]

theorem above_phase (n : ℕ) (h : n < 14) : Above (n + 2) (phaseDue (n + 1) ++ tailK (14 - (n + 1))) := by
  have H : ∀ n : Fin 14, Above (n.val + 2) (phaseDue (n.val + 1) ++ tailK (14 - (n.val + 1))) := by decide +kernel
  exact H ⟨n, h⟩

theorem gotS_succ (n : ℕ) (c : Dev nD) : iprop(gotS (F := F) n c ∗ got true 0 n c ∗ got false 1 n c) ⊢ gotS (n + 1) c := by
  unfold gotS
  rw [Finset.range_add_one, bs_insert (by simp)]
  iintro ⟨H1, H2⟩
  isplitl [H2]; · iexact H2
  iexact H1

theorem made_succ (n : ℕ) (c : Dev nD) (o : Dev nD) (h : made (n + 1) c o) : (made n c o ∨ o = org true (n + 1) c) ∨ o = org false (n + 1) c := by
  obtain ⟨k, hk, h⟩ := h
  rcases Nat.lt_or_ge n k with hk' | hk'
  · obtain rfl : k = n + 1 := by omega
    rcases h with h | h
    · exact .inl (.inr h)
    · exact .inr h
  · exact .inl (.inl ⟨k, hk', h⟩)

theorem tlt1 (t : Fin k0_t1_loop.trips) : t.val + 1 < 14 := by have := tlt t; omega

/-- One trip. -/
theorem trip (c : Dev nD) (t : Fin k0_t1_loop.trips) (hv3 : k0_chk2 (wd (nxt true c))) (hv4 : k0_chk1 (wd (nxt false c))) (v : F .f32) {Q : F .f32 → sProp 𝕄} :
    INV xs ws K ⊢ iprop(LState xs ws (t.val + 1) c -∗ (LState xs ws (t.val + 1 + 1) c -∗ Q (acc xs ws c (t.val + 1 + 1)))
      -∗ WP c (k0_t1_body idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 (wd (nxt true c)) hv3 (wd (nxt false c)) hv4 v t (acc xs ws c (t.val + 1))) Q) := by
  unfold LState
  rw [tail_phase _ (tlt1 t), wtail_phase _ (tlt1 t)]
  have hl := above_phase _ (tlt1 t)
  generalize hT : tailK (14 - (t.val + 1 + 1)) = T at hl ⊢
  simp only [phaseDue, List.cons_append, List.nil_append] at hl ⊢
  unfold k0_t1_body
  iintro #HI ⟨Hdue, Hcrs, ⟨HA, HB, HC, HD⟩, ⟨HE, HF⟩, Hgot, Hid, Hw, Ho, -, -⟩ Hk
  ihave Hcrs := (crs_phase (t.val + 1) _ c) $$ Hcrs
  icases Hcrs with ⟨Wt0, Wct, Wf0, Wcf, Wt1, Wf1, Hcrs⟩
  unfold lane; icases HA with ⟨A1, A2, A3, A4, #A5, A6⟩
  icases HB with ⟨B1, B2, B3, B4, #B5, B6⟩
  icases HC with ⟨C1, C2, C3, C4, #C5, C6⟩
  icases HD with ⟨D1, D2, D3, D4, #D5, D6⟩
  unfold creds; icases HE with ⟨E1, E2⟩; icases HF with ⟨F1, F2⟩
  have hl1 := hl.tail; have hl2 := hl1.tail; have hl3 := hl2.tail; have hl4 := hl3.tail
  iapply (step_bind c _ _)
  iapply (part1 c t)
  iintro %r
  obtain ⟨a1, a2, a3, a4⟩ := r
  try dsimp only
  iapply (step_bind c _ _)
  iapply (part2 c t _ _ _)
  iintro %r
  try dsimp only
  iapply (step_bind c _ _)
  iapply (part3 xs ws K c t _ hl _) $$ HI Hdue Wt0 A1 Wct E1
  iintro %r Hdue A1 #A7 A8 A9 #A10 Ag Ax E1 #Er Eg0 Eg1
  obtain ⟨b1, b2⟩ := r
  try dsimp only
  iapply (step_bind c _ _)
  iapply (part4 xs ws K c t _ hv3 _ _ _) $$ HI Hdue A8 Eg0 A5 Er Ax
  iintro %r Hdue Ac
  obtain ⟨b3, b4, b5⟩ := r
  try dsimp only
  iapply (step_bind c _ _)
  iapply (part5 c t _ _ _ _)
  iintro %r
  try dsimp only
  iapply (step_bind c _ _)
  iapply (part6 xs ws K c t _ hl1 _) $$ HI Hdue Wf0 C1 Wcf F1
  iintro %r Hdue C1 #C7 C8 C9 #C10 - Cx F1 #Fr Fg0 Fg1
  obtain ⟨b1, b2, b6⟩ := r
  try dsimp only
  iapply (step_bind c _ _)
  iapply (part7 xs ws K c t _ hv4 _ _ _ _) $$ HI Hdue C8 Fg0 C5 Fr Cx
  iintro %r Hdue Cc
  obtain ⟨e1, e2, e3, e4⟩ := r
  try dsimp only
  iapply (step_bind c _ _)
  iapply (part8 xs ws K c t _ hl2 _ _ _ _ _) $$ HI Hdue Wt1 B1
  iintro %r Hdue B1 #B7 B8 B9 - - Bx
  try dsimp only
  iapply (step_bind c _ _)
  iapply (part9 c _)
  iintro %r
  obtain ⟨e5, e6, e7, e8⟩ := r
  try dsimp only
  iapply (step_bind c _ _)
  iapply (part10 xs ws K c t _ hv3 _ _ _ _ _) $$ HI Hdue B8 Eg1 B5 Er Bx
  iintro %r Hdue Bc
  obtain ⟨f1, f2, f3, f4, f5⟩ := r
  try dsimp only
  iapply (step_bind c _ _)
  iapply (part11 xs ws K c t _ hl3 _ _ _ _ _ _ _) $$ HI Hdue Wf1 D1
  iintro %r Hdue D1 #D7 D8 D9 - Dg Dx
  obtain ⟨g1, g2, g3, g4⟩ := r
  try dsimp only
  iapply (step_bind c _ _)
  iapply (part12 c _ _ _ _ _)
  iintro %r
  try dsimp only
  iapply (step_bind c _ _)
  iapply (part13 xs ws K c t _ _ hv4 _ _) $$ HI Hdue D8 Fg1 D5 Fr Dx A9 B9 Hid Hw Ho
  iintro Hdue Dc A9 B9 Hid Hw Ho
  try dsimp only
  iapply (step_bind c _ _)
  iapply (part14 xs ws K c t _ _ _) $$ HI C9 D9 Hid Hw Ho
  iintro C9 D9 Hid Hw Ho
  try dsimp only
  iapply (step_bind c _ _)
  iapply (part15 xs ws K c t _ (hl4.low (Nat.zero_le _))) $$ HI Hdue Ac A3 Bc B3 Cc C3 Dc D3
  iintro Hdue A3 A11 A8 B3 B11 B8 C3 C11 C8 D3 D11 D8
  try dsimp only
  ihave Ag' := (grant_of xs true 0 (t.val + 1) c) $$ [A8 A9]
  · isplitl [A8]; · iexact A8
    isplitl [A9]; · iexact A9
    iexact A7
  ihave Bg' := (grant_of xs true 1 (t.val + 1) c) $$ [B8 B9]
  · isplitl [B8]; · iexact B8
    isplitl [B9]; · iexact B9
    iexact B7
  ihave Cg' := (grant_of xs false 0 (t.val + 1) c) $$ [C8 C9]
  · isplitl [C8]; · iexact C8
    isplitl [C9]; · iexact C9
    iexact C7
  ihave Dg' := (grant_of xs false 1 (t.val + 1) c) $$ [D8 D9]
  · isplitl [D8]; · iexact D8
    isplitl [D9]; · iexact D9
    iexact D7
  ihave Hp := (cred_pay2 xs ws true (t.val + 1) c) $$ [Ag' Bg']
  · isplitl [Ag']; · iexact Ag'
    iexact Bg'
  icases Hp with ⟨Hp, Hk1⟩
  ihave Hq := (cred_pay2 xs ws false (t.val + 1) c) $$ [Cg' Dg']
  · isplitl [Cg']; · iexact Cg'
    iexact Dg'
  icases Hq with ⟨Hq, Hk2⟩
  simp only [semSignalWord, Prog.lift, Prog.bind_op, Prog.bind_ret, Prog.pure_eq_ret]
  iapply (cur4 (step_signal xs ws K c (.cred true (t.val + 1 + 1)) _ (tcred1 t true) rfl rfl ((dev17 _ _).trans (nxt_not true c)) (sem_cred c true (t.val + 1 + 1) (off29_eq t)))) $$ HI Hdue Hp A10; iintro Hdue
  iapply (cur4 (step_signal xs ws K c (.cred false (t.val + 1 + 1)) _ (tcred1 t false) rfl rfl ((dev18 _ _).trans (nxt_not false c)) (sem_cred c false (t.val + 1 + 1) (off29_eq t)))) $$ HI Hdue Hq C10; iintro Hdue
  iapply (step_ret c _)
  iapply Hk
  isplitl [Hdue]; · iexact Hdue
  isplitl [Hcrs]; · iexact Hcrs
  isplitl [A1 A2 A3 A4 A6 A11 B1 B2 B3 B4 B6 B11 C1 C2 C3 C4 C6 C11 D1 D2 D3 D4 D6 D11]
  · isplitl [A1 A2 A3 A4 A6 A11]
    · isplitl [A2]; · iexact A2
      isplitl [A1]; · iexact A1
      isplitl [A4]; · iexact A4
      isplitl [A3]; · iexact A3
      isplitl [A6]; · iexact A6
      iexact A11
    isplitl [B1 B2 B3 B4 B6 B11]
    · isplitl [B2]; · iexact B2
      isplitl [B1]; · iexact B1
      isplitl [B4]; · iexact B4
      isplitl [B3]; · iexact B3
      isplitl [B6]; · iexact B6
      iexact B11
    isplitl [C1 C2 C3 C4 C6 C11]
    · isplitl [C2]; · iexact C2
      isplitl [C1]; · iexact C1
      isplitl [C4]; · iexact C4
      isplitl [C3]; · iexact C3
      isplitl [C6]; · iexact C6
      iexact C11
    isplitl [D2]; · iexact D2
    isplitl [D1]; · iexact D1
    isplitl [D4]; · iexact D4
    isplitl [D3]; · iexact D3
    isplitl [D6]; · iexact D6
    iexact D11
  isplitl [E1 E2 F1 F2]
  · isplitl [E1 E2]
    · isplitl [E2]; · iexact E2
      iexact E1
    isplitl [F2]; · iexact F2
    iexact F1
  isplitl [Hgot Ag Dg]
  · iapply (gotS_succ (t.val + 1) c)
    isplitl [Hgot]; · iexact Hgot
    isplitl [Ag]; · iexact Ag
    iexact Dg
  isplitl [Hid]; · iexact Hid
  isplitl [Hw]; · iexact Hw
  isplitl [Ho]; · iapply (outHas_mono xs ws c (made_succ (t.val + 1) c)); iexact Ho
  isplitl [Hk1]; · iexact Hk1
  iexact Hk2

end Cert.RingGemm

end
-- ==== Proof.Body4.lean ====
/-
The loop, and the last phases: the fifteenth hop of each direction and the block of the farthest device.
-/
module

public import proofs.«01_k».proof.Proof.Body3

@[expose] public section

set_option maxHeartbeats 1000000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → (S128x4096.Idx → Elt F .f32)) (ws : Dev nD → (S4096x256.Idx → Elt F .f32)) (K : GSem nD τ sig → ℕ)

variable {h0 : idM.IsWhole} {h1 : xM.IsWhole} {h2 : wM.IsWhole} {h3 : oM.IsWhole} {h4 : (Memref.whole cc0_scratch0).IsWhole} {h5 : (Memref.whole cc0_scratch1).IsWhole}
  {h6 : asM.IsWhole} {h7 : arM.IsWhole}

/-- The loop: from the state before phase 2 to the state before phase 15. -/
theorem loop_steps {α : Type} {Q : α → sProp 𝕄} {kk : F .f32 → Prog (TpuEff nD τ sig (Elt F) Λ₀ .tc) α} (c : Dev nD) (hv3 : k0_chk2 (wd (nxt true c))) (hv4 : k0_chk1 (wd (nxt false c))) (v : F .f32) :
    INV xs ws K ⊢ iprop(LState xs ws 1 c -∗ (LState xs ws 14 c -∗ WP c (kk (acc xs ws c 14)) Q)
      -∗ WP c (Scf.Loop.for k0_t1_loop k0_t1_ok (acc xs ws c 1) (k0_t1_body idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 (wd (nxt true c)) hv3 (wd (nxt false c)) hv4 v) >>= kk) Q) := by
  iintro #HI HS Hk
  iapply (Scf.wp_for_bind frame (wpE (defs₀ (F := F)) 𝒱₀ (c : Thread nD τ) none) Set.univ k0_t1_loop.lb k0_t1_loop.ub k0_t1_loop.st k0_t1_ok _ _
    (fun k a => iprop(⌜a = acc xs ws c (k + 1)⌝ ∗ INV xs ws K ∗ LState xs ws (k + 1) c)) ?_) $$ [HS]
  · intro t a
    iintro ⟨%ha, #HI, HS⟩
    subst ha
    iapply (trip xs ws K c t hv3 hv4 v) $$ HI HS
    iintro HS
    isplitr; · ipureintro; rfl
    isplitr; · iexact HI
    iexact HS
  · isplitr; · ipureintro; rfl
    isplitr; · iexact HI
    iexact HS
  · rw [show Scf.trips k0_t1_loop.lb k0_t1_loop.ub k0_t1_loop.st = 13 from trips]
    iintro %a ⟨%ha, -, HS⟩
    subst ha
    iapply Hk $$ HS

/-- The end of the first phase, and the loop. -/
theorem part25 (c : Dev nD) (hv3 : k0_chk2 (wd (nxt true c))) (hv4 : k0_chk1 (wd (nxt false c))) {Q : _ → sProp 𝕄} :
    INV xs ws K ⊢ iprop(due c (.cred true 1 :: .cred false 1 :: tailK 13)
      -∗ crd c (.dep false 0 1)
      -∗ posn c (.dep false 0 1)
      -∗ crd c (.dep false 1 1)
      -∗ posn c (.dep false 1 1)
      -∗ pay xs ws c (.cred true 1)
      -∗ rch c (.cred true 1)
      -∗ rch c (.cred false 1)
      -∗ landed xs false 0 0 c
      -∗ landed xs false 1 0 c
      -∗ rch (frm false c) (.send false 0 2)
      -∗ rch (frm false c) (.send false 1 2)
      -∗ crs c (wtailK 13)
      -∗ (lane true 0 1 c ∗ lane true 1 1 c)
      -∗ (posn c (.send false 0 1) ∗ posn c (.send false 0 2) ∗ posn c (.dep false 0 2) ∗ rch c (.dep false 0 2))
      -∗ (posn c (.send false 1 1) ∗ posn c (.send false 1 2) ∗ posn c (.dep false 1 2) ∗ rch c (.dep false 1 2))
      -∗ creds true 1 c
      -∗ creds false 1 c
      -∗ gotS 1 c
      -∗ idP c
      -∗ wP ws c
      -∗ outHas xs ws c (made 1 c)
      -∗ (∀ r, LState xs ws 14 c -∗ Q (⟨acc xs ws c 14, r, 0#32⟩))
      -∗ WP c (k0_part25 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 (wd (nxt true c)) hv3 (wd (nxt false c)) hv4 (acc xs ws c 1)) Q) := by
  rw [k0_part25_eq_skeleton]; unfold k0_part25_skel
  simp only [semSignalWord, semWaitWord, smemLoad, smemLoadElt, Prog.lift, Prog.bind_op, Prog.bind_ret, Prog.pure_eq_ret, Prog.bind_assoc, wp_deviceId]
  iintro #HI Hdue Hc0 Hp0 Hc1 Hp1 Hpay #Hr1 #Hr2 Hl0 Hl1 #Hs0 #Hs1 Hcrs ⟨HA, HB⟩ ⟨C1, C2, C3, #C4⟩ ⟨D1, D2, D3, #D4⟩ HE HF Hgot Hid Hw Ho Hk
  iapply (cur4 (wait_dep xs ws K c false 0 1 _ (by decide +kernel) (by decide +kernel) (sem_dep c false 0 1 rfl))) $$ HI Hdue Hc0 Hp0; iintro ⟨Hdue, Hp0, Hd0, Hb0⟩
  ihave Hg0 := (grant_of xs false 0 0 c) $$ [Hb0 Hl0]
  · isplitl [Hb0]; · iexact Hb0
    isplitl [Hl0]; · iexact Hl0
    iexact Hs0
  iapply (cur4 (wait_dep xs ws K c false 1 1 _ (by decide +kernel) (by decide +kernel) (sem_dep c false 1 1 rfl))) $$ HI Hdue Hc1 Hp1; iintro ⟨Hdue, Hp1, Hd1, Hb1⟩
  ihave Hg1 := (grant_of xs false 1 0 c) $$ [Hb1 Hl1]
  · isplitl [Hb1]; · iexact Hb1
    isplitl [Hl1]; · iexact Hl1
    iexact Hs1
  ihave Hq := (cred_pay xs ws false 0 (by decide) c) $$ [Hg0 Hg1]
  · isplitl [Hg0]; · iexact Hg0
    iexact Hg1
  iapply (cur4 (step_signal xs ws K c (.cred true 1) _ (by decide +kernel) rfl rfl ((dev11 _ _).trans (nxt_not true c)) (sem_cred c true 1 rfl))) $$ HI Hdue Hpay Hr1; iintro Hdue
  iapply (cur4 (step_signal xs ws K c (.cred false 1) _ (by decide +kernel) rfl rfl ((dev12 _ _).trans (nxt_not false c)) (sem_cred c false 1 rfl))) $$ HI Hdue Hq Hr2; iintro Hdue
  iapply (loop_steps xs ws K c hv3 hv4 _) $$ HI [Hdue Hcrs HA HB C1 C2 C3 D1 D2 D3 Hp0 Hd0 Hp1 Hd1 HE HF Hgot Hid Hw Ho]
  · unfold LState
    isplitl [Hdue]; · iexact Hdue
    isplitl [Hcrs]; · iexact Hcrs
    isplitl [HA HB C1 C2 C3 D1 D2 D3 Hp0 Hd0 Hp1 Hd1]
    · isplitl [HA]; · iexact HA
      isplitl [HB]; · iexact HB
      unfold lane
      isplitl [C1 C2 C3 Hp0 Hd0]
      · isplitl [C1]; · iexact C1
        isplitl [C2]; · iexact C2
        isplitl [C3]; · iexact C3
        isplitl [Hp0]; · iexact Hp0
        isplitr; · iexact C4
        iexact Hd0
      isplitl [D1]; · iexact D1
      isplitl [D2]; · iexact D2
      isplitl [D3]; · iexact D3
      isplitl [Hp1]; · iexact Hp1
      isplitr; · iexact D4
      iexact Hd1
    isplitl [HE HF]
    · isplitl [HE]; · iexact HE
      iexact HF
    isplitl [Hgot]; · iexact Hgot
    isplitl [Hid]; · iexact Hid
    isplitl [Hw]; · iexact Hw
    isplitl [Ho]; · iexact Ho
    unfold kept
    rw [if_neg (by decide), if_neg (by decide)]
    isplitl <;> iempintro
  iintro HS
  iapply (step_ret c _)
  iapply Hk $$ %_ HS

theorem part26 (c : Dev nD) (l : List Kind) (hl : Above 16 (.send true 0 15 :: l)) (hv3 : k0_chk2 (wd (nxt true c))) (v4 a b : BitVec 32) {Q : _ → sProp 𝕄} :
    INV xs ws K ⊢ iprop(due c (.send true 0 15 :: l)
      -∗ crd c (.send true 0 14)
      -∗ posn c (.send true 0 14)
      -∗ crd c (.cred true 14)
      -∗ posn c (.cred true 14)
      -∗ rch c (.dep true 0 15)
      -∗ (due c l -∗ crd c (.dep true 0 15) -∗ posn c (.send true 0 16) -∗ rch (frm true c) (.send true 0 16) -∗ landed xs true 0 14 c -∗ got true 0 14 c -∗ posn c (.cred true 16) -∗ Q (⟨⟩))
      -∗ WP c (k0_part26 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 (wd (nxt true c)) hv3 v4 a b) Q) := by
  rw [k0_part26_eq_skeleton]; unfold k0_part26_skel
  simp only [semSignalWord, semWaitWord, smemLoad, smemLoadElt, Prog.lift, Prog.bind_op, Prog.bind_ret, Prog.pure_eq_ret, Prog.bind_assoc, wp_deviceId]
  iintro #HI Hdue Hc Hp Hc1 Hp1 Hd Hk
  iapply (cur4 (wait_recv xs ws K c true 0 14 _ (by decide +kernel) hl (by decide) (s' := par 14) (sem_send c true 0 14 rfl) (slot_eq true (par 14) 0 rfl))) $$ HI Hdue Hc Hp; iintro ⟨Hdue, Hq1, Hq2, Hq4, -, Hq6, Hx⟩
  ihave Hq4 := (landed_split xs true 0 14 c) $$ Hq4; icases Hq4 with ⟨Hs, Hq4⟩
  iapply (cur4 (wait_cred xs ws K c true 14 _ (by decide) (by decide +kernel) hl (by decide) rfl (sem_cred c true 14 rfl))) $$ HI Hdue Hc1 Hp1; iintro ⟨Hdue, Hp1, Hr, Hg, -⟩
  ihave Hg := (show grant (F := F) true (lastJ true) (14 + 1) (nxt true c) ⊢ grant true 0 15 (nxt true c) from .rfl) $$ Hg
  iapply (cur7 (step_send xs ws K c true 0 15 _ (by decide +kernel) (dev19 _ _) (slot_eq true (par 14) 0 rfl) (slot_eq true (par 15) 0 rfl) (sem_dep c true 0 15 rfl) (sem_send c true 0 15 rfl))) $$ HI Hdue Hs Hg Hd Hr Hx
  iintro ⟨Hdue, Hcd⟩
  iapply (step_ret c _)
  iapply Hk $$ Hdue Hcd Hq1 Hq2 Hq4 Hq6 Hp1

theorem part27 (c : Dev nD) (l : List Kind) (hl : Above 16 l) (v3 v4 : BitVec 32) {Q : _ → sProp 𝕄} :
    INV xs ws K ⊢ iprop(due c l
      -∗ crd c (.send false 0 14)
      -∗ posn c (.send false 0 14)
      -∗ crd c (.cred false 14)
      -∗ posn c (.cred false 14)
      -∗ crd c (.send true 1 14)
      -∗ posn c (.send true 1 14)
      -∗ crd c (.send false 1 14)
      -∗ posn c (.send false 1 14)
      -∗ (due c l -∗ posn c (.send false 0 16) -∗ rch (frm false c) (.send false 0 16) -∗ has c (slotM false (par 14) 0) fullShare (xh xs (org false 15 c) 0) -∗ posn c (.cred false 16) -∗ rch (nxt false c) (.cred false 16) -∗ grant false 1 15 (nxt false c) -∗ posn c (.send true 1 16) -∗ rch (frm true c) (.send true 1 16) -∗ has c (slotM true (par 14) 1) fullShare (xh xs (org true 15 c) 1) -∗ posn c (.send false 1 16) -∗ rch (frm false c) (.send false 1 16) -∗ landed xs false 1 14 c -∗ got false 1 14 c -∗ srcHas xs false 1 15 c -∗ ext false 1 15 c -∗ Q (⟨⟩))
      -∗ WP c (k0_part27 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 v3 v4) Q) := by
  rw [k0_part27_eq_skeleton]; unfold k0_part27_skel
  simp only [semSignalWord, semWaitWord, smemLoad, smemLoadElt, Prog.lift, Prog.bind_op, Prog.bind_ret, Prog.pure_eq_ret, Prog.bind_assoc, wp_deviceId]
  iintro #HI Hdue HcC HpC Hc1 Hp1 HcB HpB HcD HpD Hk
  iapply (cur4 (wait_recv xs ws K c false 0 14 _ (by decide +kernel) hl (by decide) (s' := par 14) (sem_send c false 0 14 rfl) (slot_eq false (par 14) 0 rfl))) $$ HI Hdue HcC HpC; iintro ⟨Hdue, Hq1C, Hq2C, Hq4C, -, Hq6C, HxC⟩
  iapply (cur4 (wait_cred xs ws K c false 14 _ (by decide) (by decide +kernel) hl (by decide) rfl (sem_cred c false 14 rfl))) $$ HI Hdue Hc1 Hp1; iintro ⟨Hdue, Hp1, Hr, Hg, -⟩
  ihave Hg := (show grant (F := F) false (lastJ false) (14 + 1) (nxt false c) ⊢ grant false 1 15 (nxt false c) from .rfl) $$ Hg
  iapply (cur4 (wait_recv xs ws K c true 1 14 _ (by decide +kernel) hl (by decide) (s' := par 14) (sem_send c true 1 14 rfl) (slot_eq true (par 14) 1 rfl))) $$ HI Hdue HcB HpB; iintro ⟨Hdue, Hq1B, Hq2B, Hq4B, -, Hq6B, HxB⟩
  iapply (cur4 (wait_recv xs ws K c false 1 14 _ (by decide +kernel) hl (by decide) (s' := par 14) (sem_send c false 1 14 rfl) (slot_eq false (par 14) 1 rfl))) $$ HI Hdue HcD HpD; iintro ⟨Hdue, Hq1D, Hq2D, Hq4D, -, Hq6D, HxD⟩
  ihave Hq4D := (landed_split xs false 1 14 c) $$ Hq4D; icases Hq4D with ⟨HsD, Hq4D⟩
  iapply (step_ret c _)
  iapply Hk $$ Hdue Hq1C Hq2C Hq4C Hp1 Hr Hg Hq1B Hq2B Hq4B Hq1D Hq2D Hq4D Hq6D HsD HxD

theorem part28 (c : Dev nD) (l : List Kind) (P : Dev nD → Prop) (hv4 : k0_chk1 (wd (nxt false c))) {Q : _ → sProp 𝕄} :
    INV xs ws K ⊢ iprop(due c (.send false 1 15 :: l)
      -∗ srcHas xs false 1 15 c
      -∗ grant false 1 15 (nxt false c)
      -∗ rch c (.dep false 1 15)
      -∗ rch (nxt false c) (.cred false 16)
      -∗ ext false 1 15 c
      -∗ landed xs true 0 14 c
      -∗ has c (slotM true (par 14) 1) fullShare (xh xs (org true 15 c) 1)
      -∗ idP c
      -∗ wP ws c
      -∗ outHas xs ws c P
      -∗ (due c l -∗ crd c (.dep false 1 15) -∗ landed xs true 0 14 c -∗ has c (slotM true (par 14) 1) fullShare (xh xs (org true 15 c) 1) -∗ idP c -∗ wP ws c -∗ outHas xs ws c (fun o => P o ∨ o = org true 15 c) -∗ Q (blk xs ws c (org true 15 c)))
      -∗ WP c (k0_part28 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 (wd (nxt false c)) hv4) Q) := by
  rw [k0_part28_eq_skeleton]; unfold k0_part28_skel
  simp only [semSignalWord, semWaitWord, smemLoad, smemLoadElt, Prog.lift, Prog.bind_op, Prog.bind_ret, Prog.pure_eq_ret, Prog.bind_assoc, wp_deviceId]
  iintro #HI Hdue Hs Hg Hd Hr Hx Ha Hb Hid Hw Ho Hk
  iapply (cur7 (step_send xs ws K c false 1 15 _ (by decide +kernel) (dev20 _ _) (slot_eq false (par 14) 1 rfl) (slot_eq false (par 15) 1 rfl) (sem_dep c false 1 15 rfl) (sem_send c false 1 15 rfl))) $$ HI Hdue Hs Hg Hd Hr Hx
  iintro ⟨Hdue, Hcd⟩
  unfold idP wP; unfold landed
  iapply (load_slot c true (par 14) 0 fullShare.right _ rfl rfl) $$ Ha; iintro %a' %ha' Ha
  iapply (load_slot c true (par 14) 1 fullShare _ rfl rfl) $$ Hb; iintro %b' %hb' Hb
  iapply (load_id c (16) (org true 15 c) fullShare rfl rfl) $$ Hid; iintro Hid; dsimp only
  iapply (step_assume c (chk7 (org true 15 c)))
  iapply (load_w ws c 0 fullShare rfl) $$ Hw; iintro %w1 %hw1 Hw
  iapply (load_w ws c 1 fullShare rfl) $$ Hw; iintro %w2 %hw2 Hw
  iapply (load_out xs ws c _) $$ Ho; iintro %_ Ho
  iapply (store_out xs ws c (org true 15 c) _ (off30_eq _) (pay2_blk xs ws c _ ha' hb' hw1 hw2)) $$ Ho; iintro Ho
  rw [show k0_pay15 a' b' w1 w2 = blk xs ws c (org true 15 c) from pay2_blk xs ws c _ ha' hb' hw1 hw2]
  iapply (step_ret c _)
  iapply Hk $$ Hdue Hcd Ha Hb Hid Hw Ho

theorem part29 (c : Dev nD) (P : Dev nD → Prop) {Q : _ → sProp 𝕄} :
    INV xs ws K ⊢ iprop(has c (slotM false (par 14) 0) fullShare (xh xs (org false 15 c) 0)
      -∗ landed xs false 1 14 c
      -∗ idP c
      -∗ wP ws c
      -∗ outHas xs ws c P
      -∗ (has c (slotM false (par 14) 0) fullShare (xh xs (org false 15 c) 0) -∗ landed xs false 1 14 c -∗ idP c -∗ wP ws c -∗ outHas xs ws c (fun o => P o ∨ o = org false 15 c) -∗ Q (acc xs ws c 15))
      -∗ WP c (k0_part29 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 (acc xs ws c 14) (blk xs ws c (org true 15 c))) Q) := by
  rw [k0_part29_eq_skeleton]; unfold k0_part29_skel
  simp only [semSignalWord, semWaitWord, smemLoad, smemLoadElt, Prog.lift, Prog.bind_op, Prog.bind_ret, Prog.pure_eq_ret, Prog.bind_assoc, wp_deviceId]
  iintro #HI Ha Hb Hid Hw Ho Hk
  unfold idP wP; unfold landed
  iapply (load_slot c false (par 14) 0 fullShare _ rfl rfl) $$ Ha; iintro %a' %ha' Ha
  iapply (load_slot c false (par 14) 1 fullShare.right _ rfl rfl) $$ Hb; iintro %b' %hb' Hb
  iapply (load_id c (32) (org false 15 c) fullShare rfl rfl) $$ Hid; iintro Hid; dsimp only
  iapply (step_assume c (chk8 (org false 15 c)))
  iapply (load_w ws c 0 fullShare rfl) $$ Hw; iintro %w1 %hw1 Hw
  iapply (load_w ws c 1 fullShare rfl) $$ Hw; iintro %w2 %hw2 Hw
  iapply (load_out xs ws c _) $$ Ho; iintro %_ Ho
  iapply (store_out xs ws c (org false 15 c) _ (off31_eq _) (pay2_blk xs ws c _ ha' hb' hw1 hw2)) $$ Ho; iintro Ho
  rw [show k0_pay17 (acc xs ws c 14) (blk xs ws c (org true 15 c)) a' b' w1 w2 = acc xs ws c 15 from
    congrArg (fun z => Scalar.maximumf (Scalar.maximumf (acc xs ws c 14) (bmax (blk xs ws c (org true 15 c)))) (bmax z)) (pay2_blk xs ws c _ ha' hb' hw1 hw2)]
  iapply (step_ret c _)
  iapply Hk $$ Ha Hb Hid Hw Ho

theorem part30 (c : Dev nD) (l : List Kind) (hl : Above 17 l) (v3 : BitVec 32) {Q : _ → sProp 𝕄} :
    INV xs ws K ⊢ iprop(due c l
      -∗ crd c (.dep true 0 15)
      -∗ posn c (.dep true 0 15)
      -∗ crd c (.dep false 1 15)
      -∗ posn c (.dep false 1 15)
      -∗ crd c (.send true 0 15)
      -∗ posn c (.send true 0 15)
      -∗ (due c l -∗ posn c (.dep true 0 17) -∗ srcHas xs true 0 15 c -∗ posn c (.dep false 1 17) -∗ srcHas xs false 1 15 c -∗ posn c (.send true 0 17) -∗ has c (slotM true (par 15) 0) fullShare (xh xs (org true 16 c) 0) -∗ got true 0 15 c -∗ Q (⟨⟩))
      -∗ WP c (k0_part30 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 v3) Q) := by
  rw [k0_part30_eq_skeleton]; unfold k0_part30_skel
  simp only [semSignalWord, semWaitWord, smemLoad, smemLoadElt, Prog.lift, Prog.bind_op, Prog.bind_ret, Prog.pure_eq_ret, Prog.bind_assoc, wp_deviceId]
  iintro #HI Hdue Hc0 Hp0 Hc1 Hp1 Hc Hp Hk
  iapply (cur4 (wait_dep xs ws K c true 0 15 _ (by decide +kernel) (hl.low (by decide)) (sem_dep c true 0 15 rfl))) $$ HI Hdue Hc0 Hp0; iintro ⟨Hdue, Hp0, -, Hs0⟩
  iapply (cur4 (wait_dep xs ws K c false 1 15 _ (by decide +kernel) (hl.low (by decide)) (sem_dep c false 1 15 rfl))) $$ HI Hdue Hc1 Hp1; iintro ⟨Hdue, Hp1, -, Hs1⟩
  iapply (cur4 (wait_recv xs ws K c true 0 15 _ (by decide +kernel) hl (by decide) (s' := par 15) (sem_send c true 0 15 rfl) (slot_eq true (par 15) 0 rfl))) $$ HI Hdue Hc Hp; iintro ⟨Hdue, Hq1, Hq2, Hq4, -, Hq6, Hx⟩
  iapply (step_ret c _)
  iapply Hk $$ Hdue Hp0 Hs0 Hp1 Hs1 Hq1 Hq4 Hq6

theorem part31 (c : Dev nD) (l : List Kind) (P : Dev nD → Prop) (hl : Above 17 l) (v4 : BitVec 32) {Q : _ → sProp 𝕄} :
    INV xs ws K ⊢ iprop(due c l
      -∗ crd c (.send false 1 15)
      -∗ posn c (.send false 1 15)
      -∗ has c (slotM true (par 15) 0) fullShare (xh xs (org true 16 c) 0)
      -∗ idP c
      -∗ wP ws c
      -∗ outHas xs ws c P
      -∗ (due c l -∗ posn c (.send false 1 17) -∗ has c (slotM true (par 15) 0) fullShare (xh xs (org true 16 c) 0) -∗ has c (slotM false (par 15) 1) fullShare (xh xs (org true 16 c) 1) -∗ idP c -∗ wP ws c -∗ outHas xs ws c (fun o => P o ∨ o = org true 16 c) -∗ Q (⟨am xs ws c, amRow xs ws c⟩))
      -∗ WP c (k0_part31 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 v4 (acc xs ws c 15)) Q) := by
  rw [k0_part31_eq_skeleton]; unfold k0_part31_skel
  simp only [semSignalWord, semWaitWord, smemLoad, smemLoadElt, Prog.lift, Prog.bind_op, Prog.bind_ret, Prog.pure_eq_ret, Prog.bind_assoc, wp_deviceId]
  iintro #HI Hdue Hc Hp Ha Hid Hw Ho Hk
  iapply (cur4 (wait_recv xs ws K c false 1 15 _ (by decide +kernel) hl (by decide) (s' := par 15) (sem_send c false 1 15 rfl) (slot_eq false (par 15) 1 rfl))) $$ HI Hdue Hc Hp; iintro ⟨Hdue, Hq1, Hq2, Hq4, -, Hq6, Hx⟩
  rw [show org false 16 c = org true 16 c by revert c; decide +kernel]
  unfold idP wP
  iapply (load_slot c true (par 15) 0 fullShare _ rfl rfl) $$ Ha; iintro %a' %ha' Ha
  iapply (load_slot c false (par 15) 1 fullShare _ rfl rfl) $$ Hq4; iintro %b' %hb' Hq4
  iapply (load_id c (17) (org true 16 c) fullShare rfl rfl) $$ Hid; iintro Hid; dsimp only
  iapply (step_assume c (chk9 (org true 16 c)))
  iapply (load_w ws c 0 fullShare rfl) $$ Hw; iintro %w1 %hw1 Hw
  iapply (load_w ws c 1 fullShare rfl) $$ Hw; iintro %w2 %hw2 Hw
  iapply (load_out xs ws c _) $$ Ho; iintro %_ Ho
  iapply (store_out xs ws c (org true 16 c) _ (off32_eq _) (pay2_blk xs ws c _ ha' hb' hw1 hw2)) $$ Ho; iintro Ho
  rw [show k0_pay19 (acc xs ws c 15) a' b' w1 w2 = am xs ws c from congrArg (fun z => Scalar.maximumf (acc xs ws c 15) (bmax z)) (pay2_blk xs ws c _ ha' hb' hw1 hw2),
    show k0_pay20 (acc xs ws c 15) a' b' w1 w2 = amRow xs ws c from congrArg (fun z => broadcast S1x128 (Scalar.maximumf (acc xs ws c 15) (bmax z))) (pay2_blk xs ws c _ ha' hb' hw1 hw2)]
  iapply (step_ret c _)
  iapply Hk $$ Hdue Hq1 Ha Hq4 Hid Hw Ho

end Cert.RingGemm

end
-- ==== Proof.Body5.lean ====
/-
The exchange of the maxima: each device sends its maximum to every other, waits for theirs, and reads the table.
-/
module

public import proofs.«01_k».proof.Proof.Body4

@[expose] public section

set_option maxHeartbeats 1000000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → (S128x4096.Idx → Elt F .f32)) (ws : Dev nD → (S4096x256.Idx → Elt F .f32)) (K : GSem nD τ sig → ℕ)

variable {h0 : idM.IsWhole} {h1 : xM.IsWhole} {h2 : wM.IsWhole} {h3 : oM.IsWhole} {h4 : (Memref.whole cc0_scratch0).IsWhole} {h5 : (Memref.whole cc0_scratch1).IsWhole}
  {h6 : asM.IsWhole} {h7 : arM.IsWhole}

/-! ## The row sent and its shares -/

theorem row_split (c : Dev nD) (r : S1x128.Idx → Elt F .f32) : ∀ n k : ℕ,
    has c asM (rShare k) r ⊣⊢ iprop(bigSepL (List.range' k n) (fun i => has c asM (rShare i).left r) ∗ has c asM (rShare (k + n)) r)
  | 0, k => ⟨by iintro H; isplitr; · iempintro
                iexact H, by iintro ⟨-, H⟩; iexact H⟩
  | n + 1, k => by
    have ih := row_split c r n (k + 1)
    have e : k + 1 + n = k + (n + 1) := by omega
    rw [e] at ih
    have hs : has c asM (rShare k) r ⊣⊢ iprop(has c asM (rShare k).left r ∗ has c asM (rShare (k + 1)) r) :=
      pointsTo_share (PosShare.mem_left_op_right (rShare k))
    rw [List.range'_succ, bigSepL_cons']
    constructor
    · refine hs.1.trans ?_
      iintro ⟨H1, H2⟩
      ihave H2 := ih.1 $$ H2
      icases H2 with ⟨H2, H3⟩
      isplitr [H3]
      · isplitl [H1]; · iexact H1
        iexact H2
      · iexact H3
    · refine BIBase.Entails.trans ?_ hs.2
      iintro ⟨⟨H1, H2⟩, H3⟩
      isplitl [H1]; · iexact H1
      iapply ih.2
      isplitl [H2]; · iexact H2
      iexact H3

theorem jjs_val : jjs.map (fun jj => jj.val) = List.range' 1 31 := by decide +kernel

/-- What stays of the row while its copies travel. -/
def asKept (c : Dev nD) : sProp 𝕄 := iprop(has c asM (rShare 0).left (amRow xs ws c) ∗ has c asM (rShare 32) (amRow xs ws c))

theorem row_shares (c : Dev nD) :
    has c asM fullShare (amRow xs ws c) ⊣⊢ iprop(asKept xs ws c ∗ bigSepL jjs (fun jj => has c asM (rShare jj.val).left (amRow xs ws c))) := by
  have e : bigSepL jjs (fun jj => has c asM (rShare jj.val).left (amRow xs ws c)) = bigSepL (List.range' 1 31) (fun i => has c asM (rShare i).left (amRow xs ws c)) := by
    rw [← jjs_val, bigSepL_map]
  have h := row_split c (amRow xs ws c) 32 0
  rw [List.range'_succ, bigSepL_cons'] at h
  rw [e]; unfold asKept
  constructor
  · refine BIBase.Entails.trans h.1 ?_
    iintro ⟨⟨H1, H2⟩, H3⟩
    isplitr [H2]
    · isplitl [H1]; · iexact H1
      iexact H3
    · iexact H2
  · refine BIBase.Entails.trans ?_ h.2
    iintro ⟨⟨H1, H3⟩, H2⟩
    isplitr [H3]
    · isplitl [H1]; · iexact H1
      iexact H2
    · iexact H3

section
variable {α : Type} {Q : α → sProp (MT nD τ sig ℕ (Elt F) ℕ UU ℕ)}

/-- A load of the row, its value not used; and the store of the maximum in it. -/
theorem load_as (c : Dev nD) {off : Fin 2 → ℕ} {inb : ∀ a, off a + S1x128.size a ≤ S1x128.size a}
    {hl : asM.view.LoadsAt (Rect.unit (s := S1x128) off S1x128.size inb).toLoadRect} {k : (S1x128.Idx → Elt F .f32) → Prog (TpuEff nD τ sig (Elt F) Λ₀ .tc) α} :
    any c asM ⊢ iprop((∀ w, any c asM -∗ WP c (k w) Q) -∗ WP c (.op (.load asM (Rect.unit (s := S1x128) off S1x128.size inb).toLoadRect hl) k) Q) := by
  unfold any
  iintro ⟨%f, H⟩ Hk
  iapply (wp_load 𝒱₀ (c : Thread nD τ) none Set.univ (m := asM) (r := (Rect.unit (s := S1x128) off S1x128.size inb).toLoadRect) (S := asM.view.set) (by rw [View.set_whole]; exact Finset.subset_univ _)) $$ H
  iintro H
  iapply Hk; iexists f; iexact H

theorem store_as (c : Dev nD) {off : Fin 2 → ℕ} {inb : ∀ a, off a + S1x128.size a ≤ S1x128.size a} {w : S1x128.Idx → Elt F .f32}
    {hx : (asM.access (Rect.unit (s := S1x128) off S1x128.size inb)).Stores Finset.univ}
    {hm : Finset.univ = Finset.univ ∨ ∀ a, (Rect.unit (s := S1x128) off S1x128.size inb).stride a = 1}
    {k : PUnit → Prog (TpuEff nD τ sig (Elt F) Λ₀ .tc) α} (hoff : off = fun _ => 0) (hw : w = amRow xs ws c) :
    any c asM ⊢ iprop((has c asM fullShare (amRow xs ws c) -∗ WP c (k ⟨⟩) Q)
      -∗ WP c (.op (.store asM (Rect.unit (s := S1x128) off S1x128.size inb) w Finset.univ hx hm) k) Q) := by
  subst hw
  unfold any
  iintro ⟨%f, H⟩ Hk
  have L := wp_store (Val := Elt F) 𝒱₀ (c : Thread nD τ) none Set.univ (Γ := []) (defs := defs₀ (F := F)) (m := asM) (r := Rect.unit (s := S1x128) off S1x128.size inb) (w := amRow xs ws c) (Mk := Finset.univ) (hx := hx) (hm := hm) (k := k) (Q := Q)
    (S := asM.view.set) (f := f) (by rw [View.set_whole]; exact Finset.subset_univ _)
  iapply L $$ H
  iintro H
  iapply Hk
  unfold has
  have e := Memref.write_access_unit_zero_univ (Elt F) (cc0_scratch2 : Ref sig .tc) hoff inb f (amRow xs ws c)
  ihave H := (pointsTo_rep_entails (c : Thread nD τ) asM _ fullShare) $$ H
  rw [show asM.view.read (Elt F) ((asM.access (Rect.unit (s := S1x128) off S1x128.size inb)).write (Elt F) f (amRow xs ws c) Finset.univ) = amRow xs ws c from
    (congrArg (asM.view.read (Elt F)) e).trans (View.read_whole _ _)]
  iexact H

/-! ## The device's own row of the table -/

theorem row_set (o : Dev nD) : (rowM o).view.set = arM.view.setOn (rowR o).toLoadRect.set :=
  (Memref.set_view_squeeze (arM.slice (rowR o) (fun _ => rfl)) squeezes_S1x1x128_S1x128).trans (View.set_slice _ _)

theorem row_store (o : Dev nD) : (arM.access (rowR o)).setOn Finset.univ ⊆ (rowM o).view.set :=
  (Memref.set_view_squeeze (arM.slice (rowR o) (fun _ => rfl)) squeezes_S1x1x128_S1x128).ge

theorem row_casts : S1x1x128.ShapeCasts S1x128 := by decide

theorem row_read (c o : Dev nD) (f : Buf (Elt F) (arM.view.loc (c : Thread nD τ))) :
    (rowM o).view.read (Elt F) f = shapeCast S1x128 (arM.view.readAt (Elt F) (rowR o).toLoadRect f) row_casts :=
  Memref.read_squeeze_slice arM (rowR o) (fun _ => rfl) squeezes_S1x1x128_S1x128 row_casts f

theorem load_row (c o : Dev nD) {off : Fin 3 → ℕ} {inb : ∀ a, off a + S1x1x128.size a ≤ S32x1x128.size a}
    {hl : arM.view.LoadsAt (Rect.unit (s := S32x1x128) off S1x1x128.size inb).toLoadRect} {k : (S1x1x128.Idx → Elt F .f32) → Prog (TpuEff nD τ sig (Elt F) Λ₀ .tc) α}
    (hoff : off = ![o.val, 0, 0]) :
    any c (rowM o) ⊢ iprop((∀ w, any c (rowM o) -∗ WP c (k w) Q) -∗ WP c (.op (.load arM (Rect.unit (s := S32x1x128) off S1x1x128.size inb).toLoadRect hl) k) Q) := by
  subst hoff
  iintro H Hk
  ihave H := (show any c (rowM o) ⊢ iprop(∃ g : Buf (Elt F) ((rowM o).view.loc (c : Thread nD τ)), (rowM o).view.loc (c : Thread nD τ) ↦[(rowM o).view.set]{fullShare} g) from .rfl) $$ H
  icases H with ⟨%f, H⟩
  ihave H := (show iprop((rowM o).view.loc (c : Thread nD τ) ↦[(rowM o).view.set]{fullShare} f) ⊢ iprop(arM.view.loc (c : Thread nD τ) ↦[(rowM o).view.set]{fullShare} f) from .rfl) $$ H
  have L := wp_load (Val := Elt F) 𝒱₀ (c : Thread nD τ) none Set.univ (Γ := []) (defs := defs₀ (F := F)) (m := arM) (r := (rowR o).toLoadRect) (hl := hl) (k := k) (Q := Q) (q := fullShare)
    (f := f) (S := (rowM o).view.set) (row_set o).ge
  iapply L $$ H
  iintro H
  ihave H := (show iprop(arM.view.loc (c : Thread nD τ) ↦[(rowM o).view.set]{fullShare} f) ⊢ any c (rowM o) from (show _ ⊢ iprop(∃ g : Buf (Elt F) ((rowM o).view.loc (c : Thread nD τ)), (rowM o).view.loc (c : Thread nD τ) ↦[(rowM o).view.set]{fullShare} g) by iintro H; iexists f; iexact H)) $$ H
  iapply Hk $$ %_ H

theorem store_row (c o : Dev nD) {off : Fin 3 → ℕ} {inb : ∀ a, off a + S1x1x128.size a ≤ S32x1x128.size a} {w : S1x1x128.Idx → Elt F .f32}
    {hx : (arM.access (Rect.unit (s := S32x1x128) off S1x1x128.size inb)).Stores Finset.univ}
    {hm : Finset.univ = Finset.univ ∨ ∀ a, (Rect.unit (s := S32x1x128) off S1x1x128.size inb).stride a = 1}
    {k : PUnit → Prog (TpuEff nD τ sig (Elt F) Λ₀ .tc) α} (hoff : off = ![o.val, 0, 0]) (hw : w = fun _ => am xs ws c) :
    any c (rowM o) ⊢ iprop((has c (rowM o) fullShare (amRow xs ws c) -∗ WP c (k ⟨⟩) Q)
      -∗ WP c (.op (.store arM (Rect.unit (s := S32x1x128) off S1x1x128.size inb) w Finset.univ hx hm) k) Q) := by
  subst hoff hw
  unfold any
  iintro ⟨%f, H⟩ Hk
  ihave H := (show iprop((rowM o).view.loc (c : Thread nD τ) ↦[(rowM o).view.set]{fullShare} f) ⊢ iprop((arM.access (rowR o)).loc (c : Thread nD τ) ↦[(rowM o).view.set]{fullShare} f) from .rfl) $$ H
  have L := wp_store (Val := Elt F) 𝒱₀ (c : Thread nD τ) none Set.univ (Γ := []) (defs := defs₀ (F := F)) (m := arM) (r := rowR o) (w := fun _ => am xs ws c) (Mk := Finset.univ) (hx := hx) (hm := hm) (k := k) (Q := Q)
    (S := (rowM o).view.set) (f := f) (row_store o)
  iapply L $$ H
  iintro H
  iapply Hk
  unfold has
  ihave H := (show iprop((arM.access (rowR o)).loc (c : Thread nD τ) ↦[(rowM o).view.set]{fullShare} ((arM.access (rowR o)).write (Elt F) f (fun _ => am xs ws c) Finset.univ)) ⊢ iprop((rowM o).view.loc (c : Thread nD τ) ↦[(rowM o).view.set]{fullShare} ((arM.access (rowR o)).write (Elt F) f (fun _ => am xs ws c) Finset.univ)) from .rfl) $$ H
  ihave H := (pointsTo_rep_entails (Ix := ℕ) (Name := ℕ) (U := UU) (Lvl := ℕ) (c : Thread nD τ) (rowM o) ((arM.access (rowR o)).write (Elt F) f (fun _ => am xs ws c) Finset.univ) fullShare) $$ H
  have e : (rowM o).view.read (Elt F) ((arM.access (rowR o)).write (Elt F) f (fun _ => am xs ws c) Finset.univ) = amRow xs ws c := by
    rw [row_read c o]
    have e2 : arM.view.readAt (Elt F) (rowR o).toLoadRect ((arM.access (rowR o)).write (Elt F) f (fun _ => am xs ws c) Finset.univ) = fun _ => am xs ws c := View.read_write_univ _ _
    rw [e2]; rfl
  rw [← e]; iexact H

/-! ## One send, one wait -/

/-- What the copy of the maximum to the device `jj` away takes. -/
def aRes (c : Dev nD) (jj : Fin 32) : sProp 𝕄 := iprop(has c asM (rShare jj.val).left (amRow xs ws c) ∗ rowRes (shift jj c) c ∗ rch c (.adep jj))

/-- The copies `l` still to be made, those of `a` made. -/
def AS (c : Dev nD) (l a : List (Fin 32)) : sProp 𝕄 := iprop(due c (l.map Kind.amax) ∗ bigSepL l (aRes xs ws c) ∗ bigSepL a (fun jj => crd c (.adep jj)))

theorem as_step (c : Dev nD) (jj : Fin 32) (l a : List (Fin 32)) (hκ : Kind.amax jj ∈ dueK)
    {dv : Dev nD} {md : Memref sig .tc .vmem S1x128 .f32} {sS sem : SemLoc sig} {hsc : md.view.ref.isScScratch = false}
    {hsrc : asM.view.WordExact} {hdst : md.view.WordExact} {hsem : DmaTarget.Typed .vmem sem (.remote (Dev.tc dv) md sS hsc)}
    {k : PUnit → Prog (TpuEff nD τ sig (Elt F) Λ₀ .tc) α}
    (hdv : dv = shift jj c) (hmd : md = rowM c) (hsS : sS = semOf c (.adep jj)) (hsm : sem = semOf c (.amax jj)) :
    iprop(INV xs ws K ∗ AS xs ws c (jj :: l) a)
      ⊢ iprop((AS xs ws c l (jj :: a) -∗ WP c (k ⟨⟩) Q) -∗ WP c (.op (.enqueueDma asM (.remote (Dev.tc dv) md sS hsc) sem hsrc hdst hsem) k) Q) := by
  unfold AS
  rw [bigSepL_cons', bigSepL_cons', List.map_cons]
  iintro ⟨#HI, Hdue, ⟨Ha, Hl⟩, Hacc⟩ Hk
  unfold aRes
  icases Ha with ⟨Ha1, Ha2, Ha3⟩
  iapply (step_amax xs ws K c jj (l.map Kind.amax) hκ hdv rfl hmd hsS hsm) $$ [Hdue Ha1 Ha2 Ha3]
  · isplitr; · iexact HI
    isplitl [Hdue]; · iexact Hdue
    isplitl [Ha1]; · iexact Ha1
    isplitl [Ha2]; · iexact Ha2
    iexact Ha3
  iintro ⟨Hdue, Hc⟩
  iapply Hk
  isplitl [Hdue]; · iexact Hdue
  isplitl [Hl]; · iexact Hl
  isplitl [Hc]; · iexact Hc
  iexact Hacc

/-- The maxima `l` still to come, those of `a` come. -/
def WS (c : Dev nD) (l a : List (Fin 32)) : sProp 𝕄 := iprop(due c [] ∗ bigSepL l (fun jj => iprop(crd c (.amax jj) ∗ posn c (.amax jj)))
  ∗ bigSepL a (fun jj => iprop(atPos ER ((c : Thread nD τ), semOf (unshift jj c) (.amax jj)) 1 ∅ 0 ∗ has c (rowM (unshift jj c)) fullShare (amRow xs ws (unshift jj c)))))

theorem ws_step (c : Dev nD) (jj : Fin 32) (l a : List (Fin 32)) (hκ : Kind.amax jj ∈ dueK)
    {sp : Space} {s : Shape} {e : EltTy} {sem : DmaSem sig} {ms : Memref sig .tc sp s e} {md : Memref sig .tc .vmem S1x128 .f32}
    {hsrc : ms.view.WordExact} {hdst : md.view.WordExact} {k : PUnit → Prog (TpuEff nD τ sig (Elt F) Λ₀ .tc) α}
    (hsm : SemLoc.dma sem = semOf (unshift jj c) (.amax jj)) :
    iprop(INV xs ws K ∗ WS xs ws c (jj :: l) a)
      ⊢ iprop((WS xs ws c l (jj :: a) -∗ WP c (k ⟨⟩) Q) -∗ WP c (.op (.waitDma2 sem ms md hsrc hdst) k) Q) := by
  unfold WS
  rw [bigSepL_cons', bigSepL_cons']
  iintro ⟨#HI, Hdue, ⟨⟨Ha1, Ha2⟩, Hl⟩, Hacc⟩ Hk
  iapply (wait_amax xs ws K c jj hκ hsm) $$ [Hdue Ha1 Ha2]
  · isplitr; · iexact HI
    isplitl [Hdue]; · iexact Hdue
    isplitl [Ha1]; · iexact Ha1
    iexact Ha2
  iintro ⟨Hdue, Hp, Hr⟩
  iapply Hk
  isplitl [Hdue]; · iexact Hdue
  isplitl [Hl]; · iexact Hl
  isplitr [Hacc]
  · isplitl [Hp]; · iexact Hp
    iexact Hr
  iexact Hacc

/-- The copies `l` whose source is still to be returned, those of `a` returned. -/
def DS (c : Dev nD) (l a : List (Fin 32)) : sProp 𝕄 := iprop(due c [] ∗ bigSepL l (fun jj => iprop(crd c (.adep jj) ∗ posn c (.adep jj)))
  ∗ bigSepL a (fun jj => iprop(atPos ER ((c : Thread nD τ), semOf c (.adep jj)) 1 ∅ 0 ∗ has c asM (rShare jj.val).left (amRow xs ws c))))

theorem ds_step (c : Dev nD) (jj : Fin 32) (l a : List (Fin 32)) (hκ : Kind.amax jj ∈ dueK)
    {sp : Space} {s : Shape} {e : EltTy} {sem : DmaSem sig} {ms : Memref sig .tc sp s e} {md : Memref sig .tc .vmem S1x128 .f32}
    {hsrc : ms.view.WordExact} {hdst : md.view.WordExact} {k : PUnit → Prog (TpuEff nD τ sig (Elt F) Λ₀ .tc) α}
    (hsm : SemLoc.dma sem = semOf c (.adep jj)) :
    iprop(INV xs ws K ∗ DS xs ws c (jj :: l) a)
      ⊢ iprop((DS xs ws c l (jj :: a) -∗ WP c (k ⟨⟩) Q) -∗ WP c (.op (.waitDma2 sem ms md hsrc hdst) k) Q) := by
  unfold DS
  rw [bigSepL_cons', bigSepL_cons']
  iintro ⟨#HI, Hdue, ⟨⟨Ha1, Ha2⟩, Hl⟩, Hacc⟩ Hk
  iapply (wait_adep xs ws K c jj hκ hsm) $$ [Hdue Ha1 Ha2]
  · isplitr; · iexact HI
    isplitl [Hdue]; · iexact Hdue
    isplitl [Ha1]; · iexact Ha1
    iexact Ha2
  iintro ⟨Hdue, Hp, Hr⟩
  iapply Hk
  isplitl [Hdue]; · iexact Hdue
  isplitl [Hl]; · iexact Hl
  isplitr [Hacc]
  · isplitl [Hp]; · iexact Hp
    iexact Hr
  iexact Hacc

/-! ## The table read -/

/-- The table of maxima when all have come. -/
def tab : S32x1x128.Idx → Elt F .f32 := fun i => am xs ws (i 0)

theorem load_tab (c : Dev nD) {off : Fin 3 → ℕ} {inb : ∀ a, off a + S32x1x128.size a ≤ S32x1x128.size a}
    {hl : arM.view.LoadsAt (Rect.unit (s := S32x1x128) off S32x1x128.size inb).toLoadRect} {k : (S32x1x128.Idx → Elt F .f32) → Prog (TpuEff nD τ sig (Elt F) Λ₀ .tc) α}
    (hoff : off = fun _ => 0) :
    iprop(arM.view.loc (c : Thread nD τ) ↦[Finset.univ]{fullShare} tab xs ws) ⊢ iprop((iprop(arM.view.loc (c : Thread nD τ) ↦[Finset.univ]{fullShare} tab xs ws) -∗ WP c (k (tab xs ws)) Q)
      -∗ WP c (.op (.load arM (Rect.unit (s := S32x1x128) off S32x1x128.size inb).toLoadRect hl) k) Q) := by
  iintro H Hk
  iapply (wp_load 𝒱₀ (c : Thread nD τ) none Set.univ (m := arM) (r := (Rect.unit (s := S32x1x128) off S32x1x128.size inb).toLoadRect) (Finset.subset_univ _)) $$ H
  iintro H
  rw [show arM.view.readAt (Elt F) (Rect.unit (s := S32x1x128) off S32x1x128.size inb).toLoadRect (tab xs ws) = tab xs ws from Memref.readAt_unit_zero (Elt F) (cc0_scratch3 : Ref sig .tc) hoff inb _]
  iapply Hk; iexact H
end

/-! ## The cells the waits name -/

theorem off36_1 (c : Dev nD) : k0_off36 c 1#32 = ![(unshift 31 c).val] := by revert c; decide +kernel
theorem off36_2 (c : Dev nD) : k0_off36 c 2#32 = ![(unshift 30 c).val] := by revert c; decide +kernel
theorem off36_3 (c : Dev nD) : k0_off36 c 3#32 = ![(unshift 29 c).val] := by revert c; decide +kernel
theorem off36_4 (c : Dev nD) : k0_off36 c 4#32 = ![(unshift 28 c).val] := by revert c; decide +kernel
theorem off36_5 (c : Dev nD) : k0_off36 c 5#32 = ![(unshift 27 c).val] := by revert c; decide +kernel
theorem off36_6 (c : Dev nD) : k0_off36 c 6#32 = ![(unshift 26 c).val] := by revert c; decide +kernel
theorem off36_7 (c : Dev nD) : k0_off36 c 7#32 = ![(unshift 25 c).val] := by revert c; decide +kernel
theorem off36_8 (c : Dev nD) : k0_off36 c 8#32 = ![(unshift 24 c).val] := by revert c; decide +kernel
theorem off36_9 (c : Dev nD) : k0_off36 c 9#32 = ![(unshift 23 c).val] := by revert c; decide +kernel
theorem off36_10 (c : Dev nD) : k0_off36 c 10#32 = ![(unshift 22 c).val] := by revert c; decide +kernel
theorem off36_11 (c : Dev nD) : k0_off36 c 11#32 = ![(unshift 21 c).val] := by revert c; decide +kernel
theorem off36_12 (c : Dev nD) : k0_off36 c 12#32 = ![(unshift 20 c).val] := by revert c; decide +kernel
theorem off36_13 (c : Dev nD) : k0_off36 c 13#32 = ![(unshift 19 c).val] := by revert c; decide +kernel
theorem off36_14 (c : Dev nD) : k0_off36 c 14#32 = ![(unshift 18 c).val] := by revert c; decide +kernel
theorem off36_15 (c : Dev nD) : k0_off36 c 15#32 = ![(unshift 17 c).val] := by revert c; decide +kernel
theorem off36_16 (c : Dev nD) : k0_off36 c 16#32 = ![(unshift 16 c).val] := by revert c; decide +kernel
theorem off36_17 (c : Dev nD) : k0_off36 c 17#32 = ![(unshift 15 c).val] := by revert c; decide +kernel
theorem off36_18 (c : Dev nD) : k0_off36 c 18#32 = ![(unshift 14 c).val] := by revert c; decide +kernel
theorem off36_19 (c : Dev nD) : k0_off36 c 19#32 = ![(unshift 13 c).val] := by revert c; decide +kernel
theorem off36_20 (c : Dev nD) : k0_off36 c 20#32 = ![(unshift 12 c).val] := by revert c; decide +kernel
theorem off36_21 (c : Dev nD) : k0_off36 c 21#32 = ![(unshift 11 c).val] := by revert c; decide +kernel
theorem off36_22 (c : Dev nD) : k0_off36 c 22#32 = ![(unshift 10 c).val] := by revert c; decide +kernel
theorem off36_23 (c : Dev nD) : k0_off36 c 23#32 = ![(unshift 9 c).val] := by revert c; decide +kernel
theorem off36_24 (c : Dev nD) : k0_off36 c 24#32 = ![(unshift 8 c).val] := by revert c; decide +kernel
theorem off36_25 (c : Dev nD) : k0_off36 c 25#32 = ![(unshift 7 c).val] := by revert c; decide +kernel
theorem off36_26 (c : Dev nD) : k0_off36 c 26#32 = ![(unshift 6 c).val] := by revert c; decide +kernel
theorem off36_27 (c : Dev nD) : k0_off36 c 27#32 = ![(unshift 5 c).val] := by revert c; decide +kernel
theorem off36_28 (c : Dev nD) : k0_off36 c 28#32 = ![(unshift 4 c).val] := by revert c; decide +kernel
theorem off36_29 (c : Dev nD) : k0_off36 c 29#32 = ![(unshift 3 c).val] := by revert c; decide +kernel
theorem off36_30 (c : Dev nD) : k0_off36 c 30#32 = ![(unshift 2 c).val] := by revert c; decide +kernel
theorem off36_31 (c : Dev nD) : k0_off36 c 31#32 = ![(unshift 1 c).val] := by revert c; decide +kernel

/-! ## The parts -/

theorem bs_zip {T : Type} (P R : T → sProp 𝕄) : ∀ l : List T, iprop(bigSepL l P ∗ bigSepL l R) ⊢ bigSepL l (fun x => iprop(P x ∗ R x))
  | [] => by iintro ⟨-, -⟩; iempintro
  | x :: l => by
    rw [bigSepL_cons', bigSepL_cons', bigSepL_cons']
    iintro ⟨⟨H1, H2⟩, H3, H4⟩
    isplitl [H1 H3]
    · isplitl [H1]; · iexact H1
      iexact H3
    iapply (bs_zip P R l)
    isplitl [H2]; · iexact H2
    iexact H4

theorem as_start (c : Dev nD) :
    iprop(due c (jjs.map Kind.amax) ∗ bigSepL jjs (fun jj => has c asM (rShare jj.val).left (amRow xs ws c)) ∗ bigSepL jjs (fun jj => iprop(rowRes (shift jj c) c ∗ rch c (.adep jj))))
      ⊢ AS xs ws c jjs [] := by
  unfold AS
  iintro ⟨H1, H2, H3⟩
  isplitl [H1]; · iexact H1
  isplitl [H2 H3]
  · ihave H := (bs_zip _ _ jjs) $$ [H2 H3]
    · isplitl [H2]; · iexact H2
      iexact H3
    iexact H
  iempintro

theorem part32 (c : Dev nD) (l : List (Fin 32)) (hl : jjs = 1 :: l) (v2 : BitVec 32) {Q : _ → sProp 𝕄} :
    INV xs ws K ⊢ iprop(due c (jjs.map Kind.amax)
      -∗ any c asM
      -∗ bigSepL jjs (fun jj => iprop(rowRes (shift jj c) c ∗ rch c (.adep jj)))
      -∗ (AS xs ws c l [1] -∗ asKept xs ws c -∗ Q (⟨⟩))
      -∗ WP c (k0_part32 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 (amRow xs ws c)) Q) := by
  rw [k0_part32_eq_skeleton]; unfold k0_part32_skel
  simp only [semSignalWord, semWaitWord, smemLoad, smemLoadElt, Prog.lift, Prog.bind_op, Prog.bind_ret, Prog.pure_eq_ret, Prog.bind_assoc, wp_deviceId]
  iintro #HI Hdue Ha Hr Hk
  iapply (load_as c) $$ Ha; iintro %_ Ha
  iapply (store_as xs ws c (by decide +kernel) (shapeCast_self _ _)) $$ Ha; iintro Ha
  ihave Ha := (row_shares xs ws c).1 $$ Ha; icases Ha with ⟨Hk2, Ha⟩
  ihave HS := (as_start xs ws c) $$ [Hdue Ha Hr]
  · isplitl [Hdue]; · iexact Hdue
    isplitl [Ha]; · iexact Ha
    iexact Hr
  rw [hl]
  iapply (cur2 (as_step xs ws K c 1 _ _ (by decide +kernel) (dev21 _ _) (row_eq c (off34_eq c)) (sem_adep c 1 rfl) (sem_amax c 1 (off33_eq c)))) $$ HI HS; iintro HS
  iapply (step_ret c _)
  iapply Hk $$ HS Hk2

theorem part33 (c : Dev nD) (l a : List (Fin 32)) (v2 : BitVec 32) {Q : _ → sProp 𝕄} :
    INV xs ws K ⊢ iprop(AS xs ws c (2 :: 3 :: l) a
      -∗ (∀ r, AS xs ws c l (3 :: 2 :: a) -∗ Q (r))
      -∗ WP c (k0_part33 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2) Q) := by
  rw [k0_part33_eq_skeleton]; unfold k0_part33_skel
  simp only [semSignalWord, semWaitWord, smemLoad, smemLoadElt, Prog.lift, Prog.bind_op, Prog.bind_ret, Prog.pure_eq_ret, Prog.bind_assoc, wp_deviceId]
  iintro #HI HS Hk
  iapply (cur2 (as_step xs ws K c 2 _ _ (by decide +kernel) (dev22 _ _) (row_eq c (off34_eq c)) (sem_adep c 2 rfl) (sem_amax c 2 (off33_eq c)))) $$ HI HS; iintro HS
  iapply (cur2 (as_step xs ws K c 3 _ _ (by decide +kernel) (dev23 _ _) (row_eq c (off34_eq c)) (sem_adep c 3 rfl) (sem_amax c 3 (off33_eq c)))) $$ HI HS; iintro HS
  iapply (step_ret c _)
  iapply Hk $$ %_ HS

theorem part34 (c : Dev nD) (l a : List (Fin 32)) (v2 : BitVec 32) (v453 : BitVec 32) {Q : _ → sProp 𝕄} :
    INV xs ws K ⊢ iprop(AS xs ws c (4 :: 5 :: l) a
      -∗ (∀ r, AS xs ws c l (5 :: 4 :: a) -∗ Q (r))
      -∗ WP c (k0_part34 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v453) Q) := by
  rw [k0_part34_eq_skeleton]; unfold k0_part34_skel
  simp only [semSignalWord, semWaitWord, smemLoad, smemLoadElt, Prog.lift, Prog.bind_op, Prog.bind_ret, Prog.pure_eq_ret, Prog.bind_assoc, wp_deviceId]
  iintro #HI HS Hk
  iapply (cur2 (as_step xs ws K c 4 _ _ (by decide +kernel) (dev24 _ _) (row_eq c (off34_eq c)) (sem_adep c 4 rfl) (sem_amax c 4 (off33_eq c)))) $$ HI HS; iintro HS
  iapply (cur2 (as_step xs ws K c 5 _ _ (by decide +kernel) (dev25 _ _) (row_eq c (off34_eq c)) (sem_adep c 5 rfl) (sem_amax c 5 (off33_eq c)))) $$ HI HS; iintro HS
  iapply (step_ret c _)
  iapply Hk $$ %_ HS

theorem part35 (c : Dev nD) (l a : List (Fin 32)) (v2 : BitVec 32) (v483 : BitVec 32) (v484 : BitVec 32) (v485 : BitVec 1) (v488 : BitVec 1) {Q : _ → sProp 𝕄} :
    INV xs ws K ⊢ iprop(AS xs ws c (6 :: 7 :: l) a
      -∗ (∀ r, AS xs ws c l (7 :: 6 :: a) -∗ Q (r))
      -∗ WP c (k0_part35 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v483 v484 v485 v488) Q) := by
  rw [k0_part35_eq_skeleton]; unfold k0_part35_skel
  simp only [semSignalWord, semWaitWord, smemLoad, smemLoadElt, Prog.lift, Prog.bind_op, Prog.bind_ret, Prog.pure_eq_ret, Prog.bind_assoc, wp_deviceId]
  iintro #HI HS Hk
  iapply (cur2 (as_step xs ws K c 6 _ _ (by decide +kernel) (dev26 _ _) (row_eq c (off34_eq c)) (sem_adep c 6 rfl) (sem_amax c 6 (off33_eq c)))) $$ HI HS; iintro HS
  iapply (cur2 (as_step xs ws K c 7 _ _ (by decide +kernel) (dev27 _ _) (row_eq c (off34_eq c)) (sem_adep c 7 rfl) (sem_amax c 7 (off33_eq c)))) $$ HI HS; iintro HS
  iapply (step_ret c _)
  iapply Hk $$ %_ HS

theorem part36 (c : Dev nD) (l a : List (Fin 32)) (v2 : BitVec 32) (v521 : BitVec 32) (v522 : BitVec 32) (v523 : BitVec 1) (c0_i32_593 : BitVec 32) {Q : _ → sProp 𝕄} :
    INV xs ws K ⊢ iprop(AS xs ws c (8 :: 9 :: l) a
      -∗ (∀ r, AS xs ws c l (9 :: 8 :: a) -∗ Q (r))
      -∗ WP c (k0_part36 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v521 v522 v523 c0_i32_593) Q) := by
  rw [k0_part36_eq_skeleton]; unfold k0_part36_skel
  simp only [semSignalWord, semWaitWord, smemLoad, smemLoadElt, Prog.lift, Prog.bind_op, Prog.bind_ret, Prog.pure_eq_ret, Prog.bind_assoc, wp_deviceId]
  iintro #HI HS Hk
  iapply (cur2 (as_step xs ws K c 8 _ _ (by decide +kernel) (dev28 _ _) (row_eq c (off34_eq c)) (sem_adep c 8 rfl) (sem_amax c 8 (off33_eq c)))) $$ HI HS; iintro HS
  iapply (cur2 (as_step xs ws K c 9 _ _ (by decide +kernel) (dev29 _ _) (row_eq c (off34_eq c)) (sem_adep c 9 rfl) (sem_amax c 9 (off33_eq c)))) $$ HI HS; iintro HS
  iapply (step_ret c _)
  iapply Hk $$ %_ HS

theorem part37 (c : Dev nD) (l a : List (Fin 32)) (v2 : BitVec 32) (v557 : BitVec 32) (v559 : BitVec 32) {Q : _ → sProp 𝕄} :
    INV xs ws K ⊢ iprop(AS xs ws c (10 :: 11 :: l) a
      -∗ (∀ r, AS xs ws c l (11 :: 10 :: a) -∗ Q (r))
      -∗ WP c (k0_part37 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v557 v559) Q) := by
  rw [k0_part37_eq_skeleton]; unfold k0_part37_skel
  simp only [semSignalWord, semWaitWord, smemLoad, smemLoadElt, Prog.lift, Prog.bind_op, Prog.bind_ret, Prog.pure_eq_ret, Prog.bind_assoc, wp_deviceId]
  iintro #HI HS Hk
  iapply (cur2 (as_step xs ws K c 10 _ _ (by decide +kernel) (dev30 _ _) (row_eq c (off34_eq c)) (sem_adep c 10 rfl) (sem_amax c 10 (off33_eq c)))) $$ HI HS; iintro HS
  iapply (cur2 (as_step xs ws K c 11 _ _ (by decide +kernel) (dev31 _ _) (row_eq c (off34_eq c)) (sem_adep c 11 rfl) (sem_amax c 11 (off33_eq c)))) $$ HI HS; iintro HS
  iapply (step_ret c _)
  iapply Hk $$ %_ HS

theorem part38 (c : Dev nD) (l a : List (Fin 32)) (v2 : BitVec 32) (v595 : BitVec 32) (c32_i32_633 : BitVec 32) {Q : _ → sProp 𝕄} :
    INV xs ws K ⊢ iprop(AS xs ws c (12 :: l) a
      -∗ (AS xs ws c l (12 :: a) -∗ Q (⟨⟩))
      -∗ WP c (k0_part38 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v595 c32_i32_633) Q) := by
  rw [k0_part38_eq_skeleton]; unfold k0_part38_skel
  simp only [semSignalWord, semWaitWord, smemLoad, smemLoadElt, Prog.lift, Prog.bind_op, Prog.bind_ret, Prog.pure_eq_ret, Prog.bind_assoc, wp_deviceId]
  iintro #HI HS Hk
  iapply (cur2 (as_step xs ws K c 12 _ _ (by decide +kernel) (dev32 _ _) (row_eq c (off34_eq c)) (sem_adep c 12 rfl) (sem_amax c 12 (off33_eq c)))) $$ HI HS; iintro HS
  iapply (step_ret c _)
  iapply Hk $$ HS

theorem part39 (c : Dev nD) (l a : List (Fin 32)) (v2 : BitVec 32) {Q : _ → sProp 𝕄} :
    INV xs ws K ⊢ iprop(AS xs ws c (13 :: 14 :: l) a
      -∗ (AS xs ws c l (14 :: 13 :: a) -∗ Q (⟨⟩))
      -∗ WP c (k0_part39 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2) Q) := by
  rw [k0_part39_eq_skeleton]; unfold k0_part39_skel
  simp only [semSignalWord, semWaitWord, smemLoad, smemLoadElt, Prog.lift, Prog.bind_op, Prog.bind_ret, Prog.pure_eq_ret, Prog.bind_assoc, wp_deviceId]
  iintro #HI HS Hk
  iapply (cur2 (as_step xs ws K c 13 _ _ (by decide +kernel) (dev33 _ _) (row_eq c (off34_eq c)) (sem_adep c 13 rfl) (sem_amax c 13 (off33_eq c)))) $$ HI HS; iintro HS
  iapply (cur2 (as_step xs ws K c 14 _ _ (by decide +kernel) (dev34 _ _) (row_eq c (off34_eq c)) (sem_adep c 14 rfl) (sem_amax c 14 (off33_eq c)))) $$ HI HS; iintro HS
  iapply (step_ret c _)
  iapply Hk $$ HS

theorem part40 (c : Dev nD) (l a : List (Fin 32)) (v2 : BitVec 32) {Q : _ → sProp 𝕄} :
    INV xs ws K ⊢ iprop(AS xs ws c (15 :: 16 :: l) a
      -∗ (AS xs ws c l (16 :: 15 :: a) -∗ Q (⟨⟩))
      -∗ WP c (k0_part40 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2) Q) := by
  rw [k0_part40_eq_skeleton]; unfold k0_part40_skel
  simp only [semSignalWord, semWaitWord, smemLoad, smemLoadElt, Prog.lift, Prog.bind_op, Prog.bind_ret, Prog.pure_eq_ret, Prog.bind_assoc, wp_deviceId]
  iintro #HI HS Hk
  iapply (cur2 (as_step xs ws K c 15 _ _ (by decide +kernel) (dev35 _ _) (row_eq c (off34_eq c)) (sem_adep c 15 rfl) (sem_amax c 15 (off33_eq c)))) $$ HI HS; iintro HS
  iapply (cur2 (as_step xs ws K c 16 _ _ (by decide +kernel) (dev36 _ _) (row_eq c (off34_eq c)) (sem_adep c 16 rfl) (sem_amax c 16 (off33_eq c)))) $$ HI HS; iintro HS
  iapply (step_ret c _)
  iapply Hk $$ HS

theorem part41 (c : Dev nD) (l a : List (Fin 32)) (v2 : BitVec 32) {Q : _ → sProp 𝕄} :
    INV xs ws K ⊢ iprop(AS xs ws c (17 :: 18 :: l) a
      -∗ (∀ r, AS xs ws c l (18 :: 17 :: a) -∗ Q (r))
      -∗ WP c (k0_part41 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2) Q) := by
  rw [k0_part41_eq_skeleton]; unfold k0_part41_skel
  simp only [semSignalWord, semWaitWord, smemLoad, smemLoadElt, Prog.lift, Prog.bind_op, Prog.bind_ret, Prog.pure_eq_ret, Prog.bind_assoc, wp_deviceId]
  iintro #HI HS Hk
  iapply (cur2 (as_step xs ws K c 17 _ _ (by decide +kernel) (dev37 _ _) (row_eq c (off34_eq c)) (sem_adep c 17 rfl) (sem_amax c 17 (off33_eq c)))) $$ HI HS; iintro HS
  iapply (cur2 (as_step xs ws K c 18 _ _ (by decide +kernel) (dev38 _ _) (row_eq c (off34_eq c)) (sem_adep c 18 rfl) (sem_amax c 18 (off33_eq c)))) $$ HI HS; iintro HS
  iapply (step_ret c _)
  iapply Hk $$ %_ HS

theorem part42 (c : Dev nD) (l a : List (Fin 32)) (v2 : BitVec 32) (v738 : BitVec 32) {Q : _ → sProp 𝕄} :
    INV xs ws K ⊢ iprop(AS xs ws c (19 :: 20 :: l) a
      -∗ (∀ r, AS xs ws c l (20 :: 19 :: a) -∗ Q (r))
      -∗ WP c (k0_part42 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v738) Q) := by
  rw [k0_part42_eq_skeleton]; unfold k0_part42_skel
  simp only [semSignalWord, semWaitWord, smemLoad, smemLoadElt, Prog.lift, Prog.bind_op, Prog.bind_ret, Prog.pure_eq_ret, Prog.bind_assoc, wp_deviceId]
  iintro #HI HS Hk
  iapply (cur2 (as_step xs ws K c 19 _ _ (by decide +kernel) (dev39 _ _) (row_eq c (off34_eq c)) (sem_adep c 19 rfl) (sem_amax c 19 (off33_eq c)))) $$ HI HS; iintro HS
  iapply (cur2 (as_step xs ws K c 20 _ _ (by decide +kernel) (dev40 _ _) (row_eq c (off34_eq c)) (sem_adep c 20 rfl) (sem_amax c 20 (off33_eq c)))) $$ HI HS; iintro HS
  iapply (step_ret c _)
  iapply Hk $$ %_ HS

theorem part43 (c : Dev nD) (l a : List (Fin 32)) (v2 : BitVec 32) (v768 : BitVec 32) (v769 : BitVec 32) (v770 : BitVec 1) (v773 : BitVec 1) {Q : _ → sProp 𝕄} :
    INV xs ws K ⊢ iprop(AS xs ws c (21 :: 22 :: l) a
      -∗ (∀ r, AS xs ws c l (22 :: 21 :: a) -∗ Q (r))
      -∗ WP c (k0_part43 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v768 v769 v770 v773) Q) := by
  rw [k0_part43_eq_skeleton]; unfold k0_part43_skel
  simp only [semSignalWord, semWaitWord, smemLoad, smemLoadElt, Prog.lift, Prog.bind_op, Prog.bind_ret, Prog.pure_eq_ret, Prog.bind_assoc, wp_deviceId]
  iintro #HI HS Hk
  iapply (cur2 (as_step xs ws K c 21 _ _ (by decide +kernel) (dev41 _ _) (row_eq c (off34_eq c)) (sem_adep c 21 rfl) (sem_amax c 21 (off33_eq c)))) $$ HI HS; iintro HS
  iapply (cur2 (as_step xs ws K c 22 _ _ (by decide +kernel) (dev42 _ _) (row_eq c (off34_eq c)) (sem_adep c 22 rfl) (sem_amax c 22 (off33_eq c)))) $$ HI HS; iintro HS
  iapply (step_ret c _)
  iapply Hk $$ %_ HS

theorem part44 (c : Dev nD) (l a : List (Fin 32)) (v2 : BitVec 32) (v806 : BitVec 32) (v807 : BitVec 32) (v808 : BitVec 1) (c0_i32_759 : BitVec 32) {Q : _ → sProp 𝕄} :
    INV xs ws K ⊢ iprop(AS xs ws c (23 :: 24 :: l) a
      -∗ (∀ r, AS xs ws c l (24 :: 23 :: a) -∗ Q (r))
      -∗ WP c (k0_part44 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v806 v807 v808 c0_i32_759) Q) := by
  rw [k0_part44_eq_skeleton]; unfold k0_part44_skel
  simp only [semSignalWord, semWaitWord, smemLoad, smemLoadElt, Prog.lift, Prog.bind_op, Prog.bind_ret, Prog.pure_eq_ret, Prog.bind_assoc, wp_deviceId]
  iintro #HI HS Hk
  iapply (cur2 (as_step xs ws K c 23 _ _ (by decide +kernel) (dev43 _ _) (row_eq c (off34_eq c)) (sem_adep c 23 rfl) (sem_amax c 23 (off33_eq c)))) $$ HI HS; iintro HS
  iapply (cur2 (as_step xs ws K c 24 _ _ (by decide +kernel) (dev44 _ _) (row_eq c (off34_eq c)) (sem_adep c 24 rfl) (sem_amax c 24 (off33_eq c)))) $$ HI HS; iintro HS
  iapply (step_ret c _)
  iapply Hk $$ %_ HS

theorem part45 (c : Dev nD) (l a : List (Fin 32)) (v2 : BitVec 32) (v842 : BitVec 32) (v844 : BitVec 32) {Q : _ → sProp 𝕄} :
    INV xs ws K ⊢ iprop(AS xs ws c (25 :: 26 :: l) a
      -∗ (∀ r, AS xs ws c l (26 :: 25 :: a) -∗ Q (r))
      -∗ WP c (k0_part45 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v842 v844) Q) := by
  rw [k0_part45_eq_skeleton]; unfold k0_part45_skel
  simp only [semSignalWord, semWaitWord, smemLoad, smemLoadElt, Prog.lift, Prog.bind_op, Prog.bind_ret, Prog.pure_eq_ret, Prog.bind_assoc, wp_deviceId]
  iintro #HI HS Hk
  iapply (cur2 (as_step xs ws K c 25 _ _ (by decide +kernel) (dev45 _ _) (row_eq c (off34_eq c)) (sem_adep c 25 rfl) (sem_amax c 25 (off33_eq c)))) $$ HI HS; iintro HS
  iapply (cur2 (as_step xs ws K c 26 _ _ (by decide +kernel) (dev46 _ _) (row_eq c (off34_eq c)) (sem_adep c 26 rfl) (sem_amax c 26 (off33_eq c)))) $$ HI HS; iintro HS
  iapply (step_ret c _)
  iapply Hk $$ %_ HS

theorem part46 (c : Dev nD) (l a : List (Fin 32)) (v2 : BitVec 32) (v880 : BitVec 32) (c32_i32_799 : BitVec 32) {Q : _ → sProp 𝕄} :
    INV xs ws K ⊢ iprop(AS xs ws c (27 :: l) a
      -∗ (AS xs ws c l (27 :: a) -∗ Q (⟨⟩))
      -∗ WP c (k0_part46 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v880 c32_i32_799) Q) := by
  rw [k0_part46_eq_skeleton]; unfold k0_part46_skel
  simp only [semSignalWord, semWaitWord, smemLoad, smemLoadElt, Prog.lift, Prog.bind_op, Prog.bind_ret, Prog.pure_eq_ret, Prog.bind_assoc, wp_deviceId]
  iintro #HI HS Hk
  iapply (cur2 (as_step xs ws K c 27 _ _ (by decide +kernel) (dev47 _ _) (row_eq c (off34_eq c)) (sem_adep c 27 rfl) (sem_amax c 27 (off33_eq c)))) $$ HI HS; iintro HS
  iapply (step_ret c _)
  iapply Hk $$ HS

theorem part47 (c : Dev nD) (l a : List (Fin 32)) (v2 : BitVec 32) {Q : _ → sProp 𝕄} :
    INV xs ws K ⊢ iprop(AS xs ws c (28 :: 29 :: l) a
      -∗ (AS xs ws c l (29 :: 28 :: a) -∗ Q (⟨⟩))
      -∗ WP c (k0_part47 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2) Q) := by
  rw [k0_part47_eq_skeleton]; unfold k0_part47_skel
  simp only [semSignalWord, semWaitWord, smemLoad, smemLoadElt, Prog.lift, Prog.bind_op, Prog.bind_ret, Prog.pure_eq_ret, Prog.bind_assoc, wp_deviceId]
  iintro #HI HS Hk
  iapply (cur2 (as_step xs ws K c 28 _ _ (by decide +kernel) (dev48 _ _) (row_eq c (off34_eq c)) (sem_adep c 28 rfl) (sem_amax c 28 (off33_eq c)))) $$ HI HS; iintro HS
  iapply (cur2 (as_step xs ws K c 29 _ _ (by decide +kernel) (dev49 _ _) (row_eq c (off34_eq c)) (sem_adep c 29 rfl) (sem_amax c 29 (off33_eq c)))) $$ HI HS; iintro HS
  iapply (step_ret c _)
  iapply Hk $$ HS

theorem part48 (c : Dev nD) (l a : List (Fin 32)) (v2 : BitVec 32) {Q : _ → sProp 𝕄} :
    INV xs ws K ⊢ iprop(AS xs ws c (30 :: 31 :: l) a
      -∗ any c (rowM c)
      -∗ (∀ r, AS xs ws c l (31 :: 30 :: a) -∗ has c (rowM c) fullShare (amRow xs ws c) -∗ Q (r))
      -∗ WP c (k0_part48 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 (am xs ws c)) Q) := by
  rw [k0_part48_eq_skeleton]; unfold k0_part48_skel
  simp only [semSignalWord, semWaitWord, smemLoad, smemLoadElt, Prog.lift, Prog.bind_op, Prog.bind_ret, Prog.pure_eq_ret, Prog.bind_assoc, wp_deviceId]
  iintro #HI HS Hr Hk
  iapply (cur2 (as_step xs ws K c 30 _ _ (by decide +kernel) (dev50 _ _) (row_eq c (off34_eq c)) (sem_adep c 30 rfl) (sem_amax c 30 (off33_eq c)))) $$ HI HS; iintro HS
  iapply (cur2 (as_step xs ws K c 31 _ _ (by decide +kernel) (dev51 _ _) (row_eq c (off34_eq c)) (sem_adep c 31 rfl) (sem_amax c 31 (off33_eq c)))) $$ HI HS; iintro HS
  iapply (load_row c c (off35_eq c)) $$ Hr; iintro %_ Hr
  iapply (store_row xs ws c c (off35_eq c) rfl) $$ Hr; iintro Hr
  iapply (step_ret c _)
  iapply Hk $$ %_ HS Hr

theorem part49 (c : Dev nD) (l a : List (Fin 32)) (v2 : BitVec 32) (v982 : BitVec 32) (v983 : BitVec 32) (v984 : BitVec 1) (v987 : BitVec 1) {Q : _ → sProp 𝕄} :
    INV xs ws K ⊢ iprop(WS xs ws c (31 :: 30 :: l) a
      -∗ (∀ r, WS xs ws c l (30 :: 31 :: a) -∗ Q (r))
      -∗ WP c (k0_part49 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v982 v983 v984 v987) Q) := by
  rw [k0_part49_eq_skeleton]; unfold k0_part49_skel
  simp only [semSignalWord, semWaitWord, smemLoad, smemLoadElt, Prog.lift, Prog.bind_op, Prog.bind_ret, Prog.pure_eq_ret, Prog.bind_assoc, wp_deviceId]
  iintro #HI HS Hk
  iapply (cur2 (ws_step xs ws K c 31 _ _ (by decide +kernel) (sem_amax (unshift 31 c) 31 (off36_1 c)))) $$ HI HS; iintro HS
  iapply (cur2 (ws_step xs ws K c 30 _ _ (by decide +kernel) (sem_amax (unshift 30 c) 30 (off36_2 c)))) $$ HI HS; iintro HS
  iapply (step_ret c _)
  iapply Hk $$ %_ HS

theorem part50 (c : Dev nD) (l a : List (Fin 32)) (v2 : BitVec 32) (v1016 : BitVec 32) (v1017 : BitVec 32) (v1018 : BitVec 1) (v1021 : BitVec 1) {Q : _ → sProp 𝕄} :
    INV xs ws K ⊢ iprop(WS xs ws c (29 :: 28 :: l) a
      -∗ (∀ r, WS xs ws c l (28 :: 29 :: a) -∗ Q (r))
      -∗ WP c (k0_part50 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v1016 v1017 v1018 v1021) Q) := by
  rw [k0_part50_eq_skeleton]; unfold k0_part50_skel
  simp only [semSignalWord, semWaitWord, smemLoad, smemLoadElt, Prog.lift, Prog.bind_op, Prog.bind_ret, Prog.pure_eq_ret, Prog.bind_assoc, wp_deviceId]
  iintro #HI HS Hk
  iapply (cur2 (ws_step xs ws K c 29 _ _ (by decide +kernel) (sem_amax (unshift 29 c) 29 (off36_3 c)))) $$ HI HS; iintro HS
  iapply (cur2 (ws_step xs ws K c 28 _ _ (by decide +kernel) (sem_amax (unshift 28 c) 28 (off36_4 c)))) $$ HI HS; iintro HS
  iapply (step_ret c _)
  iapply Hk $$ %_ HS

theorem part51 (c : Dev nD) (l a : List (Fin 32)) (v2 : BitVec 32) (v1050 : BitVec 32) (v1051 : BitVec 32) (v1052 : BitVec 1) (v1055 : BitVec 1) {Q : _ → sProp 𝕄} :
    INV xs ws K ⊢ iprop(WS xs ws c (27 :: 26 :: l) a
      -∗ (∀ r, WS xs ws c l (26 :: 27 :: a) -∗ Q (r))
      -∗ WP c (k0_part51 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v1050 v1051 v1052 v1055) Q) := by
  rw [k0_part51_eq_skeleton]; unfold k0_part51_skel
  simp only [semSignalWord, semWaitWord, smemLoad, smemLoadElt, Prog.lift, Prog.bind_op, Prog.bind_ret, Prog.pure_eq_ret, Prog.bind_assoc, wp_deviceId]
  iintro #HI HS Hk
  iapply (cur2 (ws_step xs ws K c 27 _ _ (by decide +kernel) (sem_amax (unshift 27 c) 27 (off36_5 c)))) $$ HI HS; iintro HS
  iapply (cur2 (ws_step xs ws K c 26 _ _ (by decide +kernel) (sem_amax (unshift 26 c) 26 (off36_6 c)))) $$ HI HS; iintro HS
  iapply (step_ret c _)
  iapply Hk $$ %_ HS

theorem part52 (c : Dev nD) (l a : List (Fin 32)) (v2 : BitVec 32) (v1084 : BitVec 32) (v1085 : BitVec 32) (v1086 : BitVec 1) (v1089 : BitVec 1) {Q : _ → sProp 𝕄} :
    INV xs ws K ⊢ iprop(WS xs ws c (25 :: 24 :: l) a
      -∗ (∀ r, WS xs ws c l (24 :: 25 :: a) -∗ Q (r))
      -∗ WP c (k0_part52 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v1084 v1085 v1086 v1089) Q) := by
  rw [k0_part52_eq_skeleton]; unfold k0_part52_skel
  simp only [semSignalWord, semWaitWord, smemLoad, smemLoadElt, Prog.lift, Prog.bind_op, Prog.bind_ret, Prog.pure_eq_ret, Prog.bind_assoc, wp_deviceId]
  iintro #HI HS Hk
  iapply (cur2 (ws_step xs ws K c 25 _ _ (by decide +kernel) (sem_amax (unshift 25 c) 25 (off36_7 c)))) $$ HI HS; iintro HS
  iapply (cur2 (ws_step xs ws K c 24 _ _ (by decide +kernel) (sem_amax (unshift 24 c) 24 (off36_8 c)))) $$ HI HS; iintro HS
  iapply (step_ret c _)
  iapply Hk $$ %_ HS

theorem part53 (c : Dev nD) (l a : List (Fin 32)) (v2 : BitVec 32) (v1118 : BitVec 32) (v1119 : BitVec 32) (v1120 : BitVec 1) (v1123 : BitVec 1) {Q : _ → sProp 𝕄} :
    INV xs ws K ⊢ iprop(WS xs ws c (23 :: 22 :: l) a
      -∗ (∀ r, WS xs ws c l (22 :: 23 :: a) -∗ Q (r))
      -∗ WP c (k0_part53 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v1118 v1119 v1120 v1123) Q) := by
  rw [k0_part53_eq_skeleton]; unfold k0_part53_skel
  simp only [semSignalWord, semWaitWord, smemLoad, smemLoadElt, Prog.lift, Prog.bind_op, Prog.bind_ret, Prog.pure_eq_ret, Prog.bind_assoc, wp_deviceId]
  iintro #HI HS Hk
  iapply (cur2 (ws_step xs ws K c 23 _ _ (by decide +kernel) (sem_amax (unshift 23 c) 23 (off36_9 c)))) $$ HI HS; iintro HS
  iapply (cur2 (ws_step xs ws K c 22 _ _ (by decide +kernel) (sem_amax (unshift 22 c) 22 (off36_10 c)))) $$ HI HS; iintro HS
  iapply (step_ret c _)
  iapply Hk $$ %_ HS

theorem part54 (c : Dev nD) (l a : List (Fin 32)) (v2 : BitVec 32) (v1152 : BitVec 32) (v1153 : BitVec 32) (v1154 : BitVec 1) (v1157 : BitVec 1) {Q : _ → sProp 𝕄} :
    INV xs ws K ⊢ iprop(WS xs ws c (21 :: 20 :: l) a
      -∗ (∀ r, WS xs ws c l (20 :: 21 :: a) -∗ Q (r))
      -∗ WP c (k0_part54 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v1152 v1153 v1154 v1157) Q) := by
  rw [k0_part54_eq_skeleton]; unfold k0_part54_skel
  simp only [semSignalWord, semWaitWord, smemLoad, smemLoadElt, Prog.lift, Prog.bind_op, Prog.bind_ret, Prog.pure_eq_ret, Prog.bind_assoc, wp_deviceId]
  iintro #HI HS Hk
  iapply (cur2 (ws_step xs ws K c 21 _ _ (by decide +kernel) (sem_amax (unshift 21 c) 21 (off36_11 c)))) $$ HI HS; iintro HS
  iapply (cur2 (ws_step xs ws K c 20 _ _ (by decide +kernel) (sem_amax (unshift 20 c) 20 (off36_12 c)))) $$ HI HS; iintro HS
  iapply (step_ret c _)
  iapply Hk $$ %_ HS

theorem part55 (c : Dev nD) (l a : List (Fin 32)) (v2 : BitVec 32) (v1186 : BitVec 32) (v1187 : BitVec 32) (v1188 : BitVec 1) (v1191 : BitVec 1) {Q : _ → sProp 𝕄} :
    INV xs ws K ⊢ iprop(WS xs ws c (19 :: 18 :: l) a
      -∗ (∀ r, WS xs ws c l (18 :: 19 :: a) -∗ Q (r))
      -∗ WP c (k0_part55 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v1186 v1187 v1188 v1191) Q) := by
  rw [k0_part55_eq_skeleton]; unfold k0_part55_skel
  simp only [semSignalWord, semWaitWord, smemLoad, smemLoadElt, Prog.lift, Prog.bind_op, Prog.bind_ret, Prog.pure_eq_ret, Prog.bind_assoc, wp_deviceId]
  iintro #HI HS Hk
  iapply (cur2 (ws_step xs ws K c 19 _ _ (by decide +kernel) (sem_amax (unshift 19 c) 19 (off36_13 c)))) $$ HI HS; iintro HS
  iapply (cur2 (ws_step xs ws K c 18 _ _ (by decide +kernel) (sem_amax (unshift 18 c) 18 (off36_14 c)))) $$ HI HS; iintro HS
  iapply (step_ret c _)
  iapply Hk $$ %_ HS

theorem part56 (c : Dev nD) (l a : List (Fin 32)) (v2 : BitVec 32) (v1220 : BitVec 32) (v1221 : BitVec 32) (v1222 : BitVec 1) (v1225 : BitVec 1) {Q : _ → sProp 𝕄} :
    INV xs ws K ⊢ iprop(WS xs ws c (17 :: 16 :: l) a
      -∗ (∀ r, WS xs ws c l (16 :: 17 :: a) -∗ Q (r))
      -∗ WP c (k0_part56 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v1220 v1221 v1222 v1225) Q) := by
  rw [k0_part56_eq_skeleton]; unfold k0_part56_skel
  simp only [semSignalWord, semWaitWord, smemLoad, smemLoadElt, Prog.lift, Prog.bind_op, Prog.bind_ret, Prog.pure_eq_ret, Prog.bind_assoc, wp_deviceId]
  iintro #HI HS Hk
  iapply (cur2 (ws_step xs ws K c 17 _ _ (by decide +kernel) (sem_amax (unshift 17 c) 17 (off36_15 c)))) $$ HI HS; iintro HS
  iapply (cur2 (ws_step xs ws K c 16 _ _ (by decide +kernel) (sem_amax (unshift 16 c) 16 (off36_16 c)))) $$ HI HS; iintro HS
  iapply (step_ret c _)
  iapply Hk $$ %_ HS

theorem part57 (c : Dev nD) (l a : List (Fin 32)) (v2 : BitVec 32) (v1254 : BitVec 32) (v1255 : BitVec 32) (v1256 : BitVec 1) (v1259 : BitVec 1) {Q : _ → sProp 𝕄} :
    INV xs ws K ⊢ iprop(WS xs ws c (15 :: 14 :: l) a
      -∗ (∀ r, WS xs ws c l (14 :: 15 :: a) -∗ Q (r))
      -∗ WP c (k0_part57 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v1254 v1255 v1256 v1259) Q) := by
  rw [k0_part57_eq_skeleton]; unfold k0_part57_skel
  simp only [semSignalWord, semWaitWord, smemLoad, smemLoadElt, Prog.lift, Prog.bind_op, Prog.bind_ret, Prog.pure_eq_ret, Prog.bind_assoc, wp_deviceId]
  iintro #HI HS Hk
  iapply (cur2 (ws_step xs ws K c 15 _ _ (by decide +kernel) (sem_amax (unshift 15 c) 15 (off36_17 c)))) $$ HI HS; iintro HS
  iapply (cur2 (ws_step xs ws K c 14 _ _ (by decide +kernel) (sem_amax (unshift 14 c) 14 (off36_18 c)))) $$ HI HS; iintro HS
  iapply (step_ret c _)
  iapply Hk $$ %_ HS

theorem part58 (c : Dev nD) (l a : List (Fin 32)) (v2 : BitVec 32) (v1288 : BitVec 32) (v1289 : BitVec 32) (v1290 : BitVec 1) (v1293 : BitVec 1) {Q : _ → sProp 𝕄} :
    INV xs ws K ⊢ iprop(WS xs ws c (13 :: 12 :: l) a
      -∗ (∀ r, WS xs ws c l (12 :: 13 :: a) -∗ Q (r))
      -∗ WP c (k0_part58 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v1288 v1289 v1290 v1293) Q) := by
  rw [k0_part58_eq_skeleton]; unfold k0_part58_skel
  simp only [semSignalWord, semWaitWord, smemLoad, smemLoadElt, Prog.lift, Prog.bind_op, Prog.bind_ret, Prog.pure_eq_ret, Prog.bind_assoc, wp_deviceId]
  iintro #HI HS Hk
  iapply (cur2 (ws_step xs ws K c 13 _ _ (by decide +kernel) (sem_amax (unshift 13 c) 13 (off36_19 c)))) $$ HI HS; iintro HS
  iapply (cur2 (ws_step xs ws K c 12 _ _ (by decide +kernel) (sem_amax (unshift 12 c) 12 (off36_20 c)))) $$ HI HS; iintro HS
  iapply (step_ret c _)
  iapply Hk $$ %_ HS

theorem part59 (c : Dev nD) (l a : List (Fin 32)) (v2 : BitVec 32) (v1322 : BitVec 32) (v1323 : BitVec 32) (v1324 : BitVec 1) (v1327 : BitVec 1) {Q : _ → sProp 𝕄} :
    INV xs ws K ⊢ iprop(WS xs ws c (11 :: 10 :: l) a
      -∗ (∀ r, WS xs ws c l (10 :: 11 :: a) -∗ Q (r))
      -∗ WP c (k0_part59 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v1322 v1323 v1324 v1327) Q) := by
  rw [k0_part59_eq_skeleton]; unfold k0_part59_skel
  simp only [semSignalWord, semWaitWord, smemLoad, smemLoadElt, Prog.lift, Prog.bind_op, Prog.bind_ret, Prog.pure_eq_ret, Prog.bind_assoc, wp_deviceId]
  iintro #HI HS Hk
  iapply (cur2 (ws_step xs ws K c 11 _ _ (by decide +kernel) (sem_amax (unshift 11 c) 11 (off36_21 c)))) $$ HI HS; iintro HS
  iapply (cur2 (ws_step xs ws K c 10 _ _ (by decide +kernel) (sem_amax (unshift 10 c) 10 (off36_22 c)))) $$ HI HS; iintro HS
  iapply (step_ret c _)
  iapply Hk $$ %_ HS

theorem part60 (c : Dev nD) (l a : List (Fin 32)) (v2 : BitVec 32) (v1356 : BitVec 32) (v1357 : BitVec 32) (v1358 : BitVec 1) (v1361 : BitVec 1) {Q : _ → sProp 𝕄} :
    INV xs ws K ⊢ iprop(WS xs ws c (9 :: 8 :: l) a
      -∗ (∀ r, WS xs ws c l (8 :: 9 :: a) -∗ Q (r))
      -∗ WP c (k0_part60 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v1356 v1357 v1358 v1361) Q) := by
  rw [k0_part60_eq_skeleton]; unfold k0_part60_skel
  simp only [semSignalWord, semWaitWord, smemLoad, smemLoadElt, Prog.lift, Prog.bind_op, Prog.bind_ret, Prog.pure_eq_ret, Prog.bind_assoc, wp_deviceId]
  iintro #HI HS Hk
  iapply (cur2 (ws_step xs ws K c 9 _ _ (by decide +kernel) (sem_amax (unshift 9 c) 9 (off36_23 c)))) $$ HI HS; iintro HS
  iapply (cur2 (ws_step xs ws K c 8 _ _ (by decide +kernel) (sem_amax (unshift 8 c) 8 (off36_24 c)))) $$ HI HS; iintro HS
  iapply (step_ret c _)
  iapply Hk $$ %_ HS

theorem part61 (c : Dev nD) (l a : List (Fin 32)) (v2 : BitVec 32) (v1390 : BitVec 32) (v1391 : BitVec 32) (v1392 : BitVec 1) (v1395 : BitVec 1) {Q : _ → sProp 𝕄} :
    INV xs ws K ⊢ iprop(WS xs ws c (7 :: 6 :: l) a
      -∗ (∀ r, WS xs ws c l (6 :: 7 :: a) -∗ Q (r))
      -∗ WP c (k0_part61 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v1390 v1391 v1392 v1395) Q) := by
  rw [k0_part61_eq_skeleton]; unfold k0_part61_skel
  simp only [semSignalWord, semWaitWord, smemLoad, smemLoadElt, Prog.lift, Prog.bind_op, Prog.bind_ret, Prog.pure_eq_ret, Prog.bind_assoc, wp_deviceId]
  iintro #HI HS Hk
  iapply (cur2 (ws_step xs ws K c 7 _ _ (by decide +kernel) (sem_amax (unshift 7 c) 7 (off36_25 c)))) $$ HI HS; iintro HS
  iapply (cur2 (ws_step xs ws K c 6 _ _ (by decide +kernel) (sem_amax (unshift 6 c) 6 (off36_26 c)))) $$ HI HS; iintro HS
  iapply (step_ret c _)
  iapply Hk $$ %_ HS

theorem part62 (c : Dev nD) (l a : List (Fin 32)) (v2 : BitVec 32) (v1424 : BitVec 32) (v1425 : BitVec 32) (v1426 : BitVec 1) (v1429 : BitVec 1) {Q : _ → sProp 𝕄} :
    INV xs ws K ⊢ iprop(WS xs ws c (5 :: 4 :: l) a
      -∗ (∀ r, WS xs ws c l (4 :: 5 :: a) -∗ Q (r))
      -∗ WP c (k0_part62 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v1424 v1425 v1426 v1429) Q) := by
  rw [k0_part62_eq_skeleton]; unfold k0_part62_skel
  simp only [semSignalWord, semWaitWord, smemLoad, smemLoadElt, Prog.lift, Prog.bind_op, Prog.bind_ret, Prog.pure_eq_ret, Prog.bind_assoc, wp_deviceId]
  iintro #HI HS Hk
  iapply (cur2 (ws_step xs ws K c 5 _ _ (by decide +kernel) (sem_amax (unshift 5 c) 5 (off36_27 c)))) $$ HI HS; iintro HS
  iapply (cur2 (ws_step xs ws K c 4 _ _ (by decide +kernel) (sem_amax (unshift 4 c) 4 (off36_28 c)))) $$ HI HS; iintro HS
  iapply (step_ret c _)
  iapply Hk $$ %_ HS

theorem part63 (c : Dev nD) (l a : List (Fin 32)) (v2 : BitVec 32) (v1458 : BitVec 32) (v1459 : BitVec 32) (v1460 : BitVec 1) (v1463 : BitVec 1) {Q : _ → sProp 𝕄} :
    INV xs ws K ⊢ iprop(WS xs ws c (3 :: 2 :: l) a
      -∗ (∀ r, WS xs ws c l (2 :: 3 :: a) -∗ Q (r))
      -∗ WP c (k0_part63 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v1458 v1459 v1460 v1463) Q) := by
  rw [k0_part63_eq_skeleton]; unfold k0_part63_skel
  simp only [semSignalWord, semWaitWord, smemLoad, smemLoadElt, Prog.lift, Prog.bind_op, Prog.bind_ret, Prog.pure_eq_ret, Prog.bind_assoc, wp_deviceId]
  iintro #HI HS Hk
  iapply (cur2 (ws_step xs ws K c 3 _ _ (by decide +kernel) (sem_amax (unshift 3 c) 3 (off36_29 c)))) $$ HI HS; iintro HS
  iapply (cur2 (ws_step xs ws K c 2 _ _ (by decide +kernel) (sem_amax (unshift 2 c) 2 (off36_30 c)))) $$ HI HS; iintro HS
  iapply (step_ret c _)
  iapply Hk $$ %_ HS

/-- Between the last maximum and the first return: the copies' returns are waited for, nothing is due. -/
theorem ws_ds (c : Dev nD) (a l : List (Fin 32)) :
    iprop(WS xs ws c [] a ∗ bigSepL l (fun jj => iprop(crd c (.adep jj) ∗ posn c (.adep jj)))) ⊢ iprop(DS xs ws c l [] ∗
      bigSepL a (fun jj => iprop(atPos ER ((c : Thread nD τ), semOf (unshift jj c) (.amax jj)) 1 ∅ 0 ∗ has c (rowM (unshift jj c)) fullShare (amRow xs ws (unshift jj c))))) := by
  unfold WS DS
  iintro ⟨⟨H1, -, H2⟩, H3⟩
  isplitl [H1 H3]
  · isplitl [H1]; · iexact H1
    isplitl [H3]; · iexact H3
    iempintro
  iexact H2

theorem part64 (c : Dev nD) (l a : List (Fin 32)) (v2 : BitVec 32) (v1492 : BitVec 32) (v1493 : BitVec 32) (v1494 : BitVec 1) (v1497 : BitVec 1) {Q : _ → sProp 𝕄} :
    INV xs ws K ⊢ iprop(WS xs ws c [1] a
      -∗ bigSepL (1 :: 2 :: 3 :: 4 :: 5 :: l) (fun jj => iprop(crd c (.adep jj) ∗ posn c (.adep jj)))
      -∗ (DS xs ws c l [5, 4, 3, 2, 1] -∗ bigSepL (1 :: a) (fun jj => iprop(atPos ER ((c : Thread nD τ), semOf (unshift jj c) (.amax jj)) 1 ∅ 0 ∗ has c (rowM (unshift jj c)) fullShare (amRow xs ws (unshift jj c)))) -∗ Q (⟨⟩))
      -∗ WP c (k0_part64 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c v2 v1492 v1493 v1494 v1497) Q) := by
  rw [k0_part64_eq_skeleton]; unfold k0_part64_skel
  simp only [semSignalWord, semWaitWord, smemLoad, smemLoadElt, Prog.lift, Prog.bind_op, Prog.bind_ret, Prog.pure_eq_ret, Prog.bind_assoc, wp_deviceId]
  iintro #HI HS HD0 Hk
  iapply (cur2 (ws_step xs ws K c 1 _ _ (by decide +kernel) (sem_amax (unshift 1 c) 1 (off36_31 c)))) $$ HI HS; iintro HS
  ihave H := (ws_ds xs ws c _ _) $$ [HS HD0]
  · isplitl [HS]; · iexact HS
    iexact HD0
  icases H with ⟨HD, HW⟩
  iapply (cur2 (ds_step xs ws K c 1 _ _ (by decide +kernel) (sem_adep c 1 rfl))) $$ HI HD; iintro HD
  iapply (cur2 (ds_step xs ws K c 2 _ _ (by decide +kernel) (sem_adep c 2 rfl))) $$ HI HD; iintro HD
  iapply (cur2 (ds_step xs ws K c 3 _ _ (by decide +kernel) (sem_adep c 3 rfl))) $$ HI HD; iintro HD
  iapply (cur2 (ds_step xs ws K c 4 _ _ (by decide +kernel) (sem_adep c 4 rfl))) $$ HI HD; iintro HD
  iapply (cur2 (ds_step xs ws K c 5 _ _ (by decide +kernel) (sem_adep c 5 rfl))) $$ HI HD; iintro HD
  iapply (step_ret c _)
  iapply Hk $$ HD HW

theorem part65 (c : Dev nD) (l a : List (Fin 32)) {Q : _ → sProp 𝕄} :
    INV xs ws K ⊢ iprop(DS xs ws c (6 :: 7 :: 8 :: 9 :: 10 :: 11 :: l) a
      -∗ (DS xs ws c l (11 :: 10 :: 9 :: 8 :: 7 :: 6 :: a) -∗ Q (⟨⟩))
      -∗ WP c (k0_part65 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c) Q) := by
  rw [k0_part65_eq_skeleton]; unfold k0_part65_skel
  simp only [semSignalWord, semWaitWord, smemLoad, smemLoadElt, Prog.lift, Prog.bind_op, Prog.bind_ret, Prog.pure_eq_ret, Prog.bind_assoc, wp_deviceId]
  iintro #HI HD Hk
  iapply (cur2 (ds_step xs ws K c 6 _ _ (by decide +kernel) (sem_adep c 6 rfl))) $$ HI HD; iintro HD
  iapply (cur2 (ds_step xs ws K c 7 _ _ (by decide +kernel) (sem_adep c 7 rfl))) $$ HI HD; iintro HD
  iapply (cur2 (ds_step xs ws K c 8 _ _ (by decide +kernel) (sem_adep c 8 rfl))) $$ HI HD; iintro HD
  iapply (cur2 (ds_step xs ws K c 9 _ _ (by decide +kernel) (sem_adep c 9 rfl))) $$ HI HD; iintro HD
  iapply (cur2 (ds_step xs ws K c 10 _ _ (by decide +kernel) (sem_adep c 10 rfl))) $$ HI HD; iintro HD
  iapply (cur2 (ds_step xs ws K c 11 _ _ (by decide +kernel) (sem_adep c 11 rfl))) $$ HI HD; iintro HD
  iapply (step_ret c _)
  iapply Hk $$ HD

theorem part66 (c : Dev nD) (l a : List (Fin 32)) {Q : _ → sProp 𝕄} :
    INV xs ws K ⊢ iprop(DS xs ws c (12 :: 13 :: 14 :: 15 :: 16 :: 17 :: 18 :: l) a
      -∗ (DS xs ws c l (18 :: 17 :: 16 :: 15 :: 14 :: 13 :: 12 :: a) -∗ Q (⟨⟩))
      -∗ WP c (k0_part66 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c) Q) := by
  rw [k0_part66_eq_skeleton]; unfold k0_part66_skel
  simp only [semSignalWord, semWaitWord, smemLoad, smemLoadElt, Prog.lift, Prog.bind_op, Prog.bind_ret, Prog.pure_eq_ret, Prog.bind_assoc, wp_deviceId]
  iintro #HI HD Hk
  iapply (cur2 (ds_step xs ws K c 12 _ _ (by decide +kernel) (sem_adep c 12 rfl))) $$ HI HD; iintro HD
  iapply (cur2 (ds_step xs ws K c 13 _ _ (by decide +kernel) (sem_adep c 13 rfl))) $$ HI HD; iintro HD
  iapply (cur2 (ds_step xs ws K c 14 _ _ (by decide +kernel) (sem_adep c 14 rfl))) $$ HI HD; iintro HD
  iapply (cur2 (ds_step xs ws K c 15 _ _ (by decide +kernel) (sem_adep c 15 rfl))) $$ HI HD; iintro HD
  iapply (cur2 (ds_step xs ws K c 16 _ _ (by decide +kernel) (sem_adep c 16 rfl))) $$ HI HD; iintro HD
  iapply (cur2 (ds_step xs ws K c 17 _ _ (by decide +kernel) (sem_adep c 17 rfl))) $$ HI HD; iintro HD
  iapply (cur2 (ds_step xs ws K c 18 _ _ (by decide +kernel) (sem_adep c 18 rfl))) $$ HI HD; iintro HD
  iapply (step_ret c _)
  iapply Hk $$ HD

theorem part67 (c : Dev nD) (l a : List (Fin 32)) {Q : _ → sProp 𝕄} :
    INV xs ws K ⊢ iprop(DS xs ws c (19 :: 20 :: 21 :: 22 :: 23 :: 24 :: 25 :: l) a
      -∗ (DS xs ws c l (25 :: 24 :: 23 :: 22 :: 21 :: 20 :: 19 :: a) -∗ Q (⟨⟩))
      -∗ WP c (k0_part67 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c) Q) := by
  rw [k0_part67_eq_skeleton]; unfold k0_part67_skel
  simp only [semSignalWord, semWaitWord, smemLoad, smemLoadElt, Prog.lift, Prog.bind_op, Prog.bind_ret, Prog.pure_eq_ret, Prog.bind_assoc, wp_deviceId]
  iintro #HI HD Hk
  iapply (cur2 (ds_step xs ws K c 19 _ _ (by decide +kernel) (sem_adep c 19 rfl))) $$ HI HD; iintro HD
  iapply (cur2 (ds_step xs ws K c 20 _ _ (by decide +kernel) (sem_adep c 20 rfl))) $$ HI HD; iintro HD
  iapply (cur2 (ds_step xs ws K c 21 _ _ (by decide +kernel) (sem_adep c 21 rfl))) $$ HI HD; iintro HD
  iapply (cur2 (ds_step xs ws K c 22 _ _ (by decide +kernel) (sem_adep c 22 rfl))) $$ HI HD; iintro HD
  iapply (cur2 (ds_step xs ws K c 23 _ _ (by decide +kernel) (sem_adep c 23 rfl))) $$ HI HD; iintro HD
  iapply (cur2 (ds_step xs ws K c 24 _ _ (by decide +kernel) (sem_adep c 24 rfl))) $$ HI HD; iintro HD
  iapply (cur2 (ds_step xs ws K c 25 _ _ (by decide +kernel) (sem_adep c 25 rfl))) $$ HI HD; iintro HD
  iapply (step_ret c _)
  iapply Hk $$ HD

theorem part68 (c : Dev nD) (l a : List (Fin 32)) {Q : _ → sProp 𝕄} :
    INV xs ws K ⊢ iprop(DS xs ws c (26 :: 27 :: 28 :: 29 :: 30 :: 31 :: l) a
      -∗ iprop(arM.view.loc (c : Thread nD τ) ↦[Finset.univ]{fullShare} tab xs ws)
      -∗ (DS xs ws c l (31 :: 30 :: 29 :: 28 :: 27 :: 26 :: a) -∗ iprop(arM.view.loc (c : Thread nD τ) ↦[Finset.univ]{fullShare} tab xs ws) -∗ Q (k0_pay23 (tab xs ws)))
      -∗ WP c (k0_part68 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11 c) Q) := by
  rw [k0_part68_eq_skeleton]; unfold k0_part68_skel
  simp only [semSignalWord, semWaitWord, smemLoad, smemLoadElt, Prog.lift, Prog.bind_op, Prog.bind_ret, Prog.pure_eq_ret, Prog.bind_assoc, wp_deviceId]
  iintro #HI HD Ht Hk
  iapply (cur2 (ds_step xs ws K c 26 _ _ (by decide +kernel) (sem_adep c 26 rfl))) $$ HI HD; iintro HD
  iapply (cur2 (ds_step xs ws K c 27 _ _ (by decide +kernel) (sem_adep c 27 rfl))) $$ HI HD; iintro HD
  iapply (cur2 (ds_step xs ws K c 28 _ _ (by decide +kernel) (sem_adep c 28 rfl))) $$ HI HD; iintro HD
  iapply (cur2 (ds_step xs ws K c 29 _ _ (by decide +kernel) (sem_adep c 29 rfl))) $$ HI HD; iintro HD
  iapply (cur2 (ds_step xs ws K c 30 _ _ (by decide +kernel) (sem_adep c 30 rfl))) $$ HI HD; iintro HD
  iapply (cur2 (ds_step xs ws K c 31 _ _ (by decide +kernel) (sem_adep c 31 rfl))) $$ HI HD; iintro HD
  iapply (load_tab xs ws c (by decide +kernel)) $$ Ht; iintro Ht
  iapply (step_ret c _)
  iapply Hk $$ HD Ht

end Cert.RingGemm

end
-- ==== Proof.Body6.lean ====
/-
Buffers in pieces: the landing slots, the rows of the table of maxima, the shares of x; and the rows of the other devices' tables.
-/
module

public import proofs.«01_k».proof.Proof.Body5
public import Idealize.ShloMosaic.Lib.Ring
public import Idealize.ShloMosaic.Lib.Pipeline.TalkSched

@[expose] public section

set_option maxHeartbeats 1000000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → (S128x4096.Idx → Elt F .f32)) (ws : Dev nD → (S4096x256.Idx → Elt F .f32)) (K : GSem nD τ sig → ℕ)

/-! ## The landing slots -/

theorem slot_set (d : Bool) (s j : Fin 2) : (slotM d s j).view.set = (commM d).view.setOn (slotR s j).toLoadRect.set :=
  (Memref.set_view_squeeze ((commM d).slice (slotR s j) (fun _ => rfl)) squeezes_S1x1x128x2048_S128x2048).trans (View.set_slice _ _)

theorem slot_mem (s j : Fin 2) (i : S2x2x128x2048.Idx) : i ∈ (slotR s j).toLoadRect.set ↔ (i 0).val = s.val ∧ (i 1).val = j.val := by
  have h : i ∈ (slotR s j).set ↔ _ := Rect.mem_set_unit
  refine h.trans ⟨fun h => ?_, fun h a => ?_⟩
  · have h0 := h 0; have h1 := h 1
    have e0 : (![s.val, j.val, 0, 0] : Fin 4 → Nat) 0 = s.val := rfl
    have e1 : (![s.val, j.val, 0, 0] : Fin 4 → Nat) 1 = j.val := rfl
    have f0 : S1x1x128x2048.size 0 = 1 := rfl
    have f1 : S1x1x128x2048.size 1 = 1 := rfl
    rw [e0, f0] at h0; rw [e1, f1] at h1
    omega
  · have b := (i a).isLt
    fin_cases a
    · show s.val ≤ (i 0).val ∧ (i 0).val < s.val + 1; omega
    · show j.val ≤ (i 1).val ∧ (i 1).val < j.val + 1; omega
    · exact ⟨Nat.zero_le _, by simpa using b⟩
    · exact ⟨Nat.zero_le _, by simpa using b⟩

/-- The elements of a slot. -/
def slotS (p : Fin 2 × Fin 2) : Finset S2x2x128x2048.Idx := (slotR p.1 p.2).toLoadRect.set

theorem slots_disj (p p' : Fin 2 × Fin 2) (h : p ≠ p') : Disjoint (slotS p) (slotS p') := by
  rw [Finset.disjoint_left]
  intro i hi hi'
  have h1 := (slot_mem p.1 p.2 i).mp hi
  have h2 := (slot_mem p'.1 p'.2 i).mp hi'
  exact h (Prod.ext (Fin.ext (h1.1.symm.trans h2.1)) (Fin.ext (h1.2.symm.trans h2.2)))

theorem slots_cover : Finset.univ.biUnion slotS = Finset.univ := by
  rw [Finset.eq_univ_iff_forall]
  intro i
  rw [Finset.mem_biUnion]
  exact ⟨(⟨(i 0).val, (i 0).isLt⟩, ⟨(i 1).val, (i 1).isLt⟩), Finset.mem_univ _, (slot_mem _ _ i).mpr ⟨rfl, rfl⟩⟩

theorem any_slot (c : Dev nD) (p : Fin 2 × Fin 2) :
    any (F := F) c (slotM true p.1 p.2) = (iprop(∃ f : Buf (Elt F) ((commM true).view.loc (c : Thread nD τ)), (commM true).view.loc (c : Thread nD τ) ↦[slotS p]{fullShare} f) : sProp 𝕄)
    ∧ any (F := F) c (slotM false p.1 p.2) = (iprop(∃ f : Buf (Elt F) ((commM false).view.loc (c : Thread nD τ)), (commM false).view.loc (c : Thread nD τ) ↦[slotS p]{fullShare} f) : sProp 𝕄) :=
  ⟨congrArg (fun S : Finset (Idx ((commM true).view.loc (c : Thread nD τ))) => (iprop(∃ f : Buf (Elt F) ((commM true).view.loc (c : Thread nD τ)), (commM true).view.loc (c : Thread nD τ) ↦[S]{fullShare} f) : sProp 𝕄)) ((slot_set true p.1 p.2).trans Finset.map_refl),
   congrArg (fun S : Finset (Idx ((commM false).view.loc (c : Thread nD τ))) => (iprop(∃ f : Buf (Elt F) ((commM false).view.loc (c : Thread nD τ)), (commM false).view.loc (c : Thread nD τ) ↦[S]{fullShare} f) : sProp 𝕄)) ((slot_set false p.1 p.2).trans Finset.map_refl)⟩

/-- The four slots of a landing buffer, each whole. -/
def slots (d : Bool) (c : Dev nD) : sProp 𝕄 := iprop(any c (slotM d 0 0) ∗ any c (slotM d 0 1) ∗ any c (slotM d 1 0) ∗ any c (slotM d 1 1))

theorem slots_bigSep (d : Bool) (c : Dev nD) : bigSep Finset.univ (fun p : Fin 2 × Fin 2 => any (F := F) c (slotM d p.1 p.2)) ⊣⊢ slots d c := by
  rw [bigSep_univ_eq_bigSepL [(0, 0), (0, 1), (1, 0), (1, 1)] (by decide) (by decide)]
  simp only [bigSepL_cons']
  unfold slots
  constructor
  · iintro ⟨H1, H2, H3, H4, -⟩
    isplitl [H1]; · iexact H1
    isplitl [H2]; · iexact H2
    isplitl [H3]; · iexact H3
    iexact H4
  · iintro ⟨H1, H2, H3, H4⟩
    isplitl [H1]; · iexact H1
    isplitl [H2]; · iexact H2
    isplitl [H3]; · iexact H3
    isplitl [H4]; · iexact H4
    iempintro

theorem slots_split_true (c : Dev nD) (f : Buf (Elt F) ((commM true).view.loc (c : Thread nD τ))) :
    iprop((commM true).view.loc (c : Thread nD τ) ↦[Finset.univ]{fullShare} f) ⊢ slots true c := by
  refine BIBase.Entails.trans ?_ (slots_bigSep true c).1
  refine (BIBase.Entails.of_eq (Ring.pointsTo_sub_blocks (ℓ := (commM true).view.loc (c : Thread nD τ)) slotS slots_disj Finset.univ slots_cover f)).trans (bigSep_mono fun p _ => ?_)
  rw [(any_slot c p).1]
  have h : iprop((commM true).view.loc (c : Thread nD τ) ↦[slotS p]{fullShare} f) ⊢ (iprop(∃ f : Buf (Elt F) ((commM true).view.loc (c : Thread nD τ)), (commM true).view.loc (c : Thread nD τ) ↦[slotS p]{fullShare} f) : sProp 𝕄) := by
    iintro H
    iexists f
    iexact H
  exact h

theorem slots_join_true (c : Dev nD) : slots true c ⊢ (iprop(∃ f : Buf (Elt F) ((commM true).view.loc (c : Thread nD τ)), (commM true).view.loc (c : Thread nD τ) ↦[Finset.univ]{fullShare} f) : sProp 𝕄) := by
  refine BIBase.Entails.trans (slots_bigSep true c).2 (BIBase.Entails.trans (bigSep_mono fun p _ => BIBase.Entails.of_eq (any_slot c p).1) ?_)
  exact Ring.pointsTo_sub_blocks_join_exists (ℓ := (commM true).view.loc (c : Thread nD τ)) slotS slots_disj Finset.univ slots_cover (commM true).view.junk

theorem slots_split_false (c : Dev nD) (f : Buf (Elt F) ((commM false).view.loc (c : Thread nD τ))) :
    iprop((commM false).view.loc (c : Thread nD τ) ↦[Finset.univ]{fullShare} f) ⊢ slots false c := by
  refine BIBase.Entails.trans ?_ (slots_bigSep false c).1
  refine (BIBase.Entails.of_eq (Ring.pointsTo_sub_blocks (ℓ := (commM false).view.loc (c : Thread nD τ)) slotS slots_disj Finset.univ slots_cover f)).trans (bigSep_mono fun p _ => ?_)
  rw [(any_slot c p).2]
  have h : iprop((commM false).view.loc (c : Thread nD τ) ↦[slotS p]{fullShare} f) ⊢ (iprop(∃ f : Buf (Elt F) ((commM false).view.loc (c : Thread nD τ)), (commM false).view.loc (c : Thread nD τ) ↦[slotS p]{fullShare} f) : sProp 𝕄) := by
    iintro H
    iexists f
    iexact H
  exact h

theorem slots_join_false (c : Dev nD) : slots false c ⊢ (iprop(∃ f : Buf (Elt F) ((commM false).view.loc (c : Thread nD τ)), (commM false).view.loc (c : Thread nD τ) ↦[Finset.univ]{fullShare} f) : sProp 𝕄) := by
  refine BIBase.Entails.trans (slots_bigSep false c).2 (BIBase.Entails.trans (bigSep_mono fun p _ => BIBase.Entails.of_eq (any_slot c p).2) ?_)
  exact Ring.pointsTo_sub_blocks_join_exists (ℓ := (commM false).view.loc (c : Thread nD τ)) slotS slots_disj Finset.univ slots_cover (commM false).view.junk

/-! ## The rows of the table -/

theorem ar_setOn (K : Finset S32x1x128.Idx) : arM.view.setOn K = K := Finset.map_refl

theorem row_mem (o : Dev nD) (i : S32x1x128.Idx) : i ∈ (rowR o).toLoadRect.set ↔ (i 0).val = o.val := by
  have h : i ∈ (rowR o).set ↔ _ := Rect.mem_set_unit
  refine h.trans ⟨fun h => ?_, fun h a => ?_⟩
  · have h0 := h 0
    have e0 : (![o.val, 0, 0] : Fin 3 → Nat) 0 = o.val := rfl
    have f0 : S1x1x128.size 0 = 1 := rfl
    rw [e0, f0] at h0
    omega
  · have b := (i a).isLt
    fin_cases a
    · show o.val ≤ (i 0).val ∧ (i 0).val < o.val + 1; omega
    · exact ⟨Nat.zero_le _, by simpa using b⟩
    · exact ⟨Nat.zero_le _, by simpa using b⟩

/-- The elements of a row. -/
def rowS (o : Dev nD) : Finset S32x1x128.Idx := (rowR o).toLoadRect.set

theorem rows_disj (o o' : Dev nD) (h : o ≠ o') : Disjoint (rowS o) (rowS o') := by
  rw [Finset.disjoint_left]
  intro i hi hi'
  exact h (Fin.ext (((row_mem o i).mp hi).symm.trans ((row_mem o' i).mp hi')))

theorem rows_cover : Finset.univ.biUnion rowS = Finset.univ := by
  rw [Finset.eq_univ_iff_forall]
  intro i
  rw [Finset.mem_biUnion]
  exact ⟨⟨(i 0).val, (i 0).isLt⟩, Finset.mem_univ _, (row_mem _ i).mpr rfl⟩

theorem at_row (c o : Dev nD) (f : Buf (Elt F) (arM.view.loc (c : Thread nD τ))) :
    iprop((rowM o).view.loc (c : Thread nD τ) ↦[(rowM o).view.set]{fullShare} f) = (iprop(arM.view.loc (c : Thread nD τ) ↦[rowS o]{fullShare} f) : sProp 𝕄) :=
  congrArg (fun S : Finset (Idx (arM.view.loc (c : Thread nD τ))) => (iprop(arM.view.loc (c : Thread nD τ) ↦[S]{fullShare} f) : sProp 𝕄)) ((row_set o).trans Finset.map_refl)

theorem rows_split (c : Dev nD) (f : Buf (Elt F) (arM.view.loc (c : Thread nD τ))) :
    iprop(arM.view.loc (c : Thread nD τ) ↦[Finset.univ]{fullShare} f) ⊢ bigSep Finset.univ (fun o : Dev nD => any c (rowM o)) := by
  refine (BIBase.Entails.of_eq (Ring.pointsTo_sub_blocks (ℓ := arM.view.loc (c : Thread nD τ)) rowS rows_disj Finset.univ rows_cover f)).trans (bigSep_mono fun o _ => ?_)
  rw [← at_row c o f]
  have h : iprop((rowM o).view.loc (c : Thread nD τ) ↦[(rowM o).view.set]{fullShare} f) ⊢ any c (rowM o) := by
    unfold any
    iintro H
    iexists f
    iexact H
  exact h

/-- The rows, each holding its device's maximum, are the table. -/
theorem rows_tab (c : Dev nD) : bigSep Finset.univ (fun o : Dev nD => has c (rowM o) fullShare (amRow xs ws o))
    ⊢ iprop(arM.view.loc (c : Thread nD τ) ↦[Finset.univ]{fullShare} tab xs ws) := by
  refine BIBase.Entails.trans (bigSep_mono fun o _ => ?_) (BIBase.Entails.of_eq (Ring.pointsTo_sub_blocks (ℓ := arM.view.loc (c : Thread nD τ)) rowS rows_disj Finset.univ rows_cover (tab xs ws)).symm)
  have e : (rowM o).view.read (Elt F) (tab xs ws) = amRow xs ws o := by
    rw [row_read o o]
    funext y
    show tab xs ws _ = am xs ws o
    unfold tab
    refine congrArg (am xs ws) (Fin.ext ?_)
    show o.val + 1 * _ = o.val
    have hz : ∀ z : Fin 1, o.val + 1 * z.val = o.val := fun z => by omega
    exact hz _
  rw [← at_row c o (tab xs ws)]
  unfold has
  rw [← e]
  exact (BIBase.Entails.of_eq (pointsTo_rep (Ix := ℕ) (Name := ℕ) (U := UU) (Lvl := ℕ) (c : Thread nD τ) (rowM o) (tab xs ws) fullShare).symm)

theorem others_perm : ∀ c : Dev nD, (c :: jjs.map (fun jj => unshift jj c)).Nodup ∧ Finset.univ = (c :: jjs.map (fun jj => unshift jj c)).toFinset := by decide +kernel

theorem rows_all (c : Dev nD) : iprop(has c (rowM c) fullShare (amRow xs ws c) ∗ bigSepL jjs (fun jj => has c (rowM (unshift jj c)) fullShare (amRow xs ws (unshift jj c))))
    ⊢ iprop(arM.view.loc (c : Thread nD τ) ↦[Finset.univ]{fullShare} tab xs ws) := by
  refine BIBase.Entails.trans ?_ (rows_tab xs ws c)
  rw [bigSep_univ_eq_bigSepL (c :: jjs.map (fun jj => unshift jj c)) (others_perm c).2 (others_perm c).1, bigSepL_cons', bigSepL_map]

/-! ## The rows of the other devices' tables -/

theorem bs_unzip {T : Type} (P R : T → sProp 𝕄) : ∀ l : List T, bigSepL l (fun x => iprop(P x ∗ R x)) ⊢ iprop(bigSepL l P ∗ bigSepL l R)
  | [] => by iintro -; isplitr <;> iempintro
  | x :: l => by
    rw [bigSepL_cons', bigSepL_cons', bigSepL_cons']
    iintro ⟨⟨H1, H2⟩, H3⟩
    ihave H3 := (bs_unzip P R l) $$ H3
    icases H3 with ⟨H3, H4⟩
    isplitl [H1 H3]
    · isplitl [H1]; · iexact H1
      iexact H3
    isplitl [H2]; · iexact H2
    iexact H4

theorem peers_perm : ∀ c : Dev nD, ((List.range 16).map (fun k => org true (k + 1) c) ++ (List.range 15).map (fun k => org false (k + 1) c)).Perm (jjs.map (fun jj => shift jj c))
    ∧ ((List.range 16).map (fun k => org true (k + 1) c) ++ (List.range 15).map (fun k => org false (k + 1) c)).Nodup := by decide +kernel

theorem got_all (c : Dev nD) : iprop(gotS (F := F) 14 c ∗ got true 0 14 c ∗ got true 0 15 c ∗ got false 1 14 c) ⊢ bigSepL jjs (fun jj => rowRes (shift jj c) c) := by
  have e1 : bigSepL jjs (fun jj => rowRes (F := F) (shift jj c) c) = bigSepL (jjs.map (fun jj => shift jj c)) (fun o => rowRes o c) := (by rw [bigSepL_map])
  rw [e1, ← TalkSites.bigSepL_perm (peers_perm c).1 (peers_perm c).2, bigSepL_append, bigSepL_map, bigSepL_map]
  have e2 : gotS (F := F) 14 c = bigSepL (List.range 14) (fun k => iprop(got true 0 k c ∗ got false 1 k c)) :=
    bigSep_eq_bigSepL_of_eq (List.range 14) (by decide) (by decide) _
  rw [e2]
  have a1 : bigSepL (List.range 16) (fun k => got (F := F) true 0 k c) ⊢ bigSepL (List.range 16) (fun k => rowRes (org true (k + 1) c) c) :=
    bigSepL_mono fun k hk => by unfold got; rw [if_pos (show k < lim true 0 from List.mem_range.mp hk)]
  have a2 : bigSepL (List.range 15) (fun k => got (F := F) false 1 k c) ⊢ bigSepL (List.range 15) (fun k => rowRes (org false (k + 1) c) c) :=
    bigSepL_mono fun k hk => by unfold got; rw [if_pos (show k < lim false 1 from List.mem_range.mp hk)]
  iintro ⟨H, G1, G2, G3⟩
  ihave H := (bs_unzip _ _ (List.range 14)) $$ H
  icases H with ⟨Ha, Hb⟩
  isplitl [Ha G1 G2]
  · iapply a1
    rw [show List.range 16 = List.range 14 ++ [14, 15] from rfl, bigSepL_append, bigSepL_cons', bigSepL_cons']
    isplitl [Ha]; · iexact Ha
    isplitl [G1]; · iexact G1
    isplitl [G2]; · iexact G2
    iempintro
  · iapply a2
    rw [show List.range 15 = List.range 14 ++ [14] from rfl, bigSepL_append, bigSepL_cons']
    isplitl [Hb]; · iexact Hb
    isplitl [G3]; · iexact G3
    iempintro

/-! ## The shares of x -/

/-- What stays of a share of x when its half is lent. -/
def xRest (d : Bool) (j : Fin 2) (c : Dev nD) : sProp 𝕄 := iprop(xM.view.loc (c : Thread nD τ) ↦[Finset.univ \ (halfM j).view.set]{xShare d j} xs c)

theorem x_half (d : Bool) (j : Fin 2) (c : Dev nD) :
    iprop(xM.view.loc (c : Thread nD τ) ↦[Finset.univ]{xShare d j} xs c) ⊣⊢ iprop(srcHas xs d j 0 c ∗ xRest xs d j c) := by
  have e : srcHas xs d j 0 c = iprop(xM.view.loc (c : Thread nD τ) ↦[(halfM j).view.set]{xShare d j} xs c) := by
    show has c (halfM j) (xShare d j) (xh xs (org d 0 c) j) = _
    rw [org_zero]
    exact (pointsTo_rep (Ix := ℕ) (Name := ℕ) (U := UU) (Lvl := ℕ) (c : Thread nD τ) (halfM j) (xs c) (xShare d j)).symm
  rw [e]
  exact pointsTo_split_subset (Finset.subset_univ _)

/-- The four shares lent to the first hops, with what stays of each. -/
def xLent (c : Dev nD) : sProp 𝕄 := iprop(srcHas xs true 0 0 c ∗ srcHas xs true 1 0 c ∗ srcHas xs false 0 0 c ∗ srcHas xs false 1 0 c)
def xStay (c : Dev nD) : sProp 𝕄 := iprop(xRest xs true 0 c ∗ xRest xs true 1 c ∗ xRest xs false 0 c ∗ xRest xs false 1 c)

theorem x_shares (c : Dev nD) : iprop(xM.view.loc (c : Thread nD τ) ↦[Finset.univ]{fullShare} xs c) ⊣⊢ iprop(xLent xs c ∗ xStay xs c ∗ xP xs c) := by
  have s (q : PosShare TreeShare) : iprop(xM.view.loc (c : Thread nD τ) ↦[Finset.univ]{q} xs c) ⊣⊢ (iprop((xM.view.loc (c : Thread nD τ) ↦[Finset.univ]{q.left} xs c) ∗ (xM.view.loc (c : Thread nD τ) ↦[Finset.univ]{q.right} xs c)) : sProp 𝕄) :=
    pointsTo_share (PosShare.mem_left_op_right q)
  have htrue0 : iprop(xM.view.loc (c : Thread nD τ) ↦[Finset.univ]{fullShare.left.left.left} xs c) ⊣⊢ iprop(srcHas xs true 0 0 c ∗ xRest xs true 0 c) := x_half xs true 0 c
  have htrue1 : iprop(xM.view.loc (c : Thread nD τ) ↦[Finset.univ]{fullShare.left.left.right} xs c) ⊣⊢ iprop(srcHas xs true 1 0 c ∗ xRest xs true 1 c) := x_half xs true 1 c
  have hfalse0 : iprop(xM.view.loc (c : Thread nD τ) ↦[Finset.univ]{fullShare.left.right.left} xs c) ⊣⊢ iprop(srcHas xs false 0 0 c ∗ xRest xs false 0 c) := x_half xs false 0 c
  have hfalse1 : iprop(xM.view.loc (c : Thread nD τ) ↦[Finset.univ]{fullShare.left.right.right} xs c) ⊣⊢ iprop(srcHas xs false 1 0 c ∗ xRest xs false 1 c) := x_half xs false 1 c
  unfold xLent xStay xP
  constructor
  · iintro H
    ihave H := (s fullShare).1 $$ H
    icases H with ⟨HL, HR⟩
    ihave HL := (s fullShare.left).1 $$ HL
    icases HL with ⟨H1, H2⟩
    ihave H1 := (s fullShare.left.left).1 $$ H1
    icases H1 with ⟨Ha, Hb⟩
    ihave H2 := (s fullShare.left.right).1 $$ H2
    icases H2 with ⟨Hc, Hd⟩
    ihave Ha := (htrue0).1 $$ Ha
    ihave Hb := (htrue1).1 $$ Hb
    ihave Hc := (hfalse0).1 $$ Hc
    ihave Hd := (hfalse1).1 $$ Hd
    icases Ha with ⟨Ha, Ha'⟩
    icases Hb with ⟨Hb, Hb'⟩
    icases Hc with ⟨Hc, Hc'⟩
    icases Hd with ⟨Hd, Hd'⟩
    isplitl [Ha Hb Hc Hd]
    · isplitl [Ha]; · iexact Ha
      isplitl [Hb]; · iexact Hb
      isplitl [Hc]; · iexact Hc
      iexact Hd
    isplitl [Ha' Hb' Hc' Hd']
    · isplitl [Ha']; · iexact Ha'
      isplitl [Hb']; · iexact Hb'
      isplitl [Hc']; · iexact Hc'
      iexact Hd'
    iexact HR
  · iintro ⟨⟨Ha, Hb, Hc, Hd⟩, ⟨Ha', Hb', Hc', Hd'⟩, HR⟩
    ihave Ha := (htrue0).2 $$ [Ha Ha']
    · isplitl [Ha]; · iexact Ha
      iexact Ha'
    ihave Hb := (htrue1).2 $$ [Hb Hb']
    · isplitl [Hb]; · iexact Hb
      iexact Hb'
    ihave Hc := (hfalse0).2 $$ [Hc Hc']
    · isplitl [Hc]; · iexact Hc
      iexact Hc'
    ihave Hd := (hfalse1).2 $$ [Hd Hd']
    · isplitl [Hd]; · iexact Hd
      iexact Hd'
    iapply (s fullShare).2
    isplitr [HR]
    · iapply (s fullShare.left).2
      isplitl [Ha Hb]
      · iapply (s fullShare.left.left).2
        isplitl [Ha]; · iexact Ha
        iexact Hb
      · iapply (s fullShare.left.right).2
        isplitl [Hc]; · iexact Hc
        iexact Hd
    · iexact HR

end Cert.RingGemm

end
-- ==== Proof.Body7.lean ====
/-
The whole body: its phases one after the other, from what a device holds at the start to what it holds at the end.
-/
module

public import proofs.«01_k».proof.Proof.Body1
public import proofs.«01_k».proof.Proof.Body4
public import proofs.«01_k».proof.Proof.Body6

@[expose] public section

set_option maxHeartbeats 1000000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → (S128x4096.Idx → Elt F .f32)) (ws : Dev nD → (S4096x256.Idx → Elt F .f32)) (K : GSem nD τ sig → ℕ)

variable {h0 : idM.IsWhole} {h1 : xM.IsWhole} {h2 : wM.IsWhole} {h3 : oM.IsWhole} {h4 : (Memref.whole cc0_scratch0).IsWhole} {h5 : (Memref.whole cc0_scratch1).IsWhole}
  {h6 : asM.IsWhole} {h7 : arM.IsWhole}

theorem crs_cons (c : Dev nD) (κ : Kind) (l : List Kind) : crs (F := F) c (κ :: l) = iprop(crd c κ ∗ crs c l) := by unfold crs; rw [bigSepL_cons']

/-- A lane before its first hop: its positions, and that its returns' rounds are reached. -/
def lane0 (d : Bool) (j : Fin 2) (c : Dev nD) : sProp 𝕄 :=
  iprop(posn c (.send d j 0) ∗ posn c (.send d j 1) ∗ posn c (.dep d j 0) ∗ posn c (.dep d j 1) ∗ rch c (.dep d j 0) ∗ rch c (.dep d j 1) ∗ srcHas xs d j 0 c ∗ ext d j 0 c)

/-- A direction before its first hop: the positions of its credits, and the rounds reached. -/
def dir0 (d : Bool) (c : Dev nD) : sProp 𝕄 :=
  iprop(posn c (.cred d 1) ∗ posn c (.cred d 2) ∗ rch (nxt d c) (.cred d 1) ∗ rch (nxt d c) (.cred d 2) ∗ pay xs ws c (.bar d) ∗ rch c (.bar d))

/-- What a device holds when the body starts. -/
def Pre (c : Dev nD) : sProp 𝕄 :=
  iprop(due c dueK ∗ crs c waitK ∗ posn c (.bar true) ∗ (lane0 xs true 0 c ∗ lane0 xs true 1 c ∗ lane0 xs false 0 c ∗ lane0 xs false 1 c) ∗ (dir0 xs ws true c ∗ dir0 xs ws false c)
    ∗ bigSepL jjs (fun jj => posn c (.amax jj)) ∗ bigSepL jjs (fun jj => posn c (.adep jj)) ∗ bigSepL jjs (fun jj => rch c (.adep jj))
    ∗ idP c ∗ wP ws c ∗ xP xs c ∗ outHas xs ws c (fun _ => False) ∗ any c asM ∗ any c (rowM c))

/-- The positions at the end at the cells of the hops, their returns and their credits. -/
def posEnd (c : Dev nD) : sProp 𝕄 :=
  iprop((posn c (.send true 0 16) ∗ posn c (.send true 0 17) ∗ posn c (.dep true 0 16) ∗ posn c (.dep true 0 17))
    ∗ (posn c (.send true 1 16) ∗ posn c (.send true 1 15) ∗ posn c (.dep true 1 16) ∗ posn c (.dep true 1 15))
    ∗ (posn c (.send false 0 16) ∗ posn c (.send false 0 15) ∗ posn c (.dep false 0 16) ∗ posn c (.dep false 0 15))
    ∗ (posn c (.send false 1 16) ∗ posn c (.send false 1 17) ∗ posn c (.dep false 1 16) ∗ posn c (.dep false 1 17))
    ∗ (posn c (.cred true 16) ∗ posn c (.cred true 15)) ∗ (posn c (.cred false 16) ∗ posn c (.cred false 15)))

/-- What a device holds when the body's copies are all done, but for the result. -/
def Mid (c : Dev nD) : sProp 𝕄 :=
  iprop(due c [] ∗ atPos ER (barCell c) 1 ∅ 0 ∗ posEnd c
    ∗ bigSepL jjs (fun jj => (atPos ER ((c : Thread nD τ), semOf (unshift jj c) (.amax jj)) 1 ∅ 0 : sProp 𝕄)) ∗ bigSepL jjs (fun jj => (atPos ER ((c : Thread nD τ), semOf c (.adep jj)) 1 ∅ 0 : sProp 𝕄))
    ∗ idP c ∗ wP ws c ∗ xP xs c ∗ xLent xs c ∗ slots true c ∗ slots false c ∗ any c asM ∗ iprop(arM.view.loc (c : Thread nD τ) ↦[Finset.univ]{fullShare} tab xs ws))

theorem wait_first (c : Dev nD) : crs (F := F) c waitK ⊢ iprop(crd c (.bar true) ∗ crd c (.bar false) ∗ crd c (.send true 0 0) ∗ crd c (.send false 0 0) ∗ crd c (.send true 1 0) ∗ crd c (.send false 1 0) ∗ crs c (wtailK 13)) := by
  refine BIBase.Entails.of_eq ?_
  show crs c (.bar true :: .bar false :: .send true 0 0 :: .send false 0 0 :: .send true 1 0 :: .send false 1 0 :: wtailK 13) = _
  rw [crs_cons, crs_cons, crs_cons, crs_cons, crs_cons, crs_cons]

theorem wait_last (c : Dev nD) : crs (F := F) c (wtailK (14 - 14)) ⊢ iprop(crd c (.send true 0 14) ∗ crd c (.cred true 14) ∗ crd c (.send false 0 14) ∗ crd c (.cred false 14) ∗ crd c (.send true 1 14) ∗ crd c (.send false 1 14)
    ∗ crd c (.send true 0 15) ∗ crd c (.send false 1 15) ∗ bigSepL jjs (fun jj => crd c (.amax jj))) := by
  refine BIBase.Entails.of_eq ?_
  show crs c (.send true 0 14 :: .cred true 14 :: .send false 0 14 :: .cred false 14 :: .send true 1 14 :: .send false 1 14 :: .send true 0 15 :: .send false 1 15 :: jjs.map Kind.amax) = _
  rw [crs_cons, crs_cons, crs_cons, crs_cons, crs_cons, crs_cons, crs_cons, crs_cons]
  unfold crs
  rw [bigSepL_map]

theorem gotS_one (c : Dev nD) : iprop(got (F := F) true 0 0 c ∗ got false 1 0 c) ⊢ gotS 1 c := by
  refine BIBase.Entails.trans ?_ (gotS_succ 0 c)
  iintro ⟨H1, H2⟩
  isplitr
  · iapply (BIBase.Entails.of_eq (show iprop(emp) = gotS (F := F) 0 c from bigSep_empty.symm)); iempintro
  isplitl [H1]; · iexact H1
  iexact H2

theorem made_one (c o : Dev nD) (h : made 1 c o) : ((False ∨ o = c) ∨ o = org true 1 c) ∨ o = org false 1 c := by
  obtain ⟨k, hk, h⟩ := h
  obtain rfl | rfl : k = 0 ∨ k = 1 := by omega
  · rw [org_zero, org_zero] at h
    exact Or.inl (Or.inl (Or.inr (h.elim id id)))
  · exact h.elim (fun h => Or.inl (Or.inr h)) Or.inr

theorem made_fin : ∀ c o : Dev nD, (∃ k : Fin 17, o = org true k.val c ∨ (k.val < 16 ∧ o = org false k.val c)) := by decide +kernel

theorem made_all (c o : Dev nD) : ((made 14 c o ∨ o = org true 15 c) ∨ o = org false 15 c) ∨ o = org true 16 c := by
  obtain ⟨⟨k, hk⟩, h⟩ := made_fin c o
  by_cases hk4 : k ≤ 14
  · exact Or.inl (Or.inl (Or.inl ⟨k, hk4, h.imp_right fun h => h.2⟩))
  obtain rfl | rfl : k = 15 ∨ k = 16 := by omega
  · exact h.elim (fun h => Or.inl (Or.inl (Or.inr h))) (fun h => Or.inl (Or.inr h.2))
  · exact h.elim (fun h => Or.inr h) (fun h => absurd h.1 (by simp))

/-- The indices of the other devices, up and down. -/
def upL : List (Fin 32) := [1, 2, 3, 4, 5, 6, 7, 8, 9, 10, 11, 12, 13, 14, 15, 16, 17, 18, 19, 20, 21, 22, 23, 24, 25, 26, 27, 28, 29, 30, 31]
def dnL : List (Fin 32) := [31, 30, 29, 28, 27, 26, 25, 24, 23, 22, 21, 20, 19, 18, 17, 16, 15, 14, 13, 12, 11, 10, 9, 8, 7, 6, 5, 4, 3, 2, 1]
theorem up_perm : upL.Perm jjs ∧ upL.Nodup := by decide +kernel
theorem dn_perm : dnL.Perm jjs ∧ dnL.Nodup := by decide +kernel
theorem up_eq (Φ : Fin 32 → sProp 𝕄) : bigSepL upL Φ = bigSepL jjs Φ := TalkSites.bigSepL_perm up_perm.1 up_perm.2 Φ
theorem dn_eq (Φ : Fin 32 → sProp 𝕄) : bigSepL dnL Φ = bigSepL jjs Φ := TalkSites.bigSepL_perm dn_perm.1 dn_perm.2 Φ

/-- The body up to the scale. -/
theorem part69 (c : Dev nD) {Q : _ → sProp 𝕄} :
    INV xs ws K ⊢ iprop(Pre xs ws c
      -∗ (Mid xs ws c -∗ outHas xs ws c (fun _ => True) -∗ Q (k0_pay24 (k0_pay23 (tab xs ws))))
      -∗ WP c (k0_part69 idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11) Q) := by
  rw [k0_part69_eq_skeleton]; unfold k0_part69_skel Pre lane0 dir0
  iintro #HI ⟨Hdue, Hcrs, Hpb, ⟨⟨t0s0, t0s1, t0d0, t0d1, #t0r0, #t0r1, t0x, t0e⟩, ⟨t1s0, t1s1, t1d0, t1d1, #t1r0, #t1r1, t1x, t1e⟩, ⟨f0s0, f0s1, f0d0, f0d1, #f0r0, #f0r1, f0x, f0e⟩, ⟨f1s0, f1s1, f1d0, f1d1, #f1r0, #f1r1, f1x, f1e⟩⟩,
    ⟨⟨ct1, ct2, #rt1, #rt2, Hbt, #rbt⟩, ⟨cf1, cf2, #rf1, #rf2, Hbf, #rbf⟩⟩, Hpa, Hpd, Hrd, Hid, Hw, Hx, Ho, Has, Hrow⟩ Hk
  ihave Hcrs := (wait_first c) $$ Hcrs
  icases Hcrs with ⟨Wbt, Wbf, Wt0, Wf0, Wt1, Wf1, Hcrs⟩
  ihave Hdue := (show due (F := F) c dueK ⊢ due c (.bar true :: .bar false :: .send true 0 0 :: .send true 1 0 :: .send false 0 0 :: .send false 1 0 :: .send true 0 1 :: .send false 0 1 :: .send true 1 1 :: .send false 1 1 :: .cred true 1 :: .cred false 1 :: tailK 13) from .rfl) $$ Hdue
  iapply (step_bind c _ _)
  iapply (part16 xs ws K c _ (by decide +kernel)) $$ HI Hdue Hid Wbt Wbf Hpb Hbt Hbf rbt rbf t0x t0r0 rt1 t0e
  iintro Hdue Hid Hpb Dt0 Gt10 Gt01 Gt11 Hg
  try dsimp only
  ihave Hg := (show pay xs ws (nxt false c) (.bar false) ⊢ iprop(grant false 0 0 (nxt false c) ∗ grant false 1 0 (nxt false c) ∗ grant false 0 1 (nxt false c) ∗ grant false 1 1 (nxt false c)) from .rfl) $$ Hg
  icases Hg with ⟨Gf00, Gf10, Gf01, Gf11⟩
  iapply (step_bind c _ _)
  iapply (part17 xs ws K c _ (chk2 _) (chk1 _)) $$ HI Hdue Hx t1x Gt10 t1r0 rt1 t1e f0x Gf00 f0r0 rf1 f0e f1x Gf10 f1r0 rf1 f1e
  iintro Hdue Hx Dt1 Df0 Df1
  try dsimp only
  iapply (step_bind c _ _)
  iapply (part18 xs ws K c _ (fun _ => False) (by decide +kernel) _) $$ HI Hdue Hx Hw Ho Dt0 t0d0
  iintro Hdue Hx Hw Ho t0d2 #t0r2 Xt0
  try dsimp only
  iapply (step_bind c _ _)
  iapply (part19 xs ws K c _ (by decide +kernel) _) $$ HI Hdue Dt1 t1d0 Df0 f0d0 Df1 f1d0 Wt0 t0s0
  iintro Hdue t1d2 #t1r2 Xt1 f0d2 #f0r2 Xf0 f1d2 #f1r2 Xf1 ⟨t0s2, #t0f2, Hl, #kt1, t0g, t0e⟩
  try dsimp only
  ihave Hl := (landed_split xs true 0 0 c) $$ Hl
  icases Hl with ⟨t0x, t0l⟩
  iapply (step_bind c _ _)
  iapply (part20 xs ws K c _ (by decide +kernel) (chk2 _) (chk1 _)) $$ HI Hdue t0x Gt01 t0r1 rt2 t0e Wf0 f0s0
  iintro Hdue Dt0 ⟨f0s2, #f0f2, Hl, #kf1, -, f0e⟩
  try dsimp only
  ihave Hl := (landed_split xs false 0 0 c) $$ Hl
  icases Hl with ⟨f0x, f0l⟩
  iapply (step_bind c _ _)
  iapply (part21 xs ws K c _ (by decide +kernel) (chk2 _) (chk1 _)) $$ HI Hdue f0x Gf01 f0r1 rf2 f0e Wt1 t1s0 Gt11 t1r1 rt2
  iintro Hdue Df0 Dt1 t1s2 #t1f2 t1l - -
  try dsimp only
  iapply (step_bind c _ _)
  iapply (part22 xs ws K c _ (by decide +kernel) (chk1 _)) $$ HI Hdue Wf1 f1s0 Gf11 f1r1 rf2 t0l t1l Hid Hw
  iintro %a %b %w %ha %hb %hw Hdue Df1 f1s2 #f1f2 f1l - f1g t0l t1l Hid Hw
  try dsimp only
  iapply (step_bind c _ _)
  iapply (part23 xs ws K c _ _ (chk3 _) ha hb hw) $$ HI f0l f1l Hid Hw Ho
  iintro f0l f1l Hid Hw Ho
  try dsimp only
  iapply (step_bind c _ _)
  iapply (part24 xs ws K c _ (by decide +kernel)) $$ HI Hdue Dt0 t0d1 Dt1 t1d1
  iintro Hdue t0d3 #t0r3 Yt0 t1d3 #t1r3 Yt1
  try dsimp only
  ihave Hg0 := (grant_of xs true 0 0 c) $$ [Yt0 t0l]
  · isplitl [Yt0]; · iexact Yt0
    isplitl [t0l]; · iexact t0l
    iexact t0f2
  ihave Hg1 := (grant_of xs true 1 0 c) $$ [Yt1 t1l]
  · isplitl [Yt1]; · iexact Yt1
    isplitl [t1l]; · iexact t1l
    iexact t1f2
  ihave Hpay := (cred_pay xs ws true 0 (by decide) c) $$ [Hg0 Hg1]
  · isplitl [Hg0]; · iexact Hg0
    iexact Hg1
  ihave Hgot := (gotS_one c) $$ [t0g f1g]
  · isplitl [t0g]; · iexact t0g
    iexact f1g
  ihave Ho := (outHas_mono xs ws c (made_one c)) $$ Ho
  iapply (step_bind c _ _)
  iapply (part25 xs ws K c (chk2 _) (chk1 _)) $$ HI Hdue Df0 f0d1 Df1 f1d1 Hpay kt1 kf1 f0l f1l f0f2 f1f2 Hcrs [t0s1 t0s2 t0d2 t0d3 t1s1 t1s2 t1d2 t1d3] [f0s1 f0s2 f0d2] [f1s1 f1s2 f1d2] [ct1 ct2] [cf1 cf2] Hgot Hid Hw Ho
  · unfold lane
    isplitl [t0s1 t0s2 t0d2 t0d3]
    · isplitl [t0s1]; · iexact t0s1
      isplitl [t0s2]; · iexact t0s2
      isplitl [t0d2]; · iexact t0d2
      isplitl [t0d3]; · iexact t0d3
      isplitr; · iexact t0r2
      iexact t0r3
    isplitl [t1s1]; · iexact t1s1
    isplitl [t1s2]; · iexact t1s2
    isplitl [t1d2]; · iexact t1d2
    isplitl [t1d3]; · iexact t1d3
    isplitr; · iexact t1r2
    iexact t1r3
  · isplitl [f0s1]; · iexact f0s1
    isplitl [f0s2]; · iexact f0s2
    isplitl [f0d2]; · iexact f0d2
    iexact f0r2
  · isplitl [f1s1]; · iexact f1s1
    isplitl [f1s2]; · iexact f1s2
    isplitl [f1d2]; · iexact f1d2
    iexact f1r2
  · unfold creds
    isplitl [ct1]; · iexact ct1
    iexact ct2
  · unfold creds
    isplitl [cf1]; · iexact cf1
    iexact cf2
  iintro %r HS
  try dsimp only
  unfold LState lane creds
  icases HS with ⟨Hdue, Hcrs, ⟨⟨t0s0, t0s1, t0d0, t0d1, #t0r0', #t0r1'⟩, ⟨t1s0, t1s1, t1d0, t1d1, -, -⟩, ⟨f0s0, f0s1, f0d0, f0d1, -, -⟩, ⟨f1s0, f1s1, f1d0, f1d1, #f1r0', #f1r1'⟩⟩, ⟨⟨ct0, ct1⟩, ⟨cf0, cf1⟩⟩, Hgot, Hid, Hw, Ho, Hkt, Hkf⟩
  ihave Hdue := (show due (F := F) c (tailK (14 - 14)) ⊢ due c (.send true 0 15 :: .send false 1 15 :: jjs.map Kind.amax) from .rfl) $$ Hdue
  ihave Hcrs := (wait_last c) $$ Hcrs
  icases Hcrs with ⟨Wt0, Ct, Wf0, Cf, Wt1, Wf1, Wt0', Wf1', Wam⟩
  iapply (step_bind c _ _)
  iapply (part26 xs ws K c _ (by decide +kernel) (chk2 _) _ _ _) $$ HI Hdue Wt0 t0s0 Ct ct0 t0r0'
  iintro Hdue Dt0 t0s0 - t0l Gt14 ct0
  try dsimp only
  iapply (step_bind c _ _)
  iapply (part27 xs ws K c _ (by decide +kernel) _ _) $$ HI Hdue Wf0 f0s0 Cf cf0 Wt1 t1s0 Wf1 f1s0
  iintro Hdue f0s0 - Hf0 cf0 #rf16 Gf1 t1s0 - Ht1 f1s0 - f1l Gf14 f1x f1e
  try dsimp only
  iapply (step_bind c _ _)
  iapply (part28 xs ws K c _ _ (chk1 _)) $$ HI Hdue f1x Gf1 f1r0' rf16 f1e t0l Ht1 Hid Hw Ho
  iintro Hdue Df1 t0l Ht1 Hid Hw Ho
  try dsimp only
  iapply (step_bind c _ _)
  iapply (part29 xs ws K c _) $$ HI Hf0 f1l Hid Hw Ho
  iintro Hf0 f1l Hid Hw Ho
  try dsimp only
  iapply (step_bind c _ _)
  iapply (part30 xs ws K c _ (by decide +kernel) _) $$ HI Hdue Dt0 t0d0 Df1 f1d0 Wt0' t0s1
  iintro Hdue t0d0 t0x f1d0 f1x t0s1 Ht0 Gt15
  try dsimp only
  iapply (step_bind c _ _)
  iapply (part31 xs ws K c _ _ (by decide +kernel) _) $$ HI Hdue Wf1' f1s1 Ht0 Hid Hw Ho
  iintro Hdue f1s1 Ht0 Hf1 Hid Hw Ho
  try dsimp only
  ihave Hrows := (got_all c) $$ [Hgot Gt14 Gt15 Gf14]
  · isplitl [Hgot]; · iexact Hgot
    isplitl [Gt14]; · iexact Gt14
    isplitl [Gt15]; · iexact Gt15
    iexact Gf14
  ihave Hrows := (bs_zip _ _ jjs) $$ [Hrows Hrd]
  · isplitl [Hrows]; · iexact Hrows
    iexact Hrd
  iapply (step_bind c _ _)
  iapply (part32 xs ws K c [2, 3, 4, 5, 6, 7, 8, 9, 10, 11, 12, 13, 14, 15, 16, 17, 18, 19, 20, 21, 22, 23, 24, 25, 26, 27, 28, 29, 30, 31] rfl _) $$ HI Hdue Has Hrows
  iintro HA Hkeep
  try dsimp only
  iapply (step_bind c _ _)
  iapply (part33 xs ws K c _ _ _) $$ HI HA
  iintro %r HA
  try dsimp only
  iapply (step_bind c _ _)
  iapply (part34 xs ws K c _ _ _ _) $$ HI HA
  iintro %r HA
  obtain ⟨r0, r1, r2, r3⟩ := r
  try dsimp only
  iapply (step_bind c _ _)
  iapply (part35 xs ws K c _ _ _ _ _ _ _) $$ HI HA
  iintro %r HA
  obtain ⟨r0, r1, r2, r3⟩ := r
  try dsimp only
  iapply (step_bind c _ _)
  iapply (part36 xs ws K c _ _ _ _ _ _ _) $$ HI HA
  iintro %r HA
  obtain ⟨r0, r1⟩ := r
  try dsimp only
  iapply (step_bind c _ _)
  iapply (part37 xs ws K c _ _ _ _ _) $$ HI HA
  iintro %r HA
  obtain ⟨r0, r1⟩ := r
  try dsimp only
  iapply (step_bind c _ _)
  iapply (part38 xs ws K c _ _ _ _ _) $$ HI HA
  iintro HA
  try dsimp only
  iapply (step_bind c _ _)
  iapply (part39 xs ws K c _ _ _) $$ HI HA
  iintro HA
  try dsimp only
  iapply (step_bind c _ _)
  iapply (part40 xs ws K c _ _ _) $$ HI HA
  iintro HA
  try dsimp only
  iapply (step_bind c _ _)
  iapply (part41 xs ws K c _ _ _) $$ HI HA
  iintro %r HA
  try dsimp only
  iapply (step_bind c _ _)
  iapply (part42 xs ws K c _ _ _ _) $$ HI HA
  iintro %r HA
  obtain ⟨r0, r1, r2, r3⟩ := r
  try dsimp only
  iapply (step_bind c _ _)
  iapply (part43 xs ws K c _ _ _ _ _ _ _) $$ HI HA
  iintro %r HA
  obtain ⟨r0, r1, r2, r3⟩ := r
  try dsimp only
  iapply (step_bind c _ _)
  iapply (part44 xs ws K c _ _ _ _ _ _ _) $$ HI HA
  iintro %r HA
  obtain ⟨r0, r1⟩ := r
  try dsimp only
  iapply (step_bind c _ _)
  iapply (part45 xs ws K c _ _ _ _ _) $$ HI HA
  iintro %r HA
  obtain ⟨r0, r1⟩ := r
  try dsimp only
  iapply (step_bind c _ _)
  iapply (part46 xs ws K c _ _ _ _ _) $$ HI HA
  iintro HA
  try dsimp only
  iapply (step_bind c _ _)
  iapply (part47 xs ws K c _ _ _) $$ HI HA
  iintro HA
  try dsimp only
  iapply (step_bind c _ _)
  iapply (part48 xs ws K c _ _ _) $$ HI HA Hrow
  iintro %r HA Hrow
  obtain ⟨r0, r1, r2, r3⟩ := r
  try dsimp only
  unfold AS
  icases HA with ⟨Hdue, -, Dam⟩
  ihave Hdue := (show due (F := F) c (List.map Kind.amax []) ⊢ due c [] from .rfl) $$ Hdue
  ihave Dam := (show bigSepL [31, 30, 29, 28, 27, 26, 25, 24, 23, 22, 21, 20, 19, 18, 17, 16, 15, 14, 13, 12, 11, 10, 9, 8, 7, 6, 5, 4, 3, 2, 1] (fun jj => crd (F := F) c (.adep jj)) ⊢ bigSepL jjs (fun jj => crd c (.adep jj)) from BIBase.Entails.of_eq (dn_eq _)) $$ Dam
  ihave Hpd := (bs_zip _ _ jjs) $$ [Dam Hpd]
  · isplitl [Dam]; · iexact Dam
    iexact Hpd
  ihave Hpd := (show _ ⊢ bigSepL [1, 2, 3, 4, 5, 6, 7, 8, 9, 10, 11, 12, 13, 14, 15, 16, 17, 18, 19, 20, 21, 22, 23, 24, 25, 26, 27, 28, 29, 30, 31] (fun jj => iprop(crd (F := F) c (.adep jj) ∗ posn c (.adep jj))) from BIBase.Entails.of_eq (up_eq _).symm) $$ Hpd
  ihave Hpa := (bs_zip _ _ jjs) $$ [Wam Hpa]
  · isplitl [Wam]; · iexact Wam
    iexact Hpa
  ihave Hpa := (show _ ⊢ bigSepL [31, 30, 29, 28, 27, 26, 25, 24, 23, 22, 21, 20, 19, 18, 17, 16, 15, 14, 13, 12, 11, 10, 9, 8, 7, 6, 5, 4, 3, 2, 1] (fun jj => iprop(crd (F := F) c (.amax jj) ∗ posn c (.amax jj))) from BIBase.Entails.of_eq (dn_eq _).symm) $$ Hpa
  ihave HA := (show iprop(due c [] ∗ bigSepL [31, 30, 29, 28, 27, 26, 25, 24, 23, 22, 21, 20, 19, 18, 17, 16, 15, 14, 13, 12, 11, 10, 9, 8, 7, 6, 5, 4, 3, 2, 1] (fun jj => iprop(crd (F := F) c (.amax jj) ∗ posn c (.amax jj)))) ⊢ WS xs ws c [31, 30, 29, 28, 27, 26, 25, 24, 23, 22, 21, 20, 19, 18, 17, 16, 15, 14, 13, 12, 11, 10, 9, 8, 7, 6, 5, 4, 3, 2, 1] [] from by
      unfold WS
      iintro ⟨H1, H2⟩
      isplitl [H1]; · iexact H1
      isplitl [H2]; · iexact H2
      iempintro) $$ [Hdue Hpa]
  · isplitl [Hdue]; · iexact Hdue
    iexact Hpa
  iapply (step_bind c _ _)
  iapply (part49 xs ws K c _ _ _ _ _ _ _) $$ HI HA
  iintro %r HA
  obtain ⟨r0, r1, r2, r3⟩ := r
  try dsimp only
  iapply (step_bind c _ _)
  iapply (part50 xs ws K c _ _ _ _ _ _ _) $$ HI HA
  iintro %r HA
  obtain ⟨r0, r1, r2, r3⟩ := r
  try dsimp only
  iapply (step_bind c _ _)
  iapply (part51 xs ws K c _ _ _ _ _ _ _) $$ HI HA
  iintro %r HA
  obtain ⟨r0, r1, r2, r3⟩ := r
  try dsimp only
  iapply (step_bind c _ _)
  iapply (part52 xs ws K c _ _ _ _ _ _ _) $$ HI HA
  iintro %r HA
  obtain ⟨r0, r1, r2, r3⟩ := r
  try dsimp only
  iapply (step_bind c _ _)
  iapply (part53 xs ws K c _ _ _ _ _ _ _) $$ HI HA
  iintro %r HA
  obtain ⟨r0, r1, r2, r3⟩ := r
  try dsimp only
  iapply (step_bind c _ _)
  iapply (part54 xs ws K c _ _ _ _ _ _ _) $$ HI HA
  iintro %r HA
  obtain ⟨r0, r1, r2, r3⟩ := r
  try dsimp only
  iapply (step_bind c _ _)
  iapply (part55 xs ws K c _ _ _ _ _ _ _) $$ HI HA
  iintro %r HA
  obtain ⟨r0, r1, r2, r3⟩ := r
  try dsimp only
  iapply (step_bind c _ _)
  iapply (part56 xs ws K c _ _ _ _ _ _ _) $$ HI HA
  iintro %r HA
  obtain ⟨r0, r1, r2, r3⟩ := r
  try dsimp only
  iapply (step_bind c _ _)
  iapply (part57 xs ws K c _ _ _ _ _ _ _) $$ HI HA
  iintro %r HA
  obtain ⟨r0, r1, r2, r3⟩ := r
  try dsimp only
  iapply (step_bind c _ _)
  iapply (part58 xs ws K c _ _ _ _ _ _ _) $$ HI HA
  iintro %r HA
  obtain ⟨r0, r1, r2, r3⟩ := r
  try dsimp only
  iapply (step_bind c _ _)
  iapply (part59 xs ws K c _ _ _ _ _ _ _) $$ HI HA
  iintro %r HA
  obtain ⟨r0, r1, r2, r3⟩ := r
  try dsimp only
  iapply (step_bind c _ _)
  iapply (part60 xs ws K c _ _ _ _ _ _ _) $$ HI HA
  iintro %r HA
  obtain ⟨r0, r1, r2, r3⟩ := r
  try dsimp only
  iapply (step_bind c _ _)
  iapply (part61 xs ws K c _ _ _ _ _ _ _) $$ HI HA
  iintro %r HA
  obtain ⟨r0, r1, r2, r3⟩ := r
  try dsimp only
  iapply (step_bind c _ _)
  iapply (part62 xs ws K c _ _ _ _ _ _ _) $$ HI HA
  iintro %r HA
  obtain ⟨r0, r1, r2, r3⟩ := r
  try dsimp only
  iapply (step_bind c _ _)
  iapply (part63 xs ws K c _ _ _ _ _ _ _) $$ HI HA
  iintro %r HA
  obtain ⟨r0, r1, r2, r3⟩ := r
  try dsimp only
  iapply (step_bind c _ _)
  iapply (part64 xs ws K c _ _ _ _ _ _ _) $$ HI HA Hpd
  iintro HA Hrs
  try dsimp only
  iapply (step_bind c _ _)
  iapply (part65 xs ws K c _ _) $$ HI HA
  iintro HA
  try dsimp only
  iapply (step_bind c _ _)
  iapply (part66 xs ws K c _ _) $$ HI HA
  iintro HA
  try dsimp only
  iapply (step_bind c _ _)
  iapply (part67 xs ws K c _ _) $$ HI HA
  iintro HA
  try dsimp only
  ihave Hrs := (bs_unzip _ _ _) $$ Hrs
  icases Hrs with ⟨Hpa, Hrs⟩
  ihave Hpa := (show bigSepL [1, 2, 3, 4, 5, 6, 7, 8, 9, 10, 11, 12, 13, 14, 15, 16, 17, 18, 19, 20, 21, 22, 23, 24, 25, 26, 27, 28, 29, 30, 31] (fun jj => (atPos ER ((c : Thread nD τ), semOf (unshift jj c) (.amax jj)) 1 ∅ 0 : sProp 𝕄)) ⊢ bigSepL jjs (fun jj => (atPos ER ((c : Thread nD τ), semOf (unshift jj c) (.amax jj)) 1 ∅ 0 : sProp 𝕄)) from BIBase.Entails.of_eq (up_eq _)) $$ Hpa
  ihave Hrs := (show bigSepL [1, 2, 3, 4, 5, 6, 7, 8, 9, 10, 11, 12, 13, 14, 15, 16, 17, 18, 19, 20, 21, 22, 23, 24, 25, 26, 27, 28, 29, 30, 31] (fun jj => has c (rowM (unshift jj c)) fullShare (amRow xs ws (unshift jj c))) ⊢ bigSepL jjs (fun jj => has c (rowM (unshift jj c)) fullShare (amRow xs ws (unshift jj c))) from BIBase.Entails.of_eq (up_eq _)) $$ Hrs
  ihave Ht := (rows_all xs ws c) $$ [Hrow Hrs]
  · isplitl [Hrow]; · iexact Hrow
    iexact Hrs
  iapply (step_bind c _ _)
  iapply (part68 xs ws K c _ _) $$ HI HA Ht
  iintro HA Ht
  try dsimp only
  unfold DS
  icases HA with ⟨Hdue, -, HD⟩
  ihave HD := (bs_unzip _ _ _) $$ HD
  icases HD with ⟨Hpd, Hsh⟩
  ihave Hpd := (show bigSepL [31, 30, 29, 28, 27, 26, 25, 24, 23, 22, 21, 20, 19, 18, 17, 16, 15, 14, 13, 12, 11, 10, 9, 8, 7, 6, 5, 4, 3, 2, 1] (fun jj => (atPos ER ((c : Thread nD τ), semOf c (.adep jj)) 1 ∅ 0 : sProp 𝕄)) ⊢ bigSepL jjs (fun jj => (atPos ER ((c : Thread nD τ), semOf c (.adep jj)) 1 ∅ 0 : sProp 𝕄)) from BIBase.Entails.of_eq (dn_eq _)) $$ Hpd
  ihave Hsh := (show bigSepL [31, 30, 29, 28, 27, 26, 25, 24, 23, 22, 21, 20, 19, 18, 17, 16, 15, 14, 13, 12, 11, 10, 9, 8, 7, 6, 5, 4, 3, 2, 1] (fun jj : Fin 32 => has c asM (rShare jj.val).left (amRow xs ws c)) ⊢ bigSepL jjs (fun jj : Fin 32 => has c asM (rShare jj.val).left (amRow xs ws c)) from BIBase.Entails.of_eq (dn_eq _)) $$ Hsh
  ihave Has := (row_shares xs ws c).2 $$ [Hkeep Hsh]
  · isplitl [Hkeep]; · iexact Hkeep
    iexact Hsh
  iapply (step_ret c _)
  iapply Hk $$ [-Ho]
  · unfold Mid posEnd xLent slots
    isplitl [Hdue]; · iexact Hdue
    isplitl [Hpb]; · iexact Hpb
    isplitl [t0s0 t0s1 t0d0 t0d1 t1s0 t1s1 t1d0 t1d1 f0s0 f0s1 f0d0 f0d1 f1s0 f1s1 f1d0 f1d1 ct0 ct1 cf0 cf1]
    · iframe
    isplitl [Hpa]; · iexact Hpa
    isplitl [Hpd]; · iexact Hpd
    isplitl [Hid]; · iexact Hid
    isplitl [Hw]; · iexact Hw
    isplitl [Hx]; · iexact Hx
    isplitl [Xt0 Xt1 Xf0 Xf1]
    · isplitl [Xt0]; · iexact Xt0
      isplitl [Xt1]; · iexact Xt1
      isplitl [Xf0]; · iexact Xf0
      iexact Xf1
    isplitl [t0x t0l Ht1 Ht0 Hkt]
    · isplitl [t0x t0l]
      · iapply (show iprop(srcHas xs true 0 15 c ∗ landed xs true 0 14 c) ⊢ any c (slotM true 0 0) from landed_join xs true 0 14 c)
        isplitl [t0x]; · iexact t0x
        iexact t0l
      isplitl [Ht1]
      · iapply (show has c (slotM true (par 14) 1) fullShare (xh xs (org true 15 c) 1) ⊢ any c (slotM true 0 1) from landed_any xs true 1 14 c)
        iexact Ht1
      isplitl [Ht0]
      · iapply (show has c (slotM true (par 15) 0) fullShare (xh xs (org true 16 c) 0) ⊢ any c (slotM true 1 0) from landed_any xs true 0 15 c)
        iexact Ht0
      ihave Hkt := (show kept (F := F) true 14 c ⊢ iprop(any c (slotM true 1 1) ∗ rch (frm true c) (.send true 1 15)) from .rfl) $$ Hkt
      icases Hkt with ⟨Hkt, -⟩
      iexact Hkt
    isplitl [Hf0 Hkf f1x f1l Hf1]
    · isplitl [Hf0]
      · iapply (show has c (slotM false (par 14) 0) fullShare (xh xs (org false 15 c) 0) ⊢ any c (slotM false 0 0) from landed_any xs false 0 14 c)
        iexact Hf0
      isplitl [f1x f1l]
      · iapply (show iprop(srcHas xs false 1 15 c ∗ landed xs false 1 14 c) ⊢ any c (slotM false 0 1) from landed_join xs false 1 14 c)
        isplitl [f1x]; · iexact f1x
        iexact f1l
      isplitl [Hkf]
      · ihave Hkf := (show kept (F := F) false 14 c ⊢ iprop(any c (slotM false 1 0) ∗ rch (frm false c) (.send false 0 15)) from .rfl) $$ Hkf
        icases Hkf with ⟨Hkf, -⟩
        iexact Hkf
      iapply (show has c (slotM false (par 15) 1) fullShare (xh xs (org true 16 c) 1) ⊢ any c (slotM false 1 1) from by unfold has any; iintro H; iexists _; iexact H)
      iexact Hf1
    isplitl [Has]
    · iapply (show has c asM fullShare (amRow xs ws c) ⊢ any c asM from by unfold has any; iintro H; iexists _; iexact H)
      iexact Has
    iexact Ht
  · iapply (outHas_mono xs ws c (P' := fun _ => True) (fun o _ => made_all c o)); iexact Ho

end Cert.RingGemm

end
-- ==== Proof.Body8.lean ====
/-
The whole body and its result.
-/
module

public import proofs.«01_k».proof.Proof.Body7

@[expose] public section

set_option maxHeartbeats 1000000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → (S128x4096.Idx → Elt F .f32)) (ws : Dev nD → (S4096x256.Idx → Elt F .f32)) (K : GSem nD τ sig → ℕ)

variable {h0 : idM.IsWhole} {h1 : xM.IsWhole} {h2 : wM.IsWhole} {h3 : oM.IsWhole} {h4 : (Memref.whole cc0_scratch0).IsWhole} {h5 : (Memref.whole cc0_scratch1).IsWhole}
  {h6 : asM.IsWhole} {h7 : arM.IsWhole}

/-- Where an element of the result lies in its block. -/
def blkIdx (i : S4096x256.Idx) : S128x256.Idx := fun a => ⟨![(i 0).val % 128, (i 1).val] a, by
  have h1 : (i 1).val < 256 := (i 1).isLt
  fin_cases a
  · show (i 0).val % 128 < 128; omega
  · exact h1⟩
/-- The block an element of the result lies in. -/
def blkDev (i : S4096x256.Idx) : Dev nD := ⟨(i 0).val / 128, by have h : (i 0).val < 4096 := (i 0).isLt; show _ < 32; omega⟩

/-- The product, block by block, before it is quantised. -/
def outV (c : Dev nD) : S4096x256.Idx → Elt F .f32 := fun i => blk xs ws c (blkDev i) (blkIdx i)

theorem out_eq (c : Dev nD) (f : Buf (Elt F) (oM.view.loc (c : Thread nD τ))) (h : ∀ o : Dev nD, True → (oM.access (blockR o)).read (Elt F) f = blk xs ws c o) : f = outV xs ws c := by
  funext i
  refine Eq.trans ?_ (congrFun (h (blkDev i) trivial) (blkIdx i))
  show f i = f _
  refine congrArg f (funext fun a => Fin.ext ?_)
  have hi : (i 0).val < 4096 := (i 0).isLt
  fin_cases a
  · show (i 0).val = 128 * ((i 0).val / 128) + 1 * ((i 0).val % 128); omega
  · show (i 1).val = 0 + 1 * (i 1).val; omega

/-- The scale: the largest entry over 448. -/
def scaleV : F .f32 := k0_pay24 (k0_pay23 (tab xs ws))

/-- The result of device `c`. -/
def resV (c : Dev nD) : S4096x256.Idx → Elt F .f32 := k0_pay1 (scaleV xs ws) (outV xs ws c)

theorem load_all {α : Type} {Q : α → sProp 𝕄} (c : Dev nD) {off : Fin 2 → ℕ} {inb : ∀ a, off a + S4096x256.size a ≤ S4096x256.size a}
    {hl : oM.view.LoadsAt (Rect.unit (s := S4096x256) off S4096x256.size inb).toLoadRect} {k : (S4096x256.Idx → Elt F .f32) → Prog (TpuEff nD τ sig (Elt F) Λ₀ .tc) α}
    (f : S4096x256.Idx → Elt F .f32) (hoff : off = fun _ => 0) :
    iprop(oM.view.loc (c : Thread nD τ) ↦[Finset.univ]{fullShare} f) ⊢ iprop((iprop(oM.view.loc (c : Thread nD τ) ↦[Finset.univ]{fullShare} f) -∗ WP c (k f) Q)
      -∗ WP c (.op (.load oM (Rect.unit (s := S4096x256) off S4096x256.size inb).toLoadRect hl) k) Q) := by
  iintro H Hk
  iapply (wp_load 𝒱₀ (c : Thread nD τ) none Set.univ (m := oM) (r := (Rect.unit (s := S4096x256) off S4096x256.size inb).toLoadRect) (Finset.subset_univ _)) $$ H
  iintro H
  rw [show oM.view.readAt (Elt F) (Rect.unit (s := S4096x256) off S4096x256.size inb).toLoadRect f = f from Memref.readAt_unit_zero (Elt F) (cc0_stg3_0 : Ref sig .tc) hoff inb _]
  iapply Hk; iexact H

theorem off_zero : (![0, 0] : Fin 2 → ℕ) = fun _ => 0 := by funext a; fin_cases a <;> rfl

theorem store_all {α : Type} {Q : α → sProp 𝕄} (c : Dev nD) {off : Fin 2 → ℕ} {inb : ∀ a, off a + S4096x256.size a ≤ S4096x256.size a} {w : S4096x256.Idx → Elt F .f32}
    {hx : (oM.access (Rect.unit (s := S4096x256) off S4096x256.size inb)).Stores Finset.univ}
    {hm : Finset.univ = Finset.univ ∨ ∀ a, (Rect.unit (s := S4096x256) off S4096x256.size inb).stride a = 1}
    {k : PUnit → Prog (TpuEff nD τ sig (Elt F) Λ₀ .tc) α} (f : S4096x256.Idx → Elt F .f32) (hoff : off = fun _ => 0) :
    iprop(oM.view.loc (c : Thread nD τ) ↦[Finset.univ]{fullShare} f) ⊢ iprop((iprop(oM.view.loc (c : Thread nD τ) ↦[Finset.univ]{fullShare} w) -∗ WP c (k ⟨⟩) Q)
      -∗ WP c (.op (.store oM (Rect.unit (s := S4096x256) off S4096x256.size inb) w Finset.univ hx hm) k) Q) := by
  iintro H Hk
  have L := wp_store (Val := Elt F) 𝒱₀ (c : Thread nD τ) none Set.univ (Γ := []) (defs := defs₀ (F := F)) (m := oM) (r := Rect.unit (s := S4096x256) off S4096x256.size inb) (w := w) (Mk := Finset.univ) (hx := hx) (hm := hm) (k := k) (Q := Q)
    (S := Finset.univ) (f := f) (Finset.subset_univ _)
  rw [show (oM.access (Rect.unit (s := S4096x256) off S4096x256.size inb)).write (Elt F) f w Finset.univ = w from
    Memref.write_access_unit_zero_univ (Elt F) (cc0_stg3_0 : Ref sig .tc) hoff inb _ _] at L
  iapply L $$ H
  iintro H
  iapply Hk; iexact H

/-- The whole body. -/
theorem body (c : Dev nD) {Q : _ → sProp 𝕄} :
    INV xs ws K ⊢ iprop(Pre xs ws c
      -∗ (Mid xs ws c -∗ iprop(oM.view.loc (c : Thread nD τ) ↦[Finset.univ]{fullShare} resV xs ws c) -∗ Q ⟨⟩)
      -∗ WP c (cc0_body idM h0 xM h1 wM h2 oM h3 (Memref.whole cc0_scratch0) h4 (Memref.whole cc0_scratch1) h5 asM h6 arM h7 cc0_scratch4 cc0_scratch5 cc0_scratch6 cc0_scratch7 cc0_scratch8 cc0_scratch9 cc0_scratch10 cc0_scratch11) Q) := by
  rw [cc0_body_eq_skeleton]; unfold cc0_body_skel
  iintro #HI HP Hk
  iapply (step_bind c _ _)
  iapply (part69 xs ws K c) $$ HI HP
  iintro HM Ho
  simp only [Prog.lift, Prog.bind_op, Prog.bind_ret, Prog.pure_eq_ret]
  unfold outHas
  icases Ho with ⟨%f, %hf, Ho⟩
  obtain rfl := out_eq xs ws c f hf
  iapply (load_all c (outV xs ws c) off_zero) $$ Ho
  iintro Ho
  iapply (load_all c (outV xs ws c) off_zero) $$ Ho
  iintro Ho
  iapply (store_all c (outV xs ws c) off_zero) $$ Ho
  iintro Ho
  iapply (step_ret c _)
  ihave Ho := (show iprop(oM.view.loc (c : Thread nD τ) ↦[Finset.univ]{fullShare} k0_pay1 (k0_pay24 (k0_pay23 (tab xs ws))) (outV xs ws c)) ⊢ iprop(oM.view.loc (c : Thread nD τ) ↦[Finset.univ]{fullShare} resV xs ws c) from .rfl) $$ Ho
  iapply Hk $$ HM Ho

end Cert.RingGemm

end
-- ==== Proof.Cells.lean ====
/-
Which semaphores a device's cells are, first and last: the facts about them that are decided.
-/
module

public import proofs.«01_k».proof.Proof.Body8

@[expose] public section

set_option maxHeartbeats 1000000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- What is first received at each of the kernel's own cells. -/
def startK : List Kind :=
  [.send true 0 0, .send true 0 1, .dep true 0 0, .dep true 0 1, .send true 1 0, .send true 1 1, .dep true 1 0, .dep true 1 1,
   .send false 0 0, .send false 0 1, .dep false 0 0, .dep false 0 1, .send false 1 0, .send false 1 1, .dep false 1 0, .dep false 1 1,
   .cred true 1, .cred true 2, .cred false 1, .cred false 2] ++ (.amax 0 :: .adep 0 :: (jjs.map .amax ++ jjs.map .adep))

theorem start_perm : ∀ c : Dev nD, (startK.map fun κ => semOf (src κ c) κ).Perm ((List.finRange 84).map osem) ∧ (startK.map fun κ => semOf (src κ c) κ).Nodup := by decide +kernel
theorem start_round : ∀ κ ∈ startK, roundK κ = 0 := by decide +kernel
theorem osem_nodup : ((List.finRange 84).map osem).Nodup := by decide +kernel
theorem fin84 : (Finset.univ : Finset (Fin 84)) = (List.finRange 84).toFinset ∧ (List.finRange 84).Nodup := by decide +kernel

/-- What was last received at each own cell, and the round it is at. -/
def endR : List (Kind × ℕ) :=
  [(.send true 0 16, 8), (.send true 0 17, 8), (.dep true 0 16, 8), (.dep true 0 17, 8), (.send true 1 16, 8), (.send true 1 15, 7), (.dep true 1 16, 8), (.dep true 1 15, 7),
   (.send false 0 16, 8), (.send false 0 15, 7), (.dep false 0 16, 8), (.dep false 0 15, 7), (.send false 1 16, 8), (.send false 1 17, 8), (.dep false 1 16, 8), (.dep false 1 17, 8),
   (.cred true 16, 7), (.cred true 15, 7), (.cred false 16, 7), (.cred false 15, 7)]
  ++ ((.amax 0, 0) :: (.adep 0, 0) :: (jjs.map (fun jj => (.amax jj, 1)) ++ jjs.map (fun jj => (.adep jj, 1))))

/-- The number of the cell where a device receives `κ`. -/
def semN (c : Dev nD) (κ : Kind) : ℕ := semCode (semOf (src κ c) κ)

theorem end_perm : ∀ c : Dev nD, (endR.map fun x => semOf (src x.1 c) x.1).Perm ((List.finRange 84).map osem) ∧ (endR.map fun x => semOf (src x.1 c) x.1).Nodup := by decide +kernel
theorem end_rounds : ∀ c : Dev nD, (endR.all fun x => allK.all fun κ => (!(semN c κ == semN c x.1)) || decide (roundK κ < x.2)) = true := by decide +kernel
theorem bar_rounds : ∀ c : Dev nD, (allK.all fun κ => (!(semN c κ == 4)) || decide (roundK κ < 1)) = true := by decide +kernel

theorem end_not_bar : ∀ x ∈ endR, (match x.1 with | .bar _ => false | _ => true) = true := by decide +kernel

end Cert.RingGemm

end
-- ==== Proof.Open.lean ====
/-
The kernel's cells opened at the start and closed at the end.
-/
module

public import proofs.«01_k».proof.Proof.Cells

@[expose] public section

set_option maxHeartbeats 1000000
set_option maxRecDepth 8000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.TalkSites (Pay Pay.tally tallyL tallyL_pos cred_tallyL Fam)
open Idealize.ShloMosaic.SiteBlocks (L lv)

variable (xs : Dev nD → (S128x4096.Idx → Elt F .f32)) (ws : Dev nD → (S4096x256.Idx → Elt F .f32)) (K : GSem nD τ sig → ℕ)

/-! ## The cells at the start -/

/-- Something of each own cell, in the order of what is first received there. -/
theorem sems_start (c : Dev nD) (Φ : SemLoc sig → sProp 𝕄) : bigSep Finset.univ (fun i : Fin 84 => Φ (osem i)) = bigSepL startK (fun κ => Φ (semOf (src κ c) κ)) := by
  rw [bigSep_univ_eq_bigSepL (List.finRange 84) fin84.1 fin84.2]
  have e1 : bigSepL (List.finRange 84) (fun i => Φ (osem i)) = bigSepL ((List.finRange 84).map osem) Φ := by rw [bigSepL_map]
  have e2 : bigSepL startK (fun κ => Φ (semOf (src κ c) κ)) = bigSepL (startK.map fun κ => semOf (src κ c) κ) Φ := by rw [bigSepL_map]
  rw [e1, e2]
  exact (TalkSites.bigSepL_perm (start_perm c).1 (start_perm c).2 Φ).symm

theorem sems_image (Φ : SemLoc sig → sProp 𝕄) : bigSep (Finset.univ.image osem) Φ = bigSep Finset.univ (fun i : Fin 84 => Φ (osem i)) := by
  rw [bigSep_univ_eq_bigSepL (List.finRange 84) fin84.1 fin84.2]
  have e1 : bigSepL (List.finRange 84) (fun i => Φ (osem i)) = bigSepL ((List.finRange 84).map osem) Φ := by rw [bigSepL_map]
  rw [e1]
  refine bigSep_eq_bigSepL_of_eq ((List.finRange 84).map osem) ?_ osem_nodup Φ
  rw [fin84.1]
  ext x
  simp only [Finset.mem_image, List.mem_toFinset, List.mem_map]

/-- Every own cell of device `c` has reached its first round. -/
def RCH (c : Dev nD) : sProp 𝕄 := bigSep Finset.univ fun i : Fin 84 => reached ER ((c : Thread nD τ), osem i) 0
instance RCH_persistent (c : Dev nD) : BI.Persistent (RCH (F := F) c) := by unfold RCH; infer_instance

theorem rch_own (c p : Dev nD) (κ : Kind) (hb : ∀ d, κ ≠ .bar d) : RCH (F := F) c ⊢ reached ER ((c : Thread nD τ), semOf p κ) 0 := by
  obtain ⟨i, hi⟩ := semOf_osem p κ hb
  rw [← hi]
  exact bigSep_elim (Φ := fun i : Fin 84 => (reached ER ((c : Thread nD τ), osem i) 0 : sProp 𝕄)) (Finset.mem_univ i)

theorem rch_at (c p : Dev nD) (κ : Kind) (hb : ∀ d, κ ≠ .bar d) (hp : peer p κ = c) (hr : roundK κ = 0) : RCH (F := F) c ⊢ rch p κ := by
  unfold rch cellK
  rw [hp, hr]
  exact rch_own c p κ hb

/-- The invariant of one own cell. -/
theorem own_inv (c : Dev nD) (i : Fin 84) : INV xs ws K ⊢ cellInv ER (Rd xs ws) (K ((c : Thread nD τ), osem i)) ((c : Thread nD τ), osem i) := by
  refine BI.Entails.trans (@INV_inv F _ xs ws K) ?_
  exact fam.cellInvs_dorm ER (Rd xs ws) K c (j := 0) (Finset.mem_image.mpr ⟨i, Finset.mem_univ _, rfl⟩)

/-- Opening one cell. -/
theorem open_one (c : Dev nD) (i : Fin 84) : INV xs ws K ⊢ iprop(iprop(openTok ER ((c : Thread nD τ), osem i) ∗ semVal ((c : Thread nD τ), osem i) 0)
    -∗ |={Set.univ}=> iprop(atPos ER ((c : Thread nD τ), osem i) 0 ∅ 0 ∗ reached ER ((c : Thread nD τ), osem i) 0)) := by
  have hI : INV xs ws K ⊢ cellInv ER (Rd xs ws) (K ((c : Thread nD τ), osem i)) ((c : Thread nD τ), osem i) := own_inv xs ws K c i
  iintro #HI ⟨Ho, Hs⟩
  ihave Hc := hI $$ HI
  iapply (Rounds.cell_open ER (Rd xs ws) (g := ((c : Thread nD τ), osem i)) (Set.mem_univ (K ((c : Thread nD τ), osem i))))
  isplitl [Hc]; · iexact Hc
  isplitl [Ho]; · iexact Ho
  iexact Hs

/-- Opening a list of cells. -/
theorem open_list (c : Dev nD) : ∀ l : List (Fin 84), INV xs ws K ⊢ iprop(bigSepL l (fun i => iprop(openTok ER ((c : Thread nD τ), osem i) ∗ semVal ((c : Thread nD τ), osem i) 0))
    -∗ |={Set.univ}=> bigSepL l (fun i => iprop(atPos ER ((c : Thread nD τ), osem i) 0 ∅ 0 ∗ reached ER ((c : Thread nD τ), osem i) 0)))
  | [] => by
    iintro #HI H
    imodintro
    iexact H
  | i :: l => by
    rw [bigSepL_cons', bigSepL_cons']
    iintro #HI ⟨H, Hl⟩
    imod (open_one xs ws K c i) $$ HI H with H
    imod (open_list c l) $$ HI Hl with Hl
    imodintro
    isplitl [H]; · iexact H
    iexact Hl

theorem open_all (c : Dev nD) : INV xs ws K ⊢ iprop(bigSep (Finset.univ.image osem) (fun sm => openTok ER ((c : Thread nD τ), sm))
    -∗ bigSep Finset.univ (fun i : Fin 84 => semVal ((c : Thread nD τ), osem i) 0)
    -∗ |={Set.univ}=> iprop(bigSepL startK (posn c) ∗ RCH c)) := by
  have hz : bigSepL startK (fun κ => (atPos ER ((c : Thread nD τ), semOf (src κ c) κ) 0 ∅ 0 : sProp 𝕄)) ⊢ bigSepL startK (posn c) :=
    bigSepL_mono fun κ hκ => by unfold posn; rw [start_round κ hκ]
  have hp : bigSepL (List.finRange 84) (fun i => (atPos ER ((c : Thread nD τ), osem i) 0 ∅ 0 : sProp 𝕄)) ⊢ bigSepL startK (posn c) := by
    rw [← bigSep_univ_eq_bigSepL (List.finRange 84) fin84.1 fin84.2]
    exact (BIBase.Entails.of_eq (sems_start c fun sm => (atPos ER ((c : Thread nD τ), sm) 0 ∅ 0 : sProp 𝕄))).trans hz
  have hr : bigSepL (List.finRange 84) (fun i => (reached ER ((c : Thread nD τ), osem i) 0 : sProp 𝕄)) ⊢ RCH c := by
    unfold RCH
    rw [← bigSep_univ_eq_bigSepL (List.finRange 84) fin84.1 fin84.2]
  have e := sems_image (F := F) (fun sm => openTok ER ((c : Thread nD τ), sm))
  rw [e]
  rw [bigSep_univ_eq_bigSepL (List.finRange 84) fin84.1 fin84.2, bigSep_univ_eq_bigSepL (List.finRange 84) fin84.1 fin84.2]
  iintro #HI Ho Hs
  ihave H := (bs_zip (fun i : Fin 84 => (openTok ER ((c : Thread nD τ), osem i) : sProp 𝕄)) (fun i => semVal ((c : Thread nD τ), osem i) 0) (List.finRange 84)) $$ [Ho Hs]
  · isplitl [Ho]; · iexact Ho
    iexact Hs
  imod (open_list xs ws K c (List.finRange 84)) $$ HI H with H
  imodintro
  ihave H := (bs_unzip _ _ (List.finRange 84)) $$ H
  icases H with ⟨H1, H2⟩
  isplitl [H1]; · iapply hp; iexact H1
  iapply hr; iexact H2

/-! ## The cells at the end -/

theorem duties_end {c : Dev nD} {sm : SemLoc sig} {R : ℕ} (h : ∀ κ ∈ allK, semN c κ = semCode sm → roundK κ < R) :
    ∀ r, R ≤ r → (Rd (F := F) xs ws).duties ((c : Thread nD τ), sm) r = ∅ := fun r hr => by
  rw [Finset.eq_empty_iff_forall_notMem]
  rintro ⟨p, κ⟩ hm
  obtain ⟨h1, h2, h3⟩ := Finset.mem_filter.mp hm
  have h4 : κ ∈ allK := List.mem_toFinset.mp (Finset.mem_product.mp h1).2
  have hp : peer p κ = c := congrArg (fun g : GSem nD τ sig => g.1.1) h2
  have h5 := h κ h4 (by unfold semN; rw [← hp, src_peer]; exact congrArg (fun g : GSem nD τ sig => semCode g.2) h2)
  have : roundK κ = r := h3
  omega

theorem duties_own (c : Dev nD) (x : Kind × ℕ) (hx : x ∈ endR) : ∀ r, x.2 ≤ r → (Rd (F := F) xs ws).duties ((c : Thread nD τ), semOf (src x.1 c) x.1) r = ∅ := by
  refine duties_end xs ws fun κ hκ he => ?_
  have h := List.all_eq_true.mp (List.all_eq_true.mp (end_rounds c) x hx) κ hκ
  rw [Bool.or_eq_true] at h
  rcases h with h | h
  · rw [show semN c κ = semN c x.1 from he] at h; simp at h
  · exact of_decide_eq_true h

theorem duties_bar_end (c : Dev nD) : ∀ r, 1 ≤ r → (Rd (F := F) xs ws).duties (barCell c) r = ∅ := by
  unfold barCell
  refine duties_end xs ws fun κ hκ he => ?_
  have h := List.all_eq_true.mp (bar_rounds c) κ hκ
  rw [Bool.or_eq_true] at h
  rcases h with h | h
  · rw [show semN c κ = 4 from he] at h; simp at h
  · exact of_decide_eq_true h

/-- Closing a list of cells. -/
theorem close_list (c : Dev nD) : ∀ l : List (Kind × ℕ), (∀ x ∈ l, x ∈ endR) → (INV xs ws K ⊢ iprop(bigSepL l (fun x => (atPos ER ((c : Thread nD τ), semOf (src x.1 c) x.1) x.2 ∅ 0 : sProp 𝕄))
    -∗ |={Set.univ}=> bigSepL l (fun x => (semVal ((c : Thread nD τ), semOf (src x.1 c) x.1) 0 : sProp 𝕄))))
  | [], _ => by
    iintro #HI H
    imodintro
    iexact H
  | x :: l, hl => by
    have hb : ∀ d, x.1 ≠ .bar d := fun d e => by have h := end_not_bar x (hl x List.mem_cons_self); rw [e] at h; simp at h
    obtain ⟨i, hi⟩ := semOf_osem (src x.1 c) x.1 hb
    have hI : INV xs ws K ⊢ cellInv ER (Rd xs ws) (K ((c : Thread nD τ), semOf (src x.1 c) x.1)) ((c : Thread nD τ), semOf (src x.1 c) x.1) :=
      by rw [← hi]; exact own_inv xs ws K c i
    rw [bigSepL_cons', bigSepL_cons']
    iintro #HI ⟨H, Hl⟩
    ihave Hc := hI $$ HI
    imod (Rounds.cell_close ER (Rd xs ws) (Set.mem_univ (K ((c : Thread nD τ), semOf (src x.1 c) x.1))) id (duties_own xs ws c x (hl x List.mem_cons_self))) $$ [Hc H] with H
    · isplitl [Hc]; · iexact Hc
      iexact H
    imod (close_list c l (fun y hy => hl y (List.mem_cons_of_mem _ hy))) $$ HI Hl with Hl
    imodintro
    isplitl [H]; · iexact H
    iexact Hl

theorem endR_eq (c : Dev nD) : iprop(posEnd (F := F) c ∗ (atPos ER ((c : Thread nD τ), semOf (src (.amax 0) c) (.amax 0)) 0 ∅ 0 ∗ atPos ER ((c : Thread nD τ), semOf (src (.adep 0) c) (.adep 0)) 0 ∅ 0)
      ∗ bigSepL jjs (fun jj => (atPos ER ((c : Thread nD τ), semOf (unshift jj c) (.amax jj)) 1 ∅ 0 : sProp 𝕄)) ∗ bigSepL jjs (fun jj => (atPos ER ((c : Thread nD τ), semOf c (.adep jj)) 1 ∅ 0 : sProp 𝕄)))
    ⊢ bigSepL endR (fun x => (atPos ER ((c : Thread nD τ), semOf (src x.1 c) x.1) x.2 ∅ 0 : sProp 𝕄)) := by
  have e1 : bigSepL (jjs.map (fun jj => (Kind.amax jj, 1))) (fun x : Kind × ℕ => (atPos ER ((c : Thread nD τ), semOf (src x.1 c) x.1) x.2 ∅ 0 : sProp 𝕄))
      = bigSepL jjs (fun jj => (atPos ER ((c : Thread nD τ), semOf (unshift jj c) (.amax jj)) 1 ∅ 0 : sProp 𝕄)) := by rw [bigSepL_map]; rfl
  have e2 : bigSepL (jjs.map (fun jj => (Kind.adep jj, 1))) (fun x : Kind × ℕ => (atPos ER ((c : Thread nD τ), semOf (src x.1 c) x.1) x.2 ∅ 0 : sProp 𝕄))
      = bigSepL jjs (fun jj => (atPos ER ((c : Thread nD τ), semOf c (.adep jj)) 1 ∅ 0 : sProp 𝕄)) := by rw [bigSepL_map]; rfl
  have e4 : endR = ([.send true 0 16, .send true 0 17, .dep true 0 16, .dep true 0 17, .send true 1 16, .send true 1 15, .dep true 1 16, .dep true 1 15,
      .send false 0 16, .send false 0 15, .dep false 0 16, .dep false 0 15, .send false 1 16, .send false 1 17, .dep false 1 16, .dep false 1 17,
      .cred true 16, .cred true 15, .cred false 16, .cred false 15] : List Kind).map (fun κ => (κ, roundK κ))
      ++ ((Kind.amax 0, 0) :: (Kind.adep 0, 0) :: (jjs.map (fun jj => (Kind.amax jj, 1)) ++ jjs.map (fun jj => (Kind.adep jj, 1)))) := rfl
  have e5 : ∀ l : List Kind, bigSepL (l.map (fun κ => (κ, roundK κ))) (fun x : Kind × ℕ => (atPos ER ((c : Thread nD τ), semOf (src x.1 c) x.1) x.2 ∅ 0 : sProp 𝕄)) = bigSepL l (posn c) := fun l => by
    rw [bigSepL_map]; rfl
  unfold posEnd
  rw [e4, bigSepL_append, e5]
  have e3 : ∀ Φ : Kind × ℕ → sProp 𝕄, bigSepL ((Kind.amax 0, 0) :: (Kind.adep 0, 0) :: (jjs.map (fun jj => (Kind.amax jj, 1)) ++ jjs.map (fun jj => (Kind.adep jj, 1)))) Φ
      = iprop(Φ (.amax 0, 0) ∗ Φ (.adep 0, 0) ∗ bigSepL (jjs.map (fun jj => (Kind.amax jj, 1))) Φ ∗ bigSepL (jjs.map (fun jj => (Kind.adep jj, 1))) Φ) := fun Φ => by
    rw [bigSepL_cons', bigSepL_cons', bigSepL_append]
  rw [e3, e1, e2]
  simp only [bigSepL_cons']
  iintro ⟨⟨⟨a1, a2, a3, a4⟩, ⟨b1, b2, b3, b4⟩, ⟨c1, c2, c3, c4⟩, ⟨d1, d2, d3, d4⟩, ⟨e1, e2⟩, ⟨f1, f2⟩⟩, ⟨g1, g2⟩, g3, g4⟩
  isplitr [g1 g2 g3 g4]
  · isplitl [a1]; · iexact a1
    isplitl [a2]; · iexact a2
    isplitl [a3]; · iexact a3
    isplitl [a4]; · iexact a4
    isplitl [b1]; · iexact b1
    isplitl [b2]; · iexact b2
    isplitl [b3]; · iexact b3
    isplitl [b4]; · iexact b4
    isplitl [c1]; · iexact c1
    isplitl [c2]; · iexact c2
    isplitl [c3]; · iexact c3
    isplitl [c4]; · iexact c4
    isplitl [d1]; · iexact d1
    isplitl [d2]; · iexact d2
    isplitl [d3]; · iexact d3
    isplitl [d4]; · iexact d4
    isplitl [e1]; · iexact e1
    isplitl [e2]; · iexact e2
    isplitl [f1]; · iexact f1
    isplitl [f2]; · iexact f2
    iempintro
  isplitl [g1]; · iexact g1
  isplitl [g2]; · iexact g2
  isplitl [g3]; · iexact g3
  iexact g4

/-- Closing all own cells. -/
theorem close_all (c : Dev nD) : INV xs ws K ⊢ iprop(iprop(posEnd (F := F) c ∗ (atPos ER ((c : Thread nD τ), semOf (src (.amax 0) c) (.amax 0)) 0 ∅ 0 ∗ atPos ER ((c : Thread nD τ), semOf (src (.adep 0) c) (.adep 0)) 0 ∅ 0)
      ∗ bigSepL jjs (fun jj => (atPos ER ((c : Thread nD τ), semOf (unshift jj c) (.amax jj)) 1 ∅ 0 : sProp 𝕄)) ∗ bigSepL jjs (fun jj => (atPos ER ((c : Thread nD τ), semOf c (.adep jj)) 1 ∅ 0 : sProp 𝕄)))
    -∗ |={Set.univ}=> bigSep Finset.univ (fun i : Fin 84 => (semVal ((c : Thread nD τ), osem i) 0 : sProp 𝕄))) := by
  have h : bigSepL endR (fun x => (semVal ((c : Thread nD τ), semOf (src x.1 c) x.1) 0 : sProp 𝕄)) ⊢ bigSep Finset.univ (fun i : Fin 84 => (semVal ((c : Thread nD τ), osem i) 0 : sProp 𝕄)) := by
    rw [bigSep_univ_eq_bigSepL (List.finRange 84) fin84.1 fin84.2]
    have e1 : bigSepL (List.finRange 84) (fun i => (semVal ((c : Thread nD τ), osem i) 0 : sProp 𝕄)) = bigSepL ((List.finRange 84).map osem) (fun sm => semVal ((c : Thread nD τ), sm) 0) := by rw [bigSepL_map]
    have e2 : bigSepL endR (fun x => (semVal ((c : Thread nD τ), semOf (src x.1 c) x.1) 0 : sProp 𝕄)) = bigSepL (endR.map fun x => semOf (src x.1 c) x.1) (fun sm => semVal ((c : Thread nD τ), sm) 0) := by rw [bigSepL_map]
    rw [e1, e2]
    exact BIBase.Entails.of_eq (TalkSites.bigSepL_perm (end_perm c).1 (end_perm c).2 _)
  iintro #HI H
  ihave H := (endR_eq c) $$ H
  imod (close_list xs ws K c endR (fun _ h => h)) $$ HI H with H
  imodintro
  iapply h; iexact H

/-- Closing the barrier cell. -/
theorem close_bar (c : Dev nD) : INV xs ws K ⊢ iprop(atPos ER (barCell c) 1 ∅ 0 -∗ |={Set.univ}=> (semVal (barCell c) 0 : sProp 𝕄)) := by
  have hI : INV xs ws K ⊢ cellInv ER (Rd xs ws) (K (barCell c)) (barCell c) := by
    refine BI.Entails.trans (@INV_inv F _ xs ws K) ?_
    exact fam.cellInvs_bar ER (Rd xs ws) K c
  iintro #HI H
  ihave Hc := hI $$ HI
  iapply (Rounds.cell_close ER (Rd xs ws) (Set.mem_univ (K (barCell c))) id (duties_bar_end xs ws c))
  isplitl [Hc]; · iexact Hc
  iexact H

end Cert.RingGemm

end
-- ==== Proof.Start.lean ====
/-
What a device holds when the kernel starts, from what the launch deals it and from its buffers.
-/
module

public import proofs.«01_k».proof.Proof.Open

@[expose] public section

set_option maxHeartbeats 1000000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.TalkSites (Pay Pay.tally tallyL tallyL_pos cred_tallyL Fam)
open Idealize.ShloMosaic.SiteBlocks (L lv)

variable (xs : Dev nD → (S128x4096.Idx → Elt F .f32)) (ws : Dev nD → (S4096x256.Idx → Elt F .f32)) (K : GSem nD τ sig → ℕ)

/-! ## The rights to pay -/

theorem dep_toks (c : Dev nD) : ∀ l : List Kind, iprop(bigSepL l (tok c) ∗ bigSepL (l.filterMap depOf) (tok c)) ⊢ bigSepL l (toks (F := F) c)
  | [] => by
    iintro ⟨H, -⟩
    iexact H
  | κ :: l => by
    have ih := dep_toks c l
    rw [bigSepL_cons', bigSepL_cons']
    unfold toks
    cases h : depOf κ with
    | none =>
      rw [List.filterMap_cons_none h]
      iintro ⟨⟨H1, H2⟩, H3⟩
      isplitl [H1]
      · isplitl [H1]; · iexact H1
        unfold depTok; iempintro
      · iapply ih; isplitl [H2]; · iexact H2
        iexact H3
    | some κ' =>
      rw [List.filterMap_cons_some h, bigSepL_cons']
      iintro ⟨⟨H1, H2⟩, ⟨H3, H4⟩⟩
      isplitl [H1 H3]
      · isplitl [H1]; · iexact H1
        unfold depTok; iexact H3
      · iapply ih; isplitl [H2]; · iexact H2
        iexact H4

theorem toks_inj (c : Dev nD) : Function.Injective fun κ : Kind => ((cellK c κ, roundK κ, (c, κ)) : GSem nD τ sig × ℕ × Duty) := fun κ κ' h =>
  congrArg (fun x : GSem nD τ sig × ℕ × Duty => x.2.2.2) h

theorem toks_all (c : Dev nD) : bigSep (fam.toks c 0) (fun x => (dutyTok ER x.1 x.2.1 x.2.2 : sProp 𝕄)) ⊢ bigSepL dueK (toks (F := F) c) := by
  refine BIBase.Entails.trans ?_ (dep_toks c dueK)
  rw [bigSep_eq_bigSepL_of_eq (allK.map fun κ => ((cellK c κ, roundK κ, (c, κ)) : GSem nD τ sig × ℕ × Duty)) ?_ (List.Nodup.map (toks_inj c) allK_nodup)]
  · rw [bigSepL_map]
    unfold allK
    rw [bigSepL_append]
    exact .rfl
  · ext x
    show x ∈ allK.toFinset.image _ ↔ _
    simp only [Finset.mem_image, List.mem_toFinset, List.mem_map]

/-! ## The credit -/

/-- The tally of what device `c` is to be paid. -/
def gain (c : Dev nD) (κ : Kind) : Pay nD τ sig := (((c : Thread nD τ), semOf (src κ c) κ), lvlK κ, unitK κ)

theorem sum_tally : ∀ l : List Kind, (∑ d : Dev nD, tallyL (l.map (payOf d))) = ∑ d : Dev nD, tallyL (l.map (gain d))
  | [] => rfl
  | κ :: l => by
    have h : (∑ d : Dev nD, (payOf d κ).tally) = ∑ d : Dev nD, (gain d κ).tally := by
      refine Fintype.sum_equiv (⟨fun p => peer p κ, fun c => src κ c, fun p => src_peer κ p, fun c => peer_src κ c⟩ : Dev nD ≃ Dev nD) _ _ fun p => ?_
      show (payOf p κ).tally = (gain (peer p κ) κ).tally
      unfold payOf gain cellK
      rw [src_peer]
    simp only [List.map_cons, tallyL]
    rw [Finset.sum_add_distrib, Finset.sum_add_distrib, h, sum_tally l]

theorem gain_core (d : Dev nD) (g : GSem nD τ sig) (h : tallyL (dueK.map (gain d)) g ≠ 0) : g.1 = (d.tc : Thread nD τ) := by
  obtain ⟨k, hk⟩ := Finsupp.ne_iff.mp h
  obtain ⟨x, hx, rfl, -⟩ := tallyL_pos (Nat.pos_of_ne_zero hk)
  obtain ⟨κ, -, rfl⟩ := List.mem_map.mp hx
  rfl

theorem credit (c : Dev nD) : (Pipeline.launchCred (fun d => tallyL (dueK.map (payOf d))) c : sProp 𝕄) ⊢ crs c waitK := by
  rw [Pipeline.launchCred_of_sum _ (fun d => tallyL (dueK.map (gain d))) (sum_tally dueK) gain_core c, cred_tallyL, bigSepL_map]
  unfold crs
  rw [TalkSites.bigSepL_perm waitK_perm (List.Perm.nodup_iff waitK_perm |>.mpr ((List.nodup_append.mp allK_nodup).1)) (crd c)]
  exact .rfl

/-! ## What a device starts from -/

/-- The positions, rounds, rights and credit of a device when its own cells have been opened. -/
def startG (c : Dev nD) : sProp 𝕄 :=
  iprop(bigSepL dueK (toks c) ∗ crs c waitK ∗ atPos ER (barCell c) 0 ∅ 0 ∗ bigSepL startK (posn c) ∗ RCH c ∗ bigSep Finset.univ (fun n : Dev nD => reached ER (barCell n) 0))

theorem bars_at (p : Dev nD) (d : Bool) : bigSep Finset.univ (fun n : Dev nD => (reached ER (barCell n) 0 : sProp 𝕄)) ⊢ rch p (.bar d) :=
  bigSep_elim (Φ := fun n : Dev nD => (reached ER (barCell n) 0 : sProp 𝕄)) (Finset.mem_univ (frm d p))

theorem start_pos (c : Dev nD) : bigSepL startK (posn (F := F) c) ⊢ iprop((posn c (.send true 0 0) ∗ posn c (.send true 0 1) ∗ posn c (.dep true 0 0) ∗ posn c (.dep true 0 1))
    ∗ (posn c (.send true 1 0) ∗ posn c (.send true 1 1) ∗ posn c (.dep true 1 0) ∗ posn c (.dep true 1 1))
    ∗ (posn c (.send false 0 0) ∗ posn c (.send false 0 1) ∗ posn c (.dep false 0 0) ∗ posn c (.dep false 0 1))
    ∗ (posn c (.send false 1 0) ∗ posn c (.send false 1 1) ∗ posn c (.dep false 1 0) ∗ posn c (.dep false 1 1))
    ∗ (posn c (.cred true 1) ∗ posn c (.cred true 2)) ∗ (posn c (.cred false 1) ∗ posn c (.cred false 2))
    ∗ (posn c (.amax 0) ∗ posn c (.adep 0)) ∗ bigSepL jjs (fun jj => posn c (.amax jj)) ∗ bigSepL jjs (fun jj => posn c (.adep jj))) := by
  unfold startK
  rw [bigSepL_append, show bigSepL (Kind.amax 0 :: Kind.adep 0 :: (jjs.map Kind.amax ++ jjs.map Kind.adep)) (posn (F := F) c) = iprop(posn c (.amax 0) ∗ posn c (.adep 0) ∗ bigSepL (jjs.map Kind.amax ++ jjs.map Kind.adep) (posn c)) from rfl, bigSepL_append, bigSepL_map, bigSepL_map]
  simp only [bigSepL_cons']
  iintro ⟨⟨a1, a2, a3, a4, b1, b2, b3, b4, c1, c2, c3, c4, d1, d2, d3, d4, e1, e2, f1, f2, -⟩, g1, g2, Ha, Hd⟩
  isplitl [a1 a2 a3 a4]
  · isplitl [a1]; · iexact a1
    isplitl [a2]; · iexact a2
    isplitl [a3]; · iexact a3
    iexact a4
  isplitl [b1 b2 b3 b4]
  · isplitl [b1]; · iexact b1
    isplitl [b2]; · iexact b2
    isplitl [b3]; · iexact b3
    iexact b4
  isplitl [c1 c2 c3 c4]
  · isplitl [c1]; · iexact c1
    isplitl [c2]; · iexact c2
    isplitl [c3]; · iexact c3
    iexact c4
  isplitl [d1 d2 d3 d4]
  · isplitl [d1]; · iexact d1
    isplitl [d2]; · iexact d2
    isplitl [d3]; · iexact d3
    iexact d4
  isplitl [e1 e2]
  · isplitl [e1]; · iexact e1
    iexact e2
  isplitl [f1 f2]
  · isplitl [f1]; · iexact f1
    iexact f2
  isplitl [g1 g2]
  · isplitl [g1]; · iexact g1
    iexact g2
  isplitl [Ha]; · iexact Ha
  iexact Hd

/-- The rows of the device's own table, with what the others need to fill them. -/
theorem rows_perm : ∀ c : Dev nD, (c :: ((List.range 16).map (fun t => dst true (t + 1) c) ++ (List.range 15).map (fun t => dst false (t + 1) c))).Nodup
    ∧ Finset.univ = (c :: ((List.range 16).map (fun t => dst true (t + 1) c) ++ (List.range 15).map (fun t => dst false (t + 1) c))).toFinset := by decide +kernel

theorem row_res (c k : Dev nD) : RCH (F := F) c ⊢ iprop(any c (rowM k) -∗ rowRes c k) := by
  have h : RCH (F := F) c ⊢ reached ER ((c : Thread nD τ), semOf k (.amax 0)) 0 := rch_own c k (.amax 0) (fun d h => by cases h)
  unfold rowRes
  iintro #H Hr
  isplitl [Hr]; · iexact Hr
  iapply h; iexact H

theorem row_ress (c : Dev nD) (f : ℕ → Dev nD) : ∀ l : List ℕ, RCH (F := F) c ⊢ iprop(bigSepL l (fun t => any c (rowM (f t))) -∗ bigSepL l (fun t => rowRes c (f t)))
  | [] => by iintro #H Hr; iexact Hr
  | t :: l => by
    have ih := row_ress c f l
    have h := row_res (F := F) c (f t)
    rw [bigSepL_cons', bigSepL_cons']
    iintro #H ⟨H1, H2⟩
    isplitl [H1]; · iapply h $$ H H1
    iapply ih $$ H H2

theorem ext_some (d : Bool) (j : Fin 2) (c : Dev nD) (n : ℕ) (h : lim d j = n) (hn : Finset.Ico 0 n = (List.range n).toFinset := by decide) :
    ext (F := F) d j 0 c = bigSepL (List.range n) (fun t => rowRes c (dst d (t + 1) c)) := by
  unfold ext
  rw [h, org_zero]
  exact bigSep_eq_bigSepL_of_eq (List.range n) hn List.nodup_range _

theorem rows_start (c : Dev nD) (f : Buf (Elt F) (arM.view.loc (c : Thread nD τ))) :
    RCH (F := F) c ⊢ iprop((arM.view.loc (c : Thread nD τ) ↦[Finset.univ]{fullShare} f) -∗ (any c (rowM c) ∗ ext true 0 0 c ∗ ext true 1 0 c ∗ ext false 0 0 c ∗ ext false 1 0 c)) := by
  rw [ext_some true 0 c 16 rfl, ext_some true 1 c 0 rfl, ext_some false 0 c 0 rfl, ext_some false 1 c 15 rfl]
  have h1 := row_ress (F := F) c (fun t => dst true (t + 1) c) (List.range 16)
  have h2 := row_ress (F := F) c (fun t => dst false (t + 1) c) (List.range 15)
  have h3 := rows_split (F := F) c f
  rw [bigSep_univ_eq_bigSepL _ (rows_perm c).2 (rows_perm c).1, bigSepL_cons', bigSepL_append, bigSepL_map, bigSepL_map] at h3
  iintro #H Hr
  ihave Hr := h3 $$ Hr
  icases Hr with ⟨H1, H2, H3⟩
  isplitl [H1]; · iexact H1
  isplitl [H2]; · iapply h1 $$ H H2
  isplitr; · iempintro
  isplitr; · iempintro
  iapply h2 $$ H H3

/-- The grants of the first two hops in a direction: the device's landing slots. -/
theorem grants (d : Bool) (c : Dev nD) : RCH (F := F) c ⊢ iprop(slots d c -∗ pay xs ws c (.bar d)) := by
  have h (j : Fin 2) (n : ℕ) (hn : n / 2 = 0) : RCH (F := F) c ⊢ rch (frm d c) (.send d j n) :=
    rch_at c (frm d c) (.send d j n) (fun d' h => by cases h) (nxt_frm d c) hn
  have h00 := h 0 0 rfl
  have h10 := h 1 0 rfl
  have h01 := h 0 1 rfl
  have h11 := h 1 1 rfl
  have e : pay (F := F) xs ws c (.bar d) = iprop((any c (slotM d 0 0) ∗ rch (frm d c) (.send d 0 0)) ∗ (any c (slotM d 0 1) ∗ rch (frm d c) (.send d 1 0))
      ∗ (any c (slotM d 1 0) ∗ rch (frm d c) (.send d 0 1)) ∗ (any c (slotM d 1 1) ∗ rch (frm d c) (.send d 1 1))) := rfl
  rw [e]
  unfold slots
  iintro #H ⟨H1, H2, H3, H4⟩
  isplitl [H1]
  · isplitl [H1]; · iexact H1
    iapply h00; iexact H
  isplitl [H2]
  · isplitl [H2]; · iexact H2
    iapply h10; iexact H
  isplitl [H3]
  · isplitl [H3]; · iexact H3
    iapply h01; iexact H
  isplitl [H4]; · iexact H4
  iapply h11; iexact H

theorem rch_adeps (c : Dev nD) : ∀ l : List (Fin 32), RCH (F := F) c ⊢ bigSepL l (fun jj => rch c (.adep jj))
  | [] => by iintro -; iempintro
  | jj :: l => by
    have ih := rch_adeps c l
    have h : RCH (F := F) c ⊢ rch c (.adep jj) := rch_at c c (.adep jj) (fun d' h => by cases h) rfl rfl
    rw [bigSepL_cons']
    iintro #H
    isplitr; · iapply h; iexact H
    iapply ih; iexact H

/-- What a lane starts with. -/
theorem lane_start (d : Bool) (j : Fin 2) (c : Dev nD) : RCH (F := F) c ⊢ iprop((posn c (.send d j 0) ∗ posn c (.send d j 1) ∗ posn c (.dep d j 0) ∗ posn c (.dep d j 1))
    -∗ srcHas xs d j 0 c -∗ ext d j 0 c -∗ lane0 xs d j c) := by
  have h0 : RCH (F := F) c ⊢ rch c (.dep d j 0) := rch_at c c _ (fun d' h => by cases h) rfl rfl
  have h1 : RCH (F := F) c ⊢ rch c (.dep d j 1) := rch_at c c _ (fun d' h => by cases h) rfl rfl
  unfold lane0
  iintro #H ⟨H1, H2, H3, H4⟩ H5 H6
  isplitl [H1]; · iexact H1
  isplitl [H2]; · iexact H2
  isplitl [H3]; · iexact H3
  isplitl [H4]; · iexact H4
  isplitr; · iapply h0; iexact H
  isplitr; · iapply h1; iexact H
  isplitl [H5]; · iexact H5
  iexact H6

/-- What a direction starts with. -/
theorem dir_start (d : Bool) (c : Dev nD) : RCH (F := F) c ⊢ iprop(bigSep Finset.univ (fun n : Dev nD => reached ER (barCell n) 0) -∗ (posn c (.cred d 1) ∗ posn c (.cred d 2))
    -∗ slots d c -∗ dir0 xs ws d c) := by
  have h0 : RCH (F := F) c ⊢ rch (nxt d c) (.cred d 1) := rch_at c _ _ (fun d' h => by cases h) (frm_nxt d c) rfl
  have h1 : RCH (F := F) c ⊢ rch (nxt d c) (.cred d 2) := rch_at c _ _ (fun d' h => by cases h) (frm_nxt d c) rfl
  have h2 := bars_at (F := F) c d
  have h3 := grants xs ws d c
  unfold dir0
  iintro #H Hb ⟨H1, H2⟩ H3
  isplitl [H1]; · iexact H1
  isplitl [H2]; · iexact H2
  isplitr; · iapply h0; iexact H
  isplitr; · iapply h1; iexact H
  isplitl [H3]; · iapply h3 $$ H H3
  iapply h2; iexact Hb

theorem out_start (c : Dev nD) (f : Buf (Elt F) (oM.view.loc (c : Thread nD τ))) : (iprop(oM.view.loc (c : Thread nD τ) ↦[Finset.univ]{fullShare} f) : sProp 𝕄) ⊢ outHas xs ws c (fun _ => False) := by
  unfold outHas
  iintro H
  iexists f
  isplitr; · ipureintro; exact fun o h => h.elim
  iexact H

theorem send_start (c : Dev nD) (f : Buf (Elt F) (asM.view.loc (c : Thread nD τ))) : (iprop(asM.view.loc (c : Thread nD τ) ↦[Finset.univ]{fullShare} f) : sProp 𝕄) ⊢ any c asM := by
  have e : asM.view.set = Finset.univ := View.set_whole _
  unfold any
  rw [e]
  iintro H
  iexists f
  iexact H

/-- All that a device holds when the body starts, from what the launch dealt it and its buffers. -/
theorem pre_start (c : Dev nD) (W : Waits sig ℕ) (fo : Buf (Elt F) (oM.view.loc (c : Thread nD τ))) (f0 : Buf (Elt F) ((commM true).view.loc (c : Thread nD τ)))
    (f1 : Buf (Elt F) ((commM false).view.loc (c : Thread nD τ))) (f2 : Buf (Elt F) (asM.view.loc (c : Thread nD τ))) (f3 : Buf (Elt F) (arM.view.loc (c : Thread nD τ))) :
    startG (F := F) c ⊢ iprop(owes (c : Thread nD τ) (tallyL (dueK.map (payOf c))) W -∗ idP c -∗ wP ws c -∗ (xM.view.loc (c : Thread nD τ) ↦[Finset.univ]{fullShare} xs c)
      -∗ (oM.view.loc (c : Thread nD τ) ↦[Finset.univ]{fullShare} fo) -∗ ((commM true).view.loc (c : Thread nD τ) ↦[Finset.univ]{fullShare} f0) -∗ ((commM false).view.loc (c : Thread nD τ) ↦[Finset.univ]{fullShare} f1)
      -∗ (asM.view.loc (c : Thread nD τ) ↦[Finset.univ]{fullShare} f2) -∗ (arM.view.loc (c : Thread nD τ) ↦[Finset.univ]{fullShare} f3)
      -∗ (Pre xs ws c ∗ xStay xs c ∗ (posn c (.amax 0) ∗ posn c (.adep 0)))) := by
  have hs := start_pos (F := F) c
  have hr := rows_start c f3
  have hx := (x_shares xs c).1
  have ht := slots_split_true c f0
  have hf := slots_split_false c f1
  have hd := rch_adeps (F := F) c jjs
  have ho := out_start xs ws c fo
  have ha := send_start c f2
  have l1 := lane_start xs true 0 c
  have l2 := lane_start xs true 1 c
  have l3 := lane_start xs false 0 c
  have l4 := lane_start xs false 1 c
  have d1 := dir_start xs ws true c
  have d2 := dir_start xs ws false c
  have hb : (atPos ER (barCell c) 0 ∅ 0 : sProp 𝕄) ⊢ posn c (.bar true) := BIBase.Entails.of_eq rfl
  unfold startG Pre due xLent at *
  iintro ⟨Htok, Hcr, Hbar, Hpos, #HR, #HB⟩ HO Hid Hw Hx Hout H0 H1 H2 H3
  ihave Hpos := hs $$ Hpos
  icases Hpos with ⟨P1, P2, P3, P4, C1, C2, Pz, Pa, Pd⟩
  ihave Hx := hx $$ Hx
  icases Hx with ⟨⟨X1, X2, X3, X4⟩, Xs, Xp⟩
  ihave Hr := hr $$ HR H3
  icases Hr with ⟨Hrow, E1, E2, E3, E4⟩
  ihave H0 := ht $$ H0
  ihave H1 := hf $$ H1
  isplitr [Xs Pz]
  · isplitl [HO Htok]
    · isplitl [HO]; · iexists W; iexact HO
      iexact Htok
    isplitl [Hcr]; · iexact Hcr
    isplitl [Hbar]; · iapply hb; iexact Hbar
    isplitl [P1 P2 P3 P4 X1 X2 X3 X4 E1 E2 E3 E4]
    · isplitl [P1 X1 E1]; · iapply l1 $$ HR P1 X1 E1
      isplitl [P2 X2 E2]; · iapply l2 $$ HR P2 X2 E2
      isplitl [P3 X3 E3]; · iapply l3 $$ HR P3 X3 E3
      iapply l4 $$ HR P4 X4 E4
    isplitl [C1 C2 H0 H1]
    · isplitl [C1 H0]; · iapply d1 $$ HR HB C1 H0
      iapply d2 $$ HR HB C2 H1
    isplitl [Pa]; · iexact Pa
    isplitl [Pd]; · iexact Pd
    isplitr; · iapply hd; iexact HR
    isplitl [Hid]; · iexact Hid
    isplitl [Hw]; · iexact Hw
    isplitl [Xp]; · iexact Xp
    isplitl [Hout]; · iapply ho; iexact Hout
    isplitl [H2]; · iapply ha; iexact H2
    iexact Hrow
  isplitl [Xs]; · iexact Xs
  iexact Pz

end Cert.RingGemm

end
-- ==== Proof.Ids.lean ====
/-
The ring's table of a device, as the host operations compute it.
-/
module

public import proofs.«01_k».proof.Proof.Mem
public import proofs.«01_k».proof.Proof.Gen.KernelIdeal.Regions
public import Idealize.ShloMosaic.Lib.Claim
public import Idealize.ShloMosaic.Lib.StableHlo.Predicate
public import Idealize.ShloMosaic.Lib.Pipeline.Value

@[expose] public section

set_option maxHeartbeats 1000000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (c : Dev nD) (W : Valuation τ sig (Elt F))

/-- A number as a word. -/
abbrev bv (n : ℕ) : BitVec 32 := BitVec.ofNat 32 n

/-- A one-element slice of a table of 32, at a start in range. -/
theorem dyn_read {α : Type} (x : S32.Idx → α) (ix : Fin 1 → ℤ) (n : Fin 32) (h : ix 0 = (n.val : ℤ)) (i : S_.Idx) :
    shapeCast S_ (Host.dynamicSlice S1 x ix sliceFits_S32_S1) shapeCasts_S1_S_ i = x (Shape.Idx.ofFin n) := by
  unfold shapeCast Host.dynamicSlice extractStridedSlice
  refine congrArg x (funext fun a => ?_)
  obtain rfl : a = (0 : Fin 1) := Subsingleton.elim _ _
  apply Fin.ext
  have h1 : ((Shape.reshapeEquiv shapeCasts_S1_S_ i) (0 : Fin 1)).val = 0 := by
    have := ((Shape.reshapeEquiv shapeCasts_S1_S_ i) (0 : Fin 1)).isLt
    have h2 : S1.size (0 : Fin 1) = 1 := rfl
    omega
  have hn := n.isLt
  show (min (max (ix 0) 0) ((32 - 1 : ℕ) : ℤ)).toNat + ((Shape.reshapeEquiv shapeCasts_S1_S_ i) (0 : Fin 1)).val = n.val
  rw [h, h1]
  omega

/-- A remainder of two words, its sign the divisor's. -/
def remB (x d : BitVec 32) : BitVec 32 :=
  let e := Scalar.select (IntOp.cmpi .eq d 0#32) 1#32 d
  let r := IntOp.remsi .host x e
  Scalar.select (IntOp.andi (IntOp.cmpi .ne (IntOp.cmpi .slt r 0#32) (IntOp.cmpi .slt e 0#32)) (IntOp.cmpi .ne r 0#32)) (IntOp.addi r e) r

theorem seg1 : StableHlo.after hostOps0_1 W main_v11 = (fun i => remB (W main_v10 i) (W main_c_6 i) : S_.Idx → BitVec 32) := by
  unfold hostOps0_1
  simp only [StableHlo.after_cons, StableHlo.after_nil]
  after_results_simp
  rfl

theorem seg3 : StableHlo.after hostOps0_3 W main_v18 = (fun i => remB (W main_v17 i) (W main_c_10 i) : S_.Idx → BitVec 32) := by
  unfold hostOps0_3
  simp only [StableHlo.after_cons, StableHlo.after_nil]
  after_results_simp
  rfl

/-- The one index of a single word. -/
abbrev z0 : S_.Idx := Shape.Idx.first h_S_

theorem seg5 (h : W main_c_14 = (fun _ => 32#32 : S_.Idx → BitVec 32)) : StableHlo.after hostOps0_5 W main_v28 = (fun i => remB (W main_v27 i) 32#32 : S16.Idx → BitVec 32) := by
  unfold hostOps0_5
  simp only [StableHlo.after_cons, StableHlo.after_nil]
  after_results_simp
  simp only [h]
  rfl

/-- An index brought into range, when it is negative. -/
def wrapB (x : BitVec 32) : BitVec 32 := Scalar.select (IntOp.cmpi .slt x 0#32) (IntOp.addi x 32#32) x

theorem idx_ok : ∀ c : Dev nD, wrapB (IntOp.remui .host (IntOp.divui .host (Dev.word c) 1#32) 32#32) = bv c.val := by decide +kernel
theorem toInt_bv : ∀ c : Fin 32, (bv c.val).toInt = (c.val : ℤ) := by decide +kernel
theorem wrap_bv : ∀ c : Fin 32, wrapB (bv c.val) = bv c.val := by decide +kernel
theorem lit1_ok : ∀ c : Fin 32, lit1 (S32.rowMajor (Shape.Idx.ofFin c)) = bv (pos c) := by decide +kernel

theorem seg7 (h : W main_c_18 = (fun _ => 32#32 : S_.Idx → BitVec 32)) : StableHlo.after hostOps0_7 W main_v40 = (fun i => remB (W main_v39 i) 32#32 : S15.Idx → BitVec 32) := by
  unfold hostOps0_7
  simp only [StableHlo.after_cons, StableHlo.after_nil]
  after_results_simp
  simp only [h]
  rfl

theorem seg2_v16 (n : Fin 32) (h : W main_v11 = (fun _ => bv n.val : S_.Idx → BitVec 32)) :
    StableHlo.after hostOps0_2 W main_v16 = (fun _ => W main_c (Shape.Idx.ofFin n) : S_.Idx → BitVec 32) := by
  unfold hostOps0_2
  simp only [StableHlo.after_cons, StableHlo.after_nil]
  after_results_simp
  funext i
  refine dyn_read _ _ n ?_ i
  show BitVec.toInt ((_ : Valuation τ sig (Elt F)) (Proc.tc.devRef main_v14) _) = _
  after_results_simp
  simp only [h]
  exact (congrArg BitVec.toInt (wrap_bv n)).trans (toInt_bv n)

theorem seg2_v17 : StableHlo.after hostOps0_2 W main_v17 = (fun i => IntOp.subi (W main_v9 i) 1#32 : S_.Idx → BitVec 32) := by
  unfold hostOps0_2
  simp only [StableHlo.after_cons, StableHlo.after_nil]
  after_results_simp
  rfl

theorem seg2_c10 : StableHlo.after hostOps0_2 W main_c_10 = (fun _ => 32#32 : S_.Idx → BitVec 32) := by
  unfold hostOps0_2
  simp only [StableHlo.after_cons, StableHlo.after_nil]
  after_results_simp
  rfl

theorem seg4_v23 (n : Fin 32) (h : W main_v18 = (fun _ => bv n.val : S_.Idx → BitVec 32)) :
    StableHlo.after hostOps0_4 W main_v23 = (fun _ => W main_c (Shape.Idx.ofFin n) : S_.Idx → BitVec 32) := by
  unfold hostOps0_4
  simp only [StableHlo.after_cons, StableHlo.after_nil]
  after_results_simp
  funext i
  refine dyn_read _ _ n ?_ i
  show BitVec.toInt ((_ : Valuation τ sig (Elt F)) (Proc.tc.devRef main_v21) _) = _
  after_results_simp
  simp only [h]
  exact (congrArg BitVec.toInt (wrap_bv n)).trans (toInt_bv n)

theorem seg4_v27 (p : BitVec 32) (h : W main_v9 = (fun _ => p : S_.Idx → BitVec 32)) :
    StableHlo.after hostOps0_4 W main_v27 = (fun i => IntOp.subi (IntOp.subi p 1#32) (bv (i 0).val) : S16.Idx → BitVec 32) := by
  unfold hostOps0_4
  simp only [StableHlo.after_cons, StableHlo.after_nil]
  after_results_simp
  simp only [h]
  rfl

theorem seg4_c14 : StableHlo.after hostOps0_4 W main_c_14 = (fun _ => 32#32 : S_.Idx → BitVec 32) := by
  unfold hostOps0_4
  simp only [StableHlo.after_cons, StableHlo.after_nil]
  after_results_simp
  rfl

theorem seg6_v35 (f : Fin 16 → Fin 32) (h : W main_v28 = (fun i => bv (f (i 0)).val : S16.Idx → BitVec 32)) :
    StableHlo.after hostOps0_6 W main_v35 = (fun i => W main_c (Shape.Idx.ofFin (f (i 0))) : S16.Idx → BitVec 32) := by
  unfold hostOps0_6
  simp only [StableHlo.after_cons, StableHlo.after_nil]
  after_results_simp
  simp only [h]
  funext i
  obtain ⟨p, rfl⟩ : ∃ p : Fin 16, i = Shape.Idx.ofFin p := ⟨i 0, funext fun a => by obtain rfl : a = (0 : Fin 1) := Subsingleton.elim _ _; rfl⟩
  refine (StableHlo.Predicate.gather_take gather_S32_S16x1_S16_n_0_n_n_0_1_1 rfl rfl rfl rfl _ _ p (by decide)).trans ?_
  refine congrArg (W main_c) (congrArg Shape.Idx.ofFin (Fin.ext ?_))
  refine (congrArg (fun z : BitVec 32 => min z.toInt.toNat 31) (wrap_bv (f p))).trans ?_
  have h2 := (f p).isLt
  have h3 := toInt_bv (f p)
  show min (bv (f p).val).toInt.toNat 31 = (f p).val
  rw [h3]; omega

theorem seg6_v39 (p : BitVec 32) (h : W main_v9 = (fun _ => p : S_.Idx → BitVec 32)) :
    StableHlo.after hostOps0_6 W main_v39 = (fun i => IntOp.addi (IntOp.addi p 1#32) (bv (i 0).val) : S15.Idx → BitVec 32) := by
  unfold hostOps0_6
  simp only [StableHlo.after_cons, StableHlo.after_nil]
  after_results_simp
  simp only [h]
  rfl

theorem seg6_c18 : StableHlo.after hostOps0_6 W main_c_18 = (fun _ => 32#32 : S_.Idx → BitVec 32) := by
  unfold hostOps0_6
  simp only [StableHlo.after_cons, StableHlo.after_nil]
  after_results_simp
  rfl

theorem seg8_v47 (f : Fin 15 → Fin 32) (h : W main_v40 = (fun i => bv (f (i 0)).val : S15.Idx → BitVec 32)) :
    StableHlo.after hostOps0_8 W main_v47 = (fun i => W main_c (Shape.Idx.ofFin (f (i 0))) : S15.Idx → BitVec 32) := by
  unfold hostOps0_8
  simp only [StableHlo.after_cons, StableHlo.after_nil]
  after_results_simp
  simp only [h]
  funext i
  obtain ⟨p, rfl⟩ : ∃ p : Fin 15, i = Shape.Idx.ofFin p := ⟨i 0, funext fun a => by obtain rfl : a = (0 : Fin 1) := Subsingleton.elim _ _; rfl⟩
  refine (StableHlo.Predicate.gather_take gather_S32_S15x1_S15_n_0_n_n_0_1_1 rfl rfl rfl rfl _ _ p (by decide)).trans ?_
  refine congrArg (W main_c) (congrArg Shape.Idx.ofFin (Fin.ext ?_))
  refine (congrArg (fun z : BitVec 32 => min z.toInt.toNat 31) (wrap_bv (f p))).trans ?_
  have h2 := (f p).isLt
  have h3 := toInt_bv (f p)
  show min (bv (f p).val).toInt.toNat 31 = (f p).val
  rw [h3]; omega

theorem seg8_v35 : StableHlo.after hostOps0_8 W main_v35 = W main_v35 := by
  unfold hostOps0_8
  simp only [StableHlo.after_cons, StableHlo.after_nil]
  after_results_simp

theorem seg8_v50 (a b : BitVec 32) (ha : W main_v16 = (fun _ => a : S_.Idx → BitVec 32)) (hb : W main_v23 = (fun _ => b : S_.Idx → BitVec 32)) :
    StableHlo.after hostOps0_8 W main_v50 = (fun i => if (i 0).val = 0 then a else b : S2.Idx → BitVec 32) := by
  unfold hostOps0_8
  simp only [StableHlo.after_cons, StableHlo.after_nil]
  after_results_simp
  funext i
  have hi := (i 0).isLt
  have e2 : S2.size 0 = 2 := rfl
  by_cases h0 : (i 0).val = 0
  · rw [if_pos h0]
    refine (concatenate_apply_piece (t := S2) 0 [⟨S1, _⟩, ⟨S1, _⟩] concatenates_S1_S1_S2_d0 i 0 (show 0 < 2 by decide) S1 _ rfl rfl 0 rfl (Shape.Idx.ofFin (n := 1) 0)
      (fun q hq => absurd (Subsingleton.elim _ _) hq) (by show 0 + 0 = (i 0).val; omega)).trans ?_
    after_results_simp
    simp only [ha]
    rfl
  · rw [if_neg h0]
    refine (concatenate_apply_piece (t := S2) 0 [⟨S1, _⟩, ⟨S1, _⟩] concatenates_S1_S1_S2_d0 i 1 (show 1 < 2 by decide) S1 _ rfl rfl 1 rfl (Shape.Idx.ofFin (n := 1) 0)
      (fun q hq => absurd (Subsingleton.elim _ _) hq) (by show 1 + 0 = (i 0).val; omega)).trans ?_
    after_results_simp
    simp only [hb]
    rfl

theorem seg8_v51 (a b : BitVec 32) (f : Fin 16 → BitVec 32) (g : Fin 15 → BitVec 32) (f' : Fin 15 → Fin 32)
    (ha : W main_v16 = (fun _ => a : S_.Idx → BitVec 32)) (hb : W main_v23 = (fun _ => b : S_.Idx → BitVec 32))
    (hf : W main_v35 = (fun i => f (i 0) : S16.Idx → BitVec 32)) (h : W main_v40 = (fun i => bv (f' (i 0)).val : S15.Idx → BitVec 32))
    (hg : ∀ p, W main_c (Shape.Idx.ofFin (f' p)) = g p) (i : S33.Idx) :
    (StableHlo.after hostOps0_8 W main_v51 : S33.Idx → BitVec 32) i
      = if h0 : (i 0).val = 0 then a else if h1 : (i 0).val = 1 then b else if h2 : (i 0).val < 18 then f ⟨(i 0).val - 2, by omega⟩ else g ⟨(i 0).val - 18, by have := (i 0).isLt; have e : S33.size 0 = 33 := rfl; omega⟩ := by
  have h47 := seg8_v47 W f' h
  have h35 := seg8_v35 W
  have h50 := seg8_v50 W a b ha hb
  unfold hostOps0_8 at h47 h35 h50 ⊢
  simp only [StableHlo.after_cons, StableHlo.after_nil] at h47 h35 h50 ⊢
  revert h47 h35 h50
  generalize (StableHlo.binary main_v48 main_v49 main_v50 _ _ _ _ : HloOp τ sig (Elt F)).result _ = U
  intro h47 h35 h50
  replace h47 := (StableHlo.nary_result_ne _ _ _ _ _ U (by decide)).symm.trans h47
  replace h35 := (StableHlo.nary_result_ne _ _ _ _ _ U (by decide)).symm.trans h35
  replace h50 := (StableHlo.nary_result_ne _ _ _ _ _ U (by decide)).symm.trans h50
  rw [StableHlo.nary_result (n := 3) ![main_v50, main_v35, main_v47] main_v51 _ _ _ U]
  have hi := (i 0).isLt
  have e33 : S33.size 0 = 33 := rfl
  by_cases h2 : (i 0).val < 2
  · refine (concatenate_apply_piece (t := S33) 0 [⟨S2, (U main_v50 : S2.Idx → BitVec 32)⟩, ⟨S16, (U main_v35 : S16.Idx → BitVec 32)⟩, ⟨S15, (U main_v47 : S15.Idx → BitVec 32)⟩] concatenates_S2_S16_S15_S33_d0 i 0 (show 0 < 3 by decide) S2 (U main_v50) rfl rfl 0 rfl (Shape.Idx.ofFin (n := 2) ⟨(i 0).val, h2⟩)
      (fun q hq => absurd (Subsingleton.elim _ _) hq) (by show 0 + (i 0).val = (i 0).val; omega)).trans ?_
    rw [h50]
    show (if (i 0).val = 0 then a else b) = _
    by_cases h0 : (i 0).val = 0
    · rw [if_pos h0, dif_pos h0]
    · rw [if_neg h0, dif_neg h0, dif_pos (by omega)]
  · by_cases h18 : (i 0).val < 18
    · refine (concatenate_apply_piece (t := S33) 0 [⟨S2, (U main_v50 : S2.Idx → BitVec 32)⟩, ⟨S16, (U main_v35 : S16.Idx → BitVec 32)⟩, ⟨S15, (U main_v47 : S15.Idx → BitVec 32)⟩] concatenates_S2_S16_S15_S33_d0 i 1 (show 1 < 3 by decide) S16 (U main_v35) rfl rfl 2 rfl (Shape.Idx.ofFin (n := 16) ⟨(i 0).val - 2, by omega⟩)
        (fun q hq => absurd (Subsingleton.elim _ _) hq) (by show 2 + ((i 0).val - 2) = (i 0).val; omega)).trans ?_
      rw [h35, hf, dif_neg (by omega), dif_neg (by omega), dif_pos h18]
      rfl
    · refine (concatenate_apply_piece (t := S33) 0 [⟨S2, (U main_v50 : S2.Idx → BitVec 32)⟩, ⟨S16, (U main_v35 : S16.Idx → BitVec 32)⟩, ⟨S15, (U main_v47 : S15.Idx → BitVec 32)⟩] concatenates_S2_S16_S15_S33_d0 i 2 (show 2 < 3 by decide) S15 (U main_v47) rfl rfl 18 rfl (Shape.Idx.ofFin (n := 15) ⟨(i 0).val - 18, by omega⟩)
        (fun q hq => absurd (Subsingleton.elim _ _) hq) (by show 18 + ((i 0).val - 18) = (i 0).val; omega)).trans ?_
      rw [h47, dif_neg (by omega), dif_neg (by omega), dif_neg h18]
      exact hg _

theorem v1_v7 : V1 m c main_v7 = (fun _ => bv c.val : S_.Idx → BitVec 32) := by
  unfold V1 hostOps0
  simp only [StableHlo.after_cons, StableHlo.after_nil]
  after_results_simp
  funext i
  exact idx_ok c

theorem v1_v9 : V1 m c main_v9 = (fun _ => bv (pos c) : S_.Idx → BitVec 32) := by
  unfold V1 hostOps0
  simp only [StableHlo.after_cons, StableHlo.after_nil]
  after_results_simp
  funext i
  refine (dyn_read _ _ ⟨c.val, c.isLt⟩ ?_ i).trans ?_
  · show BitVec.toInt ((_ : Valuation τ sig (Elt F)) (Proc.tc.devRef main_v7) _) = _
    after_results_simp
    exact (congrArg BitVec.toInt (idx_ok c)).trans (toInt_bv c)
  · exact lit1_ok c

theorem v1_v10 : V1 m c main_v10 = (fun _ => IntOp.addi (bv (pos c)) 1#32 : S_.Idx → BitVec 32) := by
  have h := v1_v9 (F := F) m c
  have e : V1 m c main_v10 = (fun i => IntOp.addi ((V1 m c main_v9 : S_.Idx → BitVec 32) i) 1#32 : S_.Idx → BitVec 32) := by
    unfold V1 hostOps0
    simp only [StableHlo.after_cons, StableHlo.after_nil]
    after_results_simp
    rfl
  rw [e, h]

theorem v1_c : V1 m c main_c = (fun i => lit0 (S32.rowMajor i) : S32.Idx → BitVec 32) := by
  unfold V1 hostOps0
  simp only [StableHlo.after_cons, StableHlo.after_nil]
  after_results_simp
  rfl

theorem v1_c6 : V1 m c main_c_6 = (fun _ => 32#32 : S_.Idx → BitVec 32) := by
  unfold V1 hostOps0
  simp only [StableHlo.after_cons, StableHlo.after_nil]
  after_results_simp
  rfl

/-- The position one after, one before, and the ones at a distance. -/
def fwd (c : Dev nD) (n : ℕ) : Fin 32 := ⟨(pos c + n) % 32, Nat.mod_lt _ (by decide)⟩

theorem num_nxt : ∀ c : Dev nD, remB (IntOp.addi (bv (pos c)) 1#32) 32#32 = bv (fwd c 1).val := by decide +kernel
theorem num_prv : ∀ c : Dev nD, remB (IntOp.subi (bv (pos c)) 1#32) 32#32 = bv (fwd c 31).val := by decide +kernel
theorem num_bwd : ∀ (c : Dev nD) (i : Fin 16), remB (IntOp.subi (IntOp.subi (bv (pos c)) 1#32) (bv i.val)) 32#32 = bv (fwd c (31 - i.val)).val := by decide +kernel
theorem num_fwd : ∀ (c : Dev nD) (i : Fin 15), remB (IntOp.addi (IntOp.addi (bv (pos c)) 1#32) (bv i.val)) 32#32 = bv (fwd c (1 + i.val)).val := by decide +kernel
theorem tab_nxt : ∀ c : Dev nD, lit0 (S32.rowMajor (Shape.Idx.ofFin (fwd c 1))) = bv (nxt true c).val := by decide +kernel
theorem tab_prv : ∀ c : Dev nD, lit0 (S32.rowMajor (Shape.Idx.ofFin (fwd c 31))) = bv (nxt false c).val := by decide +kernel
theorem tab_bwd : ∀ (c : Dev nD) (i : Fin 16), lit0 (S32.rowMajor (Shape.Idx.ofFin (fwd c (31 - i.val)))) = bv (org true (i.val + 1) c).val := by decide +kernel
theorem tab_fwd : ∀ (c : Dev nD) (i : Fin 15), lit0 (S32.rowMajor (Shape.Idx.ofFin (fwd c (1 + i.val)))) = bv (org false (i.val + 1) c).val := by decide +kernel

/-- The table of the ring a device holds after the host operations: its two neighbours and the devices its rows come from. -/
theorem v9_ids : V9 m c main_v51 = idsOf c := by
  have c1 := v1_c (F := F) m c
  have p1 := v1_v9 (F := F) m c
  have h2 : V2 m c main_v11 = (fun _ => bv (fwd c 1).val : S_.Idx → BitVec 32) := by
    refine (seg1 (V1 m c)).trans ?_
    rw [v1_v10, v1_c6]; funext _; exact num_nxt c
  have c2 : V2 m c main_c = (fun i => lit0 (S32.rowMajor i) : S32.Idx → BitVec 32) := (V2_of m c main_c (by decide)).trans c1
  have p2 : V2 m c main_v9 = (fun _ => bv (pos c) : S_.Idx → BitVec 32) := (V2_of m c main_v9 (by decide)).trans p1
  have a3 : V3 m c main_v16 = (fun _ => bv (nxt true c).val : S_.Idx → BitVec 32) := by
    refine (seg2_v16 (V2 m c) _ h2).trans ?_
    rw [c2]; funext _; exact tab_nxt c
  have h3 : V3 m c main_v17 = (fun _ => IntOp.subi (bv (pos c)) 1#32 : S_.Idx → BitVec 32) := by
    refine (seg2_v17 (V2 m c)).trans ?_
    rw [p2]
  have k3 : V3 m c main_c_10 = (fun _ => 32#32 : S_.Idx → BitVec 32) := seg2_c10 (V2 m c)
  have h4 : V4 m c main_v18 = (fun _ => bv (fwd c 31).val : S_.Idx → BitVec 32) := by
    refine (seg3 (V3 m c)).trans ?_
    rw [h3, k3]; funext _; exact num_prv c
  have c4 : V4 m c main_c = (fun i => lit0 (S32.rowMajor i) : S32.Idx → BitVec 32) := (V4_of m c main_c (by decide)).trans ((V3_of m c main_c (by decide)).trans c2)
  have p4 : V4 m c main_v9 = (fun _ => bv (pos c) : S_.Idx → BitVec 32) := (V4_of m c main_v9 (by decide)).trans ((V3_of m c main_v9 (by decide)).trans p2)
  have b5 : V5 m c main_v23 = (fun _ => bv (nxt false c).val : S_.Idx → BitVec 32) := by
    refine (seg4_v23 (V4 m c) _ h4).trans ?_
    rw [c4]; funext _; exact tab_prv c
  have h5 := seg4_v27 (V4 m c) _ p4
  have k5 := seg4_c14 (V4 m c)
  have h6 : V6 m c main_v28 = (fun i => bv (fwd c (31 - (i 0).val)).val : S16.Idx → BitVec 32) := by
    refine (seg5 (V5 m c) k5).trans ?_
    rw [show V5 m c main_v27 = _ from h5]; funext i; exact num_bwd c (i 0)
  have c6 : V6 m c main_c = (fun i => lit0 (S32.rowMajor i) : S32.Idx → BitVec 32) := (V6_of m c main_c (by decide)).trans ((V5_of m c main_c (by decide)).trans c4)
  have p6 : V6 m c main_v9 = (fun _ => bv (pos c) : S_.Idx → BitVec 32) := (V6_of m c main_v9 (by decide)).trans ((V5_of m c main_v9 (by decide)).trans p4)
  have f7 : V7 m c main_v35 = (fun i => bv (org true ((i 0).val + 1) c).val : S16.Idx → BitVec 32) := by
    refine (seg6_v35 (V6 m c) (fun i => fwd c (31 - i.val)) h6).trans ?_
    rw [c6]; funext i; exact tab_bwd c (i 0)
  have h7 := seg6_v39 (V6 m c) _ p6
  have k7 := seg6_c18 (V6 m c)
  have h8 : V8 m c main_v40 = (fun i => bv (fwd c (1 + (i 0).val)).val : S15.Idx → BitVec 32) := by
    refine (seg7 (V7 m c) k7).trans ?_
    rw [show V7 m c main_v39 = _ from h7]; funext i; exact num_fwd c (i 0)
  have c8 : V8 m c main_c = (fun i => lit0 (S32.rowMajor i) : S32.Idx → BitVec 32) := (V8_of m c main_c (by decide)).trans ((V7_of m c main_c (by decide)).trans c6)
  have a8 : V8 m c main_v16 = (fun _ => bv (nxt true c).val : S_.Idx → BitVec 32) := (V8_of m c main_v16 (by decide)).trans ((V7_of m c main_v16 (by decide)).trans ((V6_of m c main_v16 (by decide)).trans ((V5_of m c main_v16 (by decide)).trans ((V4_of m c main_v16 (by decide)).trans a3))))
  have b8 : V8 m c main_v23 = (fun _ => bv (nxt false c).val : S_.Idx → BitVec 32) := (V8_of m c main_v23 (by decide)).trans ((V7_of m c main_v23 (by decide)).trans ((V6_of m c main_v23 (by decide)).trans b5))
  have f8 : V8 m c main_v35 = (fun i => bv (org true ((i 0).val + 1) c).val : S16.Idx → BitVec 32) := (V8_of m c main_v35 (by decide)).trans f7
  funext i
  refine (seg8_v51 (V8 m c) _ _ (fun p => bv (org true (p.val + 1) c).val) (fun p => bv (org false (p.val + 1) c).val) (fun p => fwd c (1 + p.val)) a8 b8 f8 h8 ?_ i).trans ?_
  · intro p; rw [c8]; exact tab_fwd c p
  · have hi := (i 0).isLt
    have e33 : S33.size 0 = 33 := rfl
    show _ = BitVec.ofNat 32 (idN c (i 0).val).val
    unfold idN
    split_ifs <;> first | rfl | omega | (simp only []; congr 4; omega) | skip

end Cert.RingGemm

end
-- ==== Proof.Launch.lean ====
/-
The kernel as the pipeline calls it: its proof data and its body at the one point of the grid.
-/
module

public import proofs.«01_k».proof.Proof.Start
public import proofs.«01_k».proof.Proof.Ids
public import proofs.«01_k».proof.Proof.Gen.KernelIdeal.Points
public import Idealize.ShloMosaic.Lib.Pipeline.ValueKit

@[expose] public section

set_option maxHeartbeats 1000000
set_option maxRecDepth 8000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.TalkSites (Pay Pay.tally tallyL tallyL_pos cred_tallyL Fam)
open Idealize.ShloMosaic.SiteBlocks (L lv)
open Idealize.ShloMosaic.Pipeline (Dat BodyObligation)

variable (m : (ℓ : Loc nD τ sig) → Buf (Elt F) ℓ)

/-- The devices' blocks of the arguments as launched. -/
def xsM (d : Dev nD) : S128x4096.Idx → Elt F .f32 := m ((d : Thread nD τ).loc main_arg0)
def wsM (d : Dev nD) : S4096x256.Idx → Elt F .f32 := m ((d : Thread nD τ).loc main_arg1)

/-- What the devices' kernels leave: the result where the program's result buffer is. -/
def outsM : Outs (F := F) := fun _ r c => if h : r = main_v52 then h ▸ resV (xsM m) (wsM m) c else V9 m c r

theorem outs_v52 (c : Dev nD) : outsM m 10 main_v52 c = resV (xsM m) (wsM m) c := by
  unfold outsM; rw [dif_pos rfl]

/-- The kernel's scratch buffers, at any contents. -/
def scr (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

/-- What enters the kernel beside its buffers. -/
def XK (c : Dev nD) : sProp 𝕄 := iprop((∃ K, INV (xsM m) (wsM m) K) ∗ startG c)
/-- The kernel's own counters, back at zero. -/
def semsZ (c : Dev nD) : sProp 𝕄 := bigSep Finset.univ fun i : Fin 84 => semVal ((c : Thread nD τ), osem i) 0

def phi0 (c : Dev nD) : sProp 𝕄 := iprop(XK m c ∗ scr c ∗ ∃ r, prngReg c r)
def phi1 (c : Dev nD) : sProp 𝕄 := iprop(scr c ∗ (∃ r, prngReg c r) ∗ semsZ c ∗ semVal (barCell c) 0)

/-- What device `c` owes when the kernel starts. -/
abbrev O0 (c : Dev nD) : CellTallies nD τ sig ℕ := tallyL (dueK.map (payOf c))

/-- The kernel's proof data. -/
def dat (c : Dev nD) : Dat τ (Elt F) ℕ ℕ UU ℕ cfg0 c where
  A w := V9 m c (Proc.devRef .tc (Pipeline.arrRef spec0 w))
  after w _ := match w with
    | ⟨0, _⟩ => idsOf c
    | ⟨1, _⟩ => xsM m c
    | ⟨2, _⟩ => wsM m c
    | ⟨3, _⟩ => resV (xsM m) (wsM m) c
  Φ t := match t with
    | ⟨0, _⟩ => phi0 m c
    | ⟨_ + 1, _⟩ => phi1 c
  q _ := fullShare
  owed t := match t with
    | ⟨0, _⟩ => O0 c
    | ⟨_ + 1, _⟩ => 0

def dats (_ : Fin 1) (c : Dev nD) : Dat τ (Elt F) ℕ ℕ UU ℕ cfg0 c := dat m c

theorem share_eq (c : Dev nD) (w : Fin cfg0.W) : (dats m 0 c).share w = fullShare := by unfold Dat.share; split <;> rfl

theorem v9_arg0 (c : Dev nD) : V9 m c main_arg0 = xsM m c :=
  (V10_of m (outsM m) c main_arg0 (by decide)).symm.trans (V10_main_arg0 m (outsM m) c)
theorem v9_arg1 (c : Dev nD) : V9 m c main_arg1 = wsM m c :=
  (V10_of m (outsM m) c main_arg1 (by decide)).symm.trans (V10_main_arg1 m (outsM m) c)

theorem before0 (c : Dev nD) (d) : (dat m c).before (0 : Fin 4) t0_0 d = idsOf (F := F) c := by
  rw [Dat.before_fetched _ _ _ (fetch0_0 t0_0)]
  refine Eq.trans ?_ (v9_ids m c)
  funext j
  refine (show _ = V9 m c main_v51 ((win0_0.blk t0_0).view.emb j) from rfl).trans ?_
  refine congrArg _ (funext fun a => Fin.ext ?_)
  exact win0_0.rect_emb_val_of_index_zero t0_0 a (by revert a; decide +kernel) j
theorem before1 (c : Dev nD) (d) : (dat m c).before (1 : Fin 4) t0_0 d = xsM m c := by
  rw [Dat.before_fetched _ _ _ (fetch0_1 t0_0)]
  refine Eq.trans ?_ (v9_arg0 m c)
  funext j
  refine (show _ = V9 m c main_arg0 ((win0_1.blk t0_0).view.emb j) from rfl).trans ?_
  refine congrArg _ (funext fun a => Fin.ext ?_)
  exact win0_1.rect_emb_val_of_index_zero t0_0 a (by revert a; decide +kernel) j
theorem before2 (c : Dev nD) (d) : (dat m c).before (2 : Fin 4) t0_0 d = wsM m c := by
  rw [Dat.before_fetched _ _ _ (fetch0_2 t0_0)]
  refine Eq.trans ?_ (v9_arg1 m c)
  funext j
  refine (show _ = V9 m c main_arg1 ((win0_2.blk t0_0).view.emb j) from rfl).trans ?_
  refine congrArg _ (funext fun a => Fin.ext ?_)
  exact win0_2.rect_emb_val_of_index_zero t0_0 a (by revert a; decide +kernel) j

theorem final3 (c : Dev nD) : (dat m c).arrAt (3 : Fin 4) cfg0.N = resV (xsM m) (wsM m) c := by
  refine (dat m c).arrAt_eq_of_after_last (3 : Fin 4) t0_0 (by decide +kernel) _ fun j => ?_
  blk_simp
  rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(phi0 m c ∗ (dat m c).owesAt 0 t0_0.castSucc
    ∗ (∃ d, stg c cc0_stg0_0 ((dat m c).before (0 : Fin 4) t0_0 d))
    ∗ (∃ d, stg c cc0_stg1_0 ((dat m c).before (1 : Fin 4) t0_0 d))
    ∗ (∃ d, stg c cc0_stg2_0 ((dat m c).before (2 : Fin 4) t0_0 d))
    ∗ (∃ d, stg c cc0_stg3_0 ((dat m c).before (3 : Fin 4) t0_0 d)))
def bodyPost (c : Dev nD) : sProp 𝕄 :=
  iprop(phi1 c ∗ (dat m c).owesAt 0 t0_0.succ ∗ stg c cc0_stg0_0 (idsOf (F := F) c) ∗ stg c cc0_stg1_0 (xsM m c) ∗ stg c cc0_stg2_0 (wsM m c) ∗ stg c cc0_stg3_0 (resV (xsM m) (wsM m) c))

/-- What the body leaves makes the kernel's last state, after its cells are closed. -/
theorem body_end (c : Dev nD) (K : GSem nD τ sig → ℕ) : INV (xsM m) (wsM m) K ⊢ iprop(Mid (xsM m) (wsM m) c -∗ iprop(oM.view.loc (c : Thread nD τ) ↦[Finset.univ]{fullShare} resV (xsM m) (wsM m) c)
    -∗ iprop(xStay (xsM m) c ∗ posn c (.amax 0) ∗ posn c (.adep 0) ∗ ∃ r, prngReg c r) -∗ |={Set.univ}=> bodyPost m c) := by
  have ha := close_all (xsM m) (wsM m) K c
  have hb := close_bar (xsM m) (wsM m) K c
  have hx := (x_shares (xsM m) c).2
  have ht := slots_join_true (F := F) c
  have hf := slots_join_false (F := F) c
  have hp0 : (posn c (.amax 0) : sProp 𝕄) ⊢ atPos ER ((c : Thread nD τ), semOf (src (.amax 0) c) (.amax 0)) 0 ∅ 0 := .rfl
  have hp1 : (posn c (.adep 0) : sProp 𝕄) ⊢ atPos ER ((c : Thread nD τ), semOf (src (.adep 0) c) (.adep 0)) 0 ∅ 0 := .rfl
  have has : any (F := F) c asM ⊢ iprop(∃ f : Buf (Elt F) ((c : Thread nD τ).loc cc0_scratch2), ((c : Thread nD τ).loc cc0_scratch2) ↦{fullShare} f) := by
    have e : asM.view.set = Finset.univ := View.set_whole _
    unfold any
    rw [e]
  have ho : (iprop(∃ W, owes (c : Thread nD τ) (tallyL (([] : List Kind).map (payOf c))) W) : sProp 𝕄) ⊢ (dat m c).owesAt 0 t0_0.succ := by
    iintro ⟨%W, H⟩
    iapply (TalkSites.owesAt_intro (dat m c) 0 t0_0.succ 0 rfl rfl W)
    iexact H
  unfold Mid due xLent idP wP at *
  iintro #HI ⟨⟨HO, -⟩, Hbar, Hend, Ham, Had, Hid, Hw, Hxp, ⟨X1, X2, X3, X4⟩, St, Sf, Has, Har⟩ Hout ⟨Xs, P0, P1, Hrng⟩
  ihave P0 := hp0 $$ P0
  ihave P1 := hp1 $$ P1
  imod ha $$ HI [Hend P0 P1 Ham Had] with Hz
  · isplitl [Hend]; · iexact Hend
    isplitl [P0 P1]
    · isplitl [P0]; · iexact P0
      iexact P1
    isplitl [Ham]; · iexact Ham
    iexact Had
  imod hb $$ HI Hbar with Hb
  imodintro
  ihave Hx := hx $$ [X1 X2 X3 X4 Xs Hxp]
  · isplitl [X1 X2 X3 X4]
    · isplitl [X1]; · iexact X1
      isplitl [X2]; · iexact X2
      isplitl [X3]; · iexact X3
      iexact X4
    isplitl [Xs]; · iexact Xs
    iexact Hxp
  unfold bodyPost phi1 scr semsZ
  isplitl [St Sf Has Har Hrng Hz Hb]
  · isplitl [St Sf Has Har]
    · isplitl [St]; · iapply ht; iexact St
      isplitl [Sf]; · iapply hf; iexact Sf
      isplitl [Has]; · iapply has; iexact Has
      iexists (tab (xsM m) (wsM m)); iexact Har
    isplitl [Hrng]; · iexact Hrng
    isplitl [Hz]; · iexact Hz
    iexact Hb
  isplitl [HO]; · iapply ho; iexact HO
  isplitl [Hid]
  · iexists _; isplitr; · (ipureintro; rfl)
    iexact Hid
  isplitl [Hx]
  · iexists _; isplitr; · (ipureintro; rfl)
    iexact Hx
  isplitl [Hw]
  · iexists _; isplitr; · (ipureintro; rfl)
    iexact Hw
  iexists _; isplitr; · (ipureintro; rfl)
  iexact Hout

/-- The body at the grid's one point. -/
theorem body_run (c : Dev nD) : bodyPre m c ⊢ wp frame (wpE (defs₀ (F := F)) 𝒱₀ (c : Thread nD τ) none) Set.univ
    (cc0_body idM (Memref.isWhole_whole _) xM (Memref.isWhole_whole _) wM (Memref.isWhole_whole _) oM (Memref.isWhole_whole _) (Memref.whole cc0_scratch0) (Memref.isWhole_whole _) (Memref.whole cc0_scratch1) (Memref.isWhole_whole _) asM (Memref.isWhole_whole _) arM (Memref.isWhole_whole _)
      cc0_scratch4 cc0_scratch5 cc0_scratch6 cc0_scratch7 cc0_scratch8 cc0_scratch9 cc0_scratch10 cc0_scratch11) (fun _ => bodyPost m c) := by
  refine BIBase.Entails.trans ?_ (wp_fupd _ _ _ _ _)
  have ho := TalkSites.owesAt_elim (dat m c) 0 t0_0.castSucc (O0 c) rfl
  have hid : (iprop(∃ d, stg c cc0_stg0_0 ((dat m c).before (0 : Fin 4) t0_0 d)) : sProp 𝕄) ⊢ idP c := by
    unfold idP
    iintro ⟨%d, %f, %hf, H⟩
    rw [before0] at hf; subst hf; iexact H
  have hx : (iprop(∃ d, stg c cc0_stg1_0 ((dat m c).before (1 : Fin 4) t0_0 d)) : sProp 𝕄) ⊢ iprop(xM.view.loc (c : Thread nD τ) ↦[Finset.univ]{fullShare} xsM m c) := by
    iintro ⟨%d, %f, %hf, H⟩
    rw [before1] at hf; subst hf; iexact H
  have hw : (iprop(∃ d, stg c cc0_stg2_0 ((dat m c).before (2 : Fin 4) t0_0 d)) : sProp 𝕄) ⊢ wP (wsM m) c := by
    unfold wP
    iintro ⟨%d, %f, %hf, H⟩
    rw [before2] at hf; subst hf; iexact H
  unfold bodyPre phi0 XK scr
  iintro ⟨⟨⟨⟨%K, #HI⟩, HG⟩, ⟨⟨%f0, S0⟩, ⟨%f1, S1⟩, ⟨%f2, S2⟩, ⟨%f3, S3⟩⟩, Hrng⟩, HO, Hid, Hx, Hw, ⟨%d3, %g3, -, Hout⟩⟩
  ihave HO := ho $$ HO
  icases HO with ⟨%W, HO⟩
  ihave Hid := hid $$ Hid
  ihave Hx := hx $$ Hx
  ihave Hw := hw $$ Hw
  ihave S0 := (show (iprop(((c : Thread nD τ).loc cc0_scratch0) ↦{fullShare} f0) : sProp 𝕄) ⊢ iprop((commM true).view.loc (c : Thread nD τ) ↦[Finset.univ]{fullShare} f0) from .rfl) $$ S0
  ihave S1 := (show (iprop(((c : Thread nD τ).loc cc0_scratch1) ↦{fullShare} f1) : sProp 𝕄) ⊢ iprop((commM false).view.loc (c : Thread nD τ) ↦[Finset.univ]{fullShare} f1) from .rfl) $$ S1
  ihave HP := (pre_start (xsM m) (wsM m) c W g3 f0 f1 f2 f3) $$ HG HO Hid Hw Hx Hout S0 S1 S2 S3
  icases HP with ⟨HP, Xs, P0, P1⟩
  iapply (body (xsM m) (wsM m) K c) $$ HI HP
  iintro HM Ho
  iapply (body_end m c K) $$ HI HM Ho
  isplitl [Xs]; · iexact Xs
  isplitl [P0]; · iexact P0
  isplitl [P1]; · iexact P1
  iexact Hrng

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem body_obligation (c : Dev nD) : BodyObligation (dats (F := F) m 0 c) (defs₀ (F := F)) 𝒱₀ 0 Set.univ := fun t => by
  rw [fin_N0 t]
  rw [bigSep_W, bigSep_W]
  simp only [owns_whole_eq]
  exact body_run m c

end Cert.RingGemm

end
-- ==== Proof.Run.lean ====
/-
The kernel as an item of the program, the launch, and the run of the whole program.
-/
module

public import proofs.«01_k».proof.Proof.Launch
public import Idealize.ShloMosaic.Lib.Pipeline.RegionTalk

@[expose] public section

set_option maxHeartbeats 1000000
set_option maxRecDepth 8000

noncomputable section

namespace Cert.RingGemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.TalkSites (Pay Pay.tally tallyL tallyL_pos cred_tallyL Fam)
open Idealize.ShloMosaic.SiteBlocks (L lv Funds)
open Idealize.ShloMosaic.Pipeline (Dat BodyObligation)

variable (m : (ℓ : Loc nD τ sig) → Buf (Elt F) ℓ) (ρ : Dev nD → PrngReg)

/-! ## The kernel as one item of the program -/

/-- What rides with a device from the program's launch to the kernel. -/
def Tk (c : Dev nD) : sProp 𝕄 :=
  iprop(fam.barPos ER (Rd (xsM m) (wsM m)) c 0 Finset.univ ∗ fam.rides ER (Rd (xsM m) (wsM m)) c 0 ∗ Pipeline.launchCred (O0) c)

theorem k_open (c : Dev nD) : iprop(Tk m c ∗ Pipeline.ownSems0 osem c ∗ levAts (L NL) lv) ⊢ (|={Set.univ}=> XK m c : sProp 𝕄) := by
  have hc := credit (F := F) c
  have ht := toks_all (F := F) c
  unfold Tk Fam.barPos Fam.rides XK startG
  iintro ⟨⟨⟨⟨%K, #HI⟩, Hat, #Hr⟩, ⟨-, Ho, Ht⟩, Hcr⟩, Hs, #HL⟩
  have hI : iprop(fam.cellInvs ER (Rd (xsM m) (wsM m)) K ∗ levAts (L NL) lv) ⊢ INV (xsM m) (wsM m) K := by unfold INV; exact .rfl
  ihave #HV := hI $$ [HI HL]
  · isplitr; · iexact HI
    iexact HL
  have ho : INV (xsM m) (wsM m) K ⊢ iprop((bigSep (fam.dorm 0) fun sm => openTok ER ((c.tc : Thread nD τ), sm)) -∗ Pipeline.ownSems0 osem c -∗ |={Set.univ}=> (bigSepL startK (posn c) ∗ RCH c)) :=
    open_all (xsM m) (wsM m) K c
  imod ho $$ HV Ho Hs with ⟨Hp, #HR⟩
  imodintro
  isplitr; · iexists K; iexact HV
  isplitl [Ht]; · iapply ht; iexact Ht
  isplitl [Hcr]; · iapply hc; iexact Hcr
  isplitl [Hat]; · iexact Hat
  isplitl [Hp]; · iexact Hp
  isplitr; · iexact HR
  iexact Hr

theorem kit_facts : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem above_all : ∀ κ ∈ dueK, 0 < lvlK κ ∧ lvlK κ < NL := by decide +kernel

theorem owed_or (c : Dev nD) (t : Fin (cfg0.N + 1)) : (dat m c).owed t = O0 c ∨ (dat m c).owed t = 0 := by
  rcases t with ⟨_ | n, h⟩
  · exact .inl rfl
  · exact .inr rfl

/-- Everything that a device owes lies above the level at which the pipeline waits for its own copies. -/
theorem cut_owed (c : Dev nD) (t : Fin ((Pipeline.pin (pcfgs (F := F)) adm 0).N + 1)) (g : GSem nD τ sig) (i : ℕ) (h : 0 < (dats (F := F) m 0 c).owed t g i) :
    i ∈ L NL g ∧ 0 < lv g i := by
  have h : 0 < (dat m c).owed t g i := h
  rcases owed_or m c t with e | e
  · rw [e] at h
    obtain ⟨x, hx, rfl, rfl⟩ := tallyL_pos h
    obtain ⟨κ, hκ, rfl⟩ := List.mem_map.mp hx
    exact ⟨SiteBlocks.mem_L' rfl (above_all κ hκ).2, (above_all κ hκ).1⟩
  · rw [e] at h; exact absurd h (Nat.lt_irrefl 0)

/-- The unscoped buffers that the kernel's windows do not name. -/
abbrev restR : Finset (DevRef τ sig) := Pipeline.ucRefs τ sig \ Pipeline.arrRefs (τ := τ) spec0

theorem v52_arr : (Proc.devRef .tc main_v52 : DevRef τ sig) ∈ Pipeline.arrRefs (τ := τ) spec0 :=
  Finset.mem_map_of_mem _ (Finset.mem_image_of_mem (Pipeline.arrRef spec0) (Finset.mem_univ (3 : Fin 4)))

theorem v10_rest (c : Dev nD) (b : DevRef τ sig) (hb : b ∉ Pipeline.arrRefs (τ := τ) spec0) : V10 m (outsM m) c b = V9 m c b :=
  Function.update_of_ne (fun h => hb (by rw [h]; exact v52_arr)) _ _

theorem v10_v52 (c : Dev nD) : V10 m (outsM m) c main_v52 = resV (xsM m) (wsM m) c :=
  (Function.update_self _ _ _).trans (outs_v52 m c)

theorem arr_end (c : Dev nD) : ∀ w : Fin 4, (dats (F := F) m 0 c).arrAt w cfg0.N = V10 m (outsM m) c (Proc.devRef .tc (Pipeline.arrRef spec0 w)) := by
  intro w
  fin_cases w
  · exact ((dat m c).arrAt_in (0 : Fin 4) rfl _).trans (V10_of m (outsM m) c main_v51 (by decide)).symm
  · exact ((dat m c).arrAt_in (1 : Fin 4) rfl _).trans (V10_of m (outsM m) c main_arg0 (by decide)).symm
  · exact ((dat m c).arrAt_in (2 : Fin 4) rfl _).trans (V10_of m (outsM m) c main_arg1 (by decide)).symm
  · exact (final3 m c).trans (v10_v52 m c).symm

theorem k_in (c : Dev nD) : iprop(Pipeline.scopedRest (Pipeline.pin (pcfgs (F := F)) adm 0).spec c ∗ (∃ r, prngReg c r) ∗ StableHlo.held (c.tc : Thread nD τ) ∅ (V9 m c) ∗ XK m c)
    ⊢ (dats m 0 c).Φ 0 := by
  have hs : Pipeline.scopedRest (Pipeline.pin (pcfgs (F := F)) adm 0).spec c ⊢ (scr c : sProp 𝕄) := BIBase.Entails.of_eq (scopedRest0_eq c)
  show _ ⊢ phi0 m c
  unfold phi0
  iintro ⟨Hs, Hr, -, HX⟩
  isplitl [HX]; · iexact HX
  isplitl [Hs]; · iapply hs; iexact Hs
  iexact Hr

theorem k_out (c : Dev nD) : (dats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V10 m (outsM m) c)
      ∗ Pipeline.ownSems0 osem c ∗ semVal (barCell c) 0) := by
  have hs : (scr c : sProp 𝕄) ⊢ Pipeline.scopedRest (Pipeline.pin (pcfgs (F := F)) adm 0).spec c := BIBase.Entails.of_eq (scopedRest0_eq c).symm
  have hz : (semsZ c : sProp 𝕄) ⊢ Pipeline.ownSems0 osem c := .rfl
  have h0 : (iprop(emp) : sProp 𝕄) ⊢ StableHlo.held (c.tc : Thread nD τ) ∅ (V10 m (outsM m) c) := by
    unfold StableHlo.held; rw [bigSep_empty]; exact .rfl
  show phi1 c ⊢ _
  unfold phi1
  iintro ⟨Hs, Hr, Hz, Hb⟩
  isplitl [Hs]; · iapply hs; iexact Hs
  isplitl [Hr]; · iexact Hr
  isplitr; · iapply h0; iempintro
  isplitl [Hz]; · iapply hz; iexact Hz
  iexact Hb

set_option backward.isDefEq.respectTransparency.types false in
/-- The kernel as a segment of the program. -/
def reg : Pipeline.RegionSeg (pcfgs (F := F)) adm (dats m) 0 defs₀ 𝒱₀ (L NL) lv 0 :=
  Pipeline.RegionSeg.ofTalk (pcfgs (F := F)) adm (dats m) 0 defs₀ 𝒱₀ (L NL) lv 0 osem (by decide +kernel : Pipeline.OwnSemFacts spec0 osem)
    ∅ restR (Finset.empty_subset _) kit_facts rfl (fun c => (body_obligation m c).loose)
    (fun _ => 0) O0 (fun _ => (zero_add _).symm) (fun _ => rfl) (fun _ => rfl) (fun c w => share_eq m c w)
    (V9 m) (V10 m (outsM m)) (fun c b hb => v10_rest m c b (Finset.mem_sdiff.mp (Finset.mem_sdiff.mp hb).1).2)
    (Tk m) (fun c => semVal (barCell c) 0) (XK m) (fun c => semVal (barCell c) 0) (k_open m) (k_in m) (k_out m)
    (fun c => by iintro H; imodintro; iexact H)
    (fun _ => 0)
    ⟨fun c w s => SiteBlocks.mem_L' rfl (by decide), fun c w s => le_refl _, fun c t g i h => cut_owed m c t g i h⟩
    (fun _ => iprop(emp))
    (fun c w => rfl) (fun c w => arr_end m c w)

/-- What a device holds beside its buffers, before the kernel and after it. -/
def E (i : Fin 2) (c : Dev nD) : sProp 𝕄 := match i with
  | 0 => iprop(Tk m c ∗ (∃ r, prngReg c r) ∗ ∃ W, owes (c : Thread nD τ) (O0 c) W)
  | 1 => iprop(semVal (barCell c) 0 ∗ ∃ W, owes (c : Thread nD τ) 0 W)

theorem arr_sub : Pipeline.arrRefs (τ := τ) spec0 ⊆ Pipeline.ucRefs τ sig := Pipeline.arrRefs_sub_ucRefs spec0 (by decide)

theorem reg_pre (c : Dev nD) : iprop(StableHlo.held (c : Thread nD τ) (Pipeline.ucRefs τ sig) (V9 m c) ∗ E m 0 c) ⊢ (reg m).pre c := by
  show _ ⊢ iprop(StableHlo.held (c.tc : Thread nD τ) (Pipeline.arrRefs (τ := τ) spec0) (V9 m c) ∗ (∃ r, prngReg c r)
    ∗ (StableHlo.held (c.tc : Thread nD τ) restR (V9 m c) ∗ emp) ∗ Tk m c ∗ ∃ Wd, owes (c : Thread nD τ) (0 + O0 c) Wd)
  rw [StableHlo.held_sub_split (c.tc : Thread nD τ) arr_sub (V9 m c), zero_add]
  unfold E
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) (Pipeline.ucRefs τ sig) (V10 m (outsM m) c) ∗ E m 1 c) := by
  show iprop(StableHlo.held (c.tc : Thread nD τ) (Pipeline.arrRefs (τ := τ) spec0) (V10 m (outsM m) c) ∗ (∃ r, prngReg c r)
    ∗ (StableHlo.held (c.tc : Thread nD τ) restR (V10 m (outsM m) c) ∗ emp) ∗ semVal (barCell c) 0 ∗ ∃ Wd, owes (c : Thread nD τ) 0 Wd) ⊢ _
  rw [StableHlo.held_sub_split (c.tc : Thread nD τ) arr_sub (V10 m (outsM m) c)]
  unfold E
  iintro ⟨Ha, -, ⟨Hr, -⟩, Hb, HO⟩
  isplitl [Ha Hr]
  · isplitl [Ha]; · iexact Ha
    iexact Hr
  isplitl [Hb]; · iexact Hb
  iexact HO

/-! ## The launch -/

theorem unscoped_bar (c : Dev nD) : (unscopedSems0 c : sProp 𝕄) = semVal (barCell c) 0 := by
  unfold unscopedSems0
  rw [show (Finset.univ.filter fun sm : SemLoc sig => ¬ sm.isScoped .tc) = {SemLoc.reg ⟨4, by decide⟩} from by decide, BI.bigSep_singleton]
  rfl

theorem unscoped_one : ∀ sm : SemLoc sig, sm.isScoped .tc = false → sm = .reg ⟨4, by decide⟩ := by decide

/-- The launch's ghost element. -/
def u0 : UU := (initOf (Pipeline.cells cfgs cellOf_inj) (Pipeline.launchToks cfgs cellOf_inj), launchOf fam.S fam.Sd fam.T)

/-- The protocol's share of it, held by one device until the launch deals it out. -/
def G0 (c : Dev nD) : sProp 𝕄 := if c = 0 then BI.own (ER (launchOf fam.S fam.Sd fam.T)) else iprop(emp)

theorem g0_all : bigSep Finset.univ (G0 (F := F)) = (BI.own (ER (launchOf fam.S fam.Sd fam.T)) : sProp 𝕄) := by
  rw [bigSep_univ_at _ (0 : Dev nD), bigSep_congr (s := Finset.univ.erase (0 : Dev nD)) (Ψ := fun _ => (BI.emp : sProp 𝕄))
    fun c hc => by unfold G0; rw [if_neg (Finset.ne_of_mem_erase hc)]; rfl, BI.bigSep_emp_const]
  unfold G0
  rw [if_pos rfl]
  exact BI.equiv_iff.mp sep_emp

theorem funded : Funds ER (fun c : Dev nD => (semVal (barCell c) 0 : sProp 𝕄)) (fun d => 0 + O0 d) (launchOf fam.S fam.Sd fam.T)
    (fun c => iprop(Pipeline.launchCred O0 c ∗ fam.launched ER (Rd (xsM m) (wsM m)) (fun _ => Finset.univ) c)) Set.univ :=
  TalkSites.pass O0 (fam.funds ER (Rd (xsM m) (wsM m)) (fun g _ h => h) (fun _ => Finset.univ))

theorem deal : iprop((bigSep Finset.univ fun c : Dev nD => iprop(unscopedSems0 c ∗ owes (c : Thread nD τ) (O0 c) ∅ ∗ Pipeline.launchCred O0 c ∗ prngReg c (ρ c) ∗ G0 c)) ∗ levAts (L NL) lv)
    ⊢ (|={Set.univ}=> bigSep Finset.univ (E m 0) : sProp 𝕄) := by
  have hf := funded (F := F) m
  have e0 : (fun d : Dev nD => (0 : CellTallies nD τ sig ℕ) + O0 d) = O0 := funext fun d => zero_add _
  rw [e0] at hf
  unfold Funds at hf
  have h1 : (bigSep Finset.univ fun c : Dev nD => iprop(unscopedSems0 c ∗ owes (c : Thread nD τ) (O0 c) ∅ ∗ Pipeline.launchCred O0 c ∗ prngReg c (ρ c) ∗ G0 c))
      ⊢ (iprop((bigSep Finset.univ fun c : Dev nD => iprop(semVal (barCell c) 0 ∗ Pipeline.launchCred O0 c)) ∗ (bigSep Finset.univ fun c : Dev nD => G0 c)
        ∗ (bigSep Finset.univ fun c : Dev nD => iprop((∃ r, prngReg c r) ∗ ∃ W, owes (c : Thread nD τ) (O0 c) W))) : sProp 𝕄) := by
    rw [← bigSep_sep', ← bigSep_sep']
    refine bigSep_mono fun c _ => ?_
    have hc : iprop(semVal (barCell c) 0 ∗ owes (c : Thread nD τ) (O0 c) ∅ ∗ Pipeline.launchCred O0 c ∗ prngReg c (ρ c) ∗ G0 c)
        ⊢ (iprop((semVal (barCell c) 0 ∗ Pipeline.launchCred O0 c) ∗ G0 c ∗ ((∃ r, prngReg c r) ∗ ∃ W, owes (c : Thread nD τ) (O0 c) W)) : sProp 𝕄) := by
      iintro ⟨Hb, HO, Hc, Hp, HG⟩
      isplitl [Hb Hc]
      · isplitl [Hb]; · iexact Hb
        iexact Hc
      isplitl [HG]; · iexact HG
      isplitl [Hp]; · iexists (ρ c); iexact Hp
      iexists ∅; iexact HO
    rw [unscoped_bar]
    exact hc
  have h2 (c : Dev nD) : iprop((Pipeline.launchCred O0 c ∗ fam.launched ER (Rd (xsM m) (wsM m)) (fun _ => Finset.univ) c) ∗ ((∃ r, prngReg c r) ∗ ∃ W, owes (c : Thread nD τ) (O0 c) W))
      ⊢ E m 0 c := by
    have e : (bigSep Finset.univ fun j : Fin 1 => fam.rides ER (Rd (xsM m) (wsM m)) c j) ⊢ fam.rides ER (Rd (xsM m) (wsM m)) c 0 := bigSep_elim (Finset.mem_univ 0)
    unfold E Tk Fam.launched
    iintro ⟨⟨Hc, Hb, Hr⟩, Hp, HO⟩
    isplitl [Hc Hb Hr]
    · isplitl [Hb]; · iexact Hb
      isplitl [Hr]; · iapply e; iexact Hr
      iexact Hc
    isplitl [Hp]; · iexact Hp
    iexact HO
  have hg := BIBase.Entails.of_eq (g0_all (F := F))
  have h3 : iprop((bigSep Finset.univ fun c : Dev nD => iprop(Pipeline.launchCred O0 c ∗ fam.launched ER (Rd (xsM m) (wsM m)) (fun _ => Finset.univ) c))
      ∗ (bigSep Finset.univ fun c : Dev nD => iprop((∃ r, prngReg c r) ∗ ∃ W, owes (c : Thread nD τ) (O0 c) W))) ⊢ bigSep Finset.univ (E m 0) := by
    rw [← bigSep_sep']
    exact bigSep_mono fun c _ => h2 c
  iintro ⟨H, -⟩
  ihave H := h1 $$ H
  icases H with ⟨Hs, HG, HR⟩
  ihave HG := hg $$ HG
  imod hf $$ [Hs HG] with HL
  · isplitl [Hs]; · iexact Hs
    iexact HG
  imodintro
  iapply h3
  isplitl [HL]; · iexact HL
  iexact HR

set_option backward.isDefEq.respectTransparency.types false in
/-- THE RUN: on every device the result is what the schedule says, the arguments are unchanged, and every semaphore of the machine ends at zero. -/
theorem run_main : θ_run defs (onTc (τ := τ) (main (F := F))) ⟨m, fun _ => 0, ρ⟩ (fun r => (∀ c : Dev nD,
      r.2.mem ((c.tc : Thread nD τ).loc main_v52) = resV (xsM m) (wsM m) c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_regions_kit_dev_sems (pcfgs (F := F)) adm (dats m) 0 cellOf_inj EP defs₀ 𝒱₀ (L NL) lv m ρ main
    (segs m 𝒱₀ (L NL) lv (E m) 0 (dats m) (reg m))
    (fun c Q => by
      rewrite [main_chain c, Pipeline.Seg.run_eq_chain,
        show (segs m 𝒱₀ (L NL) lv (E m) 0 (dats m) (reg m) c).map Pipeline.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O0 (SiteBlocks.hL NL) G0 u0 ?_
    (T₀ := fun c => iprop(StableHlo.held (c : Thread nD τ) (Pipeline.ucRefs τ sig) (V0 m c) ∗ E m 0 c))
    (Tₙ := fun c => iprop(StableHlo.held (c : Thread nD τ) (Pipeline.ucRefs τ sig) (V10 m (outsM m) c) ∗ semVal (barCell c) 0))
    (hch := fun c => ⟨.rfl, .rfl, .rfl, .rfl, .rfl, .rfl, .rfl, .rfl, .rfl, reg_pre m c, (reg_post m c).trans ?_⟩)
    (hinit := ?_) (QY := fun c s => (s.mem ((c.tc : Thread nD τ).loc main_v52) = resV (xsM m) (wsM m) c
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (barCell c) = 0)
    (hfin := fun c s' => ?_)
    (hQ := fun s h hs => ⟨fun c => (h c).1, sem_eq_zero hs fun c sm hsm => by obtain rfl := unscoped_one sm hsm; exact (h c).2⟩)
  · unfold u0
    iintro Hu
    ihave H := (ownU_pair _ _) $$ Hu
    icases H with ⟨HP, HX⟩
    imodintro
    isplitl [HP]; · iexact HP
    rw [g0_all]; iexact HX
  · unfold E
    iintro ⟨Hh, Hb, HO⟩
    isplitl [Hh Hb]
    · isplitl [Hh]; · iexact Hh
      iexact Hb
    iexact HO
  · have hsplit : (bigSep Finset.univ fun c : Dev nD => iprop(unscopedBufs c (fun b => m ((c.tc : Thread nD τ).loc b)) ∗ unscopedSems0 c
          ∗ owes (c.tc : Thread nD τ) (O0 c) ∅ ∗ Pipeline.launchCred O0 c ∗ prngReg c (ρ c) ∗ G0 c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O0 c) ∅ ∗ Pipeline.launchCred O0 c ∗ prngReg c (ρ c) ∗ G0 c)) : sProp 𝕄) := by
      rw [← bigSep_sep']
      exact bigSep_mono fun c _ => by rw [← Pipeline.unscopedBufs_held (Ix := ℕ) (Name := ℕ) (U := UU) (Lvl := ℕ) c (V0 m c)]; exact BI.Entails.refl _
    have hd := deal (F := F) m ρ
    iintro ⟨H, Hla⟩
    ihave H' := hsplit $$ H
    icases H' with ⟨Hh, Hr⟩
    imod hd $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V10 m (outsM m) c) s') $$ [Hh HSI]
    · isplitl [Hh] <;> iassumption
    icases Hr with ⟨%h, HSI⟩
    imodintro
    isplitr
    · ipureintro
      exact ⟨⟨(h (Proc.devRef .tc main_v52) (Finset.mem_filter.mpr ⟨StableHlo.devRef_mem_tcRefs main_v52, by decide⟩)).trans (v10_v52 m c),
        (h (Proc.devRef .tc main_arg0) (Finset.mem_filter.mpr ⟨StableHlo.devRef_mem_tcRefs main_arg0, by decide⟩)).trans (V10_main_arg0 m (outsM m) c),
        (h (Proc.devRef .tc main_arg1) (Finset.mem_filter.mpr ⟨StableHlo.devRef_mem_tcRefs main_arg1, by decide⟩)).trans (V10_main_arg1 m (outsM m) c)⟩,
        by simpa using hb⟩
    · iexact HSI

end Cert.RingGemm

end
-- ==== Proof.Same.lean ====
/- The program as printed for the words of its floats and the one printed for the reals are the same text. This
   module says so of the two: the bodies the labels run, and the host's program around the call. -/
module

public import proofs.«01_k».proof.Proof.Gen.Kernel.Regions
public import proofs.«01_k».proof.Proof.Gen.KernelIdeal.Regions

@[expose] public section

set_option maxHeartbeats 2000000
set_option maxRecDepth 8000

noncomputable section

namespace Cert.RingGemm.Same

open Idealize.ShloMosaic Idealize.ShloMosaic.TcCoe Idealize.SL.Sem

variable {F : FTy → Type} [FloatOps F]

/-- What the first program asks of the devices' names. -/
abbrev hK : Cert.Kernel.Facts := Cert.Kernel.Gen.facts
/-- What the second program asks of the devices' names. -/
abbrev hI : Cert.KernelIdeal.Facts := Cert.KernelIdeal.Gen.facts

/-- The two bodies are one program. -/
theorem body_eq : @Cert.Kernel.cc0_body F _ hK = @Cert.KernelIdeal.cc0_body F _ hI := rfl

/-- So the two tables of bodies are one. -/
theorem defs₀_eq : @Cert.Kernel.defs₀ F _ hK = @Cert.KernelIdeal.defs₀ F _ hI := by
  unfold Cert.Kernel.defs₀ Cert.KernelIdeal.defs₀
  refine congrArg (Defs.onTc (nD := Cert.Kernel.nD) (sig := Cert.Kernel.sig) (Val := Elt F)) ?_
  funext l a
  rcases l with ⟨_ | n, h⟩
  · obtain ⟨t, s⟩ := a
    simp only [body_eq]
  · exact absurd h (Nat.not_lt.2 (Nat.le_add_left _ _))

/-- So are the two tables with the pipeline's own labels. -/
theorem defs_eq : @Cert.Kernel.defs F _ hK = @Cert.KernelIdeal.defs F _ hI :=
  congrArg (Pipeline.defs (Cert.KernelIdeal.pcfgs (F := F))) defs₀_eq

/-- The host's operations of this stretch are the same. -/
theorem hostOps0_eq (c : Dev Cert.Kernel.nD) : (Cert.Kernel.Gen.hostOps0 c : List (HloOp Cert.Kernel.τ Cert.Kernel.sig (Elt F))) = Cert.KernelIdeal.Gen.hostOps0 c := rfl
/-- The host's operations of this stretch are the same. -/
theorem hostOps0_1_eq : (Cert.Kernel.Gen.hostOps0_1 : List (HloOp Cert.Kernel.τ Cert.Kernel.sig (Elt F))) = Cert.KernelIdeal.Gen.hostOps0_1 := rfl
/-- The host's operations of this stretch are the same. -/
theorem hostOps0_2_eq : (Cert.Kernel.Gen.hostOps0_2 : List (HloOp Cert.Kernel.τ Cert.Kernel.sig (Elt F))) = Cert.KernelIdeal.Gen.hostOps0_2 := rfl
/-- The host's operations of this stretch are the same. -/
theorem hostOps0_3_eq : (Cert.Kernel.Gen.hostOps0_3 : List (HloOp Cert.Kernel.τ Cert.Kernel.sig (Elt F))) = Cert.KernelIdeal.Gen.hostOps0_3 := rfl
/-- The host's operations of this stretch are the same. -/
theorem hostOps0_4_eq : (Cert.Kernel.Gen.hostOps0_4 : List (HloOp Cert.Kernel.τ Cert.Kernel.sig (Elt F))) = Cert.KernelIdeal.Gen.hostOps0_4 := rfl
/-- The host's operations of this stretch are the same. -/
theorem hostOps0_5_eq : (Cert.Kernel.Gen.hostOps0_5 : List (HloOp Cert.Kernel.τ Cert.Kernel.sig (Elt F))) = Cert.KernelIdeal.Gen.hostOps0_5 := rfl
/-- The host's operations of this stretch are the same. -/
theorem hostOps0_6_eq : (Cert.Kernel.Gen.hostOps0_6 : List (HloOp Cert.Kernel.τ Cert.Kernel.sig (Elt F))) = Cert.KernelIdeal.Gen.hostOps0_6 := rfl
/-- The host's operations of this stretch are the same. -/
theorem hostOps0_7_eq : (Cert.Kernel.Gen.hostOps0_7 : List (HloOp Cert.Kernel.τ Cert.Kernel.sig (Elt F))) = Cert.KernelIdeal.Gen.hostOps0_7 := rfl
/-- The host's operations of this stretch are the same. -/
theorem hostOps0_8_eq : (Cert.Kernel.Gen.hostOps0_8 : List (HloOp Cert.Kernel.τ Cert.Kernel.sig (Elt F))) = Cert.KernelIdeal.Gen.hostOps0_8 := rfl

/-- The host's program is the same on every device. -/
theorem main_eq : @Cert.Kernel.main F hK = @Cert.KernelIdeal.main F hI := by
  funext c
  refine (Cert.Kernel.Gen.main_chain c).trans (Eq.trans ?_ (Cert.KernelIdeal.Gen.main_chain c).symm)
  simp only [hostOps0_eq, hostOps0_1_eq, hostOps0_2_eq, hostOps0_3_eq, hostOps0_4_eq, hostOps0_5_eq, hostOps0_6_eq, hostOps0_7_eq, hostOps0_8_eq]

/-- So a run of the one is a run of the other. -/
theorem run_eq (σ : MemSt Cert.KernelIdeal.nD Cert.KernelIdeal.τ Cert.KernelIdeal.sig (Elt F))
    (Q : PUnit × MemSt Cert.KernelIdeal.nD Cert.KernelIdeal.τ Cert.KernelIdeal.sig (Elt F) → Prop) :
    θ_run (@Cert.Kernel.defs F _ hK) (onTc (τ := Cert.Kernel.τ) (@Cert.Kernel.main F hK)) σ Q
      = θ_run (@Cert.KernelIdeal.defs F _ hI) (onTc (τ := Cert.KernelIdeal.τ) (@Cert.KernelIdeal.main F hI)) σ Q :=
  congrArg₂ (fun D M => θ_run D (onTc (τ := Cert.KernelIdeal.τ) M) σ Q) defs_eq main_eq

end Cert.RingGemm.Same

end
-- ==== Proof.Value.lean ====
/- What the kernel leaves, read over the reals: with device `d` holding block `d` of the rows of an array X and block `d` of the
   columns of an array W, every device leaves its block of columns of the quantised product of the two. The running maxima are
   read by their upper bounds: a number bounds the largest entry if and only if it bounds every entry. -/
module

public import proofs.«01_k».proof.Proof.Body8
public import Idealize.ShloMosaic.PureOps.Ideal.Laws
public import Idealize.ShloMosaic.Lib.MatmulPlain
public import Idealize.ShloMosaic.Lib.Layout
public import Idealize.ShloMosaic.Lib.Pipeline.Value

@[expose] public section

set_option maxHeartbeats 1000000

noncomputable section

namespace Cert.RingGemm

open Cert.KernelIdeal Cert.KernelIdeal.Gen
open Idealize.ShloMosaic
open Idealize.ShloMosaic.TcCoe
open Idealize.ShloMosaic.ValueIdx
open scoped BigOperators

/-! ## The largest entry, by its upper bounds -/

/-- The word a maximum starts from is below everything. -/
theorem ofBits_bot : Ideal.ofBits .f32 0xFF800000#32 = (⊥ : EReal) := by simp [Ideal.ofBits, Ideal.ieee]

/-- A number bounds a maximum over every axis just when it bounds every entry. -/
theorem multi_le {s t : Shape} {axes : List (Fin s.rank)} (src : FVec Ideal s .f32) (h : s.Reduces axes t) (hφ : FKind.Formats .f32)
    (hacc : (0xFF800000#32 : BitVec 32) = FKind.maximumf.neutral .f32 hφ) (ht : ∀ b, t.size b = 1) (j : t.Idx) (v : EReal) :
    (multiReduction .maximumf axes t src 0xFF800000#32 h hφ hacc j : EReal) ≤ v ↔ ∀ i, (src i : EReal) ≤ v := by
  rw [multiReduction_maximumf_eq_fold]
  refine (Finset.fold_max_le (f := fun i => (src i : EReal)) v).trans ⟨fun H i => H.2 i ?_, fun H => ⟨?_, fun i _ => H i⟩⟩
  · refine Finset.mem_filter.2 ⟨Finset.mem_univ _, funext fun b => Fin.ext ?_⟩
    have h1 := (h.drop i b).isLt; have h2 := (j b).isLt; have h3 := ht b; omega
  · exact (le_of_eq ofBits_bot).trans bot_le

/-- A reshaped array has the entries of the array. -/
theorem cast_all {s t : Shape} {α : Type} (x : s.Idx → α) (h : s.ShapeCasts t) (P : α → Prop) : (∀ i, P (shapeCast t x h i)) ↔ ∀ j, P (x j) :=
  ⟨fun H j => by have := H ((Shape.reshapeEquiv h).symm j); unfold shapeCast at this; rwa [Equiv.apply_symm_apply] at this, fun H i => H _⟩

/-- A block's maximum. -/
theorem bmax_le (b : FVec Ideal S128x256 .f32) (v : EReal) : (bmax b : EReal) ≤ v ↔ ∀ j, (b j : EReal) ≤ v := by
  unfold bmax extractAt shapeCast
  refine (multi_le _ _ _ _ (fun b => by fin_cases b; rfl) _ v).trans ?_
  exact cast_all (α := EReal) b shapeCasts_S128x256_S1x128x256 (· ≤ v)

variable (xs : Dev nD → (S128x4096.Idx → Elt Ideal .f32)) (ws : Dev nD → (S4096x256.Idx → Elt Ideal .f32))

/-- The running maximum bounds the blocks met so far. -/
theorem acc_le (c : Dev nD) (v : EReal) : ∀ n : ℕ, (acc xs ws c n : EReal) ≤ v ↔
    (∀ h ≤ n, ∀ j, (blk xs ws c (org true h c) j : EReal) ≤ v) ∧ ∀ h ≤ n, ∀ j, (blk xs ws c (org false h c) j : EReal) ≤ v
  | 0 => by
    have e : (acc xs ws c 0 : EReal) = bmax (blk xs ws c c) := rfl
    rw [e, bmax_le]
    constructor
    · intro H
      refine ⟨fun h hh j => ?_, fun h hh j => ?_⟩ <;>
      · obtain rfl := Nat.le_zero.1 hh
        rw [org_zero]; exact H j
    · intro H j; have := H.1 0 (Nat.le_refl 0) j; rwa [org_zero] at this
  | n + 1 => by
    have e : (acc xs ws c (n + 1) : EReal) = max (max (acc xs ws c n : EReal) (bmax (blk xs ws c (org true (n + 1) c)))) (bmax (blk xs ws c (org false (n + 1) c))) := rfl
    rw [e, max_le_iff, max_le_iff, bmax_le, bmax_le, acc_le c v n]
    constructor
    · rintro ⟨⟨⟨h1, h2⟩, h3⟩, h4⟩
      refine ⟨fun h hh => ?_, fun h hh => ?_⟩
      · rcases Nat.le_succ_iff.1 hh with g | rfl
        · exact h1 h g
        · exact h3
      · rcases Nat.le_succ_iff.1 hh with g | rfl
        · exact h2 h g
        · exact h4
    · rintro ⟨h1, h2⟩
      exact ⟨⟨⟨fun h hh => h1 h (Nat.le_succ_of_le hh), fun h hh => h2 h (Nat.le_succ_of_le hh)⟩, h1 _ (Nat.le_refl _)⟩, h2 _ (Nat.le_refl _)⟩

/-- Sixteen steps one way and fifteen the other reach every device. -/
theorem reach_all : ∀ c o : Dev nD, (∃ h : Fin 17, o = org true h.val c) ∨ ∃ h : Fin 16, o = org false h.val c := by decide +kernel

/-- A device's maximum bounds its columns. -/
theorem am_le (c : Dev nD) (v : EReal) : (am xs ws c : EReal) ≤ v ↔ ∀ o j, (blk xs ws c o j : EReal) ≤ v := by
  have e : (am xs ws c : EReal) = max (acc xs ws c 15 : EReal) (bmax (blk xs ws c (org true 16 c))) := rfl
  rw [e, max_le_iff, bmax_le, acc_le]
  constructor
  · rintro ⟨⟨h1, h2⟩, h3⟩ o j
    rcases reach_all c o with ⟨h, rfl⟩ | ⟨h, rfl⟩
    · rcases Nat.lt_succ_iff_lt_or_eq.1 h.isLt with g | g
      · exact h1 _ (Nat.lt_succ_iff.1 g) j
      · rw [g]; exact h3 j
    · exact h2 _ (Nat.lt_succ_iff.1 h.isLt) j
  · intro H
    exact ⟨⟨fun _ _ => H _, fun _ _ => H _⟩, H _⟩

/-- The largest entry of all, as the kernel reads it off the table. -/
def kmax : EReal := extractAt ![0, 0, 0, 0] (shapeCast S1x1x1x1 (multiReduction (F := Ideal) .maximumf [1, 2, 3] S1 (k0_pay23 (tab xs ws))
  0xFF800000#32 reduces_S1x32x1x128_S1 (.inl rfl) rfl) shapeCasts_S1_S1x1x1x1) inpos_S1x1x1x1_p0_0_0_0

/-- An index of the table in a device's row. -/
def rowIx (c : Dev nD) : S32x1x128.Idx := fun a => ⟨![c.val, 0, 0] a, by
  have := c.isLt
  fin_cases a
  · exact c.isLt
  · show 0 < 1; omega
  · show 0 < 128; omega⟩

theorem kmax_le (v : EReal) : kmax xs ws ≤ v ↔ ∀ c o j, (blk xs ws c o j : EReal) ≤ v := by
  have h1 : kmax xs ws ≤ v ↔ ∀ i : S1x32x1x128.Idx, (k0_pay23 (tab xs ws) i : EReal) ≤ v := by
    unfold kmax extractAt shapeCast
    exact multi_le _ _ _ _ (fun b => by fin_cases b; rfl) _ v
  have h2 : (∀ i : S1x32x1x128.Idx, (k0_pay23 (tab xs ws) i : EReal) ≤ v) ↔ ∀ i : S32x1x128.Idx, (tab xs ws i : EReal) ≤ v :=
    cast_all (α := EReal) (tab xs ws) shapeCasts_S32x1x128_S1x32x1x128 (· ≤ v)
  rw [h1, h2]
  constructor
  · intro H c
    exact (am_le xs ws c v).1 (H (rowIx c))
  · intro H i
    exact (am_le xs ws (i 0) v).2 (H _)

/-- The scale is that entry over 448. -/
theorem scaleV_eq : (scaleV xs ws : EReal) = Ideal.div (kmax xs ws) (Ideal.ofBits .f32 0x43E00000#32) := rfl

/-! ## The blocks as parts of one product -/

/-- The product of two whole arrays, negative entries made zero. -/
def prod (X : (⟨2, ![4096, 4096]⟩ : Shape).Idx → EReal) (W : (⟨2, ![4096, 8192]⟩ : Shape).Idx → EReal) : (⟨2, ![4096, 8192]⟩ : Shape).Idx → EReal :=
  fun i => max (∑ k : Fin 4096, X (ix2 (i 0) k) * W (ix2 k (i 1))) 0

theorem prod_nonneg (X : (⟨2, ![4096, 4096]⟩ : Shape).Idx → EReal) (W : (⟨2, ![4096, 8192]⟩ : Shape).Idx → EReal) (i) : 0 ≤ prod X W i := le_max_right _ _

/-- Where an entry of block `o` of device `c` lies in the whole product. -/
def whole (c o : Dev nD) (j : S128x256.Idx) : (⟨2, ![4096, 8192]⟩ : Shape).Idx :=
  ix2 (⟨o.val * 128 + (j 0).val, by have h : (j 0).val < 128 := (j 0).isLt; have h' : o.val < 32 := o.isLt; omega⟩ : Fin 4096)
    (⟨c.val * 256 + (j 1).val, by have h : (j 1).val < 256 := (j 1).isLt; have h' : c.val < 32 := c.isLt; omega⟩ : Fin 8192)

/-- A half of the device's rows, entry by entry. -/
theorem xh_apply (o : Dev nD) (j : Fin 2) (r : Fin 128) (k : Fin 2048) :
    xh xs o j (ix2 r k) = xs o (ix2 r (⟨2048 * j.val + k.val, by have := j.isLt; have := k.isLt; omega⟩ : Fin 4096)) := by
  show xs o _ = xs o _
  refine congrArg (xs o) (funext fun a => Fin.ext ?_)
  fin_cases a
  · show 0 + 1 * r.val = r.val; omega
  · show 2048 * j.val + 1 * k.val = 2048 * j.val + k.val; omega

/-- A half of the device's columns, entry by entry. -/
theorem wh_apply (c : Dev nD) (j : Fin 2) (k : Fin 2048) (q : Fin 256) :
    wh ws c j (ix2 k q) = ws c (ix2 (⟨2048 * j.val + k.val, by have := j.isLt; have := k.isLt; omega⟩ : Fin 4096) q) := by
  refine (shapeCast_apply _ _ (ix2 k q) (ix2 k q) rfl).trans ?_
  show ws c _ = ws c _
  refine congrArg (ws c) (funext fun a => Fin.ext ?_)
  fin_cases a
  · show 2048 * j.val + 1 * k.val = 2048 * j.val + k.val; omega
  · show 0 + 1 * q.val = q.val; omega

/-- A block from two halves. -/
theorem mulBlk_apply (a b : FVec Ideal S128x2048 .f32) (w1 w2 : FVec Ideal S2048x256 .f32) (r : Fin 128) (q : Fin 256) :
    (mulBlk a b w1 w2 (ix2 r q) : EReal) = max ((∑ k : Fin 2048, (a (ix2 r k) : EReal) * w1 (ix2 k q)) + ∑ k : Fin 2048, (b (ix2 r k) : EReal) * w2 (ix2 k q)) 0 := by
  have hz : (Ideal.ofBits .f32 0x00000000#32 : EReal) = 0 := Ideal.ofBits_zero_f32
  have hm : ∀ (u : FVec Ideal S128x2048 .f32) (w : FVec Ideal S2048x256 .f32),
      (matmul dot_S128x2048_S2048x256_S128x256_1_0_0_1_n_n (some .fp32) u w (constant S128x256 .f32 0x00000000#32) (ix2 r q) : EReal)
        = ∑ k : Fin 2048, (u (ix2 r k) : EReal) * w (ix2 k q) := fun u w =>
    (Ideal.matmul_plain_apply (M := 128) (K := 2048) (N := 256) (some .fp32) u w (constant S128x256 .f32 0x00000000#32) r q).trans
      ((congrArg (· + _) hz).trans (zero_add _))
  show max ((matmul dot_S128x2048_S2048x256_S128x256_1_0_0_1_n_n (some .fp32) a w1 (constant S128x256 .f32 0x00000000#32) (ix2 r q) : EReal)
      + matmul dot_S128x2048_S2048x256_S128x256_1_0_0_1_n_n (some .fp32) b w2 (constant S128x256 .f32 0x00000000#32) (ix2 r q)) (Ideal.ofBits .f32 0x00000000#32) = _
  rw [hm, hm, hz]

variable (X : (⟨2, ![4096, 4096]⟩ : Shape).Idx → EReal) (W : (⟨2, ![4096, 8192]⟩ : Shape).Idx → EReal)

/-- Every block is a part of the whole product. -/
theorem blk_eq (hx : ∀ d, xs d = Layout.block ⟨2, ![128, 4096]⟩ ⟨2, ![4096, 4096]⟩ 0 32 d X) (hw : ∀ d, ws d = Layout.block ⟨2, ![4096, 256]⟩ ⟨2, ![4096, 8192]⟩ 1 32 d W)
    (c o : Dev nD) (j : S128x256.Idx) : (blk xs ws c o j : EReal) = prod X W (whole c o j) := by
  obtain ⟨r, q, rfl⟩ : ∃ (r : Fin 128) (q : Fin 256), j = ix2 r q := ⟨j 0, j 1, eq_ix2 j⟩
  have ex : ∀ k : Fin 4096, (xs o (ix2 r k) : EReal) = X (ix2 (whole c o (ix2 r q) 0) k) := fun k => by
    rw [hx o]
    refine congrArg X (funext fun a => Fin.ext ?_)
    fin_cases a
    · rfl
    · rfl
  have ew : ∀ k : Fin 4096, (ws c (ix2 k q) : EReal) = W (ix2 k (whole c o (ix2 r q) 1)) := fun k => by
    rw [hw c]
    refine congrArg W (funext fun a => Fin.ext ?_)
    fin_cases a
    · rfl
    · rfl
  refine (mulBlk_apply _ _ _ _ r q).trans (congrArg (max · 0) ?_)
  refine Eq.trans ?_ (Fin.sum_univ_add (a := 2048) (b := 2048) fun k => X (ix2 (whole c o (ix2 r q) 0) k) * W (ix2 k (whole c o (ix2 r q) 1))).symm
  refine congrArg₂ (· + ·) (Finset.sum_congr rfl fun k _ => ?_) (Finset.sum_congr rfl fun k _ => ?_)
  · rw [xh_apply, wh_apply, ex, ew]
    have e : (⟨2048 * (0 : Fin 2).val + k.val, by have := k.isLt; show 2048 * 0 + k.val < 4096; omega⟩ : Fin 4096) = Fin.castAdd 2048 k := Fin.ext (by show 2048 * 0 + k.val = k.val; omega)
    exact congrArg (fun z : Fin 4096 => X (ix2 (whole c o (ix2 r q) 0) z) * W (ix2 z (whole c o (ix2 r q) 1))) e
  · rw [xh_apply, wh_apply, ex, ew]
    have e : (⟨2048 * (1 : Fin 2).val + k.val, by have := k.isLt; show 2048 * 1 + k.val < 4096; omega⟩ : Fin 4096) = Fin.natAdd 2048 k := Fin.ext (by show 2048 * 1 + k.val = 2048 + k.val; omega)
    exact congrArg (fun z : Fin 4096 => X (ix2 (whole c o (ix2 r q) 0) z) * W (ix2 z (whole c o (ix2 r q) 1))) e

/-- Every entry of the whole product is in some block. -/
theorem whole_surj (i : (⟨2, ![4096, 8192]⟩ : Shape).Idx) : ∃ c o j, whole c o j = i := by
  have h0 : (i 0).val < 4096 := (i 0).isLt
  have h1 : (i 1).val < 8192 := (i 1).isLt
  refine ⟨⟨(i 1).val / 256, by show _ < 32; omega⟩, ⟨(i 0).val / 128, by show _ < 32; omega⟩, ix2 (⟨(i 0).val % 128, by omega⟩ : Fin 128) (⟨(i 1).val % 256, by omega⟩ : Fin 256), ?_⟩
  funext a
  refine Fin.ext ?_
  fin_cases a
  · show (i 0).val / 128 * 128 + (i 0).val % 128 = (i 0).val; omega
  · show (i 1).val / 256 * 256 + (i 1).val % 256 = (i 1).val; omega

/-- So the largest entry bounds what the whole product's entries do. -/
theorem kmax_le_prod (hx : ∀ d, xs d = Layout.block ⟨2, ![128, 4096]⟩ ⟨2, ![4096, 4096]⟩ 0 32 d X) (hw : ∀ d, ws d = Layout.block ⟨2, ![4096, 256]⟩ ⟨2, ![4096, 8192]⟩ 1 32 d W)
    (v : EReal) : kmax xs ws ≤ v ↔ ∀ i, prod X W i ≤ v := by
  rw [kmax_le]
  constructor
  · intro H i
    obtain ⟨c, o, j, rfl⟩ := whole_surj i
    rw [← blk_eq xs ws X W hx hw]; exact H c o j
  · intro H c o j
    rw [blk_eq xs ws X W hx hw]; exact H _

/-! ## The quantiser -/

/-- The word of 448. -/
theorem ofBits_448 : Ideal.ofBits .f32 0x43E00000#32 = ((448 : ℝ) : EReal) := by
  simp [Ideal.ofBits, Ideal.ieee]
  rw [← EReal.coe_mul]; norm_num
/-- The word of -448. -/
theorem ofBits_neg448 : Ideal.ofBits .f32 0xC3E00000#32 = ((-448 : ℝ) : EReal) := by
  simp [Ideal.ofBits, Ideal.ieee]
  rw [← EReal.coe_mul]; norm_num

/-- An entry scaled down, clipped on both sides, and scaled up again. -/
def quant (s y : EReal) : EReal := min (Ideal.ofBits .f32 0x43E00000#32) (max (Ideal.ofBits .f32 0xC3E00000#32) (Ideal.div y s)) * s

/-- What is not negative needs no clipping below. -/
theorem quant_eq (s y : EReal) (hs : 0 ≤ s) (hy : 0 ≤ y) : min (Ideal.div y s) (Ideal.ofBits .f32 0x43E00000#32) * s = quant s y := by
  unfold quant
  by_cases h0 : s = 0
  · rw [h0, mul_zero, mul_zero]
  · have hd : 0 ≤ Ideal.div y s := by
      unfold Ideal.div
      rw [if_neg h0]
      exact mul_nonneg hy (EReal.inv_nonneg_of_nonneg hs)
    have hn : Ideal.ofBits .f32 0xC3E00000#32 ≤ (0 : EReal) := by
      rw [ofBits_neg448]; exact_mod_cast (by norm_num : (-448 : ℝ) ≤ 0)
    rw [max_eq_right (hn.trans hd), min_comm]

/-- The scale is not negative when the largest entry is not. -/
theorem scale_nonneg (M : EReal) (hM : 0 ≤ M) : 0 ≤ Ideal.div M (Ideal.ofBits .f32 0x43E00000#32) := by
  rw [ofBits_448]
  unfold Ideal.div
  rw [if_neg (by exact_mod_cast (by norm_num : (448 : ℝ) ≠ 0))]
  exact mul_nonneg hM (EReal.inv_nonneg_of_nonneg (by exact_mod_cast (by norm_num : (0 : ℝ) ≤ 448)))

/-- The stored result, entry by entry. -/
theorem pay1_apply (s : EReal) (y : S4096x256.Idx → EReal) (i : S4096x256.Idx) :
    (k0_pay1 (F := Ideal) s y i : EReal) = min (Ideal.div (y i) s) (Ideal.ofBits .f32 0x43E00000#32) * s := by
  show min (Ideal.div (shapeCast S4096x256 y shapeCasts_S4096x256_S4096x256 i) s) (Ideal.ofBits .f32 0x43E00000#32) * s = _
  rw [shapeCast_apply y shapeCasts_S4096x256_S4096x256 i i rfl]

/-- Every device leaves its block of the quantised product, for any number that is the product's largest entry. -/
theorem resV_eq (hx : ∀ d, xs d = Layout.block ⟨2, ![128, 4096]⟩ ⟨2, ![4096, 4096]⟩ 0 32 d X) (hw : ∀ d, ws d = Layout.block ⟨2, ![4096, 256]⟩ ⟨2, ![4096, 8192]⟩ 1 32 d W)
    (M : EReal) (hM : ∀ v, M ≤ v ↔ ∀ i, prod X W i ≤ v) (c : Dev nD) :
    resV xs ws c = Layout.block ⟨2, ![4096, 256]⟩ ⟨2, ![4096, 8192]⟩ 1 32 c fun i => quant (Ideal.div M (Ideal.ofBits .f32 0x43E00000#32)) (prod X W i) := by
  have hk : kmax xs ws = M := eq_of_forall_ge_iff fun v => (kmax_le_prod xs ws X W hx hw v).trans (hM v).symm
  have h0 : 0 ≤ M := (prod_nonneg X W (ix2 (0 : Fin 4096) (0 : Fin 8192))).trans ((hM M).1 le_rfl _)
  funext i
  refine (pay1_apply _ _ i).trans ?_
  rw [scaleV_eq, hk]
  have hb : (outV xs ws c i : EReal) = prod X W (Layout.Tiles.idx (S := ⟨2, ![4096, 256]⟩) (T := ⟨2, ![4096, 8192]⟩) (a := 1) (k := 32) (by decide) c i) := by
    refine (blk_eq xs ws X W hx hw c (blkDev i) (blkIdx i)).trans (congrArg (prod X W) (funext fun a => Fin.ext ?_))
    fin_cases a
    · show (i 0).val / 128 * 128 + (i 0).val % 128 = (i 0).val; omega
    · rfl
  rw [hb]
  exact quant_eq _ _ (scale_nonneg M h0) (prod_nonneg X W _)

end Cert.RingGemm

end
-- ==== Proof.RefValue.lean ====
/- What the reference leaves, read over the reals: the quantised product of its two arguments, the scale being the product's
   largest entry over 448. -/
module

public import proofs.«01_k».proof.Proof.Gen.ReferenceIdeal.Value
public import proofs.«01_k».proof.Proof.Value
public import Idealize.ShloMosaic.Lib.Pipeline.ValueKit
public import Idealize.ShloMosaic.Lib.StackMember

@[expose] public section

set_option maxHeartbeats 1000000

noncomputable section

namespace Cert.RingGemm.Ref

open Cert.ReferenceIdeal Cert.ReferenceIdeal.Gen
open Idealize.ShloMosaic
open Idealize.ShloMosaic.TcCoe
open Idealize.ShloMosaic.ValueIdx
open Idealize.ShloMosaic.Pipeline (Dat)
open Idealize.SL.Sem
open scoped BigOperators

variable (m : (ℓ : Loc nD τ sig) → Buf (Elt Ideal) ℓ) (ρ : Dev nD → PrngReg)

/-- The two arguments. -/
def argX (c : Dev nD) : (⟨2, ![4096, 4096]⟩ : Shape).Idx → EReal := m ((c : Thread nD τ).loc main_arg0)
def argW (c : Dev nD) : (⟨2, ![4096, 8192]⟩ : Shape).Idx → EReal := m ((c : Thread nD τ).loc main_arg1)

/-- The product as the host computes it. -/
def hostY (c : Dev nD) : FVec Ideal S4096x8192 .f32 :=
  maximumf (Host.dotGeneral (F := Ideal) (φ₁ := .f32) (φ₂ := .f32) dot_S4096x4096_S4096x8192_S4096x8192_1_0_0_1_n_n none (m ((c : Thread nD τ).loc main_arg0)) (m ((c : Thread nD τ).loc main_arg1)))
    (broadcastInDim S4096x8192 ![] bcast_S_S4096x8192 (constant S_ .f32 0x00000000#32))

/-- Its largest entry as the host computes it. -/
def hostM (c : Dev nD) : FVec Ideal S_ .f32 :=
  Host.reduce FloatOps.maximumf (Host.absf (hostY m c)) (constant S_ .f32 0xFF800000#32) reducesTo_S4096x8192_S_d0_1 h_S_

theorem v2_eq (c : Dev nD) : V m c main_v2 = hostY m c := by
  unfold V hostOps0
  simp only [StableHlo.after_cons, StableHlo.after_nil]
  after_results_simp
  rfl

theorem v6_eq (c : Dev nD) : V m c main_v6 = shapeCast S1x1 (Host.divf (hostM m c) (constant S_ .f32 0x43E00000#32)) shapeCasts_S_S1x1 := by
  unfold V hostOps0
  simp only [StableHlo.after_cons, StableHlo.after_nil]
  after_results_simp
  rfl

/-- The host's product is the product. -/
theorem hostY_eq (c : Dev nD) (i : S4096x8192.Idx) : (hostY m c i : EReal) = prod (argX m c) (argW m c) i := by
  obtain ⟨r, q, rfl⟩ : ∃ (r : Fin 4096) (q : Fin 8192), i = ValueIdx.ix2 r q := ⟨i 0, i 1, ValueIdx.eq_ix2 i⟩
  have hz : (Ideal.ofBits .f32 0x00000000#32 : EReal) = 0 := Ideal.ofBits_zero_f32
  show max (Host.dotGeneral (F := Ideal) (φ₁ := .f32) (φ₂ := .f32) dot_S4096x4096_S4096x8192_S4096x8192_1_0_0_1_n_n none (m ((c : Thread nD τ).loc main_arg0)) (m ((c : Thread nD τ).loc main_arg1)) (ValueIdx.ix2 r q) : EReal)
    (Ideal.ofBits .f32 0x00000000#32) = _
  rw [hz]
  refine congrArg (max · 0) ?_
  exact StackMember.dotGeneral_plain_apply (m := 4096) (k := 4096) (n := 8192) (φ₁ := .f32) (φ₂ := .f32) none (argX m c) (argW m c) r q

/-- The host's largest entry is bounded by what bounds the product's entries. -/
theorem hostM_le (c : Dev nD) (j : S_.Idx) (v : EReal) : (hostM m c j : EReal) ≤ v ↔ ∀ i, prod (argX m c) (argW m c) i ≤ v := by
  unfold hostM
  rw [Host.reduce_eq_fold]
  refine (Finset.fold_max_le (f := fun i => (Host.absf (hostY m c) i : EReal)) v).trans ?_
  have ha : ∀ i, (Host.absf (hostY m c) i : EReal) = prod (argX m c) (argW m c) i := fun i => by
    show max (hostY m c i : EReal) (-(hostY m c i : EReal)) = _
    rw [hostY_eq]
    have h0 := prod_nonneg (argX m c) (argW m c) i
    exact max_eq_left ((EReal.neg_le_neg_iff.2 h0).trans (by rw [neg_zero]; exact h0))
  constructor
  · intro H i
    rw [← ha]
    exact H.2 i (Finset.mem_filter.2 ⟨Finset.mem_univ _, funext fun b => b.elim0⟩)
  · intro H
    exact ⟨(le_of_eq ofBits_bot).trans bot_le, fun i _ => by rw [ha]; exact H i⟩

/-- The one entry of the scale's array. -/
def j0 : S_.Idx := fun b => b.elim0

theorem scale_eq (c : Dev nD) (y : S1x1.Idx) : (V m c main_v6 y : EReal) = Ideal.div (hostM m c j0) (Ideal.ofBits .f32 0x43E00000#32) := by
  rw [v6_eq]
  show Ideal.div (hostM m c _) (Ideal.ofBits .f32 0x43E00000#32) = _
  exact congrArg (fun j => Ideal.div (hostM m c j) (Ideal.ofBits .f32 0x43E00000#32)) (funext fun b => b.elim0)

theorem blk0_eq (c : Dev nD) : iblk m c 0 t0_0 = V m c main_v2 := by
  funext j
  refine (show _ = V m c main_v2 ((win0_0.blk t0_0).view.emb j) from rfl).trans ?_
  refine congrArg _ (funext fun a => Fin.ext ?_)
  exact win0_0.rect_emb_val_of_index_zero t0_0 a (by revert a; decide +kernel) j
theorem blk1_eq (c : Dev nD) : iblk m c 1 t0_0 = V m c main_v6 := by
  funext j
  refine (show _ = V m c main_v6 ((win0_1.blk t0_0).view.emb j) from rfl).trans ?_
  refine congrArg _ (funext fun a => Fin.ext ?_)
  exact win0_1.rect_emb_val_of_index_zero t0_0 a (by revert a; decide +kernel) j

/-- What the reference's result array holds. -/
def refV (c : Dev nD) : (⟨2, ![4096, 8192]⟩ : Shape).Idx → EReal :=
  fun i => quant (Ideal.div (hostM m c j0) (Ideal.ofBits .f32 0x43E00000#32)) (prod (argX m c) (argW m c) i)

theorem out_eq (c : Dev nD) (i : S4096x8192.Idx) : (out0_2 (V m c main_v2) (V m c main_v6) i : EReal) = refV m c i := by
  unfold out0_2
  rw [Cert.ReferenceIdeal.Value.canon2_eq]
  have e0 : (View.ld (V m c main_v2) r0_1 (Cert.ReferenceIdeal.Value.ix2_0 i) : EReal) = prod (argX m c) (argW m c) i := by
    rw [v2_eq, ← hostY_eq]
    show hostY m c _ = hostY m c i
    refine congrArg (hostY m c) (funext fun a => Fin.ext ?_)
    match a with
    | ⟨0, _⟩ => show 0 + 1 * (i 0).val = (i 0).val; omega
    | ⟨1, _⟩ => show 0 + 1 * (i 1).val = (i 1).val; omega
  have e1 : ∀ y, (View.ld (V m c main_v6) r0_0 y : EReal) = Ideal.div (hostM m c j0) (Ideal.ofBits .f32 0x43E00000#32) := fun y => scale_eq m c _
  show min (Ideal.ofBits .f32 0x43E00000#32) (max (Ideal.ofBits .f32 0xC3E00000#32)
    (Ideal.div (View.ld (V m c main_v2) r0_1 (Cert.ReferenceIdeal.Value.ix2_0 i)) (View.ld (V m c main_v6) r0_0 (Cert.ReferenceIdeal.Value.ix2_1 i))))
      * View.ld (V m c main_v6) r0_0 (Cert.ReferenceIdeal.Value.ix2_2 i) = _
  rw [e0, e1]
  rfl

theorem final_eq (c : Dev nD) : (dats m 0 c).arrAt 2 cfg0.N = refV m c := by
  refine (dats m 0 c).arrAt_eq_of_after_last (2 : Fin 3) t0_0 (by decide +kernel) _ fun j => ?_
  blk_simp
  rw [after0_2, blk0_eq, blk1_eq]
  exact out_eq m c _

/-- The reference's run. -/
theorem run_ref : θ_run defs (onTc (τ := τ) (main (F := Ideal))) ⟨m, fun _ => 0, ρ⟩ fun r => ∀ c : Dev nD,
      r.2.mem ((c : Thread nD τ).loc main_v7) = refV m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_eq m c), (h c).2⟩) (Cert.ReferenceIdeal.Value.run_blocks m ρ)

end Cert.RingGemm.Ref

end
-- ==== Proof.lean ====
module

public import proofs.«01_k».proof.Defs
public import proofs.«01_k».proof.Proof.Gen.Kernel
public import proofs.«01_k».proof.Proof.Gen.Kernel.Regions
public import proofs.«01_k».proof.Proof.Gen.ReferenceIdeal.Frame
public import proofs.«01_k».proof.Proof.Gen.ReferenceIdeal.Value
public import proofs.«01_k».proof.Proof.Run
public import proofs.«01_k».proof.Proof.Same
public import proofs.«01_k».proof.Proof.Value
public import proofs.«01_k».proof.Proof.RefValue

@[expose] public section

set_option maxHeartbeats 4000000
set_option maxRecDepth 8000

noncomputable section

namespace Cert.Proof

open Idealize.ShloMosaic Idealize.ShloMosaic.TcCoe Idealize.SL.Sem

/-- The kernel read at the bits. -/
theorem frame_kernel : Cert.quiescent_Kernel := fun m ρ _ =>
  (Cert.RingGemm.Same.run_eq (F := Bits) ⟨m, fun _ => 0, ρ⟩ _).mpr
    ((θ_run Cert.KernelIdeal.defs _ _).mono (fun _ h => ⟨fun c => (h.1 c).2, h.2⟩) (Cert.RingGemm.run_main (F := Bits) m ρ))

/-- The kernel read over the reals. -/
theorem frame_ideal : Cert.quiescent_KernelIdeal := fun m ρ _ =>
  (θ_run Cert.KernelIdeal.defs _ _).mono (fun _ h => ⟨fun c => (h.1 c).2, h.2⟩) (Cert.RingGemm.run_main (F := Ideal) m ρ)

/-- The reference. -/
theorem frame_reference : Cert.quiescent_ReferenceIdeal := fun m ρ _ => Cert.ReferenceIdeal.Gen.frame m ρ

/-- On every device the kernel leaves that device's block of the columns of the reference's result. -/
theorem algebraic : Cert.algebraic_KernelIdeal_ReferenceIdeal := fun m g m' g' _ hag =>
  ⟨Cert.RingGemm.Ref.refV m' 0,
    (θ_run Cert.KernelIdeal.defs _ _).mono
      (fun _ h c => ⟨(h.1 c).1.trans (Cert.RingGemm.resV_eq (Cert.RingGemm.xsM m) (Cert.RingGemm.wsM m)
        (Cert.RingGemm.Ref.argX m' 0) (Cert.RingGemm.Ref.argW m' 0) (fun d => (hag d).1) (fun d => (hag d).2)
        (Cert.RingGemm.Ref.hostM m' 0 Cert.RingGemm.Ref.j0) (Cert.RingGemm.Ref.hostM_le m' 0 Cert.RingGemm.Ref.j0) c), (h.1 c).2⟩)
      (Cert.RingGemm.run_main (F := Ideal) m g),
    (θ_run Cert.ReferenceIdeal.defs _ _).mono (fun _ h => h 0) (Cert.RingGemm.Ref.run_ref m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
